-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_step_sizes_finite [hPre_step_sizes_finite : Cert.Pre_step_sizes_finite.Facts] (m : (ℓ : Loc Cert.KernelIdeal.nD Cert.KernelIdeal.τ Cert.KernelIdeal.sig) → Buf (Elt Ideal) ℓ) : Prop :=
  ∀ c : Dev Cert.KernelIdeal.nD,
    (Cert.Pre_step_sizes_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_step_sizes_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_step_sizes_finite [hPre_step_sizes_finite : Cert.Pre_step_sizes_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_step_sizes_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_step_sizes_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_step_sizes_finite [hKernelIdeal : Cert.KernelIdeal.Facts] [hPre_step_sizes_finite : Cert.Pre_step_sizes_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_step_sizes_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_step_sizes_finite [hReferenceIdeal : Cert.ReferenceIdeal.Facts] [hPre_step_sizes_finite : Cert.Pre_step_sizes_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_step_sizes_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3)
      ∧ r.2.mem ((c.tc : Thread Cert.Kernel27.nD Cert.Kernel27.τ).loc Cert.Kernel27.main_arg4) = m ((c.tc : Thread Cert.Kernel27.nD Cert.Kernel27.τ).loc Cert.Kernel27.main_arg4))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
      ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3)
      ∧ r.2.mem ((c.tc : Thread Cert.Reference27Ideal.nD Cert.Reference27Ideal.τ).loc Cert.Reference27Ideal.main_arg4) = m ((c.tc : Thread Cert.Reference27Ideal.nD Cert.Reference27Ideal.τ).loc Cert.Reference27Ideal.main_arg4))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3)
      ∧ r.2.mem ((c.tc : Thread Cert.Kernel32.nD Cert.Kernel32.τ).loc Cert.Kernel32.main_arg4) = m ((c.tc : Thread Cert.Kernel32.nD Cert.Kernel32.τ).loc Cert.Kernel32.main_arg4)
      ∧ r.2.mem ((c.tc : Thread Cert.Kernel32.nD Cert.Kernel32.τ).loc Cert.Kernel32.main_arg5) = m ((c.tc : Thread Cert.Kernel32.nD Cert.Kernel32.τ).loc Cert.Kernel32.main_arg5))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3)
      ∧ r.2.mem ((c.tc : Thread Cert.Kernel32Ideal.nD Cert.Kernel32Ideal.τ).loc Cert.Kernel32Ideal.main_arg4) = m ((c.tc : Thread Cert.Kernel32Ideal.nD Cert.Kernel32Ideal.τ).loc Cert.Kernel32Ideal.main_arg4)
      ∧ r.2.mem ((c.tc : Thread Cert.Kernel32Ideal.nD Cert.Kernel32Ideal.τ).loc Cert.Kernel32Ideal.main_arg5) = m ((c.tc : Thread Cert.Kernel32Ideal.nD Cert.Kernel32Ideal.τ).loc Cert.Kernel32Ideal.main_arg5))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3)
      ∧ r.2.mem ((c.tc : Thread Cert.Reference32Ideal.nD Cert.Reference32Ideal.τ).loc Cert.Reference32Ideal.main_arg4) = m ((c.tc : Thread Cert.Reference32Ideal.nD Cert.Reference32Ideal.τ).loc Cert.Reference32Ideal.main_arg4)
      ∧ r.2.mem ((c.tc : Thread Cert.Reference32Ideal.nD Cert.Reference32Ideal.τ).loc Cert.Reference32Ideal.main_arg5) = m ((c.tc : Thread Cert.Reference32Ideal.nD Cert.Reference32Ideal.τ).loc Cert.Reference32Ideal.main_arg5))
      ∧ r.2.sem = fun _ => 0)

def preserves_Kernel_KernelIdeal : Prop :=
  True

def algebraic_KernelIdeal_ReferenceIdeal_pre_step_sizes_finite [hKernelIdeal : Cert.KernelIdeal.Facts] [hReferenceIdeal : Cert.ReferenceIdeal.Facts] [hPre_step_sizes_finite : Cert.Pre_step_sizes_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_step_sizes_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_2)) (v2 : (c : Dev Cert.KernelIdeal.nD) → Buf (Elt Ideal) ((c.tc : Thread Cert.KernelIdeal.nD Cert.KernelIdeal.τ).loc Cert.KernelIdeal.main_v8_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_2) = v1 c
          ∧ r.2.mem ((c.tc : Thread Cert.KernelIdeal.nD Cert.KernelIdeal.τ).loc Cert.KernelIdeal.main_v8_3) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_v26) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v5)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v5) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v6) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v5) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v3) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v6) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v27) = v0 c
          ∧ r.2.mem ((c.tc : Thread Cert.Reference20Ideal.nD Cert.Reference20Ideal.τ).loc Cert.Reference20Ideal.main_v5) = v1 c
          ∧ r.2.mem ((c.tc : Thread Cert.Reference20Ideal.nD Cert.Reference20Ideal.τ).loc Cert.Reference20Ideal.main_v28) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v27) = v0 c
          ∧ r.2.mem ((c.tc : Thread Cert.Reference21Ideal.nD Cert.Reference21Ideal.τ).loc Cert.Reference21Ideal.main_v5) = v1 c
          ∧ r.2.mem ((c.tc : Thread Cert.Reference21Ideal.nD Cert.Reference21Ideal.τ).loc Cert.Reference21Ideal.main_v28) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v21) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v35) = v0 c
          ∧ r.2.mem ((c.tc : Thread Cert.Reference23Ideal.nD Cert.Reference23Ideal.τ).loc Cert.Reference23Ideal.main_v36) = v1 c
          ∧ r.2.mem ((c.tc : Thread Cert.Reference23Ideal.nD Cert.Reference23Ideal.τ).loc Cert.Reference23Ideal.main_v37) = v2 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v2) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v4) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v21) = v0 c
          ∧ r.2.mem ((c.tc : Thread Cert.Reference25Ideal.nD Cert.Reference25Ideal.τ).loc Cert.Reference25Ideal.main_v22) = v1 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v19) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)
      ∧ m' ((c.tc : Thread Cert.Reference27Ideal.nD Cert.Reference27Ideal.τ).loc Cert.Reference27Ideal.main_arg4) = m ((c.tc : Thread Cert.Kernel27Ideal.nD Cert.Kernel27Ideal.τ).loc Cert.Kernel27Ideal.main_arg4)) →
    ∃ (v0 : (c : Dev Cert.Kernel27Ideal.nD) → Buf (Elt Ideal) ((c.tc : Thread Cert.Kernel27Ideal.nD Cert.Kernel27Ideal.τ).loc Cert.Kernel27Ideal.main_v2_0)) (v1 : (c : Dev Cert.Kernel27Ideal.nD) → Buf (Elt Ideal) ((c.tc : Thread Cert.Kernel27Ideal.nD Cert.Kernel27Ideal.τ).loc Cert.Kernel27Ideal.main_v2_1)) (v2 : (c : Dev Cert.Kernel27Ideal.nD) → Buf (Elt Ideal) ((c.tc : Thread Cert.Kernel27Ideal.nD Cert.Kernel27Ideal.τ).loc Cert.Kernel27Ideal.main_v2_2)) (v3 : (c : Dev Cert.Kernel27Ideal.nD) → Buf (Elt Ideal) ((c.tc : Thread Cert.Kernel27Ideal.nD Cert.Kernel27Ideal.τ).loc Cert.Kernel27Ideal.main_v2_3)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v2_0) = v0 c
          ∧ r.2.mem ((c.tc : Thread Cert.Kernel27Ideal.nD Cert.Kernel27Ideal.τ).loc Cert.Kernel27Ideal.main_v2_1) = v1 c
          ∧ r.2.mem ((c.tc : Thread Cert.Kernel27Ideal.nD Cert.Kernel27Ideal.τ).loc Cert.Kernel27Ideal.main_v2_2) = v2 c
          ∧ r.2.mem ((c.tc : Thread Cert.Kernel27Ideal.nD Cert.Kernel27Ideal.τ).loc Cert.Kernel27Ideal.main_v2_3) = v3 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
          ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v6) = v0 c
          ∧ r.2.mem ((c.tc : Thread Cert.Reference27Ideal.nD Cert.Reference27Ideal.τ).loc Cert.Reference27Ideal.main_v30) = v1 c
          ∧ r.2.mem ((c.tc : Thread Cert.Reference27Ideal.nD Cert.Reference27Ideal.τ).loc Cert.Reference27Ideal.main_v11) = v2 c
          ∧ r.2.mem ((c.tc : Thread Cert.Reference27Ideal.nD Cert.Reference27Ideal.τ).loc Cert.Reference27Ideal.main_v17) = v3 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3)
          ∧ r.2.mem ((c.tc : Thread Cert.Reference27Ideal.nD Cert.Reference27Ideal.τ).loc Cert.Reference27Ideal.main_arg4) = m' ((c.tc : Thread Cert.Reference27Ideal.nD Cert.Reference27Ideal.τ).loc Cert.Reference27Ideal.main_arg4))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)) →
    ∃ (v0 : (c : Dev Cert.Kernel28Ideal.nD) → Buf (Elt Ideal) ((c.tc : Thread Cert.Kernel28Ideal.nD Cert.Kernel28Ideal.τ).loc Cert.Kernel28Ideal.main_v2)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v2) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v5) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)) →
    ∃ (v0 : (c : Dev Cert.Kernel29Ideal.nD) → Buf (Elt Ideal) ((c.tc : Thread Cert.Kernel29Ideal.nD Cert.Kernel29Ideal.τ).loc Cert.Kernel29Ideal.main_v0_1)) (v1 : (c : Dev Cert.Kernel29Ideal.nD) → Buf (Elt Ideal) ((c.tc : Thread Cert.Kernel29Ideal.nD Cert.Kernel29Ideal.τ).loc Cert.Kernel29Ideal.main_v0_0)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_1) = v0 c
          ∧ r.2.mem ((c.tc : Thread Cert.Kernel29Ideal.nD Cert.Kernel29Ideal.τ).loc Cert.Kernel29Ideal.main_v0_0) = v1 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v15) = v0 c
          ∧ r.2.mem ((c.tc : Thread Cert.Reference29Ideal.nD Cert.Reference29Ideal.τ).loc Cert.Reference29Ideal.main_v14) = v1 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)) (v2 : (c : Dev Cert.Kernel30Ideal.nD) → Buf (Elt Ideal) ((c.tc : Thread Cert.Kernel30Ideal.nD Cert.Kernel30Ideal.τ).loc Cert.Kernel30Ideal.main_v0_2)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_v0_2) = v2 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v23) = v0 c
          ∧ r.2.mem ((c.tc : Thread Cert.Reference30Ideal.nD Cert.Reference30Ideal.τ).loc Cert.Reference30Ideal.main_v4) = v1 c
          ∧ r.2.mem ((c.tc : Thread Cert.Reference30Ideal.nD Cert.Reference30Ideal.τ).loc Cert.Reference30Ideal.main_v10) = v2 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)) →
    ∃ (v0 : (c : Dev Cert.Kernel31Ideal.nD) → Buf (Elt Ideal) ((c.tc : Thread Cert.Kernel31Ideal.nD Cert.Kernel31Ideal.τ).loc Cert.Kernel31Ideal.main_v0)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v0) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)
      ∧ m' ((c.tc : Thread Cert.Reference32Ideal.nD Cert.Reference32Ideal.τ).loc Cert.Reference32Ideal.main_arg4) = m ((c.tc : Thread Cert.Kernel32Ideal.nD Cert.Kernel32Ideal.τ).loc Cert.Kernel32Ideal.main_arg4)
      ∧ m' ((c.tc : Thread Cert.Reference32Ideal.nD Cert.Reference32Ideal.τ).loc Cert.Reference32Ideal.main_arg5) = m ((c.tc : Thread Cert.Kernel32Ideal.nD Cert.Kernel32Ideal.τ).loc Cert.Kernel32Ideal.main_arg5)) →
    ∃ (v0 : (c : Dev Cert.Kernel32Ideal.nD) → Buf (Elt Ideal) ((c.tc : Thread Cert.Kernel32Ideal.nD Cert.Kernel32Ideal.τ).loc Cert.Kernel32Ideal.main_v0_0)) (v1 : (c : Dev Cert.Kernel32Ideal.nD) → Buf (Elt Ideal) ((c.tc : Thread Cert.Kernel32Ideal.nD Cert.Kernel32Ideal.τ).loc Cert.Kernel32Ideal.main_v0_1)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0_0) = v0 c
          ∧ r.2.mem ((c.tc : Thread Cert.Kernel32Ideal.nD Cert.Kernel32Ideal.τ).loc Cert.Kernel32Ideal.main_v0_1) = v1 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3)
          ∧ r.2.mem ((c.tc : Thread Cert.Kernel32Ideal.nD Cert.Kernel32Ideal.τ).loc Cert.Kernel32Ideal.main_arg4) = m ((c.tc : Thread Cert.Kernel32Ideal.nD Cert.Kernel32Ideal.τ).loc Cert.Kernel32Ideal.main_arg4)
          ∧ r.2.mem ((c.tc : Thread Cert.Kernel32Ideal.nD Cert.Kernel32Ideal.τ).loc Cert.Kernel32Ideal.main_arg5) = m ((c.tc : Thread Cert.Kernel32Ideal.nD Cert.Kernel32Ideal.τ).loc Cert.Kernel32Ideal.main_arg5))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v16) = v0 c
          ∧ r.2.mem ((c.tc : Thread Cert.Reference32Ideal.nD Cert.Reference32Ideal.τ).loc Cert.Reference32Ideal.main_v18) = v1 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3)
          ∧ r.2.mem ((c.tc : Thread Cert.Reference32Ideal.nD Cert.Reference32Ideal.τ).loc Cert.Reference32Ideal.main_arg4) = m' ((c.tc : Thread Cert.Reference32Ideal.nD Cert.Reference32Ideal.τ).loc Cert.Reference32Ideal.main_arg4)
          ∧ r.2.mem ((c.tc : Thread Cert.Reference32Ideal.nD Cert.Reference32Ideal.τ).loc Cert.Reference32Ideal.main_arg5) = m' ((c.tc : Thread Cert.Reference32Ideal.nD Cert.Reference32Ideal.τ).loc Cert.Reference32Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hPre_step_sizes_finite : Cert.Pre_step_sizes_finite.Facts),
    quiescent_Kernel (hKernel := hKernel)
    ∧ quiescent_KernelIdeal (hKernelIdeal := hKernelIdeal)
    ∧ quiescent_KernelIdeal_pre_step_sizes_finite (hKernelIdeal := hKernelIdeal) (hPre_step_sizes_finite := hPre_step_sizes_finite)
    ∧ quiescent_ReferenceIdeal (hReferenceIdeal := hReferenceIdeal)
    ∧ quiescent_ReferenceIdeal_pre_step_sizes_finite (hReferenceIdeal := hReferenceIdeal) (hPre_step_sizes_finite := hPre_step_sizes_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ preserves_Kernel_KernelIdeal
    ∧ algebraic_KernelIdeal_ReferenceIdeal_pre_step_sizes_finite (hKernelIdeal := hKernelIdeal) (hReferenceIdeal := hReferenceIdeal) (hPre_step_sizes_finite := hPre_step_sizes_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
-- ==== Pre_step_sizes_finite.lean ====
abbrev S8192x3072 : Shape := ⟨2, ![8192, 3072]⟩
abbrev S8192x32 : Shape := ⟨2, ![8192, 32]⟩
abbrev S32 : Shape := ⟨1, ![32]⟩
abbrev S64x2048x128 : Shape := ⟨3, ![64, 2048, 128]⟩
abbrev S8192x2048 : Shape := ⟨2, ![8192, 2048]⟩
abbrev S_ : Shape := ⟨0, ![]⟩

class Facts : Prop where
  bcast_S_S8192x32 : S_.BroadcastsInDim S8192x32 (![] : Fin 0 → Fin S8192x32.rank)
  bcast_S_S32 : S_.BroadcastsInDim S32 (![] : Fin 0 → Fin S32.rank)

variable [Facts]

def fn {F : FTy → Type} [FloatOps F] (main_arg0 : FVec F S8192x3072 .f32) (main_arg1 : FVec F S8192x32 .f32) (main_arg2 : FVec F S32 .f32) (main_arg3 : FVec F S32 .f32) (main_arg4 : FVec F S64x2048x128 .f32) (main_arg5 : FVec F S8192x2048 .bf16) : IVec S8192x32 1 × IVec S32 1 :=
  let main_v0 : FVec F S8192x32 .f32 := subf main_arg1 main_arg1
  let main_cst : FVec F S_ .f32 := constant S_ .f32 0x00000000#32
  let main_v1 : FVec F S8192x32 .f32 := broadcastInDim S8192x32 ![] bcast_S_S8192x32 main_cst
  let main_v2 : IVec S8192x32 1 := cmpf .oeq main_v0 main_v1
  let main_v3 : FVec F S32 .f32 := subf main_arg2 main_arg2
  let main_cst_0 : FVec F S_ .f32 := constant S_ .f32 0x00000000#32
  let main_v4 : FVec F S32 .f32 := broadcastInDim S32 ![] bcast_S_S32 main_cst_0
  let main_v5 : IVec S32 1 := cmpf .oeq main_v3 main_v4
  (main_v2, main_v5)
-- ==== Kernel.lean ====
abbrev S8192x3072 : Shape := ⟨2, ![8192, 3072]⟩
abbrev S8192x32 : Shape := ⟨2, ![8192, 32]⟩
abbrev S32 : Shape := ⟨1, ![32]⟩
abbrev S64x2048x128 : Shape := ⟨3, ![64, 2048, 128]⟩
abbrev S8192x2048 : Shape := ⟨2, ![8192, 2048]⟩
abbrev S_ : Shape := ⟨0, ![]⟩
abbrev S8192x128 : Shape := ⟨2, ![8192, 128]⟩
abbrev S32x8192 : Shape := ⟨2, ![32, 8192]⟩
abbrev S128 : Shape := ⟨1, ![128]⟩
abbrev S1x128 : Shape := ⟨2, ![1, 128]⟩
abbrev S32x1 : Shape := ⟨2, ![32, 1]⟩
abbrev S128x3072 : Shape := ⟨2, ![128, 3072]⟩
abbrev S128x128 : Shape := ⟨2, ![128, 128]⟩
abbrev S32x128 : Shape := ⟨2, ![32, 128]⟩
abbrev S1x2048x128 : Shape := ⟨3, ![1, 2048, 128]⟩
abbrev S128x2048 : Shape := ⟨2, ![128, 2048]⟩
abbrev S2048x128 : Shape := ⟨2, ![2048, 128]⟩
abbrev S128x1 : Shape := ⟨2, ![128, 1]⟩
abbrev S512x128 : Shape := ⟨2, ![512, 128]⟩
abbrev S1024x128 : Shape := ⟨2, ![1024, 128]⟩
abbrev S128x1024 : Shape := ⟨2, ![128, 1024]⟩
abbrev S384x128 : Shape := ⟨2, ![384, 128]⟩
abbrev S128x512 : Shape := ⟨2, ![128, 512]⟩
abbrev S384x512 : Shape := ⟨2, ![384, 512]⟩
abbrev S1x128x128 : Shape := ⟨3, ![1, 128, 128]⟩
abbrev S256x128 : Shape := ⟨2, ![256, 128]⟩
abbrev S128x256 : Shape := ⟨2, ![128, 256]⟩
abbrev S64x128 : Shape := ⟨2, ![64, 128]⟩
abbrev S1 : Shape := ⟨1, ![1]⟩
abbrev S1x1 : Shape := ⟨2, ![1, 1]⟩

abbrev nBuf : Space → Nat
  | .hbm => 24
  | .vmem => 23
  | .smem => 0
  | _ => 0

abbrev bufTy : (tb : Table) → Fin (tcTables nBuf tb) → BufTy
  | .hbm, ⟨0, _⟩ => ⟨S8192x3072, .f32⟩
  | .hbm, ⟨1, _⟩ => ⟨S8192x32, .f32⟩
  | .hbm, ⟨2, _⟩ => ⟨S32, .f32⟩
  | .hbm, ⟨3, _⟩ => ⟨S32, .f32⟩
  | .hbm, ⟨4, _⟩ => ⟨S64x2048x128, .f32⟩
  | .hbm, ⟨5, _⟩ => ⟨S8192x2048, .bf16⟩
  | .hbm, ⟨6, _⟩ => ⟨S_, .i32⟩
  | .hbm, ⟨7, _⟩ => ⟨S_, .f32⟩
  | .hbm, ⟨8, _⟩ => ⟨S8192x128, .f32⟩
  | .hbm, ⟨9, _⟩ => ⟨S8192x32, .f32⟩
  | .hbm, ⟨10, _⟩ => ⟨S32x8192, .f32⟩
  | .hbm, ⟨11, _⟩ => ⟨S_, .i32⟩
  | .hbm, ⟨12, _⟩ => ⟨S_, .f32⟩
  | .hbm, ⟨13, _⟩ => ⟨S128, .f32⟩
  | .hbm, ⟨14, _⟩ => ⟨S1x128, .f32⟩
  | .hbm, ⟨15, _⟩ => ⟨S32x1, .f32⟩
  | .hbm, ⟨16, _⟩ => ⟨S_, .i32⟩
  | .hbm, ⟨17, _⟩ => ⟨S_, .f32⟩
  | .hbm, ⟨18, _⟩ => ⟨S128, .f32⟩
  | .hbm, ⟨19, _⟩ => ⟨S1x128, .f32⟩
  | .hbm, ⟨20, _⟩ => ⟨S8192x3072, .f32⟩
  | .hbm, ⟨21, _⟩ => ⟨S8192x128, .f32⟩
  | .hbm, ⟨22, _⟩ => ⟨S8192x128, .f32⟩
  | .hbm, ⟨23, _⟩ => ⟨S1x128, .f32⟩
  | .local _ .vmem, ⟨0, _⟩ => ⟨S128x3072, .f32⟩
  | .local _ .vmem, ⟨1, _⟩ => ⟨S128x3072, .f32⟩
  | .local _ .vmem, ⟨2, _⟩ => ⟨S128x128, .f32⟩
  | .local _ .vmem, ⟨3, _⟩ => ⟨S128x128, .f32⟩
  | .local _ .vmem, ⟨4, _⟩ => ⟨S32x128, .f32⟩
  | .local _ .vmem, ⟨5, _⟩ => ⟨S32x128, .f32⟩
  | .local _ .vmem, ⟨6, _⟩ => ⟨S1x128, .f32⟩
  | .local _ .vmem, ⟨7, _⟩ => ⟨S32x1, .f32⟩
  | .local _ .vmem, ⟨8, _⟩ => ⟨S1x128, .f32⟩
  | .local _ .vmem, ⟨9, _⟩ => ⟨S1x2048x128, .f32⟩
  | .local _ .vmem, ⟨10, _⟩ => ⟨S1x2048x128, .f32⟩
  | .local _ .vmem, ⟨11, _⟩ => ⟨S128x2048, .bf16⟩
  | .local _ .vmem, ⟨12, _⟩ => ⟨S128x2048, .bf16⟩
  | .local _ .vmem, ⟨13, _⟩ => ⟨S128x3072, .f32⟩
  | .local _ .vmem, ⟨14, _⟩ => ⟨S128x3072, .f32⟩
  | .local _ .vmem, ⟨15, _⟩ => ⟨S128x128, .f32⟩
  | .local _ .vmem, ⟨16, _⟩ => ⟨S128x128, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S2048x128, .f32⟩
  | .local _ .vmem, ⟨21, _⟩ => ⟨S128x128, .f32⟩
  | .local _ .vmem, ⟨22, _⟩ => ⟨S32x128, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_call1_v0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c_1 : Ref sig .tc := ⟨.hbm, 16, rfl⟩
abbrev main_call2_v0 : Ref sig .tc := ⟨.hbm, 17, rfl⟩
abbrev main_v6 : Ref sig .tc := ⟨.hbm, 18, rfl⟩
abbrev main_v7 : Ref sig .tc := ⟨.hbm, 19, rfl⟩
abbrev main_v8_0 : Ref sig .tc := ⟨.hbm, 20, rfl⟩
abbrev main_v8_1 : Ref sig .tc := ⟨.hbm, 21, rfl⟩
abbrev main_v8_2 : Ref sig .tc := ⟨.hbm, 22, rfl⟩
abbrev main_v8_3 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  ![v0.toNat, c0_i32.toNat, c0_i32_0.toNat]

def cc0_transform_7 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x3072 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S8192x3072 : Shape := ⟨2, ![8192, 3072]⟩
abbrev S8192x32 : Shape := ⟨2, ![8192, 32]⟩
abbrev S32 : Shape := ⟨1, ![32]⟩
abbrev S64x2048x128 : Shape := ⟨3, ![64, 2048, 128]⟩
abbrev S8192x2048 : Shape := ⟨2, ![8192, 2048]⟩
abbrev S_ : Shape := ⟨0, ![]⟩
abbrev S128x128 : Shape := ⟨2, ![128, 128]⟩
abbrev S64x128x4x8x64 : Shape := ⟨5, ![64, 128, 4, 8, 64]⟩
abbrev S8192x512 : Shape := ⟨2, ![8192, 512]⟩
abbrev S64x128x4x128 : Shape := ⟨4, ![64, 128, 4, 128]⟩
abbrev S4x8x64x128 : Shape := ⟨4, ![4, 8, 64, 128]⟩
abbrev S4x8 : Shape := ⟨2, ![4, 8]⟩
abbrev S64x128x4x8 : Shape := ⟨4, ![64, 128, 4, 8]⟩
abbrev S64x4x8x64x128 : Shape := ⟨5, ![64, 4, 8, 64, 128]⟩
abbrev S1x128x4x8x64 : Shape := ⟨5, ![1, 128, 4, 8, 64]⟩
abbrev S128x4x8x64 : Shape := ⟨4, ![128, 4, 8, 64]⟩
abbrev S1x128x4x8 : Shape := ⟨4, ![1, 128, 4, 8]⟩
abbrev S128x4x8 : Shape := ⟨3, ![128, 4, 8]⟩
abbrev S1x128x4x128 : Shape := ⟨4, ![1, 128, 4, 128]⟩
abbrev S128x4x128 : Shape := ⟨3, ![128, 4, 128]⟩
abbrev S1x4x8x64x128 : Shape := ⟨5, ![1, 4, 8, 64, 128]⟩
abbrev S1x4x8 : Shape := ⟨3, ![1, 4, 8]⟩
abbrev S128x4x8x1 : Shape := ⟨4, ![128, 4, 8, 1]⟩
abbrev S4x8x128 : Shape := ⟨3, ![4, 8, 128]⟩
abbrev S4x8x128x1 : Shape := ⟨4, ![4, 8, 128, 1]⟩
abbrev S4x8x1x128 : Shape := ⟨4, ![4, 8, 1, 128]⟩
abbrev S4x8x128x128 : Shape := ⟨4, ![4, 8, 128, 128]⟩
abbrev S4x128x128 : Shape := ⟨3, ![4, 128, 128]⟩
abbrev S4x1x128x128 : Shape := ⟨4, ![4, 1, 128, 128]⟩
abbrev S4x8x1 : Shape := ⟨3, ![4, 8, 1]⟩
abbrev S1x4x8x1 : Shape := ⟨4, ![1, 4, 8, 1]⟩
abbrev S4x8x1x1 : Shape := ⟨4, ![4, 8, 1, 1]⟩
abbrev S8192x128 : Shape := ⟨2, ![8192, 128]⟩
abbrev S1x32 : Shape := ⟨2, ![1, 32]⟩
abbrev S1x128 : Shape := ⟨2, ![1, 128]⟩

abbrev nBuf : Space → Nat
  | .hbm => 246
  | .vmem => 0
  | .smem => 0
  | _ => 0

abbrev hbmTy0_0 (i : Nat) : BufTy := match i % 128 with
  | 0 => ⟨S8192x3072, .f32⟩
  | 1 => ⟨S8192x32, .f32⟩
  | 2 => ⟨S32, .f32⟩
  | 3 => ⟨S32, .f32⟩
  | 4 => ⟨S64x2048x128, .f32⟩
  | 5 => ⟨S8192x2048, .bf16⟩
  | 6 => ⟨S_, .i1⟩
  | 7 => ⟨S128x128, .i1⟩
  | 8 => ⟨S128x128, .i32⟩
  | 9 => ⟨S_, .i32⟩
  | 10 => ⟨S128x128, .i32⟩
  | 11 => ⟨S128x128, .i32⟩
  | 12 => ⟨S128x128, .i32⟩
  | 13 => ⟨S128x128, .i1⟩
  | 14 => ⟨S_, .i1⟩
  | 15 => ⟨S128x128, .i1⟩
  | 16 => ⟨S128x128, .i1⟩
  | 17 => ⟨S8192x2048, .f32⟩
  | 18 => ⟨S64x128x4x8x64, .f32⟩
  | 19 => ⟨S8192x512, .f32⟩
  | 20 => ⟨S64x128x4x128, .f32⟩
  | 21 => ⟨S8192x512, .f32⟩
  | 22 => ⟨S64x128x4x128, .f32⟩
  | 23 => ⟨S_, .f32⟩
  | 24 => ⟨S4x8x64x128, .f32⟩
  | 25 => ⟨S_, .f32⟩
  | 26 => ⟨S4x8, .f32⟩
  | 27 => ⟨S64x128x4x8, .f32⟩
  | 28 => ⟨S64x4x8x64x128, .f32⟩
  | 29 => ⟨S8192x2048, .f32⟩
  | 30 => ⟨S64x128x4x8x64, .f32⟩
  | 31 => ⟨S_, .f32⟩
  | 32 => ⟨S64x128x4x8x64, .f32⟩
  | 33 => ⟨S_, .f32⟩
  | 34 => ⟨S64x128x4x8, .f32⟩
  | 35 => ⟨S_, .f32⟩
  | 36 => ⟨S64x128x4x128, .f32⟩
  | 37 => ⟨S_, .f32⟩
  | 38 => ⟨S64x128x4x128, .f32⟩
  | 39 => ⟨S_, .i32⟩
  | 40 => ⟨S64x128x4x8x64, .f32⟩
  | 41 => ⟨S64x128x4x8, .f32⟩
  | 42 => ⟨S64x128x4x128, .f32⟩
  | 43 => ⟨S64x128x4x128, .f32⟩
  | 44 => ⟨S64x4x8x64x128, .f32⟩
  | 45 => ⟨S64x128x4x8x64, .f32⟩
  | 46 => ⟨S32, .f32⟩
  | 47 => ⟨S32, .f32⟩
  | 48 => ⟨S128x128, .i1⟩
  | 49 => ⟨S_, .i32⟩
  | 50 => ⟨S4x8x64x128, .f32⟩
  | 51 => ⟨S4x8, .f32⟩
  | 52 => ⟨S64x128x4x8x64, .f32⟩
  | 53 => ⟨S64x128x4x8, .f32⟩
  | 54 => ⟨S64x128x4x128, .f32⟩
  | 55 => ⟨S64x128x4x128, .f32⟩
  | 56 => ⟨S_, .i32⟩
  | 57 => ⟨S_, .i1⟩
  | 58 => ⟨S_, .i32⟩
  | 59 => ⟨S_, .i32⟩
  | 60 => ⟨S_, .i32⟩
  | 61 => ⟨S_, .i32⟩
  | 62 => ⟨S_, .i32⟩
  | 63 => ⟨S_, .i32⟩
  | 64 => ⟨S_, .i32⟩
  | 65 => ⟨S_, .i32⟩
  | 66 => ⟨S1x128x4x8x64, .f32⟩
  | 67 => ⟨S128x4x8x64, .f32⟩
  | 68 => ⟨S_, .i32⟩
  | 69 => ⟨S_, .i32⟩
  | 70 => ⟨S_, .i32⟩
  | 71 => ⟨S1x128x4x8, .f32⟩
  | 72 => ⟨S128x4x8, .f32⟩
  | 73 => ⟨S_, .i32⟩
  | 74 => ⟨S_, .i32⟩
  | 75 => ⟨S_, .i32⟩
  | 76 => ⟨S1x128x4x128, .f32⟩
  | 77 => ⟨S128x4x128, .f32⟩
  | 78 => ⟨S_, .i32⟩
  | 79 => ⟨S_, .i32⟩
  | 80 => ⟨S_, .i32⟩
  | 81 => ⟨S1x128x4x128, .f32⟩
  | 82 => ⟨S128x4x128, .f32⟩
  | 83 => ⟨S_, .i32⟩
  | 84 => ⟨S_, .i32⟩
  | 85 => ⟨S_, .i32⟩
  | 86 => ⟨S_, .i32⟩
  | 87 => ⟨S1x4x8x64x128, .f32⟩
  | 88 => ⟨S4x8x64x128, .f32⟩
  | 89 => ⟨S_, .i32⟩
  | 90 => ⟨S_, .i32⟩
  | 91 => ⟨S_, .i32⟩
  | 92 => ⟨S_, .i32⟩
  | 93 => ⟨S1x128x4x8x64, .f32⟩
  | 94 => ⟨S128x4x8x64, .f32⟩
  | 95 => ⟨S4x8, .f32⟩
  | 96 => ⟨S1x4x8, .f32⟩
  | 97 => ⟨S128x4x8, .f32⟩
  | 98 => ⟨S128x4x8, .f32⟩
  | 99 => ⟨S4x8, .f32⟩
  | 100 => ⟨S128x4x8x1, .f32⟩
  | 101 => ⟨S128x4x8x64, .f32⟩
  | 102 => ⟨S128x4x8x64, .f32⟩
  | 103 => ⟨S4x8x128, .f32⟩
  | 104 => ⟨S_, .f32⟩
  | 105 => ⟨S_, .f32⟩
  | 106 => ⟨S4x8x128, .f32⟩
  | 107 => ⟨S4x8x128x1, .f32⟩
  | 108 => ⟨S4x8x1x128, .f32⟩
  | 109 => ⟨S4x8x128x128, .f32⟩
  | 110 => ⟨S4x8x128x128, .f32⟩
  | 111 => ⟨S4x8x128x128, .f32⟩
  | 112 => ⟨S_, .f32⟩
  | 113 => ⟨S_, .f32⟩
  | 114 => ⟨S4x8x128x128, .i1⟩
  | 115 => ⟨S4x8x128x128, .f32⟩
  | 116 => ⟨S4x8x128x128, .f32⟩
  | 117 => ⟨S4x8x128x128, .f32⟩
  | 118 => ⟨S_, .f32⟩
  | 119 => ⟨S_, .f32⟩
  | 120 => ⟨S4x8x128x128, .i1⟩
  | 121 => ⟨S4x8x128x128, .f32⟩
  | 122 => ⟨S4x8x128x128, .f32⟩
  | 123 => ⟨S4x128x128, .f32⟩
  | 124 => ⟨S4x1x128x128, .f32⟩
  | 125 => ⟨S4x8x128x128, .f32⟩
  | 126 => ⟨S4x8x128x128, .f32⟩
  | 127 => ⟨S4x8x64x128, .f32⟩
  | _ => ⟨S8192x3072, .f32⟩

abbrev hbmTy0_1 (i : Nat) : BufTy := match i % 128 with
  | 0 => ⟨S128x4x8x64, .f32⟩
  | 1 => ⟨S4x8x1, .f32⟩
  | 2 => ⟨S4x8x128, .f32⟩
  | 3 => ⟨S4x8x128, .f32⟩
  | 4 => ⟨S4x8x128, .f32⟩
  | 5 => ⟨S128x4x8, .f32⟩
  | 6 => ⟨S128x4x8x1, .f32⟩
  | 7 => ⟨S128x4x8x64, .f32⟩
  | 8 => ⟨S128x4x8x64, .f32⟩
  | 9 => ⟨S4x8x64x128, .f32⟩
  | 10 => ⟨S4x8x1, .f32⟩
  | 11 => ⟨S4x8, .f32⟩
  | 12 => ⟨S4x8, .f32⟩
  | 13 => ⟨S4x8x128, .f32⟩
  | 14 => ⟨S128x4x8, .f32⟩
  | 15 => ⟨S128x4x8x1, .f32⟩
  | 16 => ⟨S4x8x64x128, .f32⟩
  | 17 => ⟨S128x4x8x64, .f32⟩
  | 18 => ⟨S128x4x8x64, .f32⟩
  | 19 => ⟨S128x4x8x64, .f32⟩
  | 20 => ⟨S128x4x8x64, .f32⟩
  | 21 => ⟨S4x8x1, .f32⟩
  | 22 => ⟨S1x4x8x1, .f32⟩
  | 23 => ⟨S128x4x8x64, .f32⟩
  | 24 => ⟨S128x4x8x64, .f32⟩
  | 25 => ⟨S128x4x8x64, .f32⟩
  | 26 => ⟨S4x8x1x1, .f32⟩
  | 27 => ⟨S4x8x64x128, .f32⟩
  | 28 => ⟨S4x8x64x128, .f32⟩
  | 29 => ⟨S4x8x64x128, .f32⟩
  | 30 => ⟨S4x8x64x128, .f32⟩
  | 31 => ⟨S4x8x64x128, .f32⟩
  | 32 => ⟨S128x4x8x64, .f32⟩
  | 33 => ⟨S_, .f32⟩
  | 34 => ⟨S4x8, .f32⟩
  | 35 => ⟨S1x4x8x1, .f32⟩
  | 36 => ⟨S128x4x8x64, .f32⟩
  | 37 => ⟨S128x4x8x64, .f32⟩
  | 38 => ⟨S_, .f32⟩
  | 39 => ⟨S4x8, .f32⟩
  | 40 => ⟨S4x8x1, .f32⟩
  | 41 => ⟨S_, .f32⟩
  | 42 => ⟨S4x8, .f32⟩
  | 43 => ⟨S128x4x8x64, .f32⟩
  | 44 => ⟨S128x4x8x64, .f32⟩
  | 45 => ⟨S4x8x64x128, .f32⟩
  | 46 => ⟨S4x128x128, .f32⟩
  | 47 => ⟨S128x4x128, .f32⟩
  | 48 => ⟨S4x8x64x128, .f32⟩
  | 49 => ⟨S4x8x64x128, .f32⟩
  | 50 => ⟨S4x128x128, .f32⟩
  | 51 => ⟨S128x4x128, .f32⟩
  | 52 => ⟨S4x8x64x128, .f32⟩
  | 53 => ⟨S128x4x8x64, .f32⟩
  | 54 => ⟨S128x4x8x64, .f32⟩
  | 55 => ⟨S128x4x8x64, .f32⟩
  | 56 => ⟨S4x8x64x128, .f32⟩
  | 57 => ⟨S4x8x128x128, .f32⟩
  | 58 => ⟨S4x8x64x128, .f32⟩
  | 59 => ⟨S128x4x8x64, .f32⟩
  | 60 => ⟨S128x4x8x64, .f32⟩
  | 61 => ⟨S4x8x128x128, .f32⟩
  | 62 => ⟨S_, .f32⟩
  | 63 => ⟨S4x128x128, .f32⟩
  | 64 => ⟨S4x1x128x128, .f32⟩
  | 65 => ⟨S_, .f32⟩
  | 66 => ⟨S4x128x128, .f32⟩
  | 67 => ⟨S4x128x128, .f32⟩
  | 68 => ⟨S128x4x128, .f32⟩
  | 69 => ⟨S128x4x128, .f32⟩
  | 70 => ⟨S4x128x128, .f32⟩
  | 71 => ⟨S128x4x128, .f32⟩
  | 72 => ⟨S128x4x128, .f32⟩
  | 73 => ⟨S128x4x8x64, .f32⟩
  | 74 => ⟨S_, .f32⟩
  | 75 => ⟨S128x4x8, .f32⟩
  | 76 => ⟨S128x4x8x1, .f32⟩
  | 77 => ⟨S128x4x8x64, .f32⟩
  | 78 => ⟨S128x4x8x64, .f32⟩
  | 79 => ⟨S128x4x8x64, .f32⟩
  | 80 => ⟨S_, .f32⟩
  | 81 => ⟨S128x4x8, .f32⟩
  | 82 => ⟨S4x8, .f32⟩
  | 83 => ⟨S1x128x4x8x64, .f32⟩
  | 84 => ⟨S_, .i32⟩
  | 85 => ⟨S_, .i32⟩
  | 86 => ⟨S_, .i32⟩
  | 87 => ⟨S_, .i32⟩
  | 88 => ⟨S64x128x4x8x64, .f32⟩
  | 89 => ⟨S1x128x4x8, .f32⟩
  | 90 => ⟨S_, .i32⟩
  | 91 => ⟨S_, .i32⟩
  | 92 => ⟨S_, .i32⟩
  | 93 => ⟨S64x128x4x8, .f32⟩
  | 94 => ⟨S1x128x4x128, .f32⟩
  | 95 => ⟨S_, .i32⟩
  | 96 => ⟨S_, .i32⟩
  | 97 => ⟨S_, .i32⟩
  | 98 => ⟨S64x128x4x128, .f32⟩
  | 99 => ⟨S1x128x4x128, .f32⟩
  | 100 => ⟨S_, .i32⟩
  | 101 => ⟨S_, .i32⟩
  | 102 => ⟨S_, .i32⟩
  | 103 => ⟨S64x128x4x128, .f32⟩
  | 104 => ⟨S_, .i32⟩
  | 105 => ⟨S_, .i32⟩
  | 106 => ⟨S8192x2048, .f32⟩
  | 107 => ⟨S8192x512, .f32⟩
  | 108 => ⟨S8192x512, .f32⟩
  | 109 => ⟨S8192x3072, .f32⟩
  | 110 => ⟨S8192x32, .f32⟩
  | 111 => ⟨S_, .i32⟩
  | 112 => ⟨S_, .f32⟩
  | 113 => ⟨S8192x128, .f32⟩
  | 114 => ⟨S1x32, .f32⟩
  | 115 => ⟨S_, .i32⟩
  | 116 => ⟨S_, .f32⟩
  | 117 => ⟨S1x128, .f32⟩
  | _ => ⟨S8192x3072, .f32⟩

abbrev hbmTy (i : Nat) : BufTy := match i / 128 with
  | 0 => hbmTy0_0 i
  | 1 => hbmTy0_1 i
  | _ => ⟨S8192x3072, .f32⟩

abbrev bufTy : (tb : Table) → Fin (tcTables nBuf tb) → BufTy
  | .hbm, ⟨i, _⟩ => hbmTy i
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_c_0 : Ref sig .tc := ⟨.hbm, 14, rfl⟩
abbrev main_call0_v5 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst : Ref sig .tc := ⟨.hbm, 23, rfl⟩
abbrev main_v8 : Ref sig .tc := ⟨.hbm, 24, rfl⟩
abbrev main_cst_0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_cst_3 : Ref sig .tc := ⟨.hbm, 35, rfl⟩
abbrev main_v16 : Ref sig .tc := ⟨.hbm, 36, rfl⟩
abbrev main_cst_4 : Ref sig .tc := ⟨.hbm, 37, rfl⟩
abbrev main_v17 : Ref sig .tc := ⟨.hbm, 38, rfl⟩
abbrev main_c_5 : Ref sig .tc := ⟨.hbm, 39, rfl⟩
abbrev main_v18_0 : Ref sig .tc := ⟨.hbm, 40, rfl⟩
abbrev main_v18_1 : Ref sig .tc := ⟨.hbm, 41, rfl⟩
abbrev main_v18_2 : Ref sig .tc := ⟨.hbm, 42, rfl⟩
abbrev main_v18_3 : Ref sig .tc := ⟨.hbm, 43, rfl⟩
abbrev main_v18_4 : Ref sig .tc := ⟨.hbm, 44, rfl⟩
abbrev main_v18_5 : Ref sig .tc := ⟨.hbm, 45, rfl⟩
abbrev main_v18_6 : Ref sig .tc := ⟨.hbm, 46, rfl⟩
abbrev main_v18_7 : Ref sig .tc := ⟨.hbm, 47, rfl⟩
abbrev main_v18_8 : Ref sig .tc := ⟨.hbm, 48, rfl⟩
abbrev main_v18_9 : Ref sig .tc := ⟨.hbm, 49, rfl⟩
abbrev main_v18_10 : Ref sig .tc := ⟨.hbm, 50, rfl⟩
abbrev main_v18_11 : Ref sig .tc := ⟨.hbm, 51, rfl⟩
abbrev main_v18_12 : Ref sig .tc := ⟨.hbm, 52, rfl⟩
abbrev main_v18_13 : Ref sig .tc := ⟨.hbm, 53, rfl⟩
abbrev main_v18_14 : Ref sig .tc := ⟨.hbm, 54, rfl⟩
abbrev main_v18_15 : Ref sig .tc := ⟨.hbm, 55, rfl⟩
abbrev main_while0c_c_23 : Ref sig .tc := ⟨.hbm, 56, rfl⟩
abbrev main_while0c_v27 : Ref sig .tc := ⟨.hbm, 57, rfl⟩
abbrev main_while0b_c_23 : Ref sig .tc := ⟨.hbm, 58, rfl⟩
abbrev main_while0b_v27 : Ref sig .tc := ⟨.hbm, 59, rfl⟩
abbrev main_while0b_c_24 : Ref sig .tc := ⟨.hbm, 60, rfl⟩
abbrev main_while0b_v28 : Ref sig .tc := ⟨.hbm, 61, rfl⟩
abbrev main_while0b_call1_c : Ref sig .tc := ⟨.hbm, 62, rfl⟩
abbrev main_while0b_call1_c_0 : Ref sig .tc := ⟨.hbm, 63, rfl⟩
abbrev main_while0b_call1_c_1 : Ref sig .tc := ⟨.hbm, 64, rfl⟩
abbrev main_while0b_call1_c_2 : Ref sig .tc := ⟨.hbm, 65, rfl⟩
abbrev main_while0b_call1_v0 : Ref sig .tc := ⟨.hbm, 66, rfl⟩
abbrev main_while0b_v29 : Ref sig .tc := ⟨.hbm, 67, rfl⟩
abbrev main_while0b_call2_c : Ref sig .tc := ⟨.hbm, 68, rfl⟩
abbrev main_while0b_call2_c_0 : Ref sig .tc := ⟨.hbm, 69, rfl⟩
abbrev main_while0b_call2_c_1 : Ref sig .tc := ⟨.hbm, 70, rfl⟩
abbrev main_while0b_call2_v0 : Ref sig .tc := ⟨.hbm, 71, rfl⟩
abbrev main_while0b_v30 : Ref sig .tc := ⟨.hbm, 72, rfl⟩
abbrev main_while0b_call3_c : Ref sig .tc := ⟨.hbm, 73, rfl⟩
abbrev main_while0b_call3_c_0 : Ref sig .tc := ⟨.hbm, 74, rfl⟩
abbrev main_while0b_call3_c_1 : Ref sig .tc := ⟨.hbm, 75, rfl⟩
abbrev main_while0b_call3_v0 : Ref sig .tc := ⟨.hbm, 76, rfl⟩
abbrev main_while0b_v31 : Ref sig .tc := ⟨.hbm, 77, rfl⟩
abbrev main_while0b_call4_c : Ref sig .tc := ⟨.hbm, 78, rfl⟩
abbrev main_while0b_call4_c_0 : Ref sig .tc := ⟨.hbm, 79, rfl⟩
abbrev main_while0b_call4_c_1 : Ref sig .tc := ⟨.hbm, 80, rfl⟩
abbrev main_while0b_call4_v0 : Ref sig .tc := ⟨.hbm, 81, rfl⟩
abbrev main_while0b_v32 : Ref sig .tc := ⟨.hbm, 82, rfl⟩
abbrev main_while0b_call5_c : Ref sig .tc := ⟨.hbm, 83, rfl⟩
abbrev main_while0b_call5_c_0 : Ref sig .tc := ⟨.hbm, 84, rfl⟩
abbrev main_while0b_call5_c_1 : Ref sig .tc := ⟨.hbm, 85, rfl⟩
abbrev main_while0b_call5_c_2 : Ref sig .tc := ⟨.hbm, 86, rfl⟩
abbrev main_while0b_call5_v0 : Ref sig .tc := ⟨.hbm, 87, rfl⟩
abbrev main_while0b_v33 : Ref sig .tc := ⟨.hbm, 88, rfl⟩
abbrev main_while0b_call6_c : Ref sig .tc := ⟨.hbm, 89, rfl⟩
abbrev main_while0b_call6_c_0 : Ref sig .tc := ⟨.hbm, 90, rfl⟩
abbrev main_while0b_call6_c_1 : Ref sig .tc := ⟨.hbm, 91, rfl⟩
abbrev main_while0b_call6_c_2 : Ref sig .tc := ⟨.hbm, 92, rfl⟩
abbrev main_while0b_call6_v0 : Ref sig .tc := ⟨.hbm, 93, rfl⟩
abbrev main_while0b_v34 : Ref sig .tc := ⟨.hbm, 94, rfl⟩
abbrev main_while0b_v35 : Ref sig .tc := ⟨.hbm, 95, rfl⟩
abbrev main_while0b_v36 : Ref sig .tc := ⟨.hbm, 96, rfl⟩
abbrev main_while0b_v37 : Ref sig .tc := ⟨.hbm, 97, rfl⟩
abbrev main_while0b_v38 : Ref sig .tc := ⟨.hbm, 98, rfl⟩
abbrev main_while0b_v39 : Ref sig .tc := ⟨.hbm, 99, rfl⟩
abbrev main_while0b_v40 : Ref sig .tc := ⟨.hbm, 100, rfl⟩
abbrev main_while0b_v41 : Ref sig .tc := ⟨.hbm, 101, rfl⟩
abbrev main_while0b_v42 : Ref sig .tc := ⟨.hbm, 102, rfl⟩
abbrev main_while0b_v43 : Ref sig .tc := ⟨.hbm, 103, rfl⟩
abbrev main_while0b_call7_call0_cst : Ref sig .tc := ⟨.hbm, 104, rfl⟩
abbrev main_while0b_call7_call0_v0 : Ref sig .tc := ⟨.hbm, 105, rfl⟩
abbrev main_while0b_v44 : Ref sig .tc := ⟨.hbm, 106, rfl⟩
abbrev main_while0b_v45 : Ref sig .tc := ⟨.hbm, 107, rfl⟩
abbrev main_while0b_v46 : Ref sig .tc := ⟨.hbm, 108, rfl⟩
abbrev main_while0b_v47 : Ref sig .tc := ⟨.hbm, 109, rfl⟩
abbrev main_while0b_v48 : Ref sig .tc := ⟨.hbm, 110, rfl⟩
abbrev main_while0b_v49 : Ref sig .tc := ⟨.hbm, 111, rfl⟩
abbrev main_while0b_cst_25 : Ref sig .tc := ⟨.hbm, 112, rfl⟩
abbrev main_while0b_call8_v0 : Ref sig .tc := ⟨.hbm, 113, rfl⟩
abbrev main_while0b_call8_v1 : Ref sig .tc := ⟨.hbm, 114, rfl⟩
abbrev main_while0b_call8_v2 : Ref sig .tc := ⟨.hbm, 115, rfl⟩
abbrev main_while0b_v50 : Ref sig .tc := ⟨.hbm, 116, rfl⟩
abbrev main_while0b_v51 : Ref sig .tc := ⟨.hbm, 117, rfl⟩
abbrev main_while0b_cst_26 : Ref sig .tc := ⟨.hbm, 118, rfl⟩
abbrev main_while0b_call9_v0 : Ref sig .tc := ⟨.hbm, 119, rfl⟩
abbrev main_while0b_call9_v1 : Ref sig .tc := ⟨.hbm, 120, rfl⟩
abbrev main_while0b_call9_v2 : Ref sig .tc := ⟨.hbm, 121, rfl⟩
abbrev main_while0b_v52 : Ref sig .tc := ⟨.hbm, 122, rfl⟩
abbrev main_while0b_v53 : Ref sig .tc := ⟨.hbm, 123, rfl⟩
abbrev main_while0b_v54 : Ref sig .tc := ⟨.hbm, 124, rfl⟩
abbrev main_while0b_v55 : Ref sig .tc := ⟨.hbm, 125, rfl⟩
abbrev main_while0b_v56 : Ref sig .tc := ⟨.hbm, 126, rfl⟩
abbrev main_while0b_v57 : Ref sig .tc := ⟨.hbm, 127, rfl⟩
abbrev main_while0b_v58 : Ref sig .tc := ⟨.hbm, 128, rfl⟩
abbrev main_while0b_v59 : Ref sig .tc := ⟨.hbm, 129, rfl⟩
abbrev main_while0b_v60 : Ref sig .tc := ⟨.hbm, 130, rfl⟩
abbrev main_while0b_v61 : Ref sig .tc := ⟨.hbm, 131, rfl⟩
abbrev main_while0b_v62 : Ref sig .tc := ⟨.hbm, 132, rfl⟩
abbrev main_while0b_v63 : Ref sig .tc := ⟨.hbm, 133, rfl⟩
abbrev main_while0b_v64 : Ref sig .tc := ⟨.hbm, 134, rfl⟩
abbrev main_while0b_v65 : Ref sig .tc := ⟨.hbm, 135, rfl⟩
abbrev main_while0b_v66 : Ref sig .tc := ⟨.hbm, 136, rfl⟩
abbrev main_while0b_v67 : Ref sig .tc := ⟨.hbm, 137, rfl⟩
abbrev main_while0b_v68 : Ref sig .tc := ⟨.hbm, 138, rfl⟩
abbrev main_while0b_v69 : Ref sig .tc := ⟨.hbm, 139, rfl⟩
abbrev main_while0b_v70 : Ref sig .tc := ⟨.hbm, 140, rfl⟩
abbrev main_while0b_v71 : Ref sig .tc := ⟨.hbm, 141, rfl⟩
abbrev main_while0b_v72 : Ref sig .tc := ⟨.hbm, 142, rfl⟩
abbrev main_while0b_v73 : Ref sig .tc := ⟨.hbm, 143, rfl⟩
abbrev main_while0b_v74 : Ref sig .tc := ⟨.hbm, 144, rfl⟩
abbrev main_while0b_v75 : Ref sig .tc := ⟨.hbm, 145, rfl⟩
abbrev main_while0b_v76 : Ref sig .tc := ⟨.hbm, 146, rfl⟩
abbrev main_while0b_v77 : Ref sig .tc := ⟨.hbm, 147, rfl⟩
abbrev main_while0b_v78 : Ref sig .tc := ⟨.hbm, 148, rfl⟩
abbrev main_while0b_v79 : Ref sig .tc := ⟨.hbm, 149, rfl⟩
abbrev main_while0b_v80 : Ref sig .tc := ⟨.hbm, 150, rfl⟩
abbrev main_while0b_v81 : Ref sig .tc := ⟨.hbm, 151, rfl⟩
abbrev main_while0b_v82 : Ref sig .tc := ⟨.hbm, 152, rfl⟩
abbrev main_while0b_v83 : Ref sig .tc := ⟨.hbm, 153, rfl⟩
abbrev main_while0b_v84 : Ref sig .tc := ⟨.hbm, 154, rfl⟩
abbrev main_while0b_v85 : Ref sig .tc := ⟨.hbm, 155, rfl⟩
abbrev main_while0b_v86 : Ref sig .tc := ⟨.hbm, 156, rfl⟩
abbrev main_while0b_v87 : Ref sig .tc := ⟨.hbm, 157, rfl⟩
abbrev main_while0b_v88 : Ref sig .tc := ⟨.hbm, 158, rfl⟩
abbrev main_while0b_v89 : Ref sig .tc := ⟨.hbm, 159, rfl⟩
abbrev main_while0b_v90 : Ref sig .tc := ⟨.hbm, 160, rfl⟩
abbrev main_while0b_cst_27 : Ref sig .tc := ⟨.hbm, 161, rfl⟩
abbrev main_while0b_v91 : Ref sig .tc := ⟨.hbm, 162, rfl⟩
abbrev main_while0b_v92 : Ref sig .tc := ⟨.hbm, 163, rfl⟩
abbrev main_while0b_v93 : Ref sig .tc := ⟨.hbm, 164, rfl⟩
abbrev main_while0b_v94 : Ref sig .tc := ⟨.hbm, 165, rfl⟩
abbrev main_while0b_cst_28 : Ref sig .tc := ⟨.hbm, 166, rfl⟩
abbrev main_while0b_v95 : Ref sig .tc := ⟨.hbm, 167, rfl⟩
abbrev main_while0b_v96 : Ref sig .tc := ⟨.hbm, 168, rfl⟩
abbrev main_while0b_cst_29 : Ref sig .tc := ⟨.hbm, 169, rfl⟩
abbrev main_while0b_v97 : Ref sig .tc := ⟨.hbm, 170, rfl⟩
abbrev main_while0b_v98 : Ref sig .tc := ⟨.hbm, 171, rfl⟩
abbrev main_while0b_v99 : Ref sig .tc := ⟨.hbm, 172, rfl⟩
abbrev main_while0b_v100 : Ref sig .tc := ⟨.hbm, 173, rfl⟩
abbrev main_while0b_v101 : Ref sig .tc := ⟨.hbm, 174, rfl⟩
abbrev main_while0b_v102 : Ref sig .tc := ⟨.hbm, 175, rfl⟩
abbrev main_while0b_v103 : Ref sig .tc := ⟨.hbm, 176, rfl⟩
abbrev main_while0b_v104 : Ref sig .tc := ⟨.hbm, 177, rfl⟩
abbrev main_while0b_v105 : Ref sig .tc := ⟨.hbm, 178, rfl⟩
abbrev main_while0b_v106 : Ref sig .tc := ⟨.hbm, 179, rfl⟩
abbrev main_while0b_v107 : Ref sig .tc := ⟨.hbm, 180, rfl⟩
abbrev main_while0b_v108 : Ref sig .tc := ⟨.hbm, 181, rfl⟩
abbrev main_while0b_v109 : Ref sig .tc := ⟨.hbm, 182, rfl⟩
abbrev main_while0b_v110 : Ref sig .tc := ⟨.hbm, 183, rfl⟩
abbrev main_while0b_v111 : Ref sig .tc := ⟨.hbm, 184, rfl⟩
abbrev main_while0b_v112 : Ref sig .tc := ⟨.hbm, 185, rfl⟩
abbrev main_while0b_v113 : Ref sig .tc := ⟨.hbm, 186, rfl⟩
abbrev main_while0b_v114 : Ref sig .tc := ⟨.hbm, 187, rfl⟩
abbrev main_while0b_v115 : Ref sig .tc := ⟨.hbm, 188, rfl⟩
abbrev main_while0b_v116 : Ref sig .tc := ⟨.hbm, 189, rfl⟩
abbrev main_while0b_cst_30 : Ref sig .tc := ⟨.hbm, 190, rfl⟩
abbrev main_while0b_v117 : Ref sig .tc := ⟨.hbm, 191, rfl⟩
abbrev main_while0b_v118 : Ref sig .tc := ⟨.hbm, 192, rfl⟩
abbrev main_while0b_cst_31 : Ref sig .tc := ⟨.hbm, 193, rfl⟩
abbrev main_while0b_v119 : Ref sig .tc := ⟨.hbm, 194, rfl⟩
abbrev main_while0b_v120 : Ref sig .tc := ⟨.hbm, 195, rfl⟩
abbrev main_while0b_v121 : Ref sig .tc := ⟨.hbm, 196, rfl⟩
abbrev main_while0b_v122 : Ref sig .tc := ⟨.hbm, 197, rfl⟩
abbrev main_while0b_v123 : Ref sig .tc := ⟨.hbm, 198, rfl⟩
abbrev main_while0b_v124 : Ref sig .tc := ⟨.hbm, 199, rfl⟩
abbrev main_while0b_v125 : Ref sig .tc := ⟨.hbm, 200, rfl⟩
abbrev main_while0b_v126 : Ref sig .tc := ⟨.hbm, 201, rfl⟩
abbrev main_while0b_cst_32 : Ref sig .tc := ⟨.hbm, 202, rfl⟩
abbrev main_while0b_v127 : Ref sig .tc := ⟨.hbm, 203, rfl⟩
abbrev main_while0b_v128 : Ref sig .tc := ⟨.hbm, 204, rfl⟩
abbrev main_while0b_v129 : Ref sig .tc := ⟨.hbm, 205, rfl⟩
abbrev main_while0b_v130 : Ref sig .tc := ⟨.hbm, 206, rfl⟩
abbrev main_while0b_v131 : Ref sig .tc := ⟨.hbm, 207, rfl⟩
abbrev main_while0b_cst_33 : Ref sig .tc := ⟨.hbm, 208, rfl⟩
abbrev main_while0b_v132 : Ref sig .tc := ⟨.hbm, 209, rfl⟩
abbrev main_while0b_v133 : Ref sig .tc := ⟨.hbm, 210, rfl⟩
abbrev main_while0b_call10_v0 : Ref sig .tc := ⟨.hbm, 211, rfl⟩
abbrev main_while0b_call10_c : Ref sig .tc := ⟨.hbm, 212, rfl⟩
abbrev main_while0b_call10_c_0 : Ref sig .tc := ⟨.hbm, 213, rfl⟩
abbrev main_while0b_call10_c_1 : Ref sig .tc := ⟨.hbm, 214, rfl⟩
abbrev main_while0b_call10_c_2 : Ref sig .tc := ⟨.hbm, 215, rfl⟩
abbrev main_while0b_v134 : Ref sig .tc := ⟨.hbm, 216, rfl⟩
abbrev main_while0b_call11_v0 : Ref sig .tc := ⟨.hbm, 217, rfl⟩
abbrev main_while0b_call11_c : Ref sig .tc := ⟨.hbm, 218, rfl⟩
abbrev main_while0b_call11_c_0 : Ref sig .tc := ⟨.hbm, 219, rfl⟩
abbrev main_while0b_call11_c_1 : Ref sig .tc := ⟨.hbm, 220, rfl⟩
abbrev main_while0b_v135 : Ref sig .tc := ⟨.hbm, 221, rfl⟩
abbrev main_while0b_call12_v0 : Ref sig .tc := ⟨.hbm, 222, rfl⟩
abbrev main_while0b_call12_c : Ref sig .tc := ⟨.hbm, 223, rfl⟩
abbrev main_while0b_call12_c_0 : Ref sig .tc := ⟨.hbm, 224, rfl⟩
abbrev main_while0b_call12_c_1 : Ref sig .tc := ⟨.hbm, 225, rfl⟩
abbrev main_while0b_v136 : Ref sig .tc := ⟨.hbm, 226, rfl⟩
abbrev main_while0b_call13_v0 : Ref sig .tc := ⟨.hbm, 227, rfl⟩
abbrev main_while0b_call13_c : Ref sig .tc := ⟨.hbm, 228, rfl⟩
abbrev main_while0b_call13_c_0 : Ref sig .tc := ⟨.hbm, 229, rfl⟩
abbrev main_while0b_call13_c_1 : Ref sig .tc := ⟨.hbm, 230, rfl⟩
abbrev main_while0b_v137 : Ref sig .tc := ⟨.hbm, 231, rfl⟩
abbrev main_while0b_c_34 : Ref sig .tc := ⟨.hbm, 232, rfl⟩
abbrev main_while0b_v138 : Ref sig .tc := ⟨.hbm, 233, rfl⟩
abbrev main_v19 : Ref sig .tc := ⟨.hbm, 234, rfl⟩
abbrev main_v20 : Ref sig .tc := ⟨.hbm, 235, rfl⟩
abbrev main_v21 : Ref sig .tc := ⟨.hbm, 236, rfl⟩
abbrev main_v22 : Ref sig .tc := ⟨.hbm, 237, rfl⟩
abbrev main_v23 : Ref sig .tc := ⟨.hbm, 238, rfl⟩
abbrev main_c_6 : Ref sig .tc := ⟨.hbm, 239, rfl⟩
abbrev main_call14_v0 : Ref sig .tc := ⟨.hbm, 240, rfl⟩
abbrev main_v24 : Ref sig .tc := ⟨.hbm, 241, rfl⟩
abbrev main_v25 : Ref sig .tc := ⟨.hbm, 242, rfl⟩
abbrev main_c_7 : Ref sig .tc := ⟨.hbm, 243, rfl⟩
abbrev main_call15_v0 : Ref sig .tc := ⟨.hbm, 244, rfl⟩
abbrev main_v26 : Ref sig .tc := ⟨.hbm, 245, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S1024x9248 : Shape := ⟨2, ![1024, 9248]⟩
abbrev S8192x2048 : Shape := ⟨2, ![8192, 2048]⟩
abbrev S8192x3072 : Shape := ⟨2, ![8192, 3072]⟩
abbrev S8192x128 : Shape := ⟨2, ![8192, 128]⟩
abbrev S8192x1024 : Shape := ⟨2, ![8192, 1024]⟩
abbrev S1024x2048 : Shape := ⟨2, ![1024, 2048]⟩
abbrev S1024x3072 : Shape := ⟨2, ![1024, 3072]⟩
abbrev S1024x32 : Shape := ⟨2, ![1024, 32]⟩
abbrev S_ : Shape := ⟨0, ![]⟩
abbrev S1024x128 : Shape := ⟨2, ![1024, 128]⟩
abbrev S512x2048 : Shape := ⟨2, ![512, 2048]⟩
abbrev S512x3072 : Shape := ⟨2, ![512, 3072]⟩
abbrev S512x128 : Shape := ⟨2, ![512, 128]⟩
abbrev S512x512 : Shape := ⟨2, ![512, 512]⟩

abbrev nBuf : Space → Nat
  | .hbm => 16
  | .vmem => 24
  | .smem => 0
  | _ => 0

abbrev bufTy : (tb : Table) → Fin (tcTables nBuf tb) → BufTy
  | .hbm, ⟨0, _⟩ => ⟨S1024x9248, .bf16⟩
  | .hbm, ⟨1, _⟩ => ⟨S8192x2048, .bf16⟩
  | .hbm, ⟨2, _⟩ => ⟨S8192x2048, .bf16⟩
  | .hbm, ⟨3, _⟩ => ⟨S8192x3072, .bf16⟩
  | .hbm, ⟨4, _⟩ => ⟨S8192x2048, .bf16⟩
  | .hbm, ⟨5, _⟩ => ⟨S8192x128, .bf16⟩
  | .hbm, ⟨6, _⟩ => ⟨S8192x1024, .f32⟩
  | .hbm, ⟨7, _⟩ => ⟨S1024x2048, .bf16⟩
  | .hbm, ⟨8, _⟩ => ⟨S1024x2048, .bf16⟩
  | .hbm, ⟨9, _⟩ => ⟨S1024x3072, .bf16⟩
  | .hbm, ⟨10, _⟩ => ⟨S1024x2048, .bf16⟩
  | .hbm, ⟨11, _⟩ => ⟨S1024x32, .bf16⟩
  | .hbm, ⟨12, _⟩ => ⟨S_, .i32⟩
  | .hbm, ⟨13, _⟩ => ⟨S_, .bf16⟩
  | .hbm, ⟨14, _⟩ => ⟨S1024x128, .bf16⟩
  | .hbm, ⟨15, _⟩ => ⟨S8192x1024, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x3072, .bf16⟩
  | .local _ .vmem, ⟨5, _⟩ => ⟨S512x3072, .bf16⟩
  | .local _ .vmem, ⟨6, _⟩ => ⟨S512x2048, .bf16⟩
  | .local _ .vmem, ⟨7, _⟩ => ⟨S512x2048, .bf16⟩
  | .local _ .vmem, ⟨8, _⟩ => ⟨S512x128, .bf16⟩
  | .local _ .vmem, ⟨9, _⟩ => ⟨S512x128, .bf16⟩
  | .local _ .vmem, ⟨10, _⟩ => ⟨S512x2048, .bf16⟩
  | .local _ .vmem, ⟨11, _⟩ => ⟨S512x2048, .bf16⟩
  | .local _ .vmem, ⟨12, _⟩ => ⟨S512x2048, .bf16⟩
  | .local _ .vmem, ⟨13, _⟩ => ⟨S512x2048, .bf16⟩
  | .local _ .vmem, ⟨14, _⟩ => ⟨S512x3072, .bf16⟩
  | .local _ .vmem, ⟨15, _⟩ => ⟨S512x3072, .bf16⟩
  | .local _ .vmem, ⟨16, _⟩ => ⟨S512x2048, .bf16⟩
  | .local _ .vmem, ⟨17, _⟩ => ⟨S512x2048, .bf16⟩
  | .local _ .vmem, ⟨18, _⟩ => ⟨S512x128, .bf16⟩
  | .local _ .vmem, ⟨19, _⟩ => ⟨S512x128, .bf16⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | _, _ => ⟨S1024x9248, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference2Ideal.lean ====
abbrev S1024x9248 : Shape := ⟨2, ![1024, 9248]⟩
abbrev S8192x2048 : Shape := ⟨2, ![8192, 2048]⟩
abbrev S8192x3072 : Shape := ⟨2, ![8192, 3072]⟩
abbrev S8192x128 : Shape := ⟨2, ![8192, 128]⟩
abbrev S8192x1024 : Shape := ⟨2, ![8192, 1024]⟩
abbrev S8192x32 : Shape := ⟨2, ![8192, 32]⟩
abbrev S8192x9248 : Shape := ⟨2, ![8192, 9248]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S1024x9248, .bf16⟩
  | .hbm, ⟨1, _⟩ => ⟨S8192x2048, .bf16⟩
  | .hbm, ⟨2, _⟩ => ⟨S8192x2048, .bf16⟩
  | .hbm, ⟨3, _⟩ => ⟨S8192x3072, .bf16⟩
  | .hbm, ⟨4, _⟩ => ⟨S8192x2048, .bf16⟩
  | .hbm, ⟨5, _⟩ => ⟨S8192x128, .bf16⟩
  | .hbm, ⟨6, _⟩ => ⟨S8192x1024, .f32⟩
  | .hbm, ⟨7, _⟩ => ⟨S1024x9248, .f32⟩
  | .hbm, ⟨8, _⟩ => ⟨S8192x2048, .f32⟩
  | .hbm, ⟨9, _⟩ => ⟨S8192x2048, .f32⟩
  | .hbm, ⟨10, _⟩ => ⟨S8192x3072, .f32⟩
  | .hbm, ⟨11, _⟩ => ⟨S8192x2048, .f32⟩
  | .hbm, ⟨12, _⟩ => ⟨S8192x128, .f32⟩
  | .hbm, ⟨13, _⟩ => ⟨S8192x32, .f32⟩
  | .hbm, ⟨14, _⟩ => ⟨S8192x9248, .f32⟩
  | .hbm, ⟨15, _⟩ => ⟨S_, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S8192x9248, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S8192x1024, .f32⟩
  | _, _ => ⟨S1024x9248, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Kernel3.lean ====
abbrev S1024x5632 : Shape := ⟨2, ![1024, 5632]⟩
abbrev S8192x5632 : Shape := ⟨2, ![8192, 5632]⟩
abbrev S8192x1024 : Shape := ⟨2, ![8192, 1024]⟩
abbrev S256x5632 : Shape := ⟨2, ![256, 5632]⟩
abbrev S256x1024 : Shape := ⟨2, ![256, 1024]⟩

abbrev nBuf : Space → Nat
  | .hbm => 4
  | .vmem => 7
  | .smem => 0
  | _ => 0

abbrev bufTy : (tb : Table) → Fin (tcTables nBuf tb) → BufTy
  | .hbm, ⟨0, _⟩ => ⟨S1024x5632, .bf16⟩
  | .hbm, ⟨1, _⟩ => ⟨S8192x5632, .bf16⟩
  | .hbm, ⟨2, _⟩ => ⟨S8192x1024, .f32⟩
  | .hbm, ⟨3, _⟩ => ⟨S8192x1024, .f32⟩
  | .local _ .vmem, ⟨0, _⟩ => ⟨S256x5632, .bf16⟩
  | .local _ .vmem, ⟨1, _⟩ => ⟨S256x5632, .bf16⟩
  | .local _ .vmem, ⟨2, _⟩ => ⟨S1024x5632, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S1024x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![32, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S1024x5632 : Shape := ⟨2, ![1024, 5632]⟩
abbrev S8192x5632 : Shape := ⟨2, ![8192, 5632]⟩
abbrev S8192x1024 : Shape := ⟨2, ![8192, 1024]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S1024x5632, .bf16⟩
  | .hbm, ⟨1, _⟩ => ⟨S8192x5632, .bf16⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S1024x5632, .f32⟩
  | .hbm, ⟨9, _⟩ => ⟨S8192x5632, .f32⟩
  | .hbm, ⟨10, _⟩ => ⟨S8192x5632, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x1024, .f32⟩
  | _, _ => ⟨S1024x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Kernel4.lean ====
abbrev S8192x1024 : Shape := ⟨2, ![8192, 1024]⟩
abbrev S8192x5632 : Shape := ⟨2, ![8192, 5632]⟩
abbrev S1024x5632 : Shape := ⟨2, ![1024, 5632]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S1024x5632, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S_, .f32⟩
  | .hbm, ⟨3, _⟩ => ⟨S1024x5632, .f32⟩
  | .hbm, ⟨4, _⟩ => ⟨S8192x1024, .f32⟩
  | .hbm, ⟨5, _⟩ => ⟨S8192x5632, .f32⟩
  | .hbm, ⟨6, _⟩ => ⟨S8192x5632, .f32⟩
  | .hbm, ⟨7, _⟩ => ⟨S5632x1024, .f32⟩
  | .hbm, ⟨8, _⟩ => ⟨S1024x5632, .f32⟩
  | .hbm, ⟨9, _⟩ => ⟨S1024x5632, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S8192x1024 : Shape := ⟨2, ![8192, 1024]⟩
abbrev S8192x2048 : Shape := ⟨2, ![8192, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S_, .f32⟩
  | .hbm, ⟨3, _⟩ => ⟨S1024x2048, .f32⟩
  | .hbm, ⟨4, _⟩ => ⟨S8192x1024, .f32⟩
  | .hbm, ⟨5, _⟩ => ⟨S8192x2048, .f32⟩
  | .hbm, ⟨6, _⟩ => ⟨S8192x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S8192x1024 : Shape := ⟨2, ![8192, 1024]⟩
abbrev S8192x3072 : Shape := ⟨2, ![8192, 3072]⟩
abbrev S1024x3072 : Shape := ⟨2, ![1024, 3072]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S1024x3072, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x1024 : Shape := ⟨2, ![8192, 1024]⟩
abbrev S8192x3072 : Shape := ⟨2, ![8192, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S_, .f32⟩
  | .hbm, ⟨3, _⟩ => ⟨S1024x3072, .f32⟩
  | .hbm, ⟨4, _⟩ => ⟨S8192x1024, .f32⟩
  | .hbm, ⟨5, _⟩ => ⟨S8192x3072, .f32⟩
  | .hbm, ⟨6, _⟩ => ⟨S8192x3072, .f32⟩
  | .hbm, ⟨7, _⟩ => ⟨S3072x1024, .f32⟩
  | .hbm, ⟨8, _⟩ => ⟨S1024x3072, .f32⟩
  | .hbm, ⟨9, _⟩ => ⟨S1024x3072, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .f32⟩
  | .local _ .vmem, ⟨3, _⟩ => ⟨S2048x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S2816x1024 : Shape := ⟨2, ![2816, 1024]⟩
abbrev S8192x1024 : Shape := ⟨2, ![8192, 1024]⟩
abbrev S8192x2816 : Shape := ⟨2, ![8192, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2816x1024, .bf16⟩
  | .hbm, ⟨1, _⟩ => ⟨S8192x1024, .f32⟩
  | .hbm, ⟨2, _⟩ => ⟨S8192x2816, .f32⟩
  | .local _ .vmem, ⟨0, _⟩ => ⟨S1024x1024, .f32⟩
  | .local _ .vmem, ⟨1, _⟩ => ⟨S1024x1024, .f32⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | _, _ => ⟨S2816x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S2816x1024 : Shape := ⟨2, ![2816, 1024]⟩
abbrev S8192x1024 : Shape := ⟨2, ![8192, 1024]⟩
abbrev S_ : Shape := ⟨0, ![]⟩
abbrev S8192x2816 : Shape := ⟨2, ![8192, 2816]⟩

abbrev nBuf : Space → Nat
  | .hbm => 7
  | .vmem => 0
  | .smem => 0
  | _ => 0

abbrev bufTy : (tb : Table) → Fin (tcTables nBuf tb) → BufTy
  | .hbm, ⟨0, _⟩ => ⟨S2816x1024, .bf16⟩
  | .hbm, ⟨1, _⟩ => ⟨S8192x1024, .f32⟩
  | .hbm, ⟨2, _⟩ => ⟨S_, .f32⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S8192x2816, .f32⟩
  | _, _ => ⟨S2816x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel9.lean ====
abbrev S8192x2048 : Shape := ⟨2, ![8192, 2048]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S_, .f32⟩
  | .hbm, ⟨3, _⟩ => ⟨S2048x1024, .f32⟩
  | .hbm, ⟨4, _⟩ => ⟨S8192x2048, .f32⟩
  | .hbm, ⟨5, _⟩ => ⟨S8192x1024, .f32⟩
  | .hbm, ⟨6, _⟩ => ⟨S8192x1024, .f32⟩
  | .hbm, ⟨7, _⟩ => ⟨S1024x2048, .f32⟩
  | .hbm, ⟨8, _⟩ => ⟨S2048x1024, .f32⟩
  | .hbm, ⟨9, _⟩ => ⟨S2048x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S2048x1024 : Shape := ⟨2, ![2048, 1024]⟩
abbrev S8192x1024 : Shape := ⟨2, ![8192, 1024]⟩
abbrev S8192x2048 : Shape := ⟨2, ![8192, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S8192x1024, .bf16⟩
  | .hbm, ⟨2, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S2048x1024 : Shape := ⟨2, ![2048, 1024]⟩
abbrev S8192x1024 : Shape := ⟨2, ![8192, 1024]⟩
abbrev S_ : Shape := ⟨0, ![]⟩
abbrev S8192x2048 : Shape := ⟨2, ![8192, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S8192x1024, .bf16⟩
  | .hbm, ⟨2, _⟩ => ⟨S_, .f32⟩
  | .hbm, ⟨3, _⟩ => ⟨S8192x2048, .f32⟩
  | .hbm, ⟨4, _⟩ => ⟨S2048x1024, .f32⟩
  | .hbm, ⟨5, _⟩ => ⟨S8192x1024, .f32⟩
  | .hbm, ⟨6, _⟩ => ⟨S8192x1024, .f32⟩
  | .hbm, ⟨7, _⟩ => ⟨S8192x2048, .f32⟩
  | .hbm, ⟨8, _⟩ => ⟨S8192x2048, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel11.lean ====
abbrev S8192x1024 : Shape := ⟨2, ![8192, 1024]⟩
abbrev S1024x9248 : Shape := ⟨2, ![1024, 9248]⟩
abbrev S1024x2048 : Shape := ⟨2, ![1024, 2048]⟩
abbrev S1024x3072 : Shape := ⟨2, ![1024, 3072]⟩
abbrev S1024x9216 : Shape := ⟨2, ![1024, 9216]⟩
abbrev S8192x9216 : Shape := ⟨2, ![8192, 9216]⟩
abbrev S1024x1024 : Shape := ⟨2, ![1024, 1024]⟩

abbrev nBuf : Space → Nat
  | .hbm => 8
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x9248, .bf16⟩
  | .hbm, ⟨2, _⟩ => ⟨S1024x2048, .bf16⟩
  | .hbm, ⟨3, _⟩ => ⟨S1024x2048, .bf16⟩
  | .hbm, ⟨4, _⟩ => ⟨S1024x3072, .bf16⟩
  | .hbm, ⟨5, _⟩ => ⟨S1024x2048, .bf16⟩
  | .hbm, ⟨6, _⟩ => ⟨S1024x9216, .bf16⟩
  | .hbm, ⟨7, _⟩ => ⟨S8192x9216, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 9, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x1024 : Shape := ⟨2, ![8192, 1024]⟩
abbrev S1024x9248 : Shape := ⟨2, ![1024, 9248]⟩
abbrev S8192x9248 : Shape := ⟨2, ![8192, 9248]⟩
abbrev S8192x7168 : Shape := ⟨2, ![8192, 7168]⟩
abbrev S8192x2048 : Shape := ⟨2, ![8192, 2048]⟩
abbrev S8192x9216 : Shape := ⟨2, ![8192, 9216]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x9248, .bf16⟩
  | .hbm, ⟨2, _⟩ => ⟨S8192x1024, .f32⟩
  | .hbm, ⟨3, _⟩ => ⟨S1024x9248, .f32⟩
  | .hbm, ⟨4, _⟩ => ⟨S8192x9248, .f32⟩
  | .hbm, ⟨5, _⟩ => ⟨S8192x9248, .bf16⟩
  | .hbm, ⟨6, _⟩ => ⟨S8192x7168, .bf16⟩
  | .hbm, ⟨7, _⟩ => ⟨S8192x2048, .bf16⟩
  | .hbm, ⟨8, _⟩ => ⟨S8192x9216, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel12.lean ====
abbrev S8192x1024 : Shape := ⟨2, ![8192, 1024]⟩
abbrev S1024x5632 : Shape := ⟨2, ![1024, 5632]⟩
abbrev S8192x5632 : Shape := ⟨2, ![8192, 5632]⟩
abbrev S1024x1024 : Shape := ⟨2, ![1024, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8192x1024 : Shape := ⟨2, ![8192, 1024]⟩
abbrev S1024x5632 : Shape := ⟨2, ![1024, 5632]⟩
abbrev S8192x5632 : Shape := ⟨2, ![8192, 5632]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x1024, .f32⟩
  | .hbm, ⟨3, _⟩ => ⟨S1024x5632, .f32⟩
  | .hbm, ⟨4, _⟩ => ⟨S8192x5632, .f32⟩
  | .hbm, ⟨5, _⟩ => ⟨S8192x5632, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel13.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference13Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel14.lean ====
abbrev S1024x1024 : Shape := ⟨2, ![1024, 1024]⟩
abbrev S8192x1024 : Shape := ⟨2, ![8192, 1024]⟩

abbrev nBuf : Space → Nat
  | .hbm => 3
  | .vmem => 5
  | .smem => 0
  | _ => 0

abbrev bufTy : (tb : Table) → Fin (tcTables nBuf tb) → BufTy
  | .hbm, ⟨0, _⟩ => ⟨S1024x1024, .bf16⟩
  | .hbm, ⟨1, _⟩ => ⟨S8192x1024, .f32⟩
  | .hbm, ⟨2, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S1024x1024 : Shape := ⟨2, ![1024, 1024]⟩
abbrev S8192x1024 : Shape := ⟨2, ![8192, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S8192x1024, .f32⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .bf16⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel15.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference15Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel16.lean ====
abbrev S1024x1024 : Shape := ⟨2, ![1024, 1024]⟩
abbrev S8192x1024 : Shape := ⟨2, ![8192, 1024]⟩

abbrev nBuf : Space → Nat
  | .hbm => 3
  | .vmem => 5
  | .smem => 0
  | _ => 0

abbrev bufTy : (tb : Table) → Fin (tcTables nBuf tb) → BufTy
  | .hbm, ⟨0, _⟩ => ⟨S1024x1024, .bf16⟩
  | .hbm, ⟨1, _⟩ => ⟨S8192x1024, .bf16⟩
  | .hbm, ⟨2, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S1024x1024 : Shape := ⟨2, ![1024, 1024]⟩
abbrev S8192x1024 : Shape := ⟨2, ![8192, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S8192x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .bf16⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel17.lean ====
abbrev S8192x2048 : Shape := ⟨2, ![8192, 2048]⟩
abbrev S2048x1024 : Shape := ⟨2, ![2048, 1024]⟩
abbrev S8192x1024 : Shape := ⟨2, ![8192, 1024]⟩
abbrev S1024x2048 : Shape := ⟨2, ![1024, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S8192x2048 : Shape := ⟨2, ![8192, 2048]⟩
abbrev S2048x1024 : Shape := ⟨2, ![2048, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x2048, .f32⟩
  | .hbm, ⟨3, _⟩ => ⟨S2048x1024, .f32⟩
  | .hbm, ⟨4, _⟩ => ⟨S8192x1024, .f32⟩
  | .hbm, ⟨5, _⟩ => ⟨S8192x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel18.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | .hbm, ⟨5, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel19.lean ====
abbrev S8192x1024 : Shape := ⟨2, ![8192, 1024]⟩
abbrev S8192x128 : Shape := ⟨2, ![8192, 128]⟩
abbrev S1024x128 : Shape := ⟨2, ![1024, 128]⟩
abbrev S2048x1024 : Shape := ⟨2, ![2048, 1024]⟩
abbrev S2048x128 : Shape := ⟨2, ![2048, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x128, .bf16⟩
  | .hbm, ⟨2, _⟩ => ⟨S1024x128, .bf16⟩
  | .local _ .vmem, ⟨0, _⟩ => ⟨S2048x1024, .bf16⟩
  | .local _ .vmem, ⟨1, _⟩ => ⟨S2048x1024, .bf16⟩
  | .local _ .vmem, ⟨2, _⟩ => ⟨S2048x128, .bf16⟩
  | .local _ .vmem, ⟨3, _⟩ => ⟨S2048x128, .bf16⟩
  | .local _ .vmem, ⟨4, _⟩ => ⟨S1024x128, .bf16⟩
  | .local _ .vmem, ⟨5, _⟩ => ⟨S1024x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference19Ideal.lean ====
abbrev S8192x1024 : Shape := ⟨2, ![8192, 1024]⟩
abbrev S8192x128 : Shape := ⟨2, ![8192, 128]⟩
abbrev S_ : Shape := ⟨0, ![]⟩
abbrev S1024x128 : Shape := ⟨2, ![1024, 128]⟩
abbrev S128x1024 : Shape := ⟨2, ![128, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x128, .bf16⟩
  | .hbm, ⟨2, _⟩ => ⟨S_, .f32⟩
  | .hbm, ⟨3, _⟩ => ⟨S1024x128, .f32⟩
  | .hbm, ⟨4, _⟩ => ⟨S8192x1024, .f32⟩
  | .hbm, ⟨5, _⟩ => ⟨S8192x128, .f32⟩
  | .hbm, ⟨6, _⟩ => ⟨S8192x128, .f32⟩
  | .hbm, ⟨7, _⟩ => ⟨S128x1024, .f32⟩
  | .hbm, ⟨8, _⟩ => ⟨S1024x128, .f32⟩
  | .hbm, ⟨9, _⟩ => ⟨S1024x128, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel20.lean ====
abbrev S8192x1024 : Shape := ⟨2, ![8192, 1024]⟩
abbrev S1024x1024 : Shape := ⟨2, ![1024, 1024]⟩
abbrev S1x1024 : Shape := ⟨2, ![1, 1024]⟩
abbrev S512x1024 : Shape := ⟨2, ![512, 1024]⟩
abbrev S128x1024 : Shape := ⟨2, ![128, 1024]⟩
abbrev S128 : Shape := ⟨1, ![128]⟩
abbrev S128x1 : Shape := ⟨2, ![128, 1]⟩

abbrev nBuf : Space → Nat
  | .hbm => 8
  | .vmem => 14
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference20Ideal.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 40
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S1024x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Kernel21.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S512x2816 : Shape := ⟨2, ![512, 2816]⟩
abbrev S512x1024 : Shape := ⟨2, ![512, 1024]⟩
abbrev S128x2816 : Shape := ⟨2, ![128, 2816]⟩
abbrev S128x1024 : Shape := ⟨2, ![128, 1024]⟩
abbrev S128 : Shape := ⟨1, ![128]⟩
abbrev S128x1 : Shape := ⟨2, ![128, 1]⟩

abbrev nBuf : Space → Nat
  | .hbm => 8
  | .vmem => 14
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S8192x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference21Ideal.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 40
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x2816, .f32⟩
  | .hbm, ⟨9, _⟩ => ⟨S2816x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Kernel22.lean ====
abbrev S8192x9216 : Shape := ⟨2, ![8192, 9216]⟩
abbrev S8192x1024 : Shape := ⟨2, ![8192, 1024]⟩
abbrev S512x1024 : Shape := ⟨2, ![512, 1024]⟩

abbrev nBuf : Space → Nat
  | .hbm => 4
  | .vmem => 10
  | .smem => 0
  | _ => 0

abbrev bufTy : (tb : Table) → Fin (tcTables nBuf tb) → BufTy
  | .hbm, ⟨0, _⟩ => ⟨S8192x9216, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | _, _ => ⟨S8192x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_1 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference22Ideal.lean ====
abbrev S8192x9216 : Shape := ⟨2, ![8192, 9216]⟩
abbrev S8192x1024 : Shape := ⟨2, ![8192, 1024]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S8192x9216, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .bf16⟩
  | _, _ => ⟨S8192x9216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Kernel23.lean ====
abbrev S8192x9216 : Shape := ⟨2, ![8192, 9216]⟩
abbrev S8192x1024 : Shape := ⟨2, ![8192, 1024]⟩
abbrev S8192x2048 : Shape := ⟨2, ![8192, 2048]⟩
abbrev S512x1024 : Shape := ⟨2, ![512, 1024]⟩
abbrev S512x2048 : Shape := ⟨2, ![512, 2048]⟩

abbrev nBuf : Space → Nat
  | .hbm => 7
  | .vmem => 16
  | .smem => 0
  | _ => 0

abbrev bufTy : (tb : Table) → Fin (tcTables nBuf tb) → BufTy
  | .hbm, ⟨0, _⟩ => ⟨S8192x9216, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S8192x1024, .bf16⟩
  | .hbm, ⟨6, _⟩ => ⟨S8192x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x2048, .bf16⟩
  | .local _ .vmem, ⟨15, _⟩ => ⟨S512x2048, .bf16⟩
  | _, _ => ⟨S8192x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_1 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference23Ideal.lean ====
abbrev S8192x9216 : Shape := ⟨2, ![8192, 9216]⟩
abbrev S8192x1024 : Shape := ⟨2, ![8192, 1024]⟩
abbrev S_ : Shape := ⟨0, ![]⟩
abbrev S8192x2048 : Shape := ⟨2, ![8192, 2048]⟩

abbrev nBuf : Space → Nat
  | .hbm => 48
  | .vmem => 0
  | .smem => 0
  | _ => 0

abbrev bufTy : (tb : Table) → Fin (tcTables nBuf tb) → BufTy
  | .hbm, ⟨0, _⟩ => ⟨S8192x9216, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S8192x1024, .bf16⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x2048, .f32⟩
  | .hbm, ⟨45, _⟩ => ⟨S8192x1024, .bf16⟩
  | .hbm, ⟨46, _⟩ => ⟨S8192x1024, .bf16⟩
  | .hbm, ⟨47, _⟩ => ⟨S8192x2048, .bf16⟩
  | _, _ => ⟨S8192x9216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩

abbrev nD : Nat := 1
abbrev τ : Topo := Topo.v7x

variable {F : FTy → Type} [FloatOps F]
-- ==== Kernel24.lean ====
abbrev S8192x1024 : Shape := ⟨2, ![8192, 1024]⟩
abbrev S1024x9248 : Shape := ⟨2, ![1024, 9248]⟩
abbrev S1024x32 : Shape := ⟨2, ![1024, 32]⟩
abbrev S_ : Shape := ⟨0, ![]⟩
abbrev S1024x128 : Shape := ⟨2, ![1024, 128]⟩
abbrev S8192x128 : Shape := ⟨2, ![8192, 128]⟩
abbrev S1024x1024 : Shape := ⟨2, ![1024, 1024]⟩

abbrev nBuf : Space → Nat
  | .hbm => 7
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x9248, .bf16⟩
  | .hbm, ⟨2, _⟩ => ⟨S1024x32, .bf16⟩
  | .hbm, ⟨3, _⟩ => ⟨S_, .i32⟩
  | .hbm, ⟨4, _⟩ => ⟨S_, .bf16⟩
  | .hbm, ⟨5, _⟩ => ⟨S1024x128, .bf16⟩
  | .hbm, ⟨6, _⟩ => ⟨S8192x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .f32⟩
  | .local _ .vmem, ⟨4, _⟩ => ⟨S1024x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference24Ideal.lean ====
abbrev S8192x1024 : Shape := ⟨2, ![8192, 1024]⟩
abbrev S1024x9248 : Shape := ⟨2, ![1024, 9248]⟩
abbrev S1024x32 : Shape := ⟨2, ![1024, 32]⟩
abbrev S8192x32 : Shape := ⟨2, ![8192, 32]⟩
abbrev S_ : Shape := ⟨0, ![]⟩
abbrev S8192x128 : Shape := ⟨2, ![8192, 128]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x9248, .bf16⟩
  | .hbm, ⟨2, _⟩ => ⟨S8192x1024, .f32⟩
  | .hbm, ⟨3, _⟩ => ⟨S1024x32, .bf16⟩
  | .hbm, ⟨4, _⟩ => ⟨S1024x32, .f32⟩
  | .hbm, ⟨5, _⟩ => ⟨S8192x32, .f32⟩
  | .hbm, ⟨6, _⟩ => ⟨S_, .i32⟩
  | .hbm, ⟨7, _⟩ => ⟨S_, .f32⟩
  | .hbm, ⟨8, _⟩ => ⟨S8192x128, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel25.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S8192x1024, .f32⟩
  | .hbm, ⟨4, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference25Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Kernel26.lean ====
abbrev S8192x2048 : Shape := ⟨2, ![8192, 2048]⟩
abbrev S8192x9216 : Shape := ⟨2, ![8192, 9216]⟩
abbrev S1x2048 : Shape := ⟨2, ![1, 2048]⟩
abbrev S256x2048 : Shape := ⟨2, ![256, 2048]⟩
abbrev S256x512 : Shape := ⟨2, ![256, 512]⟩
abbrev S256 : Shape := ⟨1, ![256]⟩
abbrev S256x1 : Shape := ⟨2, ![256, 1]⟩
abbrev S1x512 : Shape := ⟨2, ![1, 512]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x9216, .bf16⟩
  | .hbm, ⟨2, _⟩ => ⟨S1x2048, .f32⟩
  | .hbm, ⟨3, _⟩ => ⟨S8192x2048, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference26Ideal.lean ====
abbrev S8192x2048 : Shape := ⟨2, ![8192, 2048]⟩
abbrev S8192x9216 : Shape := ⟨2, ![8192, 9216]⟩
abbrev S1x2048 : Shape := ⟨2, ![1, 2048]⟩
abbrev S_ : Shape := ⟨0, ![]⟩
abbrev S8192x4x512 : Shape := ⟨3, ![8192, 4, 512]⟩
abbrev S8192x4 : Shape := ⟨2, ![8192, 4]⟩
abbrev S8192x4x1 : Shape := ⟨3, ![8192, 4, 1]⟩

abbrev nBuf : Space → Nat
  | .hbm => 34
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x9216, .bf16⟩
  | .hbm, ⟨2, _⟩ => ⟨S1x2048, .f32⟩
  | .hbm, ⟨3, _⟩ => ⟨S8192x2048, .f32⟩
  | .hbm, ⟨4, _⟩ => ⟨S8192x2048, .bf16⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x4x512, .f32⟩
  | .hbm, ⟨17, _⟩ => ⟨S8192x4x512, .f32⟩
  | .hbm, ⟨18, _⟩ => ⟨S_, .f32⟩
  | .hbm, ⟨19, _⟩ => ⟨S8192x4, .f32⟩
  | .hbm, ⟨20, _⟩ => ⟨S8192x4x1, .f32⟩
  | .hbm, ⟨21, _⟩ => ⟨S_, .f32⟩
  | .hbm, ⟨22, _⟩ => ⟨S8192x4x1, .f32⟩
  | .hbm, ⟨23, _⟩ => ⟨S8192x4x1, .f32⟩
  | .hbm, ⟨24, _⟩ => ⟨S_, .f32⟩
  | .hbm, ⟨25, _⟩ => ⟨S8192x4x1, .f32⟩
  | .hbm, ⟨26, _⟩ => ⟨S8192x4x1, .f32⟩
  | .hbm, ⟨27, _⟩ => ⟨S8192x4x1, .f32⟩
  | .hbm, ⟨28, _⟩ => ⟨S8192x4x512, .f32⟩
  | .hbm, ⟨29, _⟩ => ⟨S8192x4x512, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩

abbrev nD : Nat := 1
abbrev τ : Topo := Topo.v7x

variable {F : FTy → Type} [FloatOps F]
-- ==== Kernel27.lean ====
abbrev S8x128x1024 : Shape := ⟨3, ![8, 128, 1024]⟩
abbrev S2x128x1024 : Shape := ⟨3, ![2, 128, 1024]⟩
abbrev S1x128x1024 : Shape := ⟨3, ![1, 128, 1024]⟩
abbrev S128x1024 : Shape := ⟨2, ![128, 1024]⟩

abbrev nBuf : Space → Nat
  | .hbm => 11
  | .vmem => 18
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S1x128x1024, .f32⟩
  | .hbm, ⟨6, _⟩ => ⟨S128x1024, .f32⟩
  | .hbm, ⟨7, _⟩ => ⟨S2x128x1024, .f32⟩
  | .hbm, ⟨8, _⟩ => ⟨S2x128x1024, .f32⟩
  | .hbm, ⟨9, _⟩ => ⟨S2x128x1024, .f32⟩
  | .hbm, ⟨10, _⟩ => ⟨S2x128x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S8x128x1024, .bf16⟩
  | .local _ .vmem, ⟨3, _⟩ => ⟨S8x128x1024, .bf16⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference27Ideal.lean ====
abbrev S8x128x1024 : Shape := ⟨3, ![8, 128, 1024]⟩
abbrev S2x128x1024 : Shape := ⟨3, ![2, 128, 1024]⟩
abbrev S_ : Shape := ⟨0, ![]⟩
abbrev S128x1024 : Shape := ⟨2, ![128, 1024]⟩
abbrev S1x128x1024 : Shape := ⟨3, ![1, 128, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S8x128x1024, .f32⟩
  | .hbm, ⟨6, _⟩ => ⟨S_, .f32⟩
  | .hbm, ⟨7, _⟩ => ⟨S128x1024, .f32⟩
  | .hbm, ⟨8, _⟩ => ⟨S8x128x1024, .f32⟩
  | .hbm, ⟨9, _⟩ => ⟨S_, .f32⟩
  | .hbm, ⟨10, _⟩ => ⟨S128x1024, .f32⟩
  | .hbm, ⟨11, _⟩ => ⟨S1x128x1024, .f32⟩
  | .hbm, ⟨12, _⟩ => ⟨S1x128x1024, .f32⟩
  | .hbm, ⟨13, _⟩ => ⟨S2x128x1024, .f32⟩
  | .hbm, ⟨14, _⟩ => ⟨S_, .f32⟩
  | .hbm, ⟨15, _⟩ => ⟨S2x128x1024, .f32⟩
  | .hbm, ⟨16, _⟩ => ⟨S2x128x1024, .f32⟩
  | .hbm, ⟨17, _⟩ => ⟨S_, .f32⟩
  | .hbm, ⟨18, _⟩ => ⟨S2x128x1024, .f32⟩
  | .hbm, ⟨19, _⟩ => ⟨S2x128x1024, .f32⟩
  | .hbm, ⟨20, _⟩ => ⟨S2x128x1024, .f32⟩
  | .hbm, ⟨21, _⟩ => ⟨S_, .f32⟩
  | .hbm, ⟨22, _⟩ => ⟨S2x128x1024, .f32⟩
  | .hbm, ⟨23, _⟩ => ⟨S2x128x1024, .f32⟩
  | .hbm, ⟨24, _⟩ => ⟨S2x128x1024, .f32⟩
  | .hbm, ⟨25, _⟩ => ⟨S_, .f32⟩
  | .hbm, ⟨26, _⟩ => ⟨S2x128x1024, .f32⟩
  | .hbm, ⟨27, _⟩ => ⟨S2x128x1024, .f32⟩
  | .hbm, ⟨28, _⟩ => ⟨S2x128x1024, .f32⟩
  | .hbm, ⟨29, _⟩ => ⟨S_, .f32⟩
  | .hbm, ⟨30, _⟩ => ⟨S2x128x1024, .f32⟩
  | .hbm, ⟨31, _⟩ => ⟨S2x128x1024, .f32⟩
  | .hbm, ⟨32, _⟩ => ⟨S_, .f32⟩
  | .hbm, ⟨33, _⟩ => ⟨S2x128x1024, .f32⟩
  | .hbm, ⟨34, _⟩ => ⟨S2x128x1024, .f32⟩
  | .hbm, ⟨35, _⟩ => ⟨S2x128x1024, .f32⟩
  | .hbm, ⟨36, _⟩ => ⟨S_, .f32⟩
  | .hbm, ⟨37, _⟩ => ⟨S2x128x1024, .f32⟩
  | .hbm, ⟨38, _⟩ => ⟨S2x128x1024, .f32⟩
  | .hbm, ⟨39, _⟩ => ⟨S2x128x1024, .f32⟩
  | .hbm, ⟨40, _⟩ => ⟨S_, .f32⟩
  | .hbm, ⟨41, _⟩ => ⟨S2x128x1024, .f32⟩
  | .hbm, ⟨42, _⟩ => ⟨S2x128x1024, .f32⟩
  | .hbm, ⟨43, _⟩ => ⟨S2x128x1024, .f32⟩
  | .hbm, ⟨44, _⟩ => ⟨S_, .f32⟩
  | .hbm, ⟨45, _⟩ => ⟨S2x128x1024, .f32⟩
  | .hbm, ⟨46, _⟩ => ⟨S2x128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel28.lean ====
abbrev S8192x128 : Shape := ⟨2, ![8192, 128]⟩
abbrev S32 : Shape := ⟨1, ![32]⟩
abbrev S_ : Shape := ⟨0, ![]⟩
abbrev S128 : Shape := ⟨1, ![128]⟩
abbrev S1x128 : Shape := ⟨2, ![1, 128]⟩
abbrev S1024x128 : Shape := ⟨2, ![1024, 128]⟩

abbrev nBuf : Space → Nat
  | .hbm => 7
  | .vmem => 5
  | .smem => 0
  | _ => 0

abbrev bufTy : (tb : Table) → Fin (tcTables nBuf tb) → BufTy
  | .hbm, ⟨0, _⟩ => ⟨S8192x128, .f32⟩
  | .hbm, ⟨1, _⟩ => ⟨S32, .f32⟩
  | .hbm, ⟨2, _⟩ => ⟨S_, .i32⟩
  | .hbm, ⟨3, _⟩ => ⟨S_, .f32⟩
  | .hbm, ⟨4, _⟩ => ⟨S128, .f32⟩
  | .hbm, ⟨5, _⟩ => ⟨S1x128, .f32⟩
  | .hbm, ⟨6, _⟩ => ⟨S8192x128, .f32⟩
  | .local _ .vmem, ⟨0, _⟩ => ⟨S1024x128, .f32⟩
  | .local _ .vmem, ⟨1, _⟩ => ⟨S1024x128, .f32⟩
  | .local _ .vmem, ⟨2, _⟩ => ⟨S1x128, .f32⟩
  | .local _ .vmem, ⟨3, _⟩ => ⟨S1024x128, .f32⟩
  | .local _ .vmem, ⟨4, _⟩ => ⟨S1024x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference28Ideal.lean ====
abbrev S8192x128 : Shape := ⟨2, ![8192, 128]⟩
abbrev S32 : Shape := ⟨1, ![32]⟩
abbrev S8192x32 : Shape := ⟨2, ![8192, 32]⟩
abbrev S1x32 : Shape := ⟨2, ![1, 32]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S32, .f32⟩
  | .hbm, ⟨2, _⟩ => ⟨S8192x32, .f32⟩
  | .hbm, ⟨3, _⟩ => ⟨S1x32, .f32⟩
  | .hbm, ⟨4, _⟩ => ⟨S8192x32, .f32⟩
  | .hbm, ⟨5, _⟩ => ⟨S8192x32, .f32⟩
  | .hbm, ⟨6, _⟩ => ⟨S_, .f32⟩
  | .hbm, ⟨7, _⟩ => ⟨S8192x32, .f32⟩
  | .hbm, ⟨8, _⟩ => ⟨S8192x32, .f32⟩
  | .hbm, ⟨9, _⟩ => ⟨S8192x32, .f32⟩
  | .hbm, ⟨10, _⟩ => ⟨S8192x32, .f32⟩
  | .hbm, ⟨11, _⟩ => ⟨S8192x32, .i1⟩
  | .hbm, ⟨12, _⟩ => ⟨S8192x32, .f32⟩
  | .hbm, ⟨13, _⟩ => ⟨S8192x32, .f32⟩
  | .hbm, ⟨14, _⟩ => ⟨S8192x32, .f32⟩
  | .hbm, ⟨15, _⟩ => ⟨S8192x32, .f32⟩
  | .hbm, ⟨16, _⟩ => ⟨S8192x32, .f32⟩
  | .hbm, ⟨17, _⟩ => ⟨S8192x32, .f32⟩
  | .hbm, ⟨18, _⟩ => ⟨S8192x32, .f32⟩
  | .hbm, ⟨19, _⟩ => ⟨S8192x32, .f32⟩
  | .hbm, ⟨20, _⟩ => ⟨S_, .i32⟩
  | .hbm, ⟨21, _⟩ => ⟨S_, .f32⟩
  | .hbm, ⟨22, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_cst : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_v4 : Ref sig .tc := ⟨.hbm, 19, rfl⟩
abbrev main_c : Ref sig .tc := ⟨.hbm, 20, rfl⟩
abbrev main_call1_v0 : Ref sig .tc := ⟨.hbm, 21, rfl⟩
abbrev main_v5 : Ref sig .tc := ⟨.hbm, 22, rfl⟩

abbrev nD : Nat := 1
abbrev τ : Topo := Topo.v7x

variable {F : FTy → Type} [FloatOps F]
-- ==== Kernel29.lean ====
abbrev S8192x1024 : Shape := ⟨2, ![8192, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference29Ideal.lean ====
abbrev S8192x1024 : Shape := ⟨2, ![8192, 1024]⟩
abbrev S_ : Shape := ⟨0, ![]⟩
abbrev S8192 : Shape := ⟨1, ![8192]⟩
abbrev S8x128 : Shape := ⟨2, ![8, 128]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x1024, .f32⟩
  | .hbm, ⟨24, _⟩ => ⟨S8192x1024, .f32⟩
  | .hbm, ⟨25, _⟩ => ⟨S8x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Kernel30.lean ====
abbrev S304x128 : Shape := ⟨2, ![304, 128]⟩
abbrev S152x128 : Shape := ⟨2, ![152, 128]⟩

abbrev nBuf : Space → Nat
  | .hbm => 7
  | .vmem => 14
  | .smem => 0
  | _ => 0

abbrev bufTy : (tb : Table) → Fin (tcTables nBuf tb) → BufTy
  | .hbm, ⟨0, _⟩ => ⟨S304x128, .f32⟩
  | .hbm, ⟨1, _⟩ => ⟨S304x128, .f32⟩
  | .hbm, ⟨2, _⟩ => ⟨S304x128, .f32⟩
  | .hbm, ⟨3, _⟩ => ⟨S304x128, .f32⟩
  | .hbm, ⟨4, _⟩ => ⟨S304x128, .f32⟩
  | .hbm, ⟨5, _⟩ => ⟨S304x128, .f32⟩
  | .hbm, ⟨6, _⟩ => ⟨S304x128, .f32⟩
  | .local _ .vmem, ⟨0, _⟩ => ⟨S152x128, .f32⟩
  | .local _ .vmem, ⟨1, _⟩ => ⟨S152x128, .f32⟩
  | .local _ .vmem, ⟨2, _⟩ => ⟨S152x128, .f32⟩
  | .local _ .vmem, ⟨3, _⟩ => ⟨S152x128, .f32⟩
  | .local _ .vmem, ⟨4, _⟩ => ⟨S152x128, .f32⟩
  | .local _ .vmem, ⟨5, _⟩ => ⟨S152x128, .f32⟩
  | .local _ .vmem, ⟨6, _⟩ => ⟨S152x128, .f32⟩
  | .local _ .vmem, ⟨7, _⟩ => ⟨S152x128, .f32⟩
  | .local _ .vmem, ⟨8, _⟩ => ⟨S152x128, .f32⟩
  | .local _ .vmem, ⟨9, _⟩ => ⟨S152x128, .f32⟩
  | .local _ .vmem, ⟨10, _⟩ => ⟨S152x128, .f32⟩
  | .local _ .vmem, ⟨11, _⟩ => ⟨S152x128, .f32⟩
  | .local _ .vmem, ⟨12, _⟩ => ⟨S152x128, .f32⟩
  | .local _ .vmem, ⟨13, _⟩ => ⟨S152x128, .f32⟩
  | _, _ => ⟨S304x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S152x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S152x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S152x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S152x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S152x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S152x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S152x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference30Ideal.lean ====
abbrev S304x128 : Shape := ⟨2, ![304, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S304x128, .f32⟩
  | .hbm, ⟨1, _⟩ => ⟨S304x128, .f32⟩
  | .hbm, ⟨2, _⟩ => ⟨S304x128, .f32⟩
  | .hbm, ⟨3, _⟩ => ⟨S304x128, .f32⟩
  | .hbm, ⟨4, _⟩ => ⟨S_, .f32⟩
  | .hbm, ⟨5, _⟩ => ⟨S304x128, .f32⟩
  | .hbm, ⟨6, _⟩ => ⟨S304x128, .f32⟩
  | .hbm, ⟨7, _⟩ => ⟨S_, .f32⟩
  | .hbm, ⟨8, _⟩ => ⟨S304x128, .f32⟩
  | .hbm, ⟨9, _⟩ => ⟨S304x128, .f32⟩
  | .hbm, ⟨10, _⟩ => ⟨S304x128, .f32⟩
  | .hbm, ⟨11, _⟩ => ⟨S_, .f32⟩
  | .hbm, ⟨12, _⟩ => ⟨S304x128, .f32⟩
  | .hbm, ⟨13, _⟩ => ⟨S304x128, .f32⟩
  | .hbm, ⟨14, _⟩ => ⟨S304x128, .f32⟩
  | .hbm, ⟨15, _⟩ => ⟨S_, .f32⟩
  | .hbm, ⟨16, _⟩ => ⟨S304x128, .f32⟩
  | .hbm, ⟨17, _⟩ => ⟨S304x128, .f32⟩
  | .hbm, ⟨18, _⟩ => ⟨S304x128, .f32⟩
  | .hbm, ⟨19, _⟩ => ⟨S_, .f32⟩
  | .hbm, ⟨20, _⟩ => ⟨S304x128, .f32⟩
  | .hbm, ⟨21, _⟩ => ⟨S304x128, .f32⟩
  | .hbm, ⟨22, _⟩ => ⟨S_, .f32⟩
  | .hbm, ⟨23, _⟩ => ⟨S304x128, .f32⟩
  | .hbm, ⟨24, _⟩ => ⟨S304x128, .f32⟩
  | .hbm, ⟨25, _⟩ => ⟨S304x128, .f32⟩
  | .hbm, ⟨26, _⟩ => ⟨S_, .f32⟩
  | .hbm, ⟨27, _⟩ => ⟨S304x128, .f32⟩
  | .hbm, ⟨28, _⟩ => ⟨S304x128, .f32⟩
  | .hbm, ⟨29, _⟩ => ⟨S304x128, .f32⟩
  | .hbm, ⟨30, _⟩ => ⟨S_, .f32⟩
  | .hbm, ⟨31, _⟩ => ⟨S304x128, .f32⟩
  | .hbm, ⟨32, _⟩ => ⟨S304x128, .f32⟩
  | .hbm, ⟨33, _⟩ => ⟨S304x128, .f32⟩
  | .hbm, ⟨34, _⟩ => ⟨S_, .f32⟩
  | .hbm, ⟨35, _⟩ => ⟨S304x128, .f32⟩
  | .hbm, ⟨36, _⟩ => ⟨S304x128, .f32⟩
  | _, _ => ⟨S304x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel31.lean ====
abbrev S8x304x128 : Shape := ⟨3, ![8, 304, 128]⟩
abbrev S304x128 : Shape := ⟨2, ![304, 128]⟩
abbrev S1x304x128 : Shape := ⟨3, ![1, 304, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x304x128, .f32⟩
  | .hbm, ⟨1, _⟩ => ⟨S304x128, .f32⟩
  | .local _ .vmem, ⟨0, _⟩ => ⟨S8x304x128, .f32⟩
  | .local _ .vmem, ⟨1, _⟩ => ⟨S304x128, .f32⟩
  | _, _ => ⟨S8x304x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x304x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S304x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference31Ideal.lean ====
abbrev S8x304x128 : Shape := ⟨3, ![8, 304, 128]⟩
abbrev S_ : Shape := ⟨0, ![]⟩
abbrev S304x128 : Shape := ⟨2, ![304, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x304x128, .f32⟩
  | .hbm, ⟨1, _⟩ => ⟨S_, .f32⟩
  | .hbm, ⟨2, _⟩ => ⟨S304x128, .f32⟩
  | _, _ => ⟨S8x304x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel32.lean ====
abbrev S8192x128 : Shape := ⟨2, ![8192, 128]⟩
abbrev S1x128 : Shape := ⟨2, ![1, 128]⟩
abbrev S1024x128 : Shape := ⟨2, ![1024, 128]⟩
abbrev S128 : Shape := ⟨1, ![128]⟩

abbrev nBuf : Space → Nat
  | .hbm => 9
  | .vmem => 14
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x128, .f32⟩
  | .hbm, ⟨3, _⟩ => ⟨S8192x128, .f32⟩
  | .hbm, ⟨4, _⟩ => ⟨S1x128, .f32⟩
  | .hbm, ⟨5, _⟩ => ⟨S1x128, .f32⟩
  | .hbm, ⟨6, _⟩ => ⟨S8192x128, .bf16⟩
  | .hbm, ⟨7, _⟩ => ⟨S1x128, .f32⟩
  | .hbm, ⟨8, _⟩ => ⟨S1x128, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1x128, .f32⟩
  | .local _ .vmem, ⟨9, _⟩ => ⟨S1x128, .f32⟩
  | .local _ .vmem, ⟨10, _⟩ => ⟨S1024x128, .bf16⟩
  | .local _ .vmem, ⟨11, _⟩ => ⟨S1024x128, .bf16⟩
  | .local _ .vmem, ⟨12, _⟩ => ⟨S1x128, .f32⟩
  | .local _ .vmem, ⟨13, _⟩ => ⟨S1x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference32Ideal.lean ====
abbrev S8192x128 : Shape := ⟨2, ![8192, 128]⟩
abbrev S1x128 : Shape := ⟨2, ![1, 128]⟩
abbrev S128 : Shape := ⟨1, ![128]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x128, .f32⟩
  | .hbm, ⟨3, _⟩ => ⟨S8192x128, .f32⟩
  | .hbm, ⟨4, _⟩ => ⟨S1x128, .f32⟩
  | .hbm, ⟨5, _⟩ => ⟨S1x128, .f32⟩
  | .hbm, ⟨6, _⟩ => ⟨S128, .i32⟩
  | .hbm, ⟨7, _⟩ => ⟨S_, .i32⟩
  | .hbm, ⟨8, _⟩ => ⟨S128, .i32⟩
  | .hbm, ⟨9, _⟩ => ⟨S128, .i1⟩
  | .hbm, ⟨10, _⟩ => ⟨S8192x128, .f32⟩
  | .hbm, ⟨11, _⟩ => ⟨S8192x128, .f32⟩
  | .hbm, ⟨12, _⟩ => ⟨S8192x128, .f32⟩
  | .hbm, ⟨13, _⟩ => ⟨S8192x128, .f32⟩
  | .hbm, ⟨14, _⟩ => ⟨S8192x128, .f32⟩
  | .hbm, ⟨15, _⟩ => ⟨S8192x128, .f32⟩
  | .hbm, ⟨16, _⟩ => ⟨S8192x128, .f32⟩
  | .hbm, ⟨17, _⟩ => ⟨S_, .f32⟩
  | .hbm, ⟨18, _⟩ => ⟨S8192x128, .f32⟩
  | .hbm, ⟨19, _⟩ => ⟨S8192x128, .f32⟩
  | .hbm, ⟨20, _⟩ => ⟨S_, .f32⟩
  | .hbm, ⟨21, _⟩ => ⟨S8192x128, .f32⟩
  | .hbm, ⟨22, _⟩ => ⟨S8192x128, .f32⟩
  | .hbm, ⟨23, _⟩ => ⟨S8192x128, .f32⟩
  | .hbm, ⟨24, _⟩ => ⟨S_, .f32⟩
  | .hbm, ⟨25, _⟩ => ⟨S_, .f32⟩
  | .hbm, ⟨26, _⟩ => ⟨S8192x128, .i1⟩
  | .hbm, ⟨27, _⟩ => ⟨S8192x128, .f32⟩
  | .hbm, ⟨28, _⟩ => ⟨S8192x128, .f32⟩
  | .hbm, ⟨29, _⟩ => ⟨S8192x128, .bf16⟩
  | .hbm, ⟨30, _⟩ => ⟨S_, .f32⟩
  | .hbm, ⟨31, _⟩ => ⟨S128, .f32⟩
  | .hbm, ⟨32, _⟩ => ⟨S1x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩

abbrev nD : Nat := 1
abbrev τ : Topo := Topo.v7x

variable {F : FTy → Type} [FloatOps F]
-- ==== Proof.Model.lean ====
/-
  What the kernel computes at one grid point, said once for every group of heads and every pair of heads: the printed
  body repeats these operations for four groups of four pairs.
-/
module

public import proofs.«01_k».proof.Proof.Gen.KernelIdeal.Value
public import Idealize.ShloMosaic.Lib.Pipeline.ValueKit

@[expose] public section

set_option maxRecDepth 16384

noncomputable section

namespace Cert.KernelIdeal.Scan

open Idealize.ShloMosaic
open Cert.KernelIdeal Cert.KernelIdeal.Gen

/-- A square of 128 rows and lanes. -/
abbrev Sq := FVec Ideal S128x128 .f32

/-- A row of 128 lanes. -/
abbrev Row := FVec Ideal S1x128 .f32

/-- The square of zeros. -/
def zeroSq : Sq := broadcast S128x128 (Scalar.ofBits .f32 0x00000000#32)

/-- The blocks that a grid point reads. -/
structure Blocks where
  x0 : Vec Ideal S128x3072 .f32
  x1 : Vec Ideal S128x128 .f32
  x2 : Vec Ideal S32x128 .f32
  x3 : Vec Ideal S1x128 .f32
  x4 : Vec Ideal S32x1 .f32
  x5 : Vec Ideal S1x128 .f32
  x6 : Vec Ideal S1x2048x128 .f32
  x7 : Vec Ideal S128x2048 .bf16
  h : Vec Ideal S2048x128 .f32

/-- The head of each lane, 64 lanes to a head, counted from `base`. -/
def headOf {s : Shape} (v : IVec s 32) (base : BitVec 32) : IVec s 32 :=
  addi (broadcast s base)
    (select
      (andi
        (cmpi .ne
          (subi (extui 32 (cmpi .sgt v (broadcast s 0#32)) natLt_1_32) (extui 32 (cmpi .slt v (broadcast s 0#32)) natLt_1_32))
          (broadcast s (Scalar.subi (Scalar.extui (Scalar.cmpi .sgt 64#32 0#32)) (Scalar.extui (Scalar.cmpi .slt 64#32 0#32)))))
        (cmpi .ne (remsi v (broadcast s 64#32)) (broadcast s 0#32)))
      (subi (divsi v (broadcast s 64#32)) (broadcast s 1#32))
      (divsi v (broadcast s 64#32)))

/-- A 0/1 table as numbers. -/
def table {s : Shape} (v : IVec s 1) : FVec Ideal s .bf16 :=
  truncf .bf16 (sitofp .f32 (extui 32 v natLt_1_32) : FVec Ideal s .f32) bitsLt_bf16_f32

/-- Three tables of a value per head, spread over the lanes of eight heads. -/
def spread (base : BitVec 32) (p q r : Sq) : FVec Ideal S384x512 .f32 :=
  matmul dot_S384x128_S128x512_S384x512_1_0_0_1_n_n none
    (truncf .bf16 (concatenate S384x128 0 [⟨S128x128, p⟩, ⟨S128x128, q⟩, ⟨S128x128, r⟩]
      concatenates_S128x128_S128x128_S128x128_S384x128_d0 : FVec Ideal S384x128 .f32) bitsLt_bf16_f32)
    (table (cmpi .eq (iota .tc S128x512 32 [0] iota_S128x512_d0_w32)
      (headOf (iota .tc S128x512 32 [1] iota_S128x512_d1_w32) base)))
    (constant S384x512 .f32 0x00000000#32)

/-- A square with its upper half of lanes zeroed, above it with its lower half zeroed. -/
def halves (x : Sq) : FVec Ideal S256x128 .bf16 :=
  truncf .bf16 (concatenate S256x128 0 [⟨S128x128, select k0_pay7 x zeroSq⟩, ⟨S128x128, select k0_pay7 zeroSq x⟩]
    concatenates_S128x128_S128x128_S256x128_d0 : FVec Ideal S256x128 .f32) bitsLt_bf16_f32

/-- The decays between the positions of a chunk, from the differences of the running sums. -/
def lower (z : Sq) : Sq := select k0_pay6 (exp (select k0_pay6 z zeroSq)) zeroSq

/-- The mask of the upper triangle. -/
def upTri : IVec S128x128 1 :=
  k0_pay19 (iota .tc S128x128 32 [0] iota_S128x128_d0_w32) (iota .tc S128x128 32 [1] iota_S128x128_d1_w32)

/-- The same decays transposed. -/
def upper (z : Sq) : Sq := select upTri (exp (select upTri (subf zeroSq z) zeroSq)) zeroSq

/-- The sum of each half of the lanes' column sums, put at the lanes of the two heads `h` and `k`. -/
def headSum (v : Sq) (h k : BitVec 32) : Row :=
  let lane : IVec S1x128 32 := iota .tc S1x128 32 [1] iota_S1x128_d1_w32
  let zero : Row := broadcast S1x128 (Scalar.ofBits .f32 0x00000000#32)
  let col : Row := shapeCast S1x128 (multiReduction .add [0] S128 v 0x00000000#32 reduces_S128x128_S128 (.inl rfl) rfl)
    shapeCasts_S128_S1x128
  let part (w : Row) (i : BitVec 32) : Row :=
    mulf (broadcastTo S1x128 (shapeCast S1x1 (multiReduction .add [1] S1 w 0x00000000#32 reduces_S1x128_S1 (.inl rfl) rfl : FVec Ideal S1 .f32)
      shapeCasts_S1_S1x1) broadcasts_S1x1_S1x128) (sitofp .f32 (extui 32 (cmpi .eq lane (broadcast S1x128 i)) natLt_1_32))
  addf (part (select (cmpi .slt lane (broadcast S1x128 64#32)) col zero) h)
    (part (select (cmpi .slt lane (broadcast S1x128 64#32)) zero col) k)

/-- One of a row's entries, over a square. -/
theorem sliceRow (h : ℕ) (hh : h < 32) : S1x128.Slices ![0, h] S1x1 :=
  ⟨rfl, fun a => by fin_cases a <;> simp [Shape.size] <;> omega⟩

/-- One of a square's lanes. -/
theorem sliceLane (h : ℕ) (hh : h < 32) : S128x128.Slices ![0, h] S128x1 :=
  ⟨rfl, fun a => by fin_cases a <;> simp [Shape.size] <;> omega⟩

/-- The lanes of one pair among those of its group. -/
theorem slicePair (q : ℕ) (hq : q < 4) : S128x512.Slices ![0, 128 * q] S128x128 :=
  ⟨rfl, fun a => by fin_cases a <;> simp [Shape.size] <;> omega⟩

namespace Blocks

variable (B : Blocks)

/-- The running sums of the log decays. -/
def cs : Sq := k0_pay11 B.x1 B.x3

/-- Their last row. -/
def last : Row := View.ld (Val := Elt Ideal) (S := S128x128) (e' := .f32) B.cs (Rect.unit ![127, 0] ![1, 128] inb_S128x128_S1x128_127_0)

/-- The running sums, transposed. -/
def csT : FVec Ideal S32x128 .f32 := k0_pay12 B.x2 B.x4

/-- One of their rows. -/
def row (h : ℕ) (hh : h < 32) : Row :=
  View.ld (Val := Elt Ideal) (S := S32x128) (e' := .f32) B.csT (Rect.unit ![h, 0] ![1, 128] (fun a => by fin_cases a <;> simp [Shape.size] <;> omega))

/-- The values, the decays from the start and those to the end, spread over a group's lanes. -/
def wide (g : ℕ) : FVec Ideal S384x512 .f32 :=
  spread (BitVec.ofNat 32 (8 * g)) (k0_pay9 B.x1) (k0_pay13 B.cs) (k0_pay14 B.cs B.last)

/-- A pair's step sizes. -/
def dt2 (g q : ℕ) (hq : q < 4) : Sq :=
  extractStridedSlice S128x128 ![0, 128 * q] (extractStridedSlice S128x512 ![0, 0] (B.wide g) slices_S384x512_o0_0_S128x512) (slicePair q hq)

/-- A pair's decays from the start. -/
def e2 (g q : ℕ) (hq : q < 4) : Sq :=
  extractStridedSlice S128x128 ![0, 128 * q] (extractStridedSlice S128x512 ![128, 0] (B.wide g) slices_S384x512_o128_0_S128x512) (slicePair q hq)

/-- A pair's decays to the end. -/
def ds2 (g q : ℕ) (hq : q < 4) : Sq :=
  extractStridedSlice S128x128 ![0, 128 * q] (extractStridedSlice S128x512 ![256, 0] (B.wide g) slices_S384x512_o256_0_S128x512) (slicePair q hq)

/-- A group's input projection. -/
def b (g : ℕ) (hg : g < 4) : FVec Ideal S128x128 .bf16 :=
  truncf .bf16 (View.ld (S := S128x3072) B.x0 (Rect.unit ![0, 2048 + 128 * g] ![128, 128]
    (fun a => by fin_cases a <;> simp [Shape.size] <;> omega)) : Sq) bitsLt_bf16_f32

/-- A group's output projection. -/
def c (g : ℕ) (hg : g < 4) : FVec Ideal S128x128 .bf16 :=
  truncf .bf16 (View.ld (S := S128x3072) B.x0 (Rect.unit ![0, 2560 + 128 * g] ![128, 128]
    (fun a => by fin_cases a <;> simp [Shape.size] <;> omega)) : Sq) bitsLt_bf16_f32

/-- The products of the two projections. -/
def cb (g : ℕ) (hg : g < 4) : Sq :=
  matmul dot_S128x128_S128x128_S128x128_1_1_0_0_n_n none (B.c g hg) (B.b g hg) (constant S128x128 .f32 0x00000000#32)

/-- The same transposed. -/
def bc (g : ℕ) (hg : g < 4) : Sq :=
  matmul dot_S128x128_S128x128_S128x128_1_1_0_0_n_n none (B.b g hg) (B.c g hg) (constant S128x128 .f32 0x00000000#32)

/-- A pair's values. -/
def x (g q : ℕ) (hg : g < 4) (hq : q < 4) : Sq :=
  View.ld (S := S128x3072) B.x0 (Rect.unit ![0, 512 * g + 128 * q] ![128, 128]
    (fun a => by fin_cases a <;> simp [Shape.size] <;> omega))

/-- A pair's gradients of the output. -/
def dy (g q : ℕ) (hg : g < 4) (hq : q < 4) : Sq :=
  extf .f32 (View.ld (S := S128x2048) B.x7 (Rect.unit ![0, 512 * g + 128 * q] ![128, 128]
    (fun a => by fin_cases a <;> simp [Shape.size] <;> omega)) : FVec Ideal S128x128 .bf16) bitsLt_bf16_f32

/-- A pair's state before the chunk. -/
def st (g q : ℕ) (hg : g < 4) (hq : q < 4) : FVec Ideal S128x128 .bf16 :=
  truncf .bf16 (shapeCast S128x128 (View.ld (S := S1x2048x128) B.x6 (Rect.unit ![0, 512 * g + 128 * q, 0] ![1, 128, 128]
    (fun a => by fin_cases a <;> simp [Shape.size] <;> omega)) : FVec Ideal S1x128x128 .f32) shapeCasts_S1x128x128_S128x128 : Sq)
    bitsLt_bf16_f32

/-- A pair's gradient of the state after the chunk. -/
def dh (g q : ℕ) (hg : g < 4) (hq : q < 4) : Sq :=
  View.ld (S := S2048x128) B.h (Rect.unit ![512 * g + 128 * q, 0] ![128, 128]
    (fun a => by fin_cases a <;> simp [Shape.size] <;> omega))

/-- A pair's values scaled by the step sizes. -/
def xs (g q : ℕ) (hg : g < 4) (hq : q < 4) : Sq := mulf (B.x g q hg hq) (B.dt2 g q hq)

/-- The differences of a head's running sums. -/
def gap (h : ℕ) (hh : h < 32) : Sq :=
  subf (broadcastTo S128x128 (extractStridedSlice S128x1 ![0, h] B.cs (sliceLane h hh)) broadcasts_S128x1_S128x128)
    (broadcastTo S128x128 (B.row h hh) broadcasts_S1x128_S128x128)

/-- The part of the gradient of the values through the state after the chunk. -/
def dxState (g q : ℕ) (hg : g < 4) (hq : q < 4) : Sq :=
  matmul dot_S128x128_S128x128_S128x128_1_1_0_0_n_n none (B.b g hg) (truncf .bf16 (B.dh g q hg hq) bitsLt_bf16_f32)
    (constant S128x128 .f32 0x00000000#32)

/-- The part of the gradient of the values through the chunk's own outputs. -/
def dxOwn (g q : ℕ) (hg : g < 4) (hq : q < 4) : Sq :=
  matmul dot_S128x256_S256x128_S128x128_1_0_0_1_n_n none
    (concatenate S128x256 1
      [⟨S128x128, truncf .bf16 (mulf (B.bc g hg) (upper (B.gap (8 * g + 2 * q) (by omega)))) bitsLt_bf16_f32⟩,
       ⟨S128x128, truncf .bf16 (mulf (B.bc g hg) (upper (B.gap (8 * g + 2 * q + 1) (by omega)))) bitsLt_bf16_f32⟩]
      concatenates_S128x128_S128x128_S128x256_d1 : FVec Ideal S128x256 .bf16)
    (halves (B.dy g q hg hq)) (constant S128x128 .f32 0x00000000#32)

/-- The gradient of a pair's scaled values. -/
def dxs (g q : ℕ) (hg : g < 4) (hq : q < 4) : Sq :=
  addf (mulf (B.ds2 g q hq) (B.dxState g q hg hq)) (B.dxOwn g q hg hq)

/-- Two entries of a row, each over the lanes of its head. -/
def pairRow (v : Row) (h : ℕ) (hh : h + 1 < 32) : Row :=
  select (cmpi .slt (iota .tc S1x128 32 [1] iota_S1x128_d1_w32) (broadcast S1x128 64#32))
    (broadcastTo S1x128 (shapeCast S1x1 (extractStridedSlice S1x1 ![0, h] v (sliceRow h (by omega))) shapeCasts_S1x1_S1x1) broadcasts_S1x1_S1x128)
    (broadcastTo S1x128 (shapeCast S1x1 (extractStridedSlice S1x1 ![0, h + 1] v (sliceRow (h + 1) hh)) shapeCasts_S1x1_S1x1) broadcasts_S1x1_S1x128)

/-- Two entries of a row, each over the rows of its head. -/
def pairSq (v : Row) (h : ℕ) (hh : h + 1 < 32) : Sq :=
  select k0_pay8
    (broadcastTo S128x128 (shapeCast S1x1 (extractStridedSlice S1x1 ![0, h] v (sliceRow h (by omega))) shapeCasts_S1x1_S1x1) broadcasts_S1x1_S128x128)
    (broadcastTo S128x128 (shapeCast S1x1 (extractStridedSlice S1x1 ![0, h + 1] v (sliceRow (h + 1) hh)) shapeCasts_S1x1_S1x1) broadcasts_S1x1_S128x128)

/-- The gradient of a pair's values. -/
def dx (g q : ℕ) (hg : g < 4) (hq : q < 4) : Sq :=
  addf (mulf (B.dxs g q hg hq) (B.dt2 g q hq))
    (mulf (B.dy g q hg hq) (broadcastTo S128x128 (pairRow (k0_pay17 B.x5) (8 * g + 2 * q) (by omega)) broadcasts_S1x128_S128x128))

/-- A pair's gradient of the output, decayed from the start. -/
def dyE (g q : ℕ) (hg : g < 4) (hq : q < 4) : FVec Ideal S128x128 .bf16 :=
  truncf .bf16 (mulf (B.e2 g q hq) (B.dy g q hg hq)) bitsLt_bf16_f32

/-- A pair's gradient of the state before the chunk. -/
def next (g q : ℕ) (hg : g < 4) (hq : q < 4) : Sq :=
  shapeCast S128x128
    (addf (mulf (pairSq (k0_pay15 B.last) (8 * g + 2 * q) (by omega)) (B.dh g q hg hq))
      (matmul dot_S128x128_S128x128_S128x128_0_0_1_1_n_n none (B.dyE g q hg hq) (B.c g hg) (constant S128x128 .f32 0x00000000#32)))
    shapeCasts_S128x128_S128x128

/-- The products of a pair's gradients of the output with its scaled values, head by head. -/
def dyXs (g q : ℕ) (hg : g < 4) (hq : q < 4) : FVec Ideal S128x256 .f32 :=
  matmul dot_S128x128_S256x128_S128x256_1_1_0_0_n_n none (truncf .bf16 (B.dy g q hg hq) bitsLt_bf16_f32) (halves (B.xs g q hg hq))
    (constant S128x256 .f32 0x00000000#32)

/-- Their part in the gradient of the projections' products, the pair's first head. -/
def dcb0 (g q : ℕ) (hg : g < 4) (hq : q < 4) : Sq :=
  mulf (extractStridedSlice S128x128 ![0, 0] (B.dyXs g q hg hq) slices_S128x256_o0_0_S128x128) (lower (B.gap (8 * g + 2 * q) (by omega)))

/-- The pair's second head. -/
def dcb1 (g q : ℕ) (hg : g < 4) (hq : q < 4) : Sq :=
  mulf (extractStridedSlice S128x128 ![0, 128] (B.dyXs g q hg hq) slices_S128x256_o0_128_S128x128) (lower (B.gap (8 * g + 2 * q + 1) (by omega)))

/-- The gradient of a group's products of the projections. -/
def dcb (g : ℕ) (hg : g < 4) : FVec Ideal S128x128 .bf16 :=
  truncf .bf16
    (addf (addf (addf (addf (addf (addf (addf (addf zeroSq
      (B.dcb0 g 0 hg (by omega))) (B.dcb1 g 0 hg (by omega))) (B.dcb0 g 1 hg (by omega))) (B.dcb1 g 1 hg (by omega)))
      (B.dcb0 g 2 hg (by omega))) (B.dcb1 g 2 hg (by omega))) (B.dcb0 g 3 hg (by omega))) (B.dcb1 g 3 hg (by omega)))
    bitsLt_bf16_f32

/-- A pair's part in the gradient of the output projection. -/
def dcPart (g q : ℕ) (hg : g < 4) (hq : q < 4) : Sq :=
  matmul dot_S128x128_S128x128_S128x128_1_0_0_1_n_n none (B.dyE g q hg hq) (B.st g q hg hq) (constant S128x128 .f32 0x00000000#32)

/-- A pair's part in the gradient of the input projection. -/
def dbPart (g q : ℕ) (hg : g < 4) (hq : q < 4) : Sq :=
  matmul dot_S128x128_S128x128_S128x128_1_0_0_1_n_n none
    (truncf .bf16 (mulf (B.xs g q hg hq) (B.ds2 g q hq)) bitsLt_bf16_f32) (truncf .bf16 (B.dh g q hg hq) bitsLt_bf16_f32)
    (constant S128x128 .f32 0x00000000#32)

/-- The gradient of a group's output projection. -/
def dc (g : ℕ) (hg : g < 4) : Sq :=
  addf (addf (addf (addf (addf zeroSq (B.dcPart g 0 hg (by omega))) (B.dcPart g 1 hg (by omega))) (B.dcPart g 2 hg (by omega)))
    (B.dcPart g 3 hg (by omega)))
    (matmul dot_S128x128_S128x128_S128x128_1_0_0_1_n_n none (B.dcb g hg) (B.b g hg) (constant S128x128 .f32 0x00000000#32))

/-- The gradient of a group's input projection. -/
def db (g : ℕ) (hg : g < 4) : Sq :=
  addf (addf (addf (addf (addf zeroSq (B.dbPart g 0 hg (by omega))) (B.dbPart g 1 hg (by omega))) (B.dbPart g 2 hg (by omega)))
    (B.dbPart g 3 hg (by omega)))
    (matmul dot_S128x128_S128x128_S128x128_0_0_1_1_n_n none (B.dcb g hg) (B.c g hg) (constant S128x128 .f32 0x00000000#32))

/-- What the output and the state before the chunk have in common, a pair's part. -/
def viaState (g q : ℕ) (hg : g < 4) (hq : q < 4) : Sq :=
  mulf (B.dy g q hg hq)
    (matmul dot_S128x128_S128x128_S128x128_1_1_0_0_n_n none (B.c g hg) (B.st g q hg hq) (constant S128x128 .f32 0x00000000#32))

/-- A group's three tables, each summed over the lanes of a head. -/
def sums (g : ℕ) (hg : g < 4) : FVec Ideal S384x128 .f32 :=
  matmul dot_S384x512_S512x128_S384x128_1_0_0_1_n_n none
    (truncf .bf16 (concatenate S384x512 0
      [⟨S128x512, concatenate S128x512 1
        [⟨S128x128, B.viaState g 0 hg (by omega)⟩, ⟨S128x128, B.viaState g 1 hg (by omega)⟩,
         ⟨S128x128, B.viaState g 2 hg (by omega)⟩, ⟨S128x128, B.viaState g 3 hg (by omega)⟩]
        concatenates_S128x128_S128x128_S128x128_S128x128_S128x512_d1⟩,
       ⟨S128x512, concatenate S128x512 1
        [⟨S128x128, mulf (B.dxState g 0 hg (by omega)) (B.xs g 0 hg (by omega))⟩,
         ⟨S128x128, mulf (B.dxState g 1 hg (by omega)) (B.xs g 1 hg (by omega))⟩,
         ⟨S128x128, mulf (B.dxState g 2 hg (by omega)) (B.xs g 2 hg (by omega))⟩,
         ⟨S128x128, mulf (B.dxState g 3 hg (by omega)) (B.xs g 3 hg (by omega))⟩]
        concatenates_S128x128_S128x128_S128x128_S128x128_S128x512_d1⟩,
       ⟨S128x512, concatenate S128x512 1
        [⟨S128x128, mulf (B.dxs g 0 hg (by omega)) (B.x g 0 hg (by omega))⟩,
         ⟨S128x128, mulf (B.dxs g 1 hg (by omega)) (B.x g 1 hg (by omega))⟩,
         ⟨S128x128, mulf (B.dxs g 2 hg (by omega)) (B.x g 2 hg (by omega))⟩,
         ⟨S128x128, mulf (B.dxs g 3 hg (by omega)) (B.x g 3 hg (by omega))⟩]
        concatenates_S128x128_S128x128_S128x128_S128x128_S128x512_d1⟩]
      concatenates_S128x512_S128x512_S128x512_S384x512_d0 : FVec Ideal S384x512 .f32) bitsLt_bf16_f32)
    (table (cmpi .eq (iota .tc S512x128 32 [1] iota_S512x128_d1_w32)
      (headOf (iota .tc S512x128 32 [0] iota_S512x128_d0_w32) (BitVec.ofNat 32 (8 * g)))))
    (constant S384x128 .f32 0x00000000#32)

/-- The gradient of the step sizes. -/
def ddt : Sq :=
  extractStridedSlice S128x128 ![256, 0]
    (addf (addf (addf (addf (broadcast S384x128 (Scalar.ofBits .f32 0x00000000#32)) (B.sums 0 (by omega))) (B.sums 1 (by omega)))
      (B.sums 2 (by omega))) (B.sums 3 (by omega)))
    slices_S384x128_o256_0_S128x128

/-- A pair's part in the gradient of the skip weights. -/
def ddPart (g q : ℕ) (hg : g < 4) (hq : q < 4) : Row :=
  headSum (mulf (B.dy g q hg hq) (B.x g q hg hq)) (BitVec.ofNat 32 (8 * g + 2 * q)) (BitVec.ofNat 32 (8 * g + 2 * q + 1))

/-- The skip weights' gradient after a group, over that before it. -/
def ddGroup (g : ℕ) (hg : g < 4) (v : Row) : Row :=
  addf (addf (addf (addf v (B.ddPart g 0 hg (by omega))) (B.ddPart g 1 hg (by omega))) (B.ddPart g 2 hg (by omega)))
    (B.ddPart g 3 hg (by omega))

/-- The skip weights' gradient after the point, over that before it. -/
def dd (v : Row) : Row :=
  addf (shapeCast S1x128 v shapeCasts_S1x128_S1x128)
    (B.ddGroup 3 (by omega) (B.ddGroup 2 (by omega) (B.ddGroup 1 (by omega) (B.ddGroup 0 (by omega)
      (broadcast S1x128 (Scalar.ofBits .f32 0x00000000#32))))))

end Blocks

end Cert.KernelIdeal.Scan

end
-- ==== Proof.Chunk.lean ====
/-
  One chunk of the backward scan, in plain sums over the extended reals: what both programs compute at a chunk, as
  functions of the chunk's inputs and of the gradient `u` of the state after the chunk.  Indices: `l`, `s` a position
  of the chunk, `g` a group, `r` a head of the group, `p` a lane of the head, `n` a coordinate of the state.
-/
module

public import Idealize.ShloMosaic.Lib.Pointwise

@[expose] public section

noncomputable section

namespace Cert.Scan

open Idealize.ShloMosaic

/-- The inputs of one chunk. -/
structure Chunk where
  /-- the values -/
  x : Fin 128 → Fin 4 → Fin 8 → Fin 64 → EReal
  /-- the input projection -/
  b : Fin 128 → Fin 4 → Fin 128 → EReal
  /-- the output projection -/
  c : Fin 128 → Fin 4 → Fin 128 → EReal
  /-- the step sizes -/
  dt : Fin 128 → Fin 4 → Fin 8 → EReal
  /-- the decay rates -/
  a : Fin 4 → Fin 8 → EReal
  /-- the skip weights -/
  d : Fin 4 → Fin 8 → EReal
  /-- the state before the chunk -/
  st : Fin 4 → Fin 8 → Fin 64 → Fin 128 → EReal
  /-- the gradient of the chunk's output -/
  dy : Fin 128 → Fin 4 → Fin 8 → Fin 64 → EReal

/-- A gradient of the state. -/
abbrev Grad := Fin 4 → Fin 8 → Fin 64 → Fin 128 → EReal

namespace Chunk

variable (k : Chunk) (u : Grad)

/-- The running sum of the log decays, up to and with position `l`. -/
def cs (g : Fin 4) (r : Fin 8) (l : Fin 128) : EReal := ∑ i : Fin 128, if i ≤ l then k.dt i g r * k.a g r else 0

/-- The decay from the chunk's start to position `l`. -/
def e (g : Fin 4) (r : Fin 8) (l : Fin 128) : EReal := Ideal.exp (k.cs g r l)

/-- The decay from position `l` to the chunk's end. -/
def ds (g : Fin 4) (r : Fin 8) (l : Fin 128) : EReal := Ideal.exp (k.cs g r 127 - k.cs g r l)

/-- The decay from position `s` to the later position `l`, zero at the earlier ones. -/
def dec (g : Fin 4) (r : Fin 8) (l s : Fin 128) : EReal :=
  if s ≤ l then Ideal.exp (k.cs g r l - k.cs g r s) else 0

/-- The products of the two projections. -/
def cb (g : Fin 4) (l s : Fin 128) : EReal := ∑ n : Fin 128, k.c l g n * k.b s g n

/-- The values scaled by the step sizes. -/
def xs (l : Fin 128) (g : Fin 4) (r : Fin 8) (p : Fin 64) : EReal := k.x l g r p * k.dt l g r

/-- The gradient of the scaled values. -/
def dxs (l : Fin 128) (g : Fin 4) (r : Fin 8) (p : Fin 64) : EReal :=
  k.ds g r l * (∑ n : Fin 128, k.b l g n * u g r p n)
    + ∑ i : Fin 128, k.cb g i l * k.dec g r i l * k.dy i g r p

/-- The gradient of the values. -/
def dx (l : Fin 128) (g : Fin 4) (r : Fin 8) (p : Fin 64) : EReal :=
  k.dy l g r p * k.d g r + k.dxs u l g r p * k.dt l g r

/-- The gradient of the step sizes, through the scaled values. -/
def ddt (l : Fin 128) (g : Fin 4) (r : Fin 8) : EReal := ∑ p : Fin 64, k.dxs u l g r p * k.x l g r p

/-- The gradient of the state before the chunk. -/
def next : Grad := fun g r p n =>
  k.e g r 127 * u g r p n + ∑ l : Fin 128, k.e g r l * k.dy l g r p * k.c l g n

/-- The gradient of the products of the two projections. -/
def dcb (g : Fin 4) (l s : Fin 128) : EReal :=
  ∑ r : Fin 8, (∑ p : Fin 64, k.dy l g r p * k.xs s g r p) * k.dec g r l s

/-- The gradient of the input projection. -/
def db (s : Fin 128) (g : Fin 4) (n : Fin 128) : EReal :=
  (∑ r : Fin 8, ∑ p : Fin 64, k.ds g r s * k.xs s g r p * u g r p n) + ∑ l : Fin 128, k.dcb g l s * k.c l g n

/-- The gradient of the output projection. -/
def dc (l : Fin 128) (g : Fin 4) (n : Fin 128) : EReal :=
  (∑ r : Fin 8, ∑ p : Fin 64, k.e g r l * k.dy l g r p * k.st g r p n) + ∑ s : Fin 128, k.dcb g l s * k.b s g n

/-- The chunk's part of the gradient of the skip weights. -/
def dd (g : Fin 4) (r : Fin 8) : EReal := ∑ l : Fin 128, ∑ p : Fin 64, k.x l g r p * k.dy l g r p

end Chunk

/-! ### The sequence of chunks -/

/-- Chunk `i` of the argument arrays. -/
def chunkOf (X : (⟨2, ![8192, 3072]⟩ : Shape).Idx → EReal) (DT : (⟨2, ![8192, 32]⟩ : Shape).Idx → EReal)
    (A D : (⟨1, ![32]⟩ : Shape).Idx → EReal) (ST : (⟨3, ![64, 2048, 128]⟩ : Shape).Idx → EReal)
    (DY : (⟨2, ![8192, 2048]⟩ : Shape).Idx → EReal) (i : Fin 64) : Chunk where
  x l g r p := X (ix2 ⟨i.val * 128 + l.val, by omega⟩ ⟨g.val * 512 + r.val * 64 + p.val, by omega⟩)
  b l g n := X (ix2 ⟨i.val * 128 + l.val, by omega⟩ ⟨2048 + g.val * 128 + n.val, by omega⟩)
  c l g n := X (ix2 ⟨i.val * 128 + l.val, by omega⟩ ⟨2560 + g.val * 128 + n.val, by omega⟩)
  dt l g r := DT (ix2 ⟨i.val * 128 + l.val, by omega⟩ ⟨g.val * 8 + r.val, by omega⟩)
  a g r := A (ix1 ⟨g.val * 8 + r.val, by omega⟩)
  d g r := D (ix1 ⟨g.val * 8 + r.val, by omega⟩)
  st g r p n := ST (ix3 i ⟨g.val * 512 + r.val * 64 + p.val, by omega⟩ n)
  dy l g r p := DY (ix2 ⟨i.val * 128 + l.val, by omega⟩ ⟨g.val * 512 + r.val * 64 + p.val, by omega⟩)

/-- The chunk of step `n`: the scan goes from the last chunk to the first. -/
def rev (n : ℕ) : Fin 64 := ⟨63 - n, by omega⟩

variable (K : Fin 64 → Chunk)

/-- The gradient of the state before step `n`. -/
def gradAt : ℕ → Grad
  | 0 => fun _ _ _ _ => 0
  | n + 1 => (K (rev n)).next (gradAt n)

/-- The gradient of the skip weights, summed over the first `n` steps. -/
def ddAt : ℕ → Fin 4 → Fin 8 → EReal
  | 0 => fun _ _ => 0
  | n + 1 => fun g r => ddAt n g r + (K (rev n)).dd g r

/-- A lane of the gradients of the values and of the projections, laid side by side. -/
def Chunk.lane (k : Chunk) (u : Grad) (l : Fin 128) (q : Fin 3072) : EReal :=
  if q.val < 2048 then k.dx u l ⟨q.val / 512 % 4, by omega⟩ ⟨q.val / 64 % 8, by omega⟩ ⟨q.val % 64, by omega⟩
  else if q.val < 2560 then k.db u l ⟨(q.val - 2048) / 128 % 4, by omega⟩ ⟨q.val % 128, by omega⟩
  else k.dc l ⟨(q.val - 2560) / 128 % 4, by omega⟩ ⟨q.val % 128, by omega⟩

/-- A lane of the gradients of the step sizes, zero behind the heads. -/
def Chunk.ddtLane (k : Chunk) (u : Grad) (l : Fin 128) (h : Fin 128) : EReal :=
  if h.val < 32 then k.ddt u l ⟨h.val / 8 % 4, by omega⟩ ⟨h.val % 8, by omega⟩ else 0

/-- The first result: the gradients of the values and of the projections. -/
def outX (t : Fin 8192) (q : Fin 3072) : EReal :=
  (K ⟨t.val / 128, by omega⟩).lane (gradAt K (63 - t.val / 128)) ⟨t.val % 128, by omega⟩ q

/-- The second result: the gradients of the step sizes. -/
def outDt (t : Fin 8192) (h : Fin 128) : EReal :=
  (K ⟨t.val / 128, by omega⟩).ddtLane (gradAt K (63 - t.val / 128)) ⟨t.val % 128, by omega⟩ h

/-- The third result: the gradient of the skip weights. -/
def outD (h : Fin 128) : EReal :=
  if h.val < 32 then ddAt K 64 ⟨h.val / 8 % 4, by omega⟩ ⟨h.val % 8, by omega⟩ else 0

end Cert.Scan

end
-- ==== Proof.Tables.lean ====
/-
  The tables of the model, entry by entry: running sums, masks, one-hot tables, halves.
-/
module

public import proofs.«01_k».proof.Proof.Model
public import proofs.«01_k».proof.Proof.Chunk

@[expose] public section

set_option maxRecDepth 16384

noncomputable section

namespace Cert.KernelIdeal.Scan

open Idealize.ShloMosaic
open Cert.KernelIdeal Cert.KernelIdeal.Gen Idealize.ShloMosaic.TcCoe

/-- A choice by a decided bit. -/
theorem select_bit {α : Type} (p : Prop) [Decidable p] (x y : α) :
    Scalar.select (BitVec.ofBool (decide p)) x y = if p then x else y := by
  by_cases h : p <;> simp [h, Scalar.select]

/-- A decided bit as a number. -/
theorem number_bit (p : Prop) [Decidable p] :
    (FloatOps.sitofp FTy.f32 (BitVec.setWidth 32 (BitVec.ofBool (decide p))) : Ideal .f32) = if p then (1 : EReal) else 0 := by
  have key : ∀ b : Bool, (BitVec.setWidth 32 (BitVec.ofBool b)).toInt = if b then 1 else 0 := by decide
  show (((BitVec.setWidth 32 (BitVec.ofBool (decide p))).toInt : ℝ) : EReal) = _
  rw [key]
  by_cases h : p <;> simp [h]

variable (B : Blocks)

/-- The running sums. -/
theorem cs_sum (l h : Fin 128) :
    B.cs (ix2 l h) = ∑ i : Fin 128, if i ≤ l then B.x1 (ix2 i h) * B.x3 (ix2 0 h) else 0 := by
  pointwise [Blocks.cs, k0_pay11, k0_pay9]
  refine Finset.sum_congr rfl fun i _ => ?_
  rw [WordCmp.cmpi_sge_ofNat (by omega) (by omega), number_bit]
  simp only [Fin.le_def]
  split <;> simp

/-- The running sums, transposed. -/
theorem csT_sum (l : Fin 128) (h : Fin 32) :
    B.csT (ix2 h l) = ∑ i : Fin 128, if i ≤ l then B.x2 (ix2 h i) * B.x4 (ix2 h 0) else 0 := by
  pointwise [Blocks.csT, k0_pay12, k0_pay10]
  refine Finset.sum_congr rfl fun i _ => ?_
  rw [WordCmp.cmpi_sle_ofNat (by omega) (by omega), number_bit]
  simp only [Fin.le_def]
  split <;> simp

/-- The lower copy keeps the first 64 lanes. -/
theorem halves_low (x : Sq) (k v : Fin 128) : halves x (ix2 ⟨k.val, by omega⟩ v) = if v.val < 64 then x (ix2 k v) else 0 := by
  pointwise [halves, k0_pay7, zeroSq]
  rw [WordCmp.cmpi_slt_ofNat (by omega) (by omega), select_bit]

/-- The upper copy keeps the last 64 lanes. -/
theorem halves_high (x : Sq) (k v : Fin 128) : halves x (ix2 ⟨128 + k.val, by omega⟩ v) = if v.val < 64 then 0 else x (ix2 k v) := by
  pointwise [halves, k0_pay7, zeroSq]
  rw [WordCmp.cmpi_slt_ofNat (by omega) (by omega), select_bit]

/-- The decays below the diagonal. -/
theorem lower_at (z : Sq) (l s : Fin 128) : lower z (ix2 l s) = if s ≤ l then Ideal.exp (z (ix2 l s)) else 0 := by
  pointwise [lower, k0_pay6, zeroSq]
  rw [WordCmp.cmpi_sge_ofNat (by omega) (by omega), select_bit, select_bit]
  simp only [Fin.le_def]
  split <;> rfl

/-- The decays above the diagonal. -/
theorem upper_at (z : Sq) (l s : Fin 128) : upper z (ix2 l s) = if l ≤ s then Ideal.exp (0 - z (ix2 l s)) else 0 := by
  pointwise [upper, upTri, k0_pay19, zeroSq]
  rw [WordCmp.cmpi_sle_ofNat (by omega) (by omega), select_bit, select_bit]
  simp only [Fin.le_def]
  split <;> rfl

/-- The word computed for a lane is its head's number. -/
theorem head_word (n : ℕ) (hn : n < 512) :
    (Scalar.select
        (IntOp.andi
          (IntOp.cmpi CmpIPredicate.ne
            (IntOp.subi (BitVec.setWidth 32 (IntOp.cmpi CmpIPredicate.sgt (BitVec.ofNat 32 n) 0#32))
              (BitVec.setWidth 32 (IntOp.cmpi CmpIPredicate.slt (BitVec.ofNat 32 n) 0#32)))
            (Scalar.subi (Scalar.extui (Scalar.cmpi CmpIPredicate.sgt 64#32 0#32))
              (Scalar.extui (Scalar.cmpi CmpIPredicate.slt 64#32 0#32))))
          (IntOp.cmpi CmpIPredicate.ne (IntOp.remsi ArithUnit.vector (BitVec.ofNat 32 n) 64#32) 0#32))
        (IntOp.subi (IntOp.divsi ArithUnit.vector (BitVec.ofNat 32 n) 64#32) 1#32)
        (IntOp.divsi ArithUnit.vector (BitVec.ofNat 32 n) 64#32)) = BitVec.ofNat 32 (n / 64) := by
  have key : ∀ j : Fin 512, (Scalar.select
        (IntOp.andi
          (IntOp.cmpi CmpIPredicate.ne
            (IntOp.subi (BitVec.setWidth 32 (IntOp.cmpi CmpIPredicate.sgt (BitVec.ofNat 32 j.val) 0#32))
              (BitVec.setWidth 32 (IntOp.cmpi CmpIPredicate.slt (BitVec.ofNat 32 j.val) 0#32)))
            (Scalar.subi (Scalar.extui (Scalar.cmpi CmpIPredicate.sgt 64#32 0#32))
              (Scalar.extui (Scalar.cmpi CmpIPredicate.slt 64#32 0#32))))
          (IntOp.cmpi CmpIPredicate.ne (IntOp.remsi ArithUnit.vector (BitVec.ofNat 32 j.val) 64#32) 0#32))
        (IntOp.subi (IntOp.divsi ArithUnit.vector (BitVec.ofNat 32 j.val) 64#32) 1#32)
        (IntOp.divsi ArithUnit.vector (BitVec.ofNat 32 j.val) 64#32)) = BitVec.ofNat 32 (j.val / 64) := by decide +kernel
  exact key ⟨n, hn⟩

/-- A sum of a word and a number's word. -/
theorem addi_words (a b : ℕ) : IntOp.addi (BitVec.ofNat 32 a) (BitVec.ofNat 32 b) = BitVec.ofNat 32 (a + b) :=
  (BitVec.ofNat_add a b).symm

/-- The one-hot table of heads by lanes. -/
theorem heads_at (g : ℕ) (hg : g < 4) (k : Fin 128) (j : Fin 512) :
    table (cmpi .eq (iota .tc S128x512 32 [0] iota_S128x512_d0_w32)
      (headOf (iota .tc S128x512 32 [1] iota_S128x512_d1_w32) (BitVec.ofNat 32 (8 * g)))) (ix2 k j)
      = if k.val = 8 * g + j.val / 64 then (1 : EReal) else 0 := by
  pointwise [table, headOf]
  rw [head_word j.val j.isLt, addi_words, WordCmp.cmpi_eq_ofNat (by omega) (by omega), number_bit]

/-- The one-hot table of lanes by heads. -/
theorem lanes_at (g : ℕ) (hg : g < 4) (j : Fin 512) (k : Fin 128) :
    table (cmpi .eq (iota .tc S512x128 32 [1] iota_S512x128_d1_w32)
      (headOf (iota .tc S512x128 32 [0] iota_S512x128_d0_w32) (BitVec.ofNat 32 (8 * g)))) (ix2 j k)
      = if k.val = 8 * g + j.val / 64 then (1 : EReal) else 0 := by
  pointwise [table, headOf]
  rw [head_word j.val j.isLt, addi_words, WordCmp.cmpi_eq_ofNat (by omega) (by omega), number_bit]

end Cert.KernelIdeal.Scan

end
-- ==== Proof.Pairs.lean ====
/-
  A pair of heads, entry by entry: the model's arrays in the words of `Chunk`.
-/
module

public import proofs.«01_k».proof.Proof.Tables

@[expose] public section

set_option maxRecDepth 16384

noncomputable section

namespace Cert.KernelIdeal.Scan

open Idealize.ShloMosaic
open Cert.KernelIdeal Cert.KernelIdeal.Gen Idealize.ShloMosaic.TcCoe
open Cert.Scan (Chunk Grad)

/-- The head, in its group, of a pair's lane. -/
def hd (q : Fin 4) (v : Fin 128) : Fin 8 := ⟨2 * q.val + v.val / 64, by omega⟩

/-- The position in its head of a pair's lane. -/
def ln (v : Fin 128) : Fin 64 := ⟨v.val % 64, by omega⟩

/-- The blocks hold the chunk `K` and the gradient `u` of the state after it. -/
structure Rep (B : Blocks) (K : Chunk) (u : Grad) : Prop where
  x : ∀ (l : Fin 128) (g : Fin 4) (r : Fin 8) (p : Fin 64), B.x0 (ix2 l ⟨g.val * 512 + r.val * 64 + p.val, by omega⟩) = K.x l g r p
  b : ∀ (l : Fin 128) (g : Fin 4) (n : Fin 128), B.x0 (ix2 l ⟨2048 + g.val * 128 + n.val, by omega⟩) = K.b l g n
  c : ∀ (l : Fin 128) (g : Fin 4) (n : Fin 128), B.x0 (ix2 l ⟨2560 + g.val * 128 + n.val, by omega⟩) = K.c l g n
  dt : ∀ (l : Fin 128) (g : Fin 4) (r : Fin 8), B.x1 (ix2 l ⟨g.val * 8 + r.val, by omega⟩) = K.dt l g r
  dtT : ∀ (l : Fin 128) (g : Fin 4) (r : Fin 8), B.x2 (ix2 ⟨g.val * 8 + r.val, by omega⟩ l) = K.dt l g r
  a : ∀ (g : Fin 4) (r : Fin 8), B.x3 (ix2 0 ⟨g.val * 8 + r.val, by omega⟩) = K.a g r
  aT : ∀ (g : Fin 4) (r : Fin 8), B.x4 (ix2 ⟨g.val * 8 + r.val, by omega⟩ 0) = K.a g r
  d : ∀ (g : Fin 4) (r : Fin 8), B.x5 (ix2 0 ⟨g.val * 8 + r.val, by omega⟩) = K.d g r
  st : ∀ (g : Fin 4) (r : Fin 8) (p : Fin 64) (n : Fin 128),
    B.x6 (ix3 0 ⟨g.val * 512 + r.val * 64 + p.val, by omega⟩ n) = K.st g r p n
  dy : ∀ (l : Fin 128) (g : Fin 4) (r : Fin 8) (p : Fin 64), B.x7 (ix2 l ⟨g.val * 512 + r.val * 64 + p.val, by omega⟩) = K.dy l g r p
  h : ∀ (g : Fin 4) (r : Fin 8) (p : Fin 64) (n : Fin 128), B.h (ix2 ⟨g.val * 512 + r.val * 64 + p.val, by omega⟩ n) = u g r p n
  finite : ∀ (g : Fin 4) (r : Fin 8) (l : Fin 128), K.cs g r l ≠ ⊤ ∧ K.cs g r l ≠ ⊥

/-- Equal coordinates, equal indices. -/
theorem ix2_val {A C : ℕ} {i i' : Fin A} {j j' : Fin C} (hi : i.val = i'.val) (hj : j.val = j'.val) :
    (ix2 i j : (⟨2, ![A, C]⟩ : Shape).Idx) = ix2 i' j' := by
  rw [Fin.ext hi, Fin.ext hj]

/-! ### Sums over the lanes of a pair, a group, and of two squares -/

/-- A sum over two squares' rows. -/
theorem sum_two (f : Fin 256 → EReal) :
    ∑ k, f k = (∑ i : Fin 128, f ⟨i.val, by omega⟩) + ∑ i : Fin 128, f ⟨128 + i.val, by omega⟩ :=
  Fin.sum_univ_add (a := 128) (b := 128) f

/-- A sum over a pair's lanes, head by head. -/
theorem sum_pair (q : Fin 4) (F : Fin 8 → Fin 64 → EReal) :
    ∑ v : Fin 128, F (hd q v) (ln v) = (∑ p, F ⟨2 * q.val, by omega⟩ p) + ∑ p, F ⟨2 * q.val + 1, by omega⟩ p := by
  rw [Fin.sum_univ_add (a := 64) (b := 64) (fun v : Fin 128 => F (hd q v) (ln v))]
  refine congrArg₂ (· + ·) (Finset.sum_congr rfl fun p _ => ?_) (Finset.sum_congr rfl fun p _ => ?_)
  · refine congrArg₂ F (Fin.ext ?_) (Fin.ext ?_)
    · show 2 * q.val + p.val / 64 = 2 * q.val
      omega
    · show p.val % 64 = p.val
      omega
  · refine congrArg₂ F (Fin.ext ?_) (Fin.ext ?_)
    · show 2 * q.val + (64 + p.val) / 64 = 2 * q.val + 1
      omega
    · show (64 + p.val) % 64 = p.val
      omega

/-- The four pairs' sums, the group's. -/
theorem sum_pairs (F : Fin 8 → Fin 64 → EReal) :
    (∑ v : Fin 128, F (hd 0 v) (ln v)) + (∑ v : Fin 128, F (hd 1 v) (ln v)) + (∑ v : Fin 128, F (hd 2 v) (ln v))
      + (∑ v : Fin 128, F (hd 3 v) (ln v)) = ∑ r : Fin 8, ∑ p : Fin 64, F r p := by
  rw [sum_pair, sum_pair, sum_pair, sum_pair, Fin.sum_univ_eight]
  simp only [← add_assoc]
  rfl

/-! ### Reading -/

/-- A leading axis of one entry dropped. -/
theorem drop_lead (x : FVec Ideal S1x128x128 .f32) (v n : Fin 128) :
    shapeCast S128x128 x shapeCasts_S1x128x128_S128x128 (ix2 v n) = x (ix3 0 v n) := by
  pointwise []

/-- Rows of the states. -/
theorem load_rows (X : Vec Ideal S1x2048x128 .f32) (o : ℕ) (ho : o + 128 ≤ 2048) (inb) (v n : Fin 128) :
    View.ld (S := S1x2048x128) X (Rect.unit ![0, o, 0] ![1, 128, 128] inb) (ix3 0 v n) = X (ix3 0 ⟨o + v.val, by omega⟩ n) := by
  refine congrArg X (funext fun a => Fin.ext ?_)
  match a with
  | 0 => exact (ValueKit.rect_emb_unit_val ..).trans (by simp)
  | 1 => exact (ValueKit.rect_emb_unit_val ..).trans (by simp)
  | 2 => exact (ValueKit.rect_emb_unit_val ..).trans (by simp)

/-- A spread table's first part. -/
theorem spread_first (g : ℕ) (hg : g < 4) (p q r : Sq) (l : Fin 128) (j : Fin 512) :
    spread (BitVec.ofNat 32 (8 * g)) p q r (ix2 ⟨l.val, by omega⟩ j) = p (ix2 l ⟨8 * g + j.val / 64, by omega⟩) := by
  unfold spread
  pointwise []
  simp only [heads_at g hg, mul_ite, mul_one, mul_zero]
  rw [Finset.sum_eq_single (⟨8 * g + j.val / 64, by omega⟩ : Fin 128)]
  · simp
  · intro k _ hk
    rw [if_neg fun e => hk (Fin.ext e)]
  · simp

/-- A spread table's second part. -/
theorem spread_second (g : ℕ) (hg : g < 4) (p q r : Sq) (l : Fin 128) (j : Fin 512) :
    spread (BitVec.ofNat 32 (8 * g)) p q r (ix2 ⟨128 + l.val, by omega⟩ j) = q (ix2 l ⟨8 * g + j.val / 64, by omega⟩) := by
  unfold spread
  pointwise []
  simp only [heads_at g hg, mul_ite, mul_one, mul_zero]
  rw [Finset.sum_eq_single (⟨8 * g + j.val / 64, by omega⟩ : Fin 128)]
  · simp
  · intro k _ hk
    rw [if_neg fun e => hk (Fin.ext e)]
  · simp

/-- A spread table's third part. -/
theorem spread_third (g : ℕ) (hg : g < 4) (p q r : Sq) (l : Fin 128) (j : Fin 512) :
    spread (BitVec.ofNat 32 (8 * g)) p q r (ix2 ⟨256 + l.val, by omega⟩ j) = r (ix2 l ⟨8 * g + j.val / 64, by omega⟩) := by
  unfold spread
  pointwise []
  simp only [heads_at g hg, mul_ite, mul_one, mul_zero]
  rw [Finset.sum_eq_single (⟨8 * g + j.val / 64, by omega⟩ : Fin 128)]
  · rw [if_pos rfl, dif_neg (by omega), dif_neg (by omega)]
    exact congrArg r (ix2_val (by simp only []; omega) rfl)
  · intro k _ hk
    rw [if_neg fun e => hk (Fin.ext e)]
  · simp

variable {B : Blocks} {K : Chunk} {u : Grad} (R : Rep B K u)

include R

/-- The running sums. -/
theorem cs_at (g : Fin 4) (r : Fin 8) (l : Fin 128) (k : Fin 128) (hk : k.val = g.val * 8 + r.val) : B.cs (ix2 l k) = K.cs g r l := by
  rw [cs_sum]
  unfold Chunk.cs
  rw [show k = ⟨g.val * 8 + r.val, by omega⟩ from Fin.ext hk]
  simp only [R.dt, R.a]

/-- The running sums, transposed. -/
theorem csT_at (g : Fin 4) (r : Fin 8) (l : Fin 128) (k : Fin 32) (hk : k.val = g.val * 8 + r.val) : B.csT (ix2 k l) = K.cs g r l := by
  rw [csT_sum]
  unfold Chunk.cs
  rw [show k = ⟨g.val * 8 + r.val, by omega⟩ from Fin.ext hk]
  simp only [R.dtT, R.aT]

/-- The last running sums. -/
theorem last_at (g : Fin 4) (r : Fin 8) (k : Fin 128) (hk : k.val = g.val * 8 + r.val) : B.last (ix2 0 k) = K.cs g r 127 := by
  rw [← cs_at R g r 127 k hk]
  pointwise [Blocks.last]

/-- A head's running sums as a row. -/
theorem row_at (g : Fin 4) (r : Fin 8) (l : Fin 128) (h : ℕ) (hh : h < 32) (e : h = g.val * 8 + r.val) : B.row h hh (ix2 0 l) = K.cs g r l := by
  rw [← csT_at R g r l ⟨h, hh⟩ e]
  pointwise [Blocks.row]

/-- The values. -/
theorem x_at (g q : Fin 4) (l v : Fin 128) : B.x g q g.isLt q.isLt (ix2 l v) = K.x l g (hd q v) (ln v) := by
  rw [← R.x]
  pointwise [Blocks.x]
  exact congrArg B.x0 (ix2_val rfl (by simp only [hd, ln]; omega))

/-- The gradients of the output. -/
theorem dy_at (g q : Fin 4) (l v : Fin 128) : B.dy g q g.isLt q.isLt (ix2 l v) = K.dy l g (hd q v) (ln v) := by
  rw [← R.dy]
  pointwise [Blocks.dy]
  exact congrArg B.x7 (ix2_val rfl (by simp only [hd, ln]; omega))

/-- The input projection. -/
theorem b_at (g : Fin 4) (l n : Fin 128) : B.b g g.isLt (ix2 l n) = K.b l g n := by
  rw [← R.b]
  pointwise [Blocks.b]
  exact congrArg B.x0 (ix2_val rfl (by simp only []; omega))

/-- The output projection. -/
theorem c_at (g : Fin 4) (l n : Fin 128) : B.c g g.isLt (ix2 l n) = K.c l g n := by
  rw [← R.c]
  pointwise [Blocks.c]
  exact congrArg B.x0 (ix2_val rfl (by simp only []; omega))

/-- The gradient of the state after the chunk. -/
theorem dh_at (g q : Fin 4) (v n : Fin 128) : B.dh g q g.isLt q.isLt (ix2 v n) = u g (hd q v) (ln v) n := by
  rw [← R.h]
  pointwise [Blocks.dh]
  exact congrArg B.h (ix2_val (by simp only [hd, ln]; omega) rfl)

/-- The state before the chunk. -/
theorem st_at (g q : Fin 4) (v n : Fin 128) : B.st g q g.isLt q.isLt (ix2 v n) = K.st g (hd q v) (ln v) n := by
  rw [← R.st]
  refine (drop_lead _ v n).trans ((load_rows B.x6 _ (by omega) _ v n).trans ?_)
  refine congrArg B.x6 (congrArg (fun i => ix3 0 i n) (Fin.ext ?_))
  simp only [hd, ln]
  omega

/-- The step sizes of a pair. -/
theorem dt2_at (g q : Fin 4) (l v : Fin 128) : B.dt2 g q q.isLt (ix2 l v) = K.dt l g (hd q v) := by
  rw [← R.dt]
  refine Eq.trans ?_ ((spread_first g g.isLt (k0_pay9 B.x1) (k0_pay13 B.cs) (k0_pay14 B.cs B.last) l ⟨128 * q.val + v.val, by omega⟩).trans ?_)
  · pointwise [Blocks.dt2, Blocks.wide]
  · pointwise [k0_pay9]
    exact congrArg B.x1 (ix2_val rfl (by simp only [hd]; omega))

/-- The decays from the start of a pair. -/
theorem e2_at (g q : Fin 4) (l v : Fin 128) : B.e2 g q q.isLt (ix2 l v) = K.e g (hd q v) l := by
  unfold Chunk.e
  rw [← cs_at R g (hd q v) l ⟨8 * g.val + (128 * q.val + v.val) / 64, by omega⟩ (by simp only [hd]; omega)]
  refine Eq.trans ?_ ((spread_second g g.isLt (k0_pay9 B.x1) (k0_pay13 B.cs) (k0_pay14 B.cs B.last) l ⟨128 * q.val + v.val, by omega⟩).trans ?_)
  · pointwise [Blocks.e2, Blocks.wide]
  · pointwise [k0_pay13]

/-- The decays to the end of a pair. -/
theorem ds2_at (g q : Fin 4) (l v : Fin 128) : B.ds2 g q q.isLt (ix2 l v) = K.ds g (hd q v) l := by
  unfold Chunk.ds
  rw [← cs_at R g (hd q v) l ⟨8 * g.val + (128 * q.val + v.val) / 64, by omega⟩ (by simp only [hd]; omega),
    ← last_at R g (hd q v) ⟨8 * g.val + (128 * q.val + v.val) / 64, by omega⟩ (by simp only [hd]; omega)]
  refine Eq.trans ?_ ((spread_third g g.isLt (k0_pay9 B.x1) (k0_pay13 B.cs) (k0_pay14 B.cs B.last) l ⟨128 * q.val + v.val, by omega⟩).trans ?_)
  · pointwise [Blocks.ds2, Blocks.wide]
  · pointwise [k0_pay14]

/-- The scaled values. -/
theorem xs_at (g q : Fin 4) (l v : Fin 128) : B.xs g q g.isLt q.isLt (ix2 l v) = K.xs l g (hd q v) (ln v) := by
  unfold Chunk.xs
  rw [← x_at R, ← dt2_at R]
  rfl

/-- The products of the projections. -/
theorem cb_at (g : Fin 4) (l s : Fin 128) : B.cb g g.isLt (ix2 l s) = K.cb g l s := by
  unfold Chunk.cb
  pointwise [Blocks.cb]
  simp only [b_at R, c_at R]

/-- The same transposed. -/
theorem bc_at (g : Fin 4) (l s : Fin 128) : B.bc g g.isLt (ix2 l s) = K.cb g s l := by
  unfold Chunk.cb
  pointwise [Blocks.bc]
  simp only [b_at R, c_at R]
  exact Finset.sum_congr rfl fun n _ => mul_comm _ _

/-- The differences of a head's running sums. -/
theorem gap_at (g : Fin 4) (r : Fin 8) (l s : Fin 128) (h : ℕ) (hh : h < 32) (e : h = g.val * 8 + r.val) :
    B.gap h hh (ix2 l s) = K.cs g r l - K.cs g r s := by
  rw [← cs_at R g r l ⟨h, by omega⟩ e, ← row_at R g r s h hh e]
  pointwise [Blocks.gap]

/-- The decays between positions. -/
theorem low_at (g : Fin 4) (r : Fin 8) (l s : Fin 128) (h : ℕ) (hh : h < 32) (e : h = g.val * 8 + r.val) :
    lower (B.gap h hh) (ix2 l s) = K.dec g r l s := by
  rw [lower_at, gap_at R g r l s h hh e]
  rfl

/-- The same transposed: here the running sums must be finite, for the difference is taken the other way round. -/
theorem up_at (g : Fin 4) (r : Fin 8) (l s : Fin 128) (h : ℕ) (hh : h < 32) (e : h = g.val * 8 + r.val) :
    upper (B.gap h hh) (ix2 l s) = K.dec g r s l := by
  rw [upper_at, gap_at R g r l s h hh e]
  unfold Chunk.dec
  obtain ⟨a, ha⟩ := EReal.canLift.prf (K.cs g r l) (R.finite g r l)
  obtain ⟨b, hb⟩ := EReal.canLift.prf (K.cs g r s) (R.finite g r s)
  rw [← ha, ← hb]
  have : (0 : EReal) - ((a : EReal) - (b : EReal)) = (b : EReal) - (a : EReal) := by
    rw [← EReal.coe_sub, ← EReal.coe_sub, ← EReal.coe_zero, ← EReal.coe_sub]
    congr 1
    ring
  rw [this]

/-- The gradient of the values through the state after the chunk. -/
theorem dxState_at (g q : Fin 4) (l v : Fin 128) :
    B.dxState g q g.isLt q.isLt (ix2 l v) = ∑ n : Fin 128, K.b l g n * u g (hd q v) (ln v) n := by
  pointwise [Blocks.dxState]
  simp only [b_at R, dh_at R]

/-- The gradient of the values through the chunk's own outputs. -/
theorem dxOwn_at (g q : Fin 4) (l v : Fin 128) :
    B.dxOwn g q g.isLt q.isLt (ix2 l v) = ∑ i : Fin 128, K.cb g i l * K.dec g (hd q v) i l * K.dy i g (hd q v) (ln v) := by
  unfold Blocks.dxOwn
  rw [show ∀ (x : FVec Ideal S128x256 .bf16) (y : FVec Ideal S256x128 .bf16),
    matmul dot_S128x256_S256x128_S128x128_1_0_0_1_n_n none x y (constant S128x128 .f32 0x00000000#32 : FVec Ideal S128x128 .f32) (ix2 l v)
      = ∑ k : Fin 256, x (ix2 l k) * y (ix2 k v) from fun x y => by pointwise []]
  rw [sum_two]
  simp only [halves_low, halves_high, dy_at R]
  rw [← Finset.sum_add_distrib]
  refine Finset.sum_congr rfl fun i _ => ?_
  by_cases hv : v.val < 64
  · rw [if_pos hv, if_pos hv, mul_zero, add_zero]
    refine congrArg (· * _) ?_
    pointwise []
    rw [bc_at R, up_at R g (hd q v) l i _ _ (by simp only [hd]; omega)]
  · rw [if_neg hv, if_neg hv, mul_zero, zero_add]
    refine congrArg (· * _) ?_
    pointwise []
    rw [bc_at R, up_at R g (hd q v) l i _ _ (by simp only [hd]; omega)]

/-- The gradient of the scaled values. -/
theorem dxs_at (g q : Fin 4) (l v : Fin 128) : B.dxs g q g.isLt q.isLt (ix2 l v) = K.dxs u l g (hd q v) (ln v) := by
  unfold Chunk.dxs
  rw [← dxOwn_at R, ← dxState_at R, ← ds2_at R]
  rfl

omit R in
/-- Two entries of a row, by the lane's half. -/
theorem pairRow_at (x : Row) (h : ℕ) (hh : h + 1 < 32) (w : Fin 128) :
    Blocks.pairRow x h hh (ix2 0 w) = if w.val < 64 then x (ix2 0 ⟨h, by omega⟩) else x (ix2 0 ⟨h + 1, by omega⟩) := by
  pointwise [Blocks.pairRow]
  rw [WordCmp.cmpi_slt_ofNat (by omega) (by omega), select_bit]

omit R in
/-- Two entries of a row, by the row's half. -/
theorem pairSq_at (x : Row) (h : ℕ) (hh : h + 1 < 32) (w n : Fin 128) :
    Blocks.pairSq x h hh (ix2 w n) = if w.val < 64 then x (ix2 0 ⟨h, by omega⟩) else x (ix2 0 ⟨h + 1, by omega⟩) := by
  pointwise [Blocks.pairSq, k0_pay8]
  rw [WordCmp.cmpi_slt_ofNat (by omega) (by omega), select_bit]

omit R in
/-- The entry of a row at a lane's head. -/
theorem pair_choice (x : Row) (f : Fin 8 → EReal) (g q : Fin 4) (w : Fin 128)
    (hf : ∀ (r : Fin 8) (k : Fin 128), k.val = g.val * 8 + r.val → x (ix2 0 k) = f r) :
    (if w.val < 64 then x (ix2 0 ⟨8 * g.val + 2 * q.val, by omega⟩) else x (ix2 0 ⟨8 * g.val + 2 * q.val + 1, by omega⟩)) = f (hd q w) := by
  split
  · exact hf (hd q w) _ (by simp only [hd]; omega)
  · exact hf (hd q w) _ (by simp only [hd]; omega)

/-- The gradient of the values. -/
theorem dx_at (g q : Fin 4) (l v : Fin 128) : B.dx g q g.isLt q.isLt (ix2 l v) = K.dx u l g (hd q v) (ln v) := by
  unfold Chunk.dx
  rw [← dxs_at R, ← dy_at R, ← dt2_at R, add_comm]
  pointwise [Blocks.dx]
  refine congrArg₂ (· + ·) rfl (congrArg₂ (· * ·) rfl ?_)
  rw [pairRow_at, pair_choice _ (fun r => K.d g r) g q v]
  intro r k hk
  pointwise [k0_pay17]
  rw [← R.d]
  exact congrArg B.x5 (ix2_val rfl hk)

/-- The output's gradients, decayed. -/
theorem dyE_at (g q : Fin 4) (l v : Fin 128) : B.dyE g q g.isLt q.isLt (ix2 l v) = K.e g (hd q v) l * K.dy l g (hd q v) (ln v) := by
  rw [← e2_at R, ← dy_at R]
  pointwise [Blocks.dyE]

/-- The gradient of the state before the chunk. -/
theorem next_at (g q : Fin 4) (v n : Fin 128) : B.next g q g.isLt q.isLt (ix2 v n) = K.next u g (hd q v) (ln v) n := by
  unfold Chunk.next
  rw [← dh_at R]
  pointwise [Blocks.next]
  simp only [dyE_at R, c_at R]
  refine congrArg (· * _ + _) ?_
  rw [pairSq_at, pair_choice _ (fun r => K.e g r 127) g q v]
  intro r k hk
  unfold Chunk.e
  rw [← last_at R g r k hk]
  pointwise [k0_pay15]

/-- A pair's part in the gradient of the output projection. -/
theorem dcPart_at (g q : Fin 4) (l n : Fin 128) : B.dcPart g q g.isLt q.isLt (ix2 l n)
    = ∑ v : Fin 128, K.e g (hd q v) l * K.dy l g (hd q v) (ln v) * K.st g (hd q v) (ln v) n := by
  pointwise [Blocks.dcPart]
  simp only [dyE_at R, st_at R]

/-- A pair's part in the gradient of the input projection. -/
theorem dbPart_at (g q : Fin 4) (s n : Fin 128) : B.dbPart g q g.isLt q.isLt (ix2 s n)
    = ∑ v : Fin 128, K.ds g (hd q v) s * K.xs s g (hd q v) (ln v) * u g (hd q v) (ln v) n := by
  pointwise [Blocks.dbPart]
  simp only [xs_at R, ds2_at R, dh_at R]
  exact Finset.sum_congr rfl fun v _ => congrArg (· * _) (mul_comm _ _)

/-- The products of the output's gradients with the values, the pair's first head. -/
theorem dyXs_low (g q : Fin 4) (l s : Fin 128) : B.dyXs g q g.isLt q.isLt (ix2 l ⟨s.val, by omega⟩)
    = ∑ p : Fin 64, K.dy l g ⟨2 * q.val, by omega⟩ p * K.xs s g ⟨2 * q.val, by omega⟩ p := by
  pointwise [Blocks.dyXs]
  simp only [halves_low, dy_at R, xs_at R]
  rw [show (∑ v : Fin 128, K.dy l g (hd q v) (ln v) * if v.val < 64 then K.xs s g (hd q v) (ln v) else 0)
    = ∑ v : Fin 128, (fun (r : Fin 8) (p : Fin 64) => if r.val = 2 * q.val then K.dy l g r p * K.xs s g r p else 0) (hd q v) (ln v) from
      Finset.sum_congr rfl fun v _ => by
        by_cases hv : v.val < 64
        · rw [if_pos hv]
          exact (if_pos (show 2 * q.val + v.val / 64 = 2 * q.val by omega)).symm
        · rw [if_neg hv, mul_zero]
          exact (if_neg (show ¬ 2 * q.val + v.val / 64 = 2 * q.val by omega)).symm]
  refine (sum_pair q (fun (r : Fin 8) (p : Fin 64) => if r.val = 2 * q.val then K.dy l g r p * K.xs s g r p else 0)).trans ?_
  simp

/-- The same, the pair's second head. -/
theorem dyXs_high (g q : Fin 4) (l s : Fin 128) : B.dyXs g q g.isLt q.isLt (ix2 l ⟨128 + s.val, by omega⟩)
    = ∑ p : Fin 64, K.dy l g ⟨2 * q.val + 1, by omega⟩ p * K.xs s g ⟨2 * q.val + 1, by omega⟩ p := by
  pointwise [Blocks.dyXs]
  simp only [halves_high, dy_at R, xs_at R]
  rw [show (∑ v : Fin 128, K.dy l g (hd q v) (ln v) * if v.val < 64 then 0 else K.xs s g (hd q v) (ln v))
    = ∑ v : Fin 128, (fun (r : Fin 8) (p : Fin 64) => if r.val = 2 * q.val then 0 else K.dy l g r p * K.xs s g r p) (hd q v) (ln v) from
      Finset.sum_congr rfl fun v _ => by
        by_cases hv : v.val < 64
        · rw [if_pos hv, mul_zero]
          exact (if_pos (show 2 * q.val + v.val / 64 = 2 * q.val by omega)).symm
        · rw [if_neg hv]
          exact (if_neg (show ¬ 2 * q.val + v.val / 64 = 2 * q.val by omega)).symm]
  refine (sum_pair q (fun (r : Fin 8) (p : Fin 64) => if r.val = 2 * q.val then 0 else K.dy l g r p * K.xs s g r p)).trans ?_
  simp

/-- The first head's part in the gradient of the projections' products. -/
theorem dcb0_at (g q : Fin 4) (l s : Fin 128) : B.dcb0 g q g.isLt q.isLt (ix2 l s)
    = (∑ p : Fin 64, K.dy l g ⟨2 * q.val, by omega⟩ p * K.xs s g ⟨2 * q.val, by omega⟩ p) * K.dec g ⟨2 * q.val, by omega⟩ l s := by
  rw [← dyXs_low R, ← low_at R g ⟨2 * q.val, by omega⟩ l s (8 * g.val + 2 * q.val) (by omega) (by simp only []; omega)]
  pointwise [Blocks.dcb0]

/-- The second head's. -/
theorem dcb1_at (g q : Fin 4) (l s : Fin 128) : B.dcb1 g q g.isLt q.isLt (ix2 l s)
    = (∑ p : Fin 64, K.dy l g ⟨2 * q.val + 1, by omega⟩ p * K.xs s g ⟨2 * q.val + 1, by omega⟩ p)
      * K.dec g ⟨2 * q.val + 1, by omega⟩ l s := by
  rw [← dyXs_high R, ← low_at R g ⟨2 * q.val + 1, by omega⟩ l s (8 * g.val + 2 * q.val + 1) (by omega) (by simp only []; omega)]
  pointwise [Blocks.dcb1]

/-- The gradient of the projections' products. -/
theorem dcb_at (g : Fin 4) (l s : Fin 128) : B.dcb g g.isLt (ix2 l s) = K.dcb g l s := by
  unfold Chunk.dcb
  rw [Fin.sum_univ_eight]
  have h00 := dcb0_at R g 0 l s
  have h01 := dcb1_at R g 0 l s
  have h10 := dcb0_at R g 1 l s
  have h11 := dcb1_at R g 1 l s
  have h20 := dcb0_at R g 2 l s
  have h21 := dcb1_at R g 2 l s
  have h30 := dcb0_at R g 3 l s
  have h31 := dcb1_at R g 3 l s
  pointwise [Blocks.dcb, zeroSq]
  exact congrArg₂ (· + ·) (congrArg₂ (· + ·) (congrArg₂ (· + ·) (congrArg₂ (· + ·) (congrArg₂ (· + ·) (congrArg₂ (· + ·)
    (congrArg₂ (· + ·) h00 h01) h10) h11) h20) h21) h30) h31

/-- The gradient of the output projection. -/
theorem dc_at (g : Fin 4) (l n : Fin 128) : B.dc g g.isLt (ix2 l n) = K.dc l g n := by
  unfold Chunk.dc
  rw [← sum_pairs (fun r p => K.e g r l * K.dy l g r p * K.st g r p n)]
  have h0 := dcPart_at R g 0 l n
  have h1 := dcPart_at R g 1 l n
  have h2 := dcPart_at R g 2 l n
  have h3 := dcPart_at R g 3 l n
  pointwise [Blocks.dc, zeroSq]
  simp only [dcb_at R, b_at R]
  exact congrArg (· + _) (congrArg₂ (· + ·) (congrArg₂ (· + ·) (congrArg₂ (· + ·) h0 h1) h2) h3)

/-- The gradient of the input projection. -/
theorem db_at (g : Fin 4) (s n : Fin 128) : B.db g g.isLt (ix2 s n) = K.db u s g n := by
  unfold Chunk.db
  rw [← sum_pairs (fun r p => K.ds g r s * K.xs s g r p * u g r p n)]
  have h0 := dbPart_at R g 0 s n
  have h1 := dbPart_at R g 1 s n
  have h2 := dbPart_at R g 2 s n
  have h3 := dbPart_at R g 3 s n
  pointwise [Blocks.db, zeroSq]
  simp only [dcb_at R, c_at R]
  exact congrArg (· + _) (congrArg₂ (· + ·) (congrArg₂ (· + ·) (congrArg₂ (· + ·) h0 h1) h2) h3)

end Cert.KernelIdeal.Scan

end
-- ==== Proof.Sums.lean ====
/-
  The step sizes' and the skip weights' gradients of the model, entry by entry: sums over the lanes of a head.
-/
module

public import proofs.«01_k».proof.Proof.Pairs

@[expose] public section

set_option maxRecDepth 16384

noncomputable section

namespace Cert.KernelIdeal.Scan

open Idealize.ShloMosaic
open Cert.KernelIdeal Cert.KernelIdeal.Gen Idealize.ShloMosaic.TcCoe
open Cert.Scan (Chunk Grad)

/-- A sum over a group's lanes, pair by pair. -/
theorem sum_lanes (f : Fin 512 → EReal) :
    ∑ j, f j = (∑ v : Fin 128, f ⟨0 + v.val, by omega⟩) + (∑ v : Fin 128, f ⟨128 + v.val, by omega⟩)
      + (∑ v : Fin 128, f ⟨256 + v.val, by omega⟩) + ∑ v : Fin 128, f ⟨384 + v.val, by omega⟩ := by
  rw [Fin.sum_univ_add (a := 384) (b := 128) f, Fin.sum_univ_add (a := 256) (b := 128) (fun j => f (Fin.castAdd 128 j)),
    Fin.sum_univ_add (a := 128) (b := 128) (fun j => f (Fin.castAdd 128 (Fin.castAdd 128 j)))]
  simp only [zero_add]
  rfl

/-- Squares side by side. -/
theorem beside_at (a b c d : Sq) (l v : Fin 128) :
    (concatenate S128x512 1 [⟨S128x128, a⟩, ⟨S128x128, b⟩, ⟨S128x128, c⟩, ⟨S128x128, d⟩]
        concatenates_S128x128_S128x128_S128x128_S128x128_S128x512_d1 : FVec Ideal S128x512 .f32) (ix2 l ⟨0 + v.val, by omega⟩) = a (ix2 l v)
    ∧ (concatenate S128x512 1 [⟨S128x128, a⟩, ⟨S128x128, b⟩, ⟨S128x128, c⟩, ⟨S128x128, d⟩]
        concatenates_S128x128_S128x128_S128x128_S128x128_S128x512_d1 : FVec Ideal S128x512 .f32) (ix2 l ⟨128 + v.val, by omega⟩) = b (ix2 l v)
    ∧ (concatenate S128x512 1 [⟨S128x128, a⟩, ⟨S128x128, b⟩, ⟨S128x128, c⟩, ⟨S128x128, d⟩]
        concatenates_S128x128_S128x128_S128x128_S128x128_S128x512_d1 : FVec Ideal S128x512 .f32) (ix2 l ⟨256 + v.val, by omega⟩) = c (ix2 l v)
    ∧ (concatenate S128x512 1 [⟨S128x128, a⟩, ⟨S128x128, b⟩, ⟨S128x128, c⟩, ⟨S128x128, d⟩]
        concatenates_S128x128_S128x128_S128x128_S128x128_S128x512_d1 : FVec Ideal S128x512 .f32) (ix2 l ⟨384 + v.val, by omega⟩) = d (ix2 l v) := by
  refine ⟨?_, ?_, ?_, ?_⟩
  · pointwise []
  · pointwise []
  · pointwise []
    rw [dif_neg (by omega), dif_neg (by omega), dif_pos (by omega)]
    exact congrArg c (ix2_val rfl (by simp only []; omega))
  · pointwise []
    rw [dif_neg (by omega), dif_neg (by omega), dif_neg (by omega)]
    exact congrArg d (ix2_val rfl (by simp only []; omega))

/-- The third of three tables above one another. -/
theorem below_at (a b c : FVec Ideal S128x512 .f32) (l : Fin 128) (j : Fin 512) :
    (concatenate S384x512 0 [⟨S128x512, a⟩, ⟨S128x512, b⟩, ⟨S128x512, c⟩]
        concatenates_S128x512_S128x512_S128x512_S384x512_d0 : FVec Ideal S384x512 .f32) (ix2 ⟨256 + l.val, by omega⟩ j) = c (ix2 l j) := by
  pointwise []
  rw [dif_neg (by omega), dif_neg (by omega)]
  exact congrArg c (ix2_val (by simp only []; omega) rfl)

/-- The sum over the first 64 lanes. -/
def firstHalf (v : Sq) : EReal := ∑ p : Fin 64, ∑ l : Fin 128, v (ix2 l ⟨p.val, by omega⟩)

/-- The sum over the last 64 lanes. -/
def lastHalf (v : Sq) : EReal := ∑ p : Fin 64, ∑ l : Fin 128, v (ix2 l ⟨64 + p.val, by omega⟩)

/-- The lanes' column sums, put at two heads. -/
theorem headSum_at (v : Sq) (h k : ℕ) (hh : h < 32) (hk : k < 32) (w : Fin 128) :
    headSum v (BitVec.ofNat 32 h) (BitVec.ofNat 32 k) (ix2 0 w)
      = firstHalf v * (if w.val = h then 1 else 0) + lastHalf v * (if w.val = k then 1 else 0) := by
  pointwise [headSum]
  rw [WordCmp.cmpi_eq_ofNat (by omega) (by omega), WordCmp.cmpi_eq_ofNat (by omega) (by omega), number_bit, number_bit]
  have bit : ∀ (x : Fin 128) (a b : EReal), Scalar.select (IntOp.cmpi CmpIPredicate.slt (BitVec.ofNat 32 x.val) 64#32) a b
      = if x.val < 64 then a else b := fun x a b => by
    rw [WordCmp.cmpi_slt_ofNat (by omega) (by omega), select_bit]
  simp only [bit]
  refine congrArg₂ (· + ·) (congrArg (· * _) ?_) (congrArg (· * _) ?_)
  · rw [Fin.sum_univ_add (a := 64) (b := 64) (fun x : Fin 128 => if x.val < 64 then ∑ l : Fin 128, v (ix2 l x) else 0)]
    simp [firstHalf, Fin.castAdd, Fin.castLE]
  · rw [Fin.sum_univ_add (a := 64) (b := 64) (fun x : Fin 128 => if x.val < 64 then 0 else ∑ l : Fin 128, v (ix2 l x))]
    simp [lastHalf, Fin.natAdd]

variable {B : Blocks} {K : Chunk} {u : Grad} (R : Rep B K u)

include R

/-- A pair's part in the gradient of the skip weights. -/
theorem ddPart_at (g q : Fin 4) (w : Fin 128) : B.ddPart g q g.isLt q.isLt (ix2 0 w)
    = K.dd g ⟨2 * q.val, by omega⟩ * (if w.val = 8 * g.val + 2 * q.val then 1 else 0)
      + K.dd g ⟨2 * q.val + 1, by omega⟩ * (if w.val = 8 * g.val + 2 * q.val + 1 then 1 else 0) := by
  unfold Blocks.ddPart
  rw [headSum_at _ _ _ (by omega) (by omega)]
  have at_ : ∀ l v : Fin 128, mulf (B.dy g q g.isLt q.isLt) (B.x g q g.isLt q.isLt) (ix2 l v)
      = K.x l g (hd q v) (ln v) * K.dy l g (hd q v) (ln v) := fun l v => by
    rw [← x_at R, ← dy_at R, mul_comm]
    rfl
  refine congrArg₂ (· + ·) (congrArg (· * _) ?_) (congrArg (· * _) ?_)
  · unfold firstHalf Chunk.dd
    rw [Finset.sum_comm]
    refine Finset.sum_congr rfl fun l _ => Finset.sum_congr rfl fun p _ => ?_
    rw [at_, show hd q ⟨p.val, by omega⟩ = ⟨2 * q.val, by omega⟩ from Fin.ext (show 2 * q.val + p.val / 64 = 2 * q.val by omega),
      show ln ⟨p.val, by omega⟩ = p from Fin.ext (show p.val % 64 = p.val by omega)]
  · unfold lastHalf Chunk.dd
    rw [Finset.sum_comm]
    refine Finset.sum_congr rfl fun l _ => Finset.sum_congr rfl fun p _ => ?_
    rw [at_, show hd q ⟨64 + p.val, by omega⟩ = ⟨2 * q.val + 1, by omega⟩ from
        Fin.ext (show 2 * q.val + (64 + p.val) / 64 = 2 * q.val + 1 by omega),
      show ln ⟨64 + p.val, by omega⟩ = p from Fin.ext (show (64 + p.val) % 64 = p.val by omega)]

/-- A group's part in the gradient of the skip weights. -/
theorem ddGroup_at (g : Fin 4) (x : Row) (w : Fin 128) : B.ddGroup g g.isLt x (ix2 0 w)
    = x (ix2 0 w) + if w.val / 8 = g.val then K.dd g ⟨w.val % 8, by omega⟩ else 0 := by
  have h0 := ddPart_at R g 0 w
  have h1 := ddPart_at R g 1 w
  have h2 := ddPart_at R g 2 w
  have h3 := ddPart_at R g 3 w
  have e : B.ddGroup g g.isLt x (ix2 0 w) = x (ix2 0 w) + B.ddPart g (0 : Fin 4) g.isLt (by decide) (ix2 0 w)
      + B.ddPart g (1 : Fin 4) g.isLt (by decide) (ix2 0 w) + B.ddPart g (2 : Fin 4) g.isLt (by decide) (ix2 0 w)
      + B.ddPart g (3 : Fin 4) g.isLt (by decide) (ix2 0 w) := rfl
  rw [e, h0, h1, h2, h3]
  simp only [add_assoc]
  refine congrArg (x (ix2 0 w) + ·) ?_
  by_cases hw : w.val / 8 = g.val
  · rw [if_pos hw]
    obtain ⟨r, hr, he⟩ : ∃ r : Fin 8, w.val = 8 * g.val + r.val ∧ (⟨w.val % 8, by omega⟩ : Fin 8) = r :=
      ⟨⟨w.val % 8, by omega⟩, by simp only []; omega, rfl⟩
    rw [he]
    simp only [hr]
    fin_cases r <;> simp
  · rw [if_neg hw]
    simp only [Fin.val_zero, Fin.val_one, Fin.val_two, show ((3 : Fin 4) : ℕ) = 3 from rfl]
    rw [if_neg (by omega), if_neg (by omega), if_neg (by omega), if_neg (by omega), if_neg (by omega), if_neg (by omega),
      if_neg (by omega), if_neg (by omega)]
    simp

omit R in
/-- A choice among four groups. -/
theorem sum_groups (f : Fin 4 → Fin 8 → EReal) (w : Fin 128) :
    (((0 + if w.val / 8 = (0 : Fin 4).val then f 0 ⟨w.val % 8, by omega⟩ else 0)
      + if w.val / 8 = (1 : Fin 4).val then f 1 ⟨w.val % 8, by omega⟩ else 0)
      + if w.val / 8 = (2 : Fin 4).val then f 2 ⟨w.val % 8, by omega⟩ else 0)
      + (if w.val / 8 = (3 : Fin 4).val then f 3 ⟨w.val % 8, by omega⟩ else 0)
    = if w.val < 32 then f ⟨w.val / 8 % 4, by omega⟩ ⟨w.val % 8, by omega⟩ else 0 := by
  by_cases hw : w.val < 32
  · rw [if_pos hw]
    obtain ⟨g, hg, he⟩ : ∃ g : Fin 4, w.val / 8 = g.val ∧ (⟨w.val / 8 % 4, by omega⟩ : Fin 4) = g :=
      ⟨⟨w.val / 8 % 4, by omega⟩, by simp only []; omega, rfl⟩
    rw [he]
    simp only [hg]
    fin_cases g <;> simp
  · rw [if_neg hw]
    simp only [Fin.val_zero, Fin.val_one, Fin.val_two, show ((3 : Fin 4) : ℕ) = 3 from rfl]
    rw [if_neg (by omega), if_neg (by omega), if_neg (by omega), if_neg (by omega)]
    simp

/-- The gradient of the skip weights after a point. -/
theorem dd_at (x : Row) (w : Fin 128) : B.dd x (ix2 0 w)
    = x (ix2 0 w) + if w.val < 32 then K.dd ⟨w.val / 8 % 4, by omega⟩ ⟨w.val % 8, by omega⟩ else 0 := by
  rw [← sum_groups K.dd w]
  pointwise [Blocks.dd]
  refine congrArg (x (ix2 0 w) + ·) ?_
  refine (ddGroup_at R 3 _ w).trans (congrArg (· + _) ?_)
  refine (ddGroup_at R 2 _ w).trans (congrArg (· + _) ?_)
  refine (ddGroup_at R 1 _ w).trans (congrArg (· + _) ?_)
  refine (ddGroup_at R 0 _ w).trans ?_
  exact zero_add _

/-- A group's sums over the lanes of a head, the third table. -/
theorem sums_at (g : Fin 4) (l w : Fin 128) : B.sums g g.isLt (ix2 ⟨256 + l.val, by omega⟩ w)
    = if w.val / 8 = g.val then K.ddt u l g ⟨w.val % 8, by omega⟩ else 0 := by
  unfold Blocks.sums
  rw [show ∀ (x : FVec Ideal S384x512 .bf16) (y : FVec Ideal S512x128 .bf16) (i : Fin 384),
    matmul dot_S384x512_S512x128_S384x128_1_0_0_1_n_n none x y (constant S384x128 .f32 0x00000000#32 : FVec Ideal S384x128 .f32) (ix2 i w)
      = ∑ k : Fin 512, x (ix2 i k) * y (ix2 k w) from fun x y i => by pointwise []]
  have below : ∀ (a b c : FVec Ideal S128x512 .f32) (j : Fin 512),
      (truncf .bf16 (concatenate S384x512 0 [⟨S128x512, a⟩, ⟨S128x512, b⟩, ⟨S128x512, c⟩]
        concatenates_S128x512_S128x512_S128x512_S384x512_d0 : FVec Ideal S384x512 .f32) bitsLt_bf16_f32 : FVec Ideal S384x512 .bf16)
        (ix2 ⟨256 + l.val, by omega⟩ j) = c (ix2 l j) := fun a b c j => below_at a b c l j
  simp only [below, lanes_at g.val g.isLt]
  rw [sum_lanes]
  have at_ : ∀ (q : Fin 4) (v : Fin 128), mulf (B.dxs g q g.isLt q.isLt) (B.x g q g.isLt q.isLt) (ix2 l v)
      = K.dxs u l g (hd q v) (ln v) * K.x l g (hd q v) (ln v) := fun q v => by
    rw [← x_at R, ← dxs_at R]
    rfl
  have part : ∀ (q : Fin 4) (v : Fin 128) (o : ℕ), o = 128 * q.val →
      mulf (B.dxs g q g.isLt q.isLt) (B.x g q g.isLt q.isLt) (ix2 l v)
        * (if w.val = 8 * g.val + (o + v.val) / 64 then (1 : EReal) else 0)
      = (fun (r : Fin 8) (p : Fin 64) => if w.val = 8 * g.val + r.val then K.dxs u l g r p * K.x l g r p else 0) (hd q v) (ln v) :=
    fun q v o ho => by
      rw [at_, mul_ite, mul_one, mul_zero]
      have e : 8 * g.val + (o + v.val) / 64 = 8 * g.val + (hd q v).val := by
        show _ = 8 * g.val + (2 * q.val + v.val / 64)
        omega
      simp only [e]
  have total := sum_pairs (fun (r : Fin 8) (p : Fin 64) => if w.val = 8 * g.val + r.val then K.dxs u l g r p * K.x l g r p else 0)
  have last : (∑ r : Fin 8, ∑ p : Fin 64, if w.val = 8 * g.val + r.val then K.dxs u l g r p * K.x l g r p else 0)
      = if w.val / 8 = g.val then K.ddt u l g ⟨w.val % 8, by omega⟩ else 0 := by
    by_cases hw : w.val / 8 = g.val
    · rw [if_pos hw, Finset.sum_eq_single (⟨w.val % 8, by omega⟩ : Fin 8)]
      · unfold Chunk.ddt
        exact Finset.sum_congr rfl fun p _ => if_pos (by simp only []; omega)
      · intro r _ hr
        refine Finset.sum_eq_zero fun p _ => if_neg fun e => hr (Fin.ext ?_)
        show r.val = w.val % 8
        omega
      · simp
    · rw [if_neg hw]
      exact Finset.sum_eq_zero fun r _ => Finset.sum_eq_zero fun p _ => if_neg (by omega)
  rw [← last, ← total]
  refine congrArg₂ (· + ·) (congrArg₂ (· + ·) (congrArg₂ (· + ·) ?_ ?_) ?_) ?_
  · exact Finset.sum_congr rfl fun v _ => (congrArg (· * _) (beside_at _ _ _ _ l v).1).trans (part 0 v 0 rfl)
  · exact Finset.sum_congr rfl fun v _ => (congrArg (· * _) (beside_at _ _ _ _ l v).2.1).trans (part 1 v 128 rfl)
  · exact Finset.sum_congr rfl fun v _ => (congrArg (· * _) (beside_at _ _ _ _ l v).2.2.1).trans (part 2 v 256 rfl)
  · exact Finset.sum_congr rfl fun v _ => (congrArg (· * _) (beside_at _ _ _ _ l v).2.2.2).trans (part 3 v 384 rfl)

/-- The gradient of the step sizes. -/
theorem ddt_at (l w : Fin 128) : B.ddt (ix2 l w) = K.ddtLane u l w := by
  unfold Chunk.ddtLane
  rw [← sum_groups (fun g r => K.ddt u l g r) w]
  have h0 := sums_at R 0 l w
  have h1 := sums_at R 1 l w
  have h2 := sums_at R 2 l w
  have h3 := sums_at R 3 l w
  refine Eq.trans (b := 0 + B.sums 0 (by decide) (ix2 ⟨256 + l.val, by omega⟩ w) + B.sums 1 (by decide) (ix2 ⟨256 + l.val, by omega⟩ w)
    + B.sums 2 (by decide) (ix2 ⟨256 + l.val, by omega⟩ w) + B.sums 3 (by decide) (ix2 ⟨256 + l.val, by omega⟩ w)) ?_ ?_
  · pointwise [Blocks.ddt]
  · exact congrArg₂ (· + ·) (congrArg₂ (· + ·) (congrArg₂ (· + ·) (congrArg (0 + ·) h0) h1) h2) h3

end Cert.KernelIdeal.Scan

end
-- ==== Proof.Blocks.lean ====
/-
  The kernel's blocks in the words of `Model`: each printed piece is one of the model's arrays.
-/
module

public import proofs.«01_k».proof.Proof.Model
public import Idealize.ShloMosaic.Lib.Pipeline.ReadBack

@[expose] public section

set_option maxRecDepth 16384
set_option maxHeartbeats 1000000

noncomputable section

namespace Cert.KernelIdeal.Scan

open Idealize.ShloMosaic
open Cert.KernelIdeal Cert.KernelIdeal.Gen Idealize.ShloMosaic.TcCoe

variable (m : (ℓ : Loc nD τ sig) → Buf (Elt Ideal) ℓ)

/-- The blocks that a grid point reads, with the carried state. -/
def blocks (c : Dev nD) (t : Fin cfg0.N) (h : Vec Ideal S2048x128 .f32) : Blocks :=
  ⟨iblk m c 0 t, iblk m c 1 t, iblk m c 2 t, iblk m c 3 t, iblk m c 4 t, iblk m c 5 t, iblk m c 6 t, iblk m c 7 t, h⟩

/-- The carried state before a point that is not the first. -/
def carried (c : Dev nD) (t : Fin cfg0.N) : Vec Ideal S2048x128 .f32 :=
  (outsAt0 m c (t.val - 1) (Nat.lt_of_le_of_lt (Nat.sub_le _ _) t.isLt)).2.2.2.2

/-- The skip weights' gradient before a point that is not the first. -/
def carriedRow (c : Dev nD) (t : Fin cfg0.N) : Vec Ideal S1x128 .f32 :=
  (outsAt0 m c (t.val - 1) (Nat.lt_of_le_of_lt (Nat.sub_le _ _) t.isLt)).2.2.2.1

/-- The first result's block at the first point. -/
theorem lanes_A (c : Dev nD) (t : Fin cfg0.N) (h : t.val % 64 = 0) (G : S128x3072.Idx → EReal)
    (hx : ∀ g q hg hq (x : S128x128.Idx) (y : S128x3072.Idx), (y 0).val = (x 0).val → (y 1).val = 512 * g + 128 * q + (x 1).val →
      (blocks m c t (k0_pay4 (F := Ideal))).dx g q hg hq x = G y)
    (hb : ∀ g hg (x : S128x128.Idx) (y : S128x3072.Idx), (y 0).val = (x 0).val → (y 1).val = 2048 + 128 * g + (x 1).val →
      (blocks m c t (k0_pay4 (F := Ideal))).db g hg x = G y)
    (hc : ∀ g hg (x : S128x128.Idx) (y : S128x3072.Idx), (y 0).val = (x 0).val → (y 1).val = 2560 + 128 * g + (x 1).val →
      (blocks m c t (k0_pay4 (F := Ideal))).dc g hg x = G y) (y : S128x3072.Idx) :
    ((outsAt0 m c t.val t.isLt).1 : S128x3072.Idx → EReal) y = G y := by
  rw [outsAt0_A m c t h]
  frame_open
  simp (disch := decide) only [↓ View.readCov_skip, ↓ View.readCov_cons_toLoadRect, ↓ View.readCov_fill]
  frame_out
  canon_tiles x h
  case' piece0 => refine Eq.trans ?_ (hc 3 (by decide) x y h0 (by simpa using h1))
  case' piece1 => refine Eq.trans ?_ (hb 3 (by decide) x y h0 (by simpa using h1))
  case' piece2 => refine Eq.trans ?_ (hx 3 3 (by decide) (by decide) x y h0 (by simpa using h1))
  case' piece3 => refine Eq.trans ?_ (hx 3 2 (by decide) (by decide) x y h0 (by simpa using h1))
  case' piece4 => refine Eq.trans ?_ (hx 3 1 (by decide) (by decide) x y h0 (by simpa using h1))
  case' piece5 => refine Eq.trans ?_ (hx 3 0 (by decide) (by decide) x y h0 (by simpa using h1))
  case' piece6 => refine Eq.trans ?_ (hc 2 (by decide) x y h0 (by simpa using h1))
  case' piece7 => refine Eq.trans ?_ (hb 2 (by decide) x y h0 (by simpa using h1))
  case' piece8 => refine Eq.trans ?_ (hx 2 3 (by decide) (by decide) x y h0 (by simpa using h1))
  case' piece9 => refine Eq.trans ?_ (hx 2 2 (by decide) (by decide) x y h0 (by simpa using h1))
  case' piece10 => refine Eq.trans ?_ (hx 2 1 (by decide) (by decide) x y h0 (by simpa using h1))
  case' piece11 => refine Eq.trans ?_ (hx 2 0 (by decide) (by decide) x y h0 (by simpa using h1))
  case' piece12 => refine Eq.trans ?_ (hc 1 (by decide) x y h0 (by simpa using h1))
  case' piece13 => refine Eq.trans ?_ (hb 1 (by decide) x y h0 (by simpa using h1))
  case' piece14 => refine Eq.trans ?_ (hx 1 3 (by decide) (by decide) x y h0 (by simpa using h1))
  case' piece15 => refine Eq.trans ?_ (hx 1 2 (by decide) (by decide) x y h0 (by simpa using h1))
  case' piece16 => refine Eq.trans ?_ (hx 1 1 (by decide) (by decide) x y h0 (by simpa using h1))
  case' piece17 => refine Eq.trans ?_ (hx 1 0 (by decide) (by decide) x y h0 (by simpa using h1))
  case' piece18 => refine Eq.trans ?_ (hc 0 (by decide) x y h0 (by simpa using h1))
  case' piece19 => refine Eq.trans ?_ (hb 0 (by decide) x y h0 (by simpa using h1))
  case' piece20 => refine Eq.trans ?_ (hx 0 3 (by decide) (by decide) x y h0 (by simpa using h1))
  case' piece21 => refine Eq.trans ?_ (hx 0 2 (by decide) (by decide) x y h0 (by simpa using h1))
  case' piece22 => refine Eq.trans ?_ (hx 0 1 (by decide) (by decide) x y h0 (by simpa using h1))
  case' piece23 => refine Eq.trans ?_ (hx 0 0 (by decide) (by decide) x y h0 (by simpa using h1))
  all_goals
    open_payloads
    dsimp only [Blocks.dx, Blocks.dxs, Blocks.dxOwn, Blocks.dxState, Blocks.dy, Blocks.x, Blocks.xs, Blocks.dt2, Blocks.e2,
    Blocks.ds2, Blocks.wide, spread, Blocks.b, Blocks.c, Blocks.cb, Blocks.bc, Blocks.cs, Blocks.last, Blocks.row, Blocks.csT, Blocks.gap,
    lower, upper, halves, Blocks.pairRow, Blocks.pairSq, Blocks.dh, Blocks.st, Blocks.dyE, Blocks.next, Blocks.dyXs, Blocks.dcb0,
    Blocks.dcb1, Blocks.dcb, Blocks.dcPart, Blocks.dbPart, Blocks.dc, Blocks.db, Blocks.viaState, Blocks.sums, Blocks.ddt,
    Blocks.ddPart, Blocks.ddGroup, Blocks.dd, headSum, blocks, carried, carriedRow, zeroSq, table, headOf]
    rfl

/-- The step sizes' block at the first point. -/
theorem steps_A (c : Dev nD) (t : Fin cfg0.N) (h : t.val % 64 = 0) (y : S128x128.Idx) :
    ((outsAt0 m c t.val t.isLt).2.2.1 : S128x128.Idx → EReal) y = (blocks m c t (k0_pay4 (F := Ideal))).ddt y := by
  rw [outsAt0_A m c t h]
  frame_open
  simp (disch := decide) only [↓ View.readCov_skip, ↓ View.readCov_cons_toLoadRect, ↓ View.readCov_fill]
  frame_out
  open_payloads
  dsimp only [Blocks.dx, Blocks.dxs, Blocks.dxOwn, Blocks.dxState, Blocks.dy, Blocks.x, Blocks.xs, Blocks.dt2, Blocks.e2,
    Blocks.ds2, Blocks.wide, spread, Blocks.b, Blocks.c, Blocks.cb, Blocks.bc, Blocks.cs, Blocks.last, Blocks.row, Blocks.csT, Blocks.gap,
    lower, upper, halves, Blocks.pairRow, Blocks.pairSq, Blocks.dh, Blocks.st, Blocks.dyE, Blocks.next, Blocks.dyXs, Blocks.dcb0,
    Blocks.dcb1, Blocks.dcb, Blocks.dcPart, Blocks.dbPart, Blocks.dc, Blocks.db, Blocks.viaState, Blocks.sums, Blocks.ddt,
    Blocks.ddPart, Blocks.ddGroup, Blocks.dd, headSum, blocks, carried, carriedRow, zeroSq, table, headOf] <;> rfl

/-- The skip weights' row at the first point. -/
theorem skip_A (c : Dev nD) (t : Fin cfg0.N) (h : t.val % 64 = 0) (y : S1x128.Idx) :
    ((outsAt0 m c t.val t.isLt).2.2.2.1 : S1x128.Idx → EReal) y = (blocks m c t (k0_pay4 (F := Ideal))).dd (k0_pay5 (F := Ideal)) y := by
  rw [outsAt0_A m c t h]
  frame_open
  simp (disch := decide) only [↓ View.readCov_skip, ↓ View.readCov_cons_toLoadRect, ↓ View.readCov_fill]
  frame_out
  open_payloads
  dsimp only [Blocks.dx, Blocks.dxs, Blocks.dxOwn, Blocks.dxState, Blocks.dy, Blocks.x, Blocks.xs, Blocks.dt2, Blocks.e2,
    Blocks.ds2, Blocks.wide, spread, Blocks.b, Blocks.c, Blocks.cb, Blocks.bc, Blocks.cs, Blocks.last, Blocks.row, Blocks.csT, Blocks.gap,
    lower, upper, halves, Blocks.pairRow, Blocks.pairSq, Blocks.dh, Blocks.st, Blocks.dyE, Blocks.next, Blocks.dyXs, Blocks.dcb0,
    Blocks.dcb1, Blocks.dcb, Blocks.dcPart, Blocks.dbPart, Blocks.dc, Blocks.db, Blocks.viaState, Blocks.sums, Blocks.ddt,
    Blocks.ddPart, Blocks.ddGroup, Blocks.dd, headSum, blocks, carried, carriedRow, zeroSq, table, headOf] <;> rfl

/-- The carried state after the first point. -/
theorem state_A (c : Dev nD) (t : Fin cfg0.N) (h : t.val % 64 = 0) (G : S2048x128.Idx → EReal)
    (hn : ∀ g q hg hq (x : S128x128.Idx) (y : S2048x128.Idx), (y 0).val = 512 * g + 128 * q + (x 0).val → (y 1).val = (x 1).val →
      (blocks m c t (k0_pay4 (F := Ideal))).next g q hg hq x = G y) (y : S2048x128.Idx) :
    ((outsAt0 m c t.val t.isLt).2.2.2.2 : S2048x128.Idx → EReal) y = G y := by
  rw [outsAt0_A m c t h]
  frame_open
  simp (disch := decide) only [↓ View.readCov_skip, ↓ View.readCov_cons_toLoadRect, ↓ View.readCov_fill]
  frame_out

  refine View.canon_append_of_piecesOf (Val := Elt Ideal) (e := .f32) G [_] [_, _, _, _, _, _, _, _, _, _, _, _, _, _, _, _] ?_ y ?_
  case refine_2 => exact View.cover_of_tiledL _ ![128, 128] (by sl_kernel_rfl) y
  refine ⟨fun x => Eq.trans ?_ (hn 3 3 (by decide) (by decide) x _ (by simp [ValueKit.rect_emb_unit_val]) (by simp [ValueKit.rect_emb_unit_val])),
    fun x => Eq.trans ?_ (hn 3 2 (by decide) (by decide) x _ (by simp [ValueKit.rect_emb_unit_val]) (by simp [ValueKit.rect_emb_unit_val])),
    fun x => Eq.trans ?_ (hn 3 1 (by decide) (by decide) x _ (by simp [ValueKit.rect_emb_unit_val]) (by simp [ValueKit.rect_emb_unit_val])),
    fun x => Eq.trans ?_ (hn 3 0 (by decide) (by decide) x _ (by simp [ValueKit.rect_emb_unit_val]) (by simp [ValueKit.rect_emb_unit_val])),
    fun x => Eq.trans ?_ (hn 2 3 (by decide) (by decide) x _ (by simp [ValueKit.rect_emb_unit_val]) (by simp [ValueKit.rect_emb_unit_val])),
    fun x => Eq.trans ?_ (hn 2 2 (by decide) (by decide) x _ (by simp [ValueKit.rect_emb_unit_val]) (by simp [ValueKit.rect_emb_unit_val])),
    fun x => Eq.trans ?_ (hn 2 1 (by decide) (by decide) x _ (by simp [ValueKit.rect_emb_unit_val]) (by simp [ValueKit.rect_emb_unit_val])),
    fun x => Eq.trans ?_ (hn 2 0 (by decide) (by decide) x _ (by simp [ValueKit.rect_emb_unit_val]) (by simp [ValueKit.rect_emb_unit_val])),
    fun x => Eq.trans ?_ (hn 1 3 (by decide) (by decide) x _ (by simp [ValueKit.rect_emb_unit_val]) (by simp [ValueKit.rect_emb_unit_val])),
    fun x => Eq.trans ?_ (hn 1 2 (by decide) (by decide) x _ (by simp [ValueKit.rect_emb_unit_val]) (by simp [ValueKit.rect_emb_unit_val])),
    fun x => Eq.trans ?_ (hn 1 1 (by decide) (by decide) x _ (by simp [ValueKit.rect_emb_unit_val]) (by simp [ValueKit.rect_emb_unit_val])),
    fun x => Eq.trans ?_ (hn 1 0 (by decide) (by decide) x _ (by simp [ValueKit.rect_emb_unit_val]) (by simp [ValueKit.rect_emb_unit_val])),
    fun x => Eq.trans ?_ (hn 0 3 (by decide) (by decide) x _ (by simp [ValueKit.rect_emb_unit_val]) (by simp [ValueKit.rect_emb_unit_val])),
    fun x => Eq.trans ?_ (hn 0 2 (by decide) (by decide) x _ (by simp [ValueKit.rect_emb_unit_val]) (by simp [ValueKit.rect_emb_unit_val])),
    fun x => Eq.trans ?_ (hn 0 1 (by decide) (by decide) x _ (by simp [ValueKit.rect_emb_unit_val]) (by simp [ValueKit.rect_emb_unit_val])),
    fun x => Eq.trans ?_ (hn 0 0 (by decide) (by decide) x _ (by simp [ValueKit.rect_emb_unit_val]) (by simp [ValueKit.rect_emb_unit_val])), trivial⟩
  all_goals
    open_payloads
    dsimp only [Blocks.dx, Blocks.dxs, Blocks.dxOwn, Blocks.dxState, Blocks.dy, Blocks.x, Blocks.xs, Blocks.dt2, Blocks.e2,
    Blocks.ds2, Blocks.wide, spread, Blocks.b, Blocks.c, Blocks.cb, Blocks.bc, Blocks.cs, Blocks.last, Blocks.row, Blocks.csT, Blocks.gap,
    lower, upper, halves, Blocks.pairRow, Blocks.pairSq, Blocks.dh, Blocks.st, Blocks.dyE, Blocks.next, Blocks.dyXs, Blocks.dcb0,
    Blocks.dcb1, Blocks.dcb, Blocks.dcPart, Blocks.dbPart, Blocks.dc, Blocks.db, Blocks.viaState, Blocks.sums, Blocks.ddt,
    Blocks.ddPart, Blocks.ddGroup, Blocks.dd, headSum, blocks, carried, carriedRow, zeroSq, table, headOf]
    rfl

/-- The first result's block at a point that is not the first. -/
theorem lanes_B (c : Dev nD) (t : Fin cfg0.N) (h : ¬ t.val % 64 = 0) (G : S128x3072.Idx → EReal)
    (hx : ∀ g q hg hq (x : S128x128.Idx) (y : S128x3072.Idx), (y 0).val = (x 0).val → (y 1).val = 512 * g + 128 * q + (x 1).val →
      (blocks m c t (carried m c t)).dx g q hg hq x = G y)
    (hb : ∀ g hg (x : S128x128.Idx) (y : S128x3072.Idx), (y 0).val = (x 0).val → (y 1).val = 2048 + 128 * g + (x 1).val →
      (blocks m c t (carried m c t)).db g hg x = G y)
    (hc : ∀ g hg (x : S128x128.Idx) (y : S128x3072.Idx), (y 0).val = (x 0).val → (y 1).val = 2560 + 128 * g + (x 1).val →
      (blocks m c t (carried m c t)).dc g hg x = G y) (y : S128x3072.Idx) :
    ((outsAt0 m c t.val t.isLt).1 : S128x3072.Idx → EReal) y = G y := by
  rw [outsAt0_B m c t h]
  frame_open
  simp (disch := decide) only [↓ View.readCov_skip, ↓ View.readCov_cons_toLoadRect, ↓ View.readCov_fill]
  frame_out
  simp only [read_unread_whole]
  canon_tiles x h
  case' piece0 => refine Eq.trans ?_ (hc 3 (by decide) x y h0 (by simpa using h1))
  case' piece1 => refine Eq.trans ?_ (hb 3 (by decide) x y h0 (by simpa using h1))
  case' piece2 => refine Eq.trans ?_ (hx 3 3 (by decide) (by decide) x y h0 (by simpa using h1))
  case' piece3 => refine Eq.trans ?_ (hx 3 2 (by decide) (by decide) x y h0 (by simpa using h1))
  case' piece4 => refine Eq.trans ?_ (hx 3 1 (by decide) (by decide) x y h0 (by simpa using h1))
  case' piece5 => refine Eq.trans ?_ (hx 3 0 (by decide) (by decide) x y h0 (by simpa using h1))
  case' piece6 => refine Eq.trans ?_ (hc 2 (by decide) x y h0 (by simpa using h1))
  case' piece7 => refine Eq.trans ?_ (hb 2 (by decide) x y h0 (by simpa using h1))
  case' piece8 => refine Eq.trans ?_ (hx 2 3 (by decide) (by decide) x y h0 (by simpa using h1))
  case' piece9 => refine Eq.trans ?_ (hx 2 2 (by decide) (by decide) x y h0 (by simpa using h1))
  case' piece10 => refine Eq.trans ?_ (hx 2 1 (by decide) (by decide) x y h0 (by simpa using h1))
  case' piece11 => refine Eq.trans ?_ (hx 2 0 (by decide) (by decide) x y h0 (by simpa using h1))
  case' piece12 => refine Eq.trans ?_ (hc 1 (by decide) x y h0 (by simpa using h1))
  case' piece13 => refine Eq.trans ?_ (hb 1 (by decide) x y h0 (by simpa using h1))
  case' piece14 => refine Eq.trans ?_ (hx 1 3 (by decide) (by decide) x y h0 (by simpa using h1))
  case' piece15 => refine Eq.trans ?_ (hx 1 2 (by decide) (by decide) x y h0 (by simpa using h1))
  case' piece16 => refine Eq.trans ?_ (hx 1 1 (by decide) (by decide) x y h0 (by simpa using h1))
  case' piece17 => refine Eq.trans ?_ (hx 1 0 (by decide) (by decide) x y h0 (by simpa using h1))
  case' piece18 => refine Eq.trans ?_ (hc 0 (by decide) x y h0 (by simpa using h1))
  case' piece19 => refine Eq.trans ?_ (hb 0 (by decide) x y h0 (by simpa using h1))
  case' piece20 => refine Eq.trans ?_ (hx 0 3 (by decide) (by decide) x y h0 (by simpa using h1))
  case' piece21 => refine Eq.trans ?_ (hx 0 2 (by decide) (by decide) x y h0 (by simpa using h1))
  case' piece22 => refine Eq.trans ?_ (hx 0 1 (by decide) (by decide) x y h0 (by simpa using h1))
  case' piece23 => refine Eq.trans ?_ (hx 0 0 (by decide) (by decide) x y h0 (by simpa using h1))
  all_goals
    open_payloads
    dsimp only [Blocks.dx, Blocks.dxs, Blocks.dxOwn, Blocks.dxState, Blocks.dy, Blocks.x, Blocks.xs, Blocks.dt2, Blocks.e2,
    Blocks.ds2, Blocks.wide, spread, Blocks.b, Blocks.c, Blocks.cb, Blocks.bc, Blocks.cs, Blocks.last, Blocks.row, Blocks.csT, Blocks.gap,
    lower, upper, halves, Blocks.pairRow, Blocks.pairSq, Blocks.dh, Blocks.st, Blocks.dyE, Blocks.next, Blocks.dyXs, Blocks.dcb0,
    Blocks.dcb1, Blocks.dcb, Blocks.dcPart, Blocks.dbPart, Blocks.dc, Blocks.db, Blocks.viaState, Blocks.sums, Blocks.ddt,
    Blocks.ddPart, Blocks.ddGroup, Blocks.dd, headSum, blocks, carried, carriedRow, zeroSq, table, headOf]
    rfl

/-- The step sizes' block at a point that is not the first. -/
theorem steps_B (c : Dev nD) (t : Fin cfg0.N) (h : ¬ t.val % 64 = 0) (y : S128x128.Idx) :
    ((outsAt0 m c t.val t.isLt).2.2.1 : S128x128.Idx → EReal) y = (blocks m c t (carried m c t)).ddt y := by
  rw [outsAt0_B m c t h]
  frame_open
  simp (disch := decide) only [↓ View.readCov_skip, ↓ View.readCov_cons_toLoadRect, ↓ View.readCov_fill]
  frame_out
  simp only [read_unread_whole]
  open_payloads
  dsimp only [Blocks.dx, Blocks.dxs, Blocks.dxOwn, Blocks.dxState, Blocks.dy, Blocks.x, Blocks.xs, Blocks.dt2, Blocks.e2,
    Blocks.ds2, Blocks.wide, spread, Blocks.b, Blocks.c, Blocks.cb, Blocks.bc, Blocks.cs, Blocks.last, Blocks.row, Blocks.csT, Blocks.gap,
    lower, upper, halves, Blocks.pairRow, Blocks.pairSq, Blocks.dh, Blocks.st, Blocks.dyE, Blocks.next, Blocks.dyXs, Blocks.dcb0,
    Blocks.dcb1, Blocks.dcb, Blocks.dcPart, Blocks.dbPart, Blocks.dc, Blocks.db, Blocks.viaState, Blocks.sums, Blocks.ddt,
    Blocks.ddPart, Blocks.ddGroup, Blocks.dd, headSum, blocks, carried, carriedRow, zeroSq, table, headOf] <;> rfl

/-- The skip weights' row at a point that is not the first. -/
theorem skip_B (c : Dev nD) (t : Fin cfg0.N) (h : ¬ t.val % 64 = 0) (y : S1x128.Idx) :
    ((outsAt0 m c t.val t.isLt).2.2.2.1 : S1x128.Idx → EReal) y = (blocks m c t (carried m c t)).dd (carriedRow m c t) y := by
  rw [outsAt0_B m c t h]
  frame_open
  simp (disch := decide) only [↓ View.readCov_skip, ↓ View.readCov_cons_toLoadRect, ↓ View.readCov_fill]
  frame_out
  open_payloads
  dsimp only [Blocks.dx, Blocks.dxs, Blocks.dxOwn, Blocks.dxState, Blocks.dy, Blocks.x, Blocks.xs, Blocks.dt2, Blocks.e2,
    Blocks.ds2, Blocks.wide, spread, Blocks.b, Blocks.c, Blocks.cb, Blocks.bc, Blocks.cs, Blocks.last, Blocks.row, Blocks.csT, Blocks.gap,
    lower, upper, halves, Blocks.pairRow, Blocks.pairSq, Blocks.dh, Blocks.st, Blocks.dyE, Blocks.next, Blocks.dyXs, Blocks.dcb0,
    Blocks.dcb1, Blocks.dcb, Blocks.dcPart, Blocks.dbPart, Blocks.dc, Blocks.db, Blocks.viaState, Blocks.sums, Blocks.ddt,
    Blocks.ddPart, Blocks.ddGroup, Blocks.dd, headSum, blocks, carried, carriedRow, zeroSq, table, headOf] <;> rfl

/-- The carried state after a point that is not the first. -/
theorem state_B (c : Dev nD) (t : Fin cfg0.N) (h : ¬ t.val % 64 = 0) (G : S2048x128.Idx → EReal)
    (hn : ∀ g q hg hq (x : S128x128.Idx) (y : S2048x128.Idx), (y 0).val = 512 * g + 128 * q + (x 0).val → (y 1).val = (x 1).val →
      (blocks m c t (carried m c t)).next g q hg hq x = G y) (y : S2048x128.Idx) :
    ((outsAt0 m c t.val t.isLt).2.2.2.2 : S2048x128.Idx → EReal) y = G y := by
  rw [outsAt0_B m c t h]
  frame_open
  simp (disch := decide) only [↓ View.readCov_skip, ↓ View.readCov_cons_toLoadRect, ↓ View.readCov_fill]
  frame_out
  simp only [read_unread_whole]
  canon_tiles x h
  case' piece0 => refine Eq.trans ?_ (hn 3 3 (by decide) (by decide) x y (by simpa using h0) (by simpa using h1))
  case' piece1 => refine Eq.trans ?_ (hn 3 2 (by decide) (by decide) x y (by simpa using h0) (by simpa using h1))
  case' piece2 => refine Eq.trans ?_ (hn 3 1 (by decide) (by decide) x y (by simpa using h0) (by simpa using h1))
  case' piece3 => refine Eq.trans ?_ (hn 3 0 (by decide) (by decide) x y (by simpa using h0) (by simpa using h1))
  case' piece4 => refine Eq.trans ?_ (hn 2 3 (by decide) (by decide) x y (by simpa using h0) (by simpa using h1))
  case' piece5 => refine Eq.trans ?_ (hn 2 2 (by decide) (by decide) x y (by simpa using h0) (by simpa using h1))
  case' piece6 => refine Eq.trans ?_ (hn 2 1 (by decide) (by decide) x y (by simpa using h0) (by simpa using h1))
  case' piece7 => refine Eq.trans ?_ (hn 2 0 (by decide) (by decide) x y (by simpa using h0) (by simpa using h1))
  case' piece8 => refine Eq.trans ?_ (hn 1 3 (by decide) (by decide) x y (by simpa using h0) (by simpa using h1))
  case' piece9 => refine Eq.trans ?_ (hn 1 2 (by decide) (by decide) x y (by simpa using h0) (by simpa using h1))
  case' piece10 => refine Eq.trans ?_ (hn 1 1 (by decide) (by decide) x y (by simpa using h0) (by simpa using h1))
  case' piece11 => refine Eq.trans ?_ (hn 1 0 (by decide) (by decide) x y (by simpa using h0) (by simpa using h1))
  case' piece12 => refine Eq.trans ?_ (hn 0 3 (by decide) (by decide) x y (by simpa using h0) (by simpa using h1))
  case' piece13 => refine Eq.trans ?_ (hn 0 2 (by decide) (by decide) x y (by simpa using h0) (by simpa using h1))
  case' piece14 => refine Eq.trans ?_ (hn 0 1 (by decide) (by decide) x y (by simpa using h0) (by simpa using h1))
  case' piece15 => refine Eq.trans ?_ (hn 0 0 (by decide) (by decide) x y (by simpa using h0) (by simpa using h1))
  all_goals
    open_payloads
    dsimp only [Blocks.dx, Blocks.dxs, Blocks.dxOwn, Blocks.dxState, Blocks.dy, Blocks.x, Blocks.xs, Blocks.dt2, Blocks.e2,
    Blocks.ds2, Blocks.wide, spread, Blocks.b, Blocks.c, Blocks.cb, Blocks.bc, Blocks.cs, Blocks.last, Blocks.row, Blocks.csT, Blocks.gap,
    lower, upper, halves, Blocks.pairRow, Blocks.pairSq, Blocks.dh, Blocks.st, Blocks.dyE, Blocks.next, Blocks.dyXs, Blocks.dcb0,
    Blocks.dcb1, Blocks.dcb, Blocks.dcPart, Blocks.dbPart, Blocks.dc, Blocks.db, Blocks.viaState, Blocks.sums, Blocks.ddt,
    Blocks.ddPart, Blocks.ddGroup, Blocks.dd, headSum, blocks, carried, carriedRow, zeroSq, table, headOf]
    rfl

end Cert.KernelIdeal.Scan

end
-- ==== Proof.KernelFold.lean ====
/-
  The kernel's grid: the carried state and the row of the skip weights' gradient point by point, then the result arrays.
-/
module

public import proofs.«01_k».proof.Proof.Sums
public import proofs.«01_k».proof.Proof.Blocks

@[expose] public section

set_option maxRecDepth 16384

noncomputable section

namespace Cert.KernelIdeal.Scan

open Idealize.ShloMosaic
open Cert.KernelIdeal Cert.KernelIdeal.Gen Idealize.ShloMosaic.TcCoe
open Cert.Scan (Chunk Grad chunkOf rev gradAt ddAt outX outDt outD)

variable (m : (ℓ : Loc nD τ sig) → Buf (Elt Ideal) ℓ)

/-- The chunks of a device's arguments. -/
def seq (c : Dev nD) : Fin 64 → Chunk :=
  chunkOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- Where each window's block lies at a point. -/
theorem idx : ∀ t : Fin cfg0.N, win0_0.index t = ![63 - t.val, 0] ∧ win0_1.index t = ![63 - t.val, 0] ∧ win0_2.index t = ![0, 63 - t.val]
    ∧ win0_3.index t = ![0, 0] ∧ win0_4.index t = ![0, 0] ∧ win0_5.index t = ![0, 0] ∧ win0_6.index t = ![63 - t.val, 0, 0]
    ∧ win0_7.index t = ![63 - t.val, 0] ∧ win0_8.index t = ![63 - t.val, 0] ∧ win0_10.index t = ![63 - t.val, 0]
    ∧ win0_11.index t = ![0, 0] :=
  (by decide +kernel : ∀ t : Fin grid0.N, _)

/-- The block of the values and of the projections. -/
theorem rep_x (c : Dev nD) (t : Fin cfg0.N) (l : Fin 128) (q : Fin 3072) :
    (iblk m c 0 t : S128x3072.Idx → EReal) (ix2 l q)
      = (m ((c : Thread nD τ).loc main_arg0) : S8192x3072.Idx → EReal) (ix2 ⟨(63 - t.val) * 128 + l.val, by omega⟩ q) := by
  blk_ext [iblk, V, idx t]

/-- A matrix padded behind its columns, read inside. -/
theorem pad_cols (x : FVec Ideal S8192x32 .f32) (v : FVec Ideal S_ .f32) (i : S8192x128.Idx) (j : S8192x32.Idx)
    (h0 : (i 0).val = (j 0).val) (h1 : (i 1).val = (j 1).val) :
    pad S8192x128 ![0, 0] ![0, 96] ![0, 0] x v pads_S8192x32_S8192x128_000_0960 h_S_ i = x j := by
  have hj : (j 1).val < 32 := (j 1).isLt
  pointwise []
  rw [dif_pos (lt_of_eq_of_lt h1 hj)]
  blk_ext

/-- A vector padded behind, read inside. -/
theorem pad_end (x : FVec Ideal S32 .f32) (v : FVec Ideal S_ .f32) (i : S128.Idx) (j : S32.Idx) (h0 : (i 0).val = (j 0).val) :
    pad S128 ![0] ![96] ![0] x v pads_S32_S128_0960 h_S_ i = x j := by
  have hj : (j 0).val < 32 := (j 0).isLt
  pointwise []
  rw [dif_pos (lt_of_eq_of_lt h0 hj)]
  blk_ext

/-- The step sizes' block. -/
theorem rep_dt (c : Dev nD) (t : Fin cfg0.N) (l : Fin 128) (q : Fin 32) :
    (iblk m c 1 t : S128x128.Idx → EReal) (ix2 l ⟨q.val, by omega⟩)
      = (m ((c : Thread nD τ).loc main_arg1) : S8192x32.Idx → EReal) (ix2 ⟨(63 - t.val) * 128 + l.val, by omega⟩ q) := by
  blk_simp [iblk, idx t]
  simp only [V, hostOps0, hostOps0_1, hostOps0_2, hostOps0_3, hostOps0_4, hostOps0_5, hostOps0_6, List.flatten_cons, List.flatten_nil,
    List.cons_append, List.nil_append]
  entry_read
  exact pad_cols _ _ _ _ (by blk_simp [idx t]) (by blk_simp [idx t])

/-- The step sizes' block, transposed. -/
theorem rep_dtT (c : Dev nD) (t : Fin cfg0.N) (l : Fin 128) (q : Fin 32) :
    (iblk m c 2 t : S32x128.Idx → EReal) (ix2 q l)
      = (m ((c : Thread nD τ).loc main_arg1) : S8192x32.Idx → EReal) (ix2 ⟨(63 - t.val) * 128 + l.val, by omega⟩ q) := by
  blk_simp [iblk, idx t]
  simp only [V, hostOps0, hostOps0_1, hostOps0_2, hostOps0_3, hostOps0_4, hostOps0_5, hostOps0_6, List.flatten_cons, List.flatten_nil,
    List.cons_append, List.nil_append]
  entry_read
  pointwise []
  exact pad_cols _ _ _ _ (by blk_simp [idx t]) (by blk_simp [idx t])

/-- The decay rates, along the lanes. -/
theorem rep_a (c : Dev nD) (t : Fin cfg0.N) (q : Fin 32) :
    (iblk m c 3 t : S1x128.Idx → EReal) (ix2 0 ⟨q.val, by omega⟩)
      = (m ((c : Thread nD τ).loc main_arg2) : S32.Idx → EReal) (ix1 q) := by
  blk_simp [iblk, idx t]
  simp only [V, hostOps0, hostOps0_1, hostOps0_2, hostOps0_3, hostOps0_4, hostOps0_5, hostOps0_6, List.flatten_cons, List.flatten_nil,
    List.cons_append, List.nil_append]
  entry_read
  pointwise []
  exact pad_end _ _ _ _ (by blk_simp [idx t])

/-- The decay rates, down the rows. -/
theorem rep_aT (c : Dev nD) (t : Fin cfg0.N) (q : Fin 32) :
    (iblk m c 4 t : S32x1.Idx → EReal) (ix2 q 0)
      = (m ((c : Thread nD τ).loc main_arg2) : S32.Idx → EReal) (ix1 q) := by
  blk_simp [iblk, idx t]
  simp only [V, hostOps0, hostOps0_1, hostOps0_2, hostOps0_3, hostOps0_4, hostOps0_5, hostOps0_6, List.flatten_cons, List.flatten_nil,
    List.cons_append, List.nil_append]
  entry_read
  pointwise []
  blk_ext [idx t]

/-- The skip weights, along the lanes. -/
theorem rep_d (c : Dev nD) (t : Fin cfg0.N) (q : Fin 32) :
    (iblk m c 5 t : S1x128.Idx → EReal) (ix2 0 ⟨q.val, by omega⟩)
      = (m ((c : Thread nD τ).loc main_arg3) : S32.Idx → EReal) (ix1 q) := by
  blk_simp [iblk, idx t]
  simp only [V, hostOps0, hostOps0_1, hostOps0_2, hostOps0_3, hostOps0_4, hostOps0_5, hostOps0_6, List.flatten_cons, List.flatten_nil,
    List.cons_append, List.nil_append]
  entry_read
  pointwise []
  exact pad_end _ _ _ _ (by blk_simp [idx t])

/-- The block of the saved states. -/
theorem rep_st (c : Dev nD) (t : Fin cfg0.N) (v : Fin 2048) (n : Fin 128) :
    (iblk m c 6 t : S1x2048x128.Idx → EReal) (ix3 0 v n)
      = (m ((c : Thread nD τ).loc main_arg4) : S64x2048x128.Idx → EReal) (ix3 (rev t.val) v n) := by
  rw [show rev t.val = ⟨63 - t.val, by omega⟩ from rfl]
  blk_ext [iblk, V, idx t]

/-- The block of the upstream gradient. -/
theorem rep_dy (c : Dev nD) (t : Fin cfg0.N) (l : Fin 128) (q : Fin 2048) :
    (iblk m c 7 t : S128x2048.Idx → EReal) (ix2 l q)
      = (m ((c : Thread nD τ).loc main_arg5) : S8192x2048.Idx → EReal) (ix2 ⟨(63 - t.val) * 128 + l.val, by omega⟩ q) := by
  blk_ext [iblk, V, idx t]

/-- Running sums of finite products are finite. -/
theorem cs_finite (K : Chunk) (hdt : ∀ l g r, K.dt l g r ≠ ⊤ ∧ K.dt l g r ≠ ⊥) (ha : ∀ g r, K.a g r ≠ ⊤ ∧ K.a g r ≠ ⊥)
    (g : Fin 4) (r : Fin 8) (l : Fin 128) : K.cs g r l ≠ ⊤ ∧ K.cs g r l ≠ ⊥ := by
  have key : ∀ i : Fin 128, ∃ x : ℝ, (if i ≤ l then K.dt i g r * K.a g r else 0) = (x : EReal) := by
    intro i
    by_cases h : i ≤ l
    · refine ⟨(K.dt i g r).toReal * (K.a g r).toReal, ?_⟩
      rw [if_pos h, EReal.coe_mul, EReal.coe_toReal (hdt i g r).1 (hdt i g r).2, EReal.coe_toReal (ha g r).1 (ha g r).2]
    · exact ⟨0, by rw [if_neg h, EReal.coe_zero]⟩
  choose f hf using key
  have e : K.cs g r l = ((∑ i, f i : ℝ) : EReal) := by
    rw [show ((∑ i, f i : ℝ) : EReal) = ∑ i, (f i : EReal) from
      map_sum (⟨⟨fun x : ℝ => (x : EReal), EReal.coe_zero⟩, EReal.coe_add⟩ : ℝ →+ EReal) f Finset.univ]
    exact Finset.sum_congr rfl fun i _ => hf i
  rw [e]
  exact ⟨EReal.coe_ne_top _, EReal.coe_ne_bot _⟩

/-- A state's gradient, head above head. -/
def stateFn (u : Grad) (y : S2048x128.Idx) : EReal :=
  u ⟨(y 0).val / 512 % 4, by omega⟩ ⟨(y 0).val / 64 % 8, by omega⟩ ⟨(y 0).val % 64, by omega⟩ (y 1)

/-- The skip weights' gradient along the lanes, zero behind the heads. -/
def rowFn (d : Fin 4 → Fin 8 → EReal) (y : S1x128.Idx) : EReal :=
  if (y 1).val < 32 then d ⟨(y 1).val / 8 % 4, by omega⟩ ⟨(y 1).val % 8, by omega⟩ else 0

/-- Equal coordinates, equal entries. -/
theorem grad_congr (u : Grad) {g g' : Fin 4} {r r' : Fin 8} {p p' : Fin 64} {n n' : Fin 128} (hg : g.val = g'.val)
    (hr : r.val = r'.val) (hp : p.val = p'.val) (hn : n.val = n'.val) : u g r p n = u g' r' p' n' := by
  rw [Fin.ext hg, Fin.ext hr, Fin.ext hp, Fin.ext hn]

/-- An index of a matrix is its two coordinates. -/
theorem eta2 {A C : ℕ} (x : (⟨2, ![A, C]⟩ : Shape).Idx) : x = ix2 (x 0) (x 1) := by
  funext a
  match a with
  | 0 => rfl
  | 1 => rfl

/-- Every entry is a finite number. -/
def Bounded {S : Shape} (x : S.Idx → EReal) : Prop := ∀ i, x i ≠ ⊤ ∧ x i ≠ ⊥

/-- A device's step sizes and decay rates are finite. -/
def Finite (c : Dev nD) : Prop :=
  Bounded (S := S8192x32) (m ((c : Thread nD τ).loc main_arg1)) ∧ Bounded (S := S32) (m ((c : Thread nD τ).loc main_arg2))

/-- A point's blocks hold its chunk. -/
theorem rep (c : Dev nD) (fin : Finite m c) (t : Fin cfg0.N) (h : Vec Ideal S2048x128 .f32) (u : Grad)
    (hh : ∀ y : S2048x128.Idx, (h y : EReal) = stateFn u y) : Rep (blocks m c t h) (seq m c (rev t.val)) u where
  x l g r p := rep_x m c t l _
  b l g n := rep_x m c t l _
  c l g n := rep_x m c t l _
  dt l g r := rep_dt m c t l ⟨g.val * 8 + r.val, by omega⟩
  dtT l g r := rep_dtT m c t l ⟨g.val * 8 + r.val, by omega⟩
  a g r := rep_a m c t ⟨g.val * 8 + r.val, by omega⟩
  aT g r := rep_aT m c t ⟨g.val * 8 + r.val, by omega⟩
  d g r := rep_d m c t ⟨g.val * 8 + r.val, by omega⟩
  st g r p n := rep_st m c t _ n
  dy l g r p := rep_dy m c t l _
  h g r p n := (hh _).trans (grad_congr u
    (show (g.val * 512 + r.val * 64 + p.val) / 512 % 4 = g.val by omega)
    (show (g.val * 512 + r.val * 64 + p.val) / 64 % 8 = r.val by omega)
    (show (g.val * 512 + r.val * 64 + p.val) % 64 = p.val by omega) rfl)
  finite := cs_finite _ (fun _ _ _ => fin.1 _) (fun _ _ => fin.2 _)

section Point
variable {B : Blocks} {K : Chunk} {u : Grad} (R : Rep B K u)
include R

/-- The next state's rows. -/
theorem next_flat (g q : ℕ) (hg : g < 4) (hq : q < 4) (x : S128x128.Idx) (y : S2048x128.Idx)
    (h0 : (y 0).val = 512 * g + 128 * q + (x 0).val) (h1 : (y 1).val = (x 1).val) : B.next g q hg hq x = stateFn (K.next u) y := by
  have hx : (x 0).val < 128 := (x 0).isLt
  rw [eta2 x]
  refine (next_at R ⟨g, hg⟩ ⟨q, hq⟩ (x 0) (x 1)).trans (grad_congr _ ?_ ?_ ?_ h1.symm)
  · show g = (y 0).val / 512 % 4
    omega
  · show 2 * q + (x 0).val / 64 = (y 0).val / 64 % 8
    omega
  · show (x 0).val % 64 = (y 0).val % 64
    omega

/-- The lanes of the values' gradient. -/
theorem dx_flat (g q : ℕ) (hg : g < 4) (hq : q < 4) (x : S128x128.Idx) (y : S128x3072.Idx)
    (h0 : (y 0).val = (x 0).val) (h1 : (y 1).val = 512 * g + 128 * q + (x 1).val) : B.dx g q hg hq x = K.lane u (y 0) (y 1) := by
  have hx : (x 1).val < 128 := (x 1).isLt
  rw [eta2 x]
  refine (dx_at R ⟨g, hg⟩ ⟨q, hq⟩ (x 0) (x 1)).trans ?_
  unfold Chunk.lane
  rw [if_pos (by omega), show y 0 = x 0 from Fin.ext h0]
  have e : ∀ (a a' : Fin 4) (b b' : Fin 8) (d d' : Fin 64), a.val = a'.val → b.val = b'.val → d.val = d'.val →
      K.dx u (x 0) a b d = K.dx u (x 0) a' b' d' := fun a a' b b' d d' ha hb hd => by rw [Fin.ext ha, Fin.ext hb, Fin.ext hd]
  refine e _ _ _ _ _ _ ?_ ?_ ?_
  · show g = (y 1).val / 512 % 4
    omega
  · show 2 * q + (x 1).val / 64 = (y 1).val / 64 % 8
    omega
  · show (x 1).val % 64 = (y 1).val % 64
    omega

/-- The lanes of the input projection's gradient. -/
theorem db_flat (g : ℕ) (hg : g < 4) (x : S128x128.Idx) (y : S128x3072.Idx)
    (h0 : (y 0).val = (x 0).val) (h1 : (y 1).val = 2048 + 128 * g + (x 1).val) : B.db g hg x = K.lane u (y 0) (y 1) := by
  have hx : (x 1).val < 128 := (x 1).isLt
  rw [eta2 x]
  refine (db_at R ⟨g, hg⟩ (x 0) (x 1)).trans ?_
  unfold Chunk.lane
  rw [if_neg (by omega), if_pos (by omega), show y 0 = x 0 from Fin.ext h0]
  refine congrArg₂ (K.db u (x 0)) (Fin.ext ?_) (Fin.ext ?_)
  · show g = ((y 1).val - 2048) / 128 % 4
    omega
  · show (x 1).val = (y 1).val % 128
    omega

/-- The lanes of the output projection's gradient. -/
theorem dc_flat (g : ℕ) (hg : g < 4) (x : S128x128.Idx) (y : S128x3072.Idx)
    (h0 : (y 0).val = (x 0).val) (h1 : (y 1).val = 2560 + 128 * g + (x 1).val) : B.dc g hg x = K.lane u (y 0) (y 1) := by
  have hx : (x 1).val < 128 := (x 1).isLt
  rw [eta2 x]
  refine (dc_at R ⟨g, hg⟩ (x 0) (x 1)).trans ?_
  unfold Chunk.lane
  rw [if_neg (by omega), if_neg (by omega), show y 0 = x 0 from Fin.ext h0]
  refine congrArg₂ (K.dc (x 0)) (Fin.ext ?_) (Fin.ext ?_)
  · show g = ((y 1).val - 2560) / 128 % 4
    omega
  · show (x 1).val = (y 1).val % 128
    omega

/-- The row of the skip weights' gradient. -/
theorem dd_flat (v : Row) (d : Fin 4 → Fin 8 → EReal) (hv : ∀ y : S1x128.Idx, (v y : EReal) = rowFn d y) (y : S1x128.Idx) :
    B.dd v y = rowFn (fun g r => d g r + K.dd g r) y := by
  have e : y = ix2 0 (y 1) := by
    funext a
    match a with
    | 0 => exact Subsingleton.elim (α := Fin 1) _ _
    | 1 => rfl
  rw [e]
  refine (dd_at R v (y 1)).trans ?_
  rw [hv]
  unfold rowFn
  show (if (y 1).val < 32 then _ else _) + _ = (if (y 1).val < 32 then _ else _)
  by_cases h : (y 1).val < 32
  · rw [if_pos h, if_pos h, if_pos h]
    rfl
  · rw [if_neg h, if_neg h, if_neg h, add_zero]

end Point

/-- The state that a point starts from. -/
def start (c : Dev nD) (t : Fin cfg0.N) : Vec Ideal S2048x128 .f32 :=
  if t.val % 64 = 0 then k0_pay4 (F := Ideal) else carried m c t

/-- What every point leaves: the gradient of the state before its chunk, and the skip weights' gradient so far. -/
theorem fold (c : Dev nD) (fin : Finite m c) : ∀ (n : ℕ) (hn : n < cfg0.N),
    (∀ y : S2048x128.Idx, ((outsAt0 m c n hn).2.2.2.2 y : EReal) = stateFn (gradAt (seq m c) (n + 1)) y)
    ∧ ∀ y : S1x128.Idx, ((outsAt0 m c n hn).2.2.2.1 y : EReal) = rowFn (ddAt (seq m c) (n + 1)) y
  | 0, hn => by
    have R := rep m c fin ⟨0, hn⟩ (k0_pay4 (F := Ideal)) (gradAt (seq m c) 0) fun y => by pointwise [k0_pay4, stateFn, gradAt]
    exact ⟨state_A m c ⟨0, hn⟩ rfl _ fun g q hg hq x y => next_flat R g q hg hq x y,
      fun y => (skip_A m c ⟨0, hn⟩ rfl y).trans (dd_flat R _ (ddAt (seq m c) 0) (fun y => by
        unfold rowFn ddAt
        rw [ite_self]
        pointwise [k0_pay5]) y)⟩
  | n + 1, hn => by
    have ih := fold c fin n (Nat.lt_of_succ_lt hn)
    have hN := lt_of_lt_of_eq hn (show cfg0.N = 64 from N_0)
    have h0 : ¬ (⟨n + 1, hn⟩ : Fin cfg0.N).val % 64 = 0 := by
      show ¬ (n + 1) % 64 = 0
      omega
    have R := rep m c fin ⟨n + 1, hn⟩ (carried m c ⟨n + 1, hn⟩) (gradAt (seq m c) (n + 1)) ih.1
    exact ⟨state_B m c ⟨n + 1, hn⟩ h0 _ fun g q hg hq x y => next_flat R g q hg hq x y,
      fun y => (skip_B m c ⟨n + 1, hn⟩ h0 y).trans (dd_flat R _ (ddAt (seq m c) (n + 1)) ih.2 y)⟩

/-- What a point leaves of the first two results. -/
theorem point (c : Dev nD) (fin : Finite m c) (t : Fin cfg0.N) :
    (∀ y : S128x3072.Idx, ((outsAt0 m c t.val t.isLt).1 y : EReal) = (seq m c (rev t.val)).lane (gradAt (seq m c) t.val) (y 0) (y 1))
    ∧ ∀ y : S128x128.Idx, ((outsAt0 m c t.val t.isLt).2.2.1 y : EReal)
      = (seq m c (rev t.val)).ddtLane (gradAt (seq m c) t.val) (y 0) (y 1) := by
  have hN := lt_of_lt_of_eq t.isLt (show cfg0.N = 64 from N_0)
  by_cases h : t.val % 64 = 0
  · have R := rep m c fin t (k0_pay4 (F := Ideal)) (gradAt (seq m c) t.val) fun y => by
      rw [show t.val = 0 by omega]
      pointwise [k0_pay4, stateFn, gradAt]
    exact ⟨lanes_A m c t h _ (fun g q hg hq x y => dx_flat R g q hg hq x y) (fun g hg x y => db_flat R g hg x y)
      fun g hg x y => dc_flat R g hg x y, fun y => (steps_A m c t h y).trans (by rw [eta2 y]; exact ddt_at R (y 0) (y 1))⟩
  · have R := rep m c fin t (carried m c t) (gradAt (seq m c) t.val) fun y =>
      ((fold m c fin (t.val - 1) (Nat.lt_of_le_of_lt (Nat.sub_le _ _) t.isLt)).1 y).trans (by rw [show t.val - 1 + 1 = t.val by omega])
    exact ⟨lanes_B m c t h _ (fun g q hg hq x y => dx_flat R g q hg hq x y) (fun g hg x y => db_flat R g hg x y)
      fun g hg x y => dc_flat R g hg x y, fun y => (steps_B m c t h y).trans (by rw [eta2 y]; exact ddt_at R (y 0) (y 1))⟩

/-- The first result's rows of a point. -/
theorem outX_at (K : Fin 64 → Chunk) (n : ℕ) (hn : n < 64) (l : Fin 128) (i : Fin 8192) (q q' : Fin 3072)
    (hi : i.val = (63 - n) * 128 + l.val) (hq : q.val = q'.val) : outX K i q = (K (rev n)).lane (gradAt K n) l q' := by
  unfold outX
  rw [show (⟨i.val / 128, by omega⟩ : Fin 64) = rev n from Fin.ext (show i.val / 128 = 63 - n by omega),
    show (⟨i.val % 128, by omega⟩ : Fin 128) = l from Fin.ext (show i.val % 128 = l.val by omega),
    show 63 - i.val / 128 = n by omega, Fin.ext hq]

/-- The second result's rows of a point. -/
theorem outDt_at (K : Fin 64 → Chunk) (n : ℕ) (hn : n < 64) (l : Fin 128) (i : Fin 8192) (q q' : Fin 128)
    (hi : i.val = (63 - n) * 128 + l.val) (hq : q.val = q'.val) : outDt K i q = (K (rev n)).ddtLane (gradAt K n) l q' := by
  unfold outDt
  rw [show (⟨i.val / 128, by omega⟩ : Fin 64) = rev n from Fin.ext (show i.val / 128 = 63 - n by omega),
    show (⟨i.val % 128, by omega⟩ : Fin 128) = l from Fin.ext (show i.val % 128 = l.val by omega),
    show 63 - i.val / 128 = n by omega, Fin.ext hq]

/-- The first result array. -/
theorem final8 (c : Dev nD) (fin : Finite m c) :
    (dats m 0 c).arrAt 8 cfg0.N = fun y : S8192x3072.Idx => outX (seq m c) (y 0) (y 1) := by
  refine (dats m 0 c).arrAt_eq_of_covers 8 _ (by decide +kernel) fun t _ y => ?_
  have hN := lt_of_lt_of_eq t.isLt (show cfg0.N = 64 from N_0)
  blk_simp
  rw [after0_8]
  refine ((point m c fin t).1 y).trans (outX_at _ t.val hN _ _ _ _ ?_ ?_).symm
  · blk_simp [idx t]
  · blk_simp [idx t]

/-- The second result array. -/
theorem final10 (c : Dev nD) (fin : Finite m c) :
    (dats m 0 c).arrAt 10 cfg0.N = fun y : S8192x128.Idx => outDt (seq m c) (y 0) (y 1) := by
  refine (dats m 0 c).arrAt_eq_of_covers 10 _ (by decide +kernel) fun t _ y => ?_
  have hN := lt_of_lt_of_eq t.isLt (show cfg0.N = 64 from N_0)
  blk_simp
  rw [after0_10]
  refine ((point m c fin t).2 y).trans (outDt_at _ t.val hN _ _ _ _ ?_ ?_).symm
  · blk_simp [idx t]
  · blk_simp [idx t]

/-- The third result array. -/
theorem final11 (c : Dev nD) (fin : Finite m c) :
    (dats m 0 c).arrAt 11 cfg0.N = fun y : S1x128.Idx => outD (seq m c) (y 1) := by
  refine (dats m 0 c).arrAt_eq_of_covers 11 _ (by decide +kernel) fun t hf y => ?_
  have hN := lt_of_lt_of_eq t.isLt (show cfg0.N = 64 from N_0)
  have ht := (flush0_11 t).mp hf
  blk_simp
  rw [after0_11]
  refine ((fold m c fin t.val t.isLt).2 y).trans ?_
  rw [show t.val + 1 = 64 by omega]
  refine congrArg (outD (seq m c)) (Fin.ext ?_)
  blk_simp [idx t]

end Cert.KernelIdeal.Scan

end
-- ==== Proof.Finiteness.lean ====
/-
  What the precondition says: the step sizes and the decay rates are finite.
-/
module

public import proofs.«01_k».proof.Defs
public import proofs.«01_k».proof.Proof.Gen.Pre_step_sizes_finite
public import proofs.«01_k».proof.Proof.KernelFold

@[expose] public section

set_option maxRecDepth 16384

noncomputable section

namespace Cert.KernelIdeal.Scan

open Idealize.ShloMosaic
open Cert.KernelIdeal Cert.KernelIdeal.Gen Idealize.ShloMosaic.TcCoe

/-- A number that is zero away from itself is finite. -/
theorem finite_of_sub (x : EReal) (h : x - x = 0) : x ≠ ⊤ ∧ x ≠ ⊥ := by
  constructor
  · rintro rfl
    simp at h
  · rintro rfl
    simp at h

/-- The comparison with zero, read back. -/
theorem sub_of_bit (x : EReal) (h : (FloatOps.cmpf (F := Ideal) (φ := .f32) .oeq (x - x) 0 : BitVec 1) = 1#1) : x - x = 0 := by
  by_contra hn
  simp [FloatOps.cmpf, Ideal.cmp, hn] at h

/-- The precondition bounds both arrays. -/
theorem finite_of_pre (m : (ℓ : Loc nD τ sig) → Buf (Elt Ideal) ℓ) (h : Cert.Pre_KernelIdeal_step_sizes_finite m) (c : Dev nD) :
    Finite m c := by
  obtain ⟨h1, h2⟩ := h c
  constructor
  · intro i
    have e := congrFun h1 i
    refine finite_of_sub _ (sub_of_bit _ (Eq.trans ?_ e))
    pointwise [Cert.Pre_step_sizes_finite.fn]
  · intro i
    have e := congrFun h2 i
    refine finite_of_sub _ (sub_of_bit _ (Eq.trans ?_ e))
    pointwise [Cert.Pre_step_sizes_finite.fn]

end Cert.KernelIdeal.Scan

end
-- ==== Proof.RunningSum.lean ====
/-
  The host's running sum along the last axis, and its sum over the first and the last of four axes, read at an index.
-/
module

public import proofs.«01_k».proof.Proof.Gen.ReferenceIdeal
public import Idealize.ShloMosaic.Lib.Pointwise

@[expose] public section

set_option maxRecDepth 16384

noncomputable section

namespace Cert.ReferenceIdeal.Scan

open Idealize.ShloMosaic
open Cert.ReferenceIdeal Cert.ReferenceIdeal.Gen

/-- A left fold that adds is the sum. -/
theorem foldl_add_eq_sum {n : ℕ} (f : Fin n → EReal) (v : EReal) :
    (List.finRange n).foldl (fun r i => r + f i) v = v + ∑ i : Fin n, f i := by
  have key : ∀ (l : List (Fin n)) (v : EReal), l.foldl (fun r i => r + f i) v = v + (l.map f).sum := by
    intro l
    induction l with
    | nil => intro v; simp
    | cons a l ih => intro v; simp [ih, add_assoc]
  rw [key, Fin.sum_univ_def]

/-- A window of 128 positions that ends at `l`, padded low by 127: the sum of the terms up to and with `l`. -/
theorem window_sum (f : Fin 128 → EReal) (l : Fin 128) :
    (∑ n : Fin 128, if h : 127 ≤ l.val + n.val ∧ l.val + n.val - 127 < 128 then f ⟨l.val + n.val - 127, h.2⟩ else 0)
      = ∑ i : Fin 128, if i ≤ l then f i else 0 := by
  rw [← Finset.sum_filter (fun i : Fin 128 => i ≤ l)]
  rw [← Finset.sum_filter_of_ne (p := fun n : Fin 128 => 127 ≤ l.val + n.val)]
  · refine Finset.sum_bij' (fun n hn => (⟨l.val + n.val - 127, by have := l.isLt; have := n.isLt; omega⟩ : Fin 128))
      (fun i hi => (⟨i.val + 127 - l.val, by
        have := l.isLt
        have := i.isLt
        have : i ≤ l := (Finset.mem_filter.1 hi).2
        have : i.val ≤ l.val := this
        omega⟩ : Fin 128)) ?_ ?_ ?_ ?_ ?_
    · intro n hn
      have := n.isLt
      refine Finset.mem_filter.2 ⟨Finset.mem_univ _, ?_⟩
      show l.val + n.val - 127 ≤ l.val
      omega
    · intro i hi
      have : i ≤ l := (Finset.mem_filter.1 hi).2
      have : i.val ≤ l.val := this
      refine Finset.mem_filter.2 ⟨Finset.mem_univ _, ?_⟩
      show 127 ≤ l.val + (i.val + 127 - l.val)
      omega
    · intro n hn
      have h : 127 ≤ l.val + n.val := (Finset.mem_filter.1 hn).2
      refine Fin.ext ?_
      show l.val + n.val - 127 + 127 - l.val = n.val
      omega
    · intro i hi
      have : i ≤ l := (Finset.mem_filter.1 hi).2
      have : i.val ≤ l.val := this
      refine Fin.ext ?_
      show l.val + (i.val + 127 - l.val) - 127 = i.val
      have := l.isLt
      omega
    · intro n hn
      have h : 127 ≤ l.val + n.val := (Finset.mem_filter.1 hn).2
      rw [dif_pos ⟨h, by have := l.isLt; have := n.isLt; omega⟩]
  · intro n _ hne
    by_contra h
    exact hne (dif_neg fun hh => h hh.1)

/-- The running sum over the last axis, at an index. -/
theorem running_sum (x : FVec Ideal S4x8x128 .f32) (v : FVec Ideal S_ .f32) (hv : v (Shape.Idx.first h_S_) = 0)
    (g : Fin 4) (r : Fin 8) (l : Fin 128) :
    Host.reduceWindowAdd ![1, 1, 128] ![1, 1, 1] ![0, 0, 127] ![0, 0, 0] x v
        reduceWindows_S4x8x128_S4x8x128_w1s1p0_0_w1s1p0_0_w128s1p127_0 h_S_ (ix3 g r l)
      = ∑ i : Fin 128, if i ≤ l then x (ix3 g r i) else 0 := by
  rw [← window_sum (fun i => x (ix3 g r i)) l]
  have hW : (⟨3, ![1, 1, 128]⟩ : Shape).numel = 128 := by decide
  unfold Host.reduceWindowAdd
  rw [Ideal.hostReduceWindowAdd_def]
  unfold Ideal.hostReduceWindowAdd Host.reduceWindow
  dsimp only
  rw [foldl_add_eq_sum, hv, zero_add]
  refine Fintype.sum_equiv (finCongr hW) _ _ fun n => ?_
  have hn : ((⟨3, ![1, 1, 128]⟩ : Shape).rowMajor.symm n 2 : ℕ) = n.val := by
    have h := rowMajor_val3 ((⟨3, ![1, 1, 128]⟩ : Shape).rowMajor.symm n) 128 128 rfl rfl
    have h0 := ((⟨3, ![1, 1, 128]⟩ : Shape).rowMajor.symm n 0).isLt
    have h1 := ((⟨3, ![1, 1, 128]⟩ : Shape).rowMajor.symm n 1).isLt
    rw [Equiv.apply_symm_apply] at h
    simp at h0 h1 h
    omega
  have h0 : ((⟨3, ![1, 1, 128]⟩ : Shape).rowMajor.symm n 0 : ℕ) = 0 :=
    Nat.lt_one_iff.1 ((⟨3, ![1, 1, 128]⟩ : Shape).rowMajor.symm n 0).isLt
  have h1 : ((⟨3, ![1, 1, 128]⟩ : Shape).rowMajor.symm n 1 : ℕ) = 0 :=
    Nat.lt_one_iff.1 ((⟨3, ![1, 1, 128]⟩ : Shape).rowMajor.symm n 1).isLt
  have hl := l.isLt
  have hg := g.isLt
  have hr := r.isLt
  have hn' : n.val < 128 := lt_of_lt_of_eq n.isLt hW
  by_cases h : 127 ≤ l.val + n.val ∧ l.val + n.val - 127 < 128
  · rw [dif_pos, dif_pos (show 127 ≤ l.val + (finCongr hW n).val ∧ l.val + (finCongr hW n).val - 127 < 128 from h)]
    · refine congrArg x (funext fun a => Fin.ext ?_)
      match a with
      | 0 => show g.val * 1 + _ - 0 = g.val; omega
      | 1 => show r.val * 1 + _ - 0 = r.val; omega
      | 2 => show l.val * 1 + _ - 127 = l.val + n.val - 127; omega
    · intro a
      match a with
      | 0 => show 0 ≤ g.val * 1 + _ ∧ g.val * 1 + _ - 0 < 4; omega
      | 1 => show 0 ≤ r.val * 1 + _ ∧ r.val * 1 + _ - 0 < 8; omega
      | 2 => show 127 ≤ l.val * 1 + _ ∧ l.val * 1 + _ - 127 < 128; omega
  · rw [dif_neg, dif_neg (show ¬ (127 ≤ l.val + (finCongr hW n).val ∧ l.val + (finCongr hW n).val - 127 < 128) from h)]
    intro hh
    have h2 : 127 ≤ l.val * 1 + ((⟨3, ![1, 1, 128]⟩ : Shape).rowMajor.symm n 2 : ℕ)
        ∧ l.val * 1 + ((⟨3, ![1, 1, 128]⟩ : Shape).rowMajor.symm n 2 : ℕ) - 127 < 128 := hh 2
    omega

/-- The sum over the first and the last of four axes, at an index. -/
theorem sum_first_last {A B : ℕ} (h : (⟨4, ![A, 4, 8, B]⟩ : Shape).ReducesTo [0, 3] S4x8)
    (d0 : ∀ i, (h.drop i 0 : ℕ) = i 1) (d1 : ∀ i, (h.drop i 1 : ℕ) = i 2)
    (x : (⟨4, ![A, 4, 8, B]⟩ : Shape).Idx → EReal) (v : EReal) (g : Fin 4) (r : Fin 8) :
    Ideal.hostReduceAdd h x v (ix2 g r) = v + ∑ l : Fin A, ∑ p : Fin B, x (ix4 l g r p) := by
  unfold Ideal.hostReduceAdd
  refine congrArg (v + ·) ?_
  rw [← Fintype.sum_prod_type' (f := fun (l : Fin A) (p : Fin B) => x (ix4 l g r p))]
  symm
  refine Finset.sum_bij' (fun q _ => ix4 q.1 g r q.2) (fun i _ => ((i 0, i 3) : Fin A × Fin B)) ?_ ?_ ?_ ?_ ?_
  · intro q _
    refine Finset.mem_filter.2 ⟨Finset.mem_univ _, funext fun b => Fin.ext ?_⟩
    match b with
    | 0 => exact d0 _
    | 1 => exact d1 _
  · intro i _
    exact Finset.mem_univ _
  · intro q _
    rfl
  · intro i hi
    have hd := (Finset.mem_filter.1 hi).2
    have h1 : (i 1 : ℕ) = g := by
      rw [← d0, hd]
      rfl
    have h2 : (i 2 : ℕ) = r := by
      rw [← d1, hd]
      rfl
    funext a
    match a with
    | 0 => rfl
    | 1 => exact Fin.ext h1.symm
    | 2 => exact Fin.ext h2.symm
    | 3 => rfl
  · intro q _
    rfl

end Cert.ReferenceIdeal.Scan

end
-- ==== Proof.ReferenceChunk.lean ====
/-
  The reference's trip, read at an index: every value that a trip hands on is the chunk's value of `Chunk.lean`.
-/
module

public import proofs.«01_k».proof.Proof.Gen.ReferenceIdeal.Step
public import proofs.«01_k».proof.Proof.Chunk
public import proofs.«01_k».proof.Proof.RunningSum

@[expose] public section

set_option maxRecDepth 16384

noncomputable section

namespace Cert.ReferenceIdeal.Scan

open Idealize.ShloMosaic
open Cert.ReferenceIdeal Cert.ReferenceIdeal.Gen Cert.ReferenceIdeal.Step Cert.Scan

/-- The inputs of trip `j`'s chunk. -/
def chunk (j : ℕ) (s : State Ideal) : Chunk where
  x l g r p := b9 j s (ix4 l g r p)
  b l g n := b19 j s (ix3 l g n)
  c l g n := b24 j s (ix3 l g n)
  dt l g r := b14 j s (ix3 l g r)
  a g r := b37 j s (ix2 g r)
  d g r := b41 j s (ix2 g r)
  st g r p n := b30 j s (ix4 g r p n)
  dy l g r p := b36 j s (ix4 l g r p)

/-- The gradient of the state that the trip is handed. -/
def grad (s : State Ideal) : Grad := fun g r p n => s.main_v18_10 (ix4 g r p n)

variable (j : ℕ) (s : State Ideal)

/-- The scaled values. -/
theorem xs_at (l : Fin 128) (g : Fin 4) (r : Fin 8) (p : Fin 64) :
    b44 j s (ix4 l g r p) = (chunk j s).xs l g r p := by
  pointwise [b44, b43, b42]
  rfl

/-- The running sum of the log decays. -/
theorem cs_at (g : Fin 4) (r : Fin 8) (l : Fin 128) : b48 j s (ix3 g r l) = (chunk j s).cs g r l := by
  unfold b48
  rw [running_sum _ _ (by pointwise [b47, b46])]
  refine Finset.sum_congr rfl fun i _ => ?_
  refine if_congr Iff.rfl ?_ rfl
  pointwise [b45, b40, b39, b38]
  rfl

/-- A small number as a signed word. -/
theorem toInt_small (n : ℕ) (h : n < 2 ^ 31) : (BitVec.ofNat 32 n).toInt = n := by
  rw [BitVec.toInt_eq_toNat_cond, BitVec.toNat_ofNat, Nat.mod_eq_of_lt (by omega), if_pos (by omega)]

/-- The lower triangle's mask. -/
theorem mask_at (l s : Fin 128) : K_main_v1 (F := Ideal) (ix2 l s) = if s ≤ l then 1#1 else 0#1 := by
  pointwise [K_main_v1, K_main_call0_v5, K_main_call0_c_0, K_main_call0_v4, K_main_call0_v3, K_main_call0_v2, K_main_call0_v1,
    K_main_call0_c, K_main_call0_v0, K_main_v0, K_main_c]
  have hl := l.isLt
  have hi := s.isLt
  have key : (BitVec.ofNat 32 s.val).sle (BitVec.ofNat 32 l.val) = decide (s ≤ l) := by
    rw [BitVec.sle, toInt_small _ (by omega), toInt_small _ (by omega)]
    exact decide_eq_decide.2 Int.ofNat_le
  simp only [IntOp.addi, IntOp.cmpi, BitVec.add_zero]
  rw [key]
  by_cases h : s ≤ l
  · rw [if_pos h, decide_eq_true h]
    rfl
  · rw [if_neg h, decide_eq_false h]
    rfl

/-- The decay between two positions. -/
theorem dec_at (g : Fin 4) (r : Fin 8) (l i : Fin 128) : b64 j s (ix4 g r l i) = (chunk j s).dec g r l i := by
  pointwise [b64, b63, b62, b61, b60, b59, b58, b57, b56, b55, b54, b53, b52, b51, b50, b49, mask_at, cs_at]
  unfold Chunk.dec
  by_cases h : i ≤ l
  · simp only [h, if_true]
    rfl
  · simp only [h, if_false]
    rfl

/-- The products of the two projections. -/
theorem cb_at (g : Fin 4) (l i : Fin 128) : b65 j s (ix3 g l i) = (chunk j s).cb g l i := by
  pointwise [b65]
  rfl

/-- The decay from a position to the chunk's end, along the lanes of the heads. -/
theorem ds_at (l : Fin 128) (g : Fin 4) (r : Fin 8) : b76 j s (ix4 l g r 0) = (chunk j s).ds g r l := by
  pointwise [b76, b75, b74, b73, b72, b71, cs_at]
  rfl

/-- The decay from the chunk's start to a position, along the lanes of the heads. -/
theorem e_at (l : Fin 128) (g : Fin 4) (r : Fin 8) : b85 j s (ix4 l g r 0) = (chunk j s).e g r l := by
  pointwise [b85, b84, b83, cs_at]
  rfl

/-- The decay over the whole chunk. -/
theorem cd_at (g : Fin 4) (r : Fin 8) : b82 j s (ix2 g r) = (chunk j s).e g r 127 := by
  pointwise [b82, b81, b80, cs_at]
  rfl

/-- The gradient of the scaled values. -/
theorem dxs_at (l : Fin 128) (g : Fin 4) (r : Fin 8) (p : Fin 64) :
    b130 j s (ix4 l g r p) = (chunk j s).dxs (grad s) l g r p := by
  pointwise [b130, b129, b128, b126, b125, b124, b123, b122, b68, b67, b66, ds_at, cb_at, dec_at]
  refine congrArg₂ (· + ·) (congrArg _ (Finset.sum_congr rfl fun n _ => mul_comm _ _))
    (Finset.sum_congr rfl fun i _ => mul_comm _ _)

/-- The gradient of the values. -/
theorem dx_at (l : Fin 128) (g : Fin 4) (r : Fin 8) (p : Fin 64) :
    b149 j s (ix4 l g r p) = (chunk j s).dx (grad s) l g r p := by
  pointwise [b149, b148, b147, b42, b107, b106, b92, b91, dxs_at]
  rfl

/-- The gradient of the step sizes. -/
theorem ddt_at (l : Fin 128) (g : Fin 4) (r : Fin 8) :
    b151 j s (ix3 l g r) = (chunk j s).ddt (grad s) l g r := by
  pointwise [b151, b150, b146, b145, b144, b143, dxs_at]
  refine (Fin.sum_univ_one _).trans (Finset.sum_congr rfl fun p _ => mul_comm _ _)

/-- The gradient of the state before the chunk. -/
theorem next_at (g : Fin 4) (r : Fin 8) (p : Fin 64) (n : Fin 128) :
    b119 j s (ix4 g r p n) = (chunk j s).next (grad s) g r p n := by
  pointwise [b119, b118, b115, b114, b113, b101, b100, b96, cd_at, e_at]
  rfl

/-- The gradient of the products of the two projections. -/
theorem dcb_at (g : Fin 4) (l i : Fin 128) : b136 j s (ix3 g l i) = (chunk j s).dcb g l i := by
  pointwise [b136, b135, b134, b133, b132, b131, b127, b126, dec_at, xs_at]
  exact Fin.sum_univ_one _

/-- The gradient of the input projection. -/
theorem db_at (l : Fin 128) (g : Fin 4) (n : Fin 128) :
    b139 j s (ix3 l g n) = (chunk j s).db (grad s) l g n := by
  pointwise [b139, b138, b137, b121, b120, b78, b77, ds_at, xs_at, dcb_at]
  refine congrArg₂ (· + ·) (Finset.sum_congr rfl fun r _ => Finset.sum_congr rfl fun p _ => mul_comm _ _) rfl

/-- The gradient of the output projection. -/
theorem dc_at (l : Fin 128) (g : Fin 4) (n : Fin 128) :
    b142 j s (ix3 l g n) = (chunk j s).dc l g n := by
  pointwise [b142, b141, b140, b117, b116, b115, b114, b113, e_at, dcb_at]
  rfl

/-- The chunk's part of the gradient of the skip weights. -/
theorem dd_at (g : Fin 4) (r : Fin 8) : b112 j s (ix2 g r) = (chunk j s).dd g r := by
  have h104 : b104 j s (ix2 g r) = (chunk j s).dd g r := by
    unfold b104
    refine (sum_first_last _ (fun i => Shape.ReducesTo.drop_apply_val_of_eq _ i 0 1)
      (fun i => Shape.ReducesTo.drop_apply_val_of_eq _ i 1 2) _ _ g r).trans ?_
    pointwise [b102, b103]
    rfl
  have h109 : b109 j s (ix2 g r) = (chunk j s).dd g r := by
    unfold b109
    refine (sum_first_last _ (fun i => Shape.ReducesTo.drop_apply_val_of_eq _ i 0 1)
      (fun i => Shape.ReducesTo.drop_apply_val_of_eq _ i 1 2) _ _ g r).trans ?_
    pointwise [b105, b108, h104]
    exact (Fin.sum_univ_one _).trans (Fin.sum_univ_one _)
  pointwise [b112, b111, b110, h109]
  exact Fin.sum_univ_one _

end Cert.ReferenceIdeal.Scan

end
-- ==== Proof.ReferenceFold.lean ====
/-
  The reference's loop: after `n` trips the carried gradients are those of the chunks' sequence, and the rows of the
  chunks already done hold the chunks' gradients.
-/
module

public import proofs.«01_k».proof.Proof.ReferenceChunk
public import Idealize.ShloMosaic.Lib.Pipeline.ValueKit

@[expose] public section

set_option maxRecDepth 16384

noncomputable section

namespace Cert.ReferenceIdeal.Scan

open Idealize.ShloMosaic
open Cert.ReferenceIdeal Cert.ReferenceIdeal.Gen Cert.ReferenceIdeal.Step Cert.Scan

/-- The chunk number of trip `j`, as the word that the loop counts with. -/
theorem start_at (j : ℕ) (s : State Ideal) (hj : j < 64) (x : S_.Idx) : (b3 j s x).toInt = ((63 - j : ℕ) : ℤ) := by
  have h : b3 j s x = BitVec.ofNat 32 (63 - j) := by
    pointwise [b3, b2, b1, b0]
    simp only [IntOp.subi]
    apply BitVec.eq_of_toNat_eq
    simp only [BitVec.toNat_sub, BitVec.toNat_ofNat]
    omega
  rw [h, toInt_small _ (by omega)]

/-- What every state of the loop keeps of the arguments. -/
structure Args (s : State Ideal) (K : Fin 64 → Chunk) : Prop where
  x : ∀ i l g r p, s.main_v18_0 (ix5 i l g r p) = (K i).x l g r p
  dt : ∀ i l g r, s.main_v18_1 (ix4 i l g r) = (K i).dt l g r
  b : ∀ i l g n, s.main_v18_2 (ix4 i l g n) = (K i).b l g n
  c : ∀ i l g n, s.main_v18_3 (ix4 i l g n) = (K i).c l g n
  st : ∀ i g r p n, s.main_v18_4 (ix5 i g r p n) = (K i).st g r p n
  dy : ∀ i l g r p, s.main_v18_5 (ix5 i l g r p) = (K i).dy l g r p
  a : ∀ i (g : Fin 4) (r : Fin 8), s.main_v18_6 (ix1 ⟨g.val * 8 + r.val, by omega⟩) = (K i).a g r
  d : ∀ i (g : Fin 4) (r : Fin 8), s.main_v18_7 (ix1 ⟨g.val * 8 + r.val, by omega⟩) = (K i).d g r

/-- A slice that starts at trip `j`'s chunk, along the chunks. -/
theorem clamp_start (j : ℕ) (s : State Ideal) (hj : j < 64) (S T : Shape) (ht : T.rank = S.rank) (st : Fin S.rank → ℤ)
    (a : Fin S.rank) (hst : st a = (b3 j s (Shape.Idx.first h_S_)).toInt) (hS : S.size a = 64)
    (hT : T.size (a.cast ht.symm) = 1) : Host.clampedStart S T ht st a = (rev j).val :=
  Host.clampedStart_of_le _ _ _ _ (hst.trans (start_at j s hj _)) (by omega)

/-- Indices with equal coordinates, four of them. -/
theorem ix4_congr {n0 n1 n2 n3 : ℕ} {a a' : Fin n0} {b b' : Fin n1} {c c' : Fin n2} {d d' : Fin n3} (ha : a.val = a'.val)
    (hb : b.val = b'.val) (hc : c.val = c'.val) (hd : d.val = d'.val) : ix4 a b c d = ix4 a' b' c' d' := by
  rw [Fin.ext ha, Fin.ext hb, Fin.ext hc, Fin.ext hd]

/-- Indices with equal coordinates, five of them. -/
theorem ix5_congr {n0 n1 n2 n3 n4 : ℕ} {a a' : Fin n0} {b b' : Fin n1} {c c' : Fin n2} {d d' : Fin n3} {e e' : Fin n4}
    (ha : a.val = a'.val) (hb : b.val = b'.val) (hc : c.val = c'.val) (hd : d.val = d'.val) (he : e.val = e'.val) :
    ix5 a b c d e = ix5 a' b' c' d' e' := by
  rw [Fin.ext ha, Fin.ext hb, Fin.ext hc, Fin.ext hd, Fin.ext he]

/-- A slice of a whole axis. -/
theorem clamp_full (S T : Shape) (ht : T.rank = S.rank) (st : Fin S.rank → ℤ) (a : Fin S.rank) (n : ℕ)
    (h : S.size a = T.size (a.cast ht.symm)) : Host.clampedStart S T ht st a + n = n := by
  unfold Host.clampedStart
  omega

/-- The values of trip `j`. -/
theorem x_at (j : ℕ) (hj : j < 64) (s : State Ideal) (K : Fin 64 → Chunk) (h : Args s K) (l : Fin 128) (g : Fin 4) (r : Fin 8) (p : Fin 64) :
    b9 j s (ix4 l g r p) = (K (rev j)).x l g r p := by
  rw [← h.x]
  pointwise [b9, b8, b4, b5, b6, b7]
  refine congrArg s.main_v18_0 (ix5_congr ?_ ?_ ?_ ?_ ?_)
  · dsimp only
    exact clamp_start j s hj _ _ _ _ _ rfl rfl rfl
  · exact clamp_full _ _ _ _ _ _ rfl
  · exact clamp_full _ _ _ _ _ _ rfl
  · exact clamp_full _ _ _ _ _ _ rfl
  · exact clamp_full _ _ _ _ _ _ rfl

/-- The step sizes of trip `j`. -/
theorem dt_at (j : ℕ) (hj : j < 64) (s : State Ideal) (K : Fin 64 → Chunk) (h : Args s K) (l : Fin 128) (g : Fin 4) (r : Fin 8) :
    b14 j s (ix3 l g r) = (K (rev j)).dt l g r := by
  rw [← h.dt]
  pointwise [b14, b13, b10, b11, b12]
  refine congrArg s.main_v18_1 (ix4_congr ?_ ?_ ?_ ?_)
  · dsimp only
    exact clamp_start j s hj _ _ _ _ _ rfl rfl rfl
  · exact clamp_full _ _ _ _ _ _ rfl
  · exact clamp_full _ _ _ _ _ _ rfl
  · exact clamp_full _ _ _ _ _ _ rfl

/-- The input projection of trip `j`. -/
theorem b_at (j : ℕ) (hj : j < 64) (s : State Ideal) (K : Fin 64 → Chunk) (h : Args s K) (l : Fin 128) (g : Fin 4) (n : Fin 128) :
    b19 j s (ix3 l g n) = (K (rev j)).b l g n := by
  rw [← h.b]
  pointwise [b19, b18, b15, b16, b17]
  refine congrArg s.main_v18_2 (ix4_congr ?_ ?_ ?_ ?_)
  · dsimp only
    exact clamp_start j s hj _ _ _ _ _ rfl rfl rfl
  · exact clamp_full _ _ _ _ _ _ rfl
  · exact clamp_full _ _ _ _ _ _ rfl
  · exact clamp_full _ _ _ _ _ _ rfl

/-- The output projection of trip `j`. -/
theorem c_at (j : ℕ) (hj : j < 64) (s : State Ideal) (K : Fin 64 → Chunk) (h : Args s K) (l : Fin 128) (g : Fin 4) (n : Fin 128) :
    b24 j s (ix3 l g n) = (K (rev j)).c l g n := by
  rw [← h.c]
  pointwise [b24, b23, b20, b21, b22]
  refine congrArg s.main_v18_3 (ix4_congr ?_ ?_ ?_ ?_)
  · dsimp only
    exact clamp_start j s hj _ _ _ _ _ rfl rfl rfl
  · exact clamp_full _ _ _ _ _ _ rfl
  · exact clamp_full _ _ _ _ _ _ rfl
  · exact clamp_full _ _ _ _ _ _ rfl

/-- The state before the chunk of trip `j`. -/
theorem st_at (j : ℕ) (hj : j < 64) (s : State Ideal) (K : Fin 64 → Chunk) (h : Args s K) (g : Fin 4) (r : Fin 8) (p : Fin 64) (n : Fin 128) :
    b30 j s (ix4 g r p n) = (K (rev j)).st g r p n := by
  rw [← h.st]
  pointwise [b30, b29, b25, b26, b27, b28]
  refine congrArg s.main_v18_4 (ix5_congr ?_ ?_ ?_ ?_ ?_)
  · dsimp only
    exact clamp_start j s hj _ _ _ _ _ rfl rfl rfl
  · exact clamp_full _ _ _ _ _ _ rfl
  · exact clamp_full _ _ _ _ _ _ rfl
  · exact clamp_full _ _ _ _ _ _ rfl
  · exact clamp_full _ _ _ _ _ _ rfl

/-- The gradient of the output of trip `j`. -/
theorem dy_at (j : ℕ) (hj : j < 64) (s : State Ideal) (K : Fin 64 → Chunk) (h : Args s K) (l : Fin 128) (g : Fin 4) (r : Fin 8) (p : Fin 64) :
    b36 j s (ix4 l g r p) = (K (rev j)).dy l g r p := by
  rw [← h.dy]
  pointwise [b36, b35, b31, b32, b33, b34]
  refine congrArg s.main_v18_5 (ix5_congr ?_ ?_ ?_ ?_ ?_)
  · dsimp only
    exact clamp_start j s hj _ _ _ _ _ rfl rfl rfl
  · exact clamp_full _ _ _ _ _ _ rfl
  · exact clamp_full _ _ _ _ _ _ rfl
  · exact clamp_full _ _ _ _ _ _ rfl
  · exact clamp_full _ _ _ _ _ _ rfl

/-- Trip `j` works on the chunk of its step. -/
theorem chunk_eq (j : ℕ) (hj : j < 64) (s : State Ideal) (K : Fin 64 → Chunk) (h : Args s K) : chunk j s = K (rev j) := by
  have ha : ∀ g r, b37 j s (ix2 g r) = (K (rev j)).a g r := by
    intro g r
    rw [← h.a]
    pointwise [b37]
  have hd : ∀ g r, b41 j s (ix2 g r) = (K (rev j)).d g r := by
    intro g r
    rw [← h.d]
    pointwise [b41]
  unfold chunk
  simp only [x_at j hj s K h, dt_at j hj s K h, b_at j hj s K h, c_at j hj s K h, st_at j hj s K h, dy_at j hj s K h, ha, hd]

/-- The state before the first trip keeps the chunks of the argument arrays. -/
theorem args_init (A D : FVec Ideal S32 .f32) (X : FVec Ideal S8192x3072 .f32) (DT : FVec Ideal S8192x32 .f32)
    (ST : FVec Ideal S64x2048x128 .f32) (DY : FVec Ideal S8192x2048 .bf16) :
    Args (init A D X DT ST DY) (chunkOf X DT A D ST DY) := by
  constructor
  · intro i l g r p
    show (A_main_v3 (F := Ideal) X DT ST DY (ix5 i l g r p) : EReal) = X _
    pointwise [A_main_v3, A_main_v2]
    blk_ext
  · intro i l g r
    show (A_main_v10 (F := Ideal) X DT ST DY (ix4 i l g r) : EReal) = DT _
    pointwise [A_main_v10]
    blk_ext
  · intro i l g n
    show (A_main_v5 (F := Ideal) X DT ST DY (ix4 i l g n) : EReal) = X _
    pointwise [A_main_v5, A_main_v4]
    blk_ext
  · intro i l g n
    show (A_main_v7 (F := Ideal) X DT ST DY (ix4 i l g n) : EReal) = X _
    pointwise [A_main_v7, A_main_v6]
    blk_ext
  · intro i g r p n
    show (A_main_v11 (F := Ideal) X DT ST DY (ix5 i g r p n) : EReal) = ST _
    pointwise [A_main_v11]
    blk_ext
  · intro i l g r p
    show (A_main_v13 (F := Ideal) X DT ST DY (ix5 i l g r p) : EReal) = DY _
    pointwise [A_main_v13, A_main_v12]
    blk_ext
  · intro i g r
    rfl
  · intro i g r
    rfl

end Cert.ReferenceIdeal.Scan

end
-- ==== Proof.ReferenceResult.lean ====
/-
  The reference's results: what the loop leaves after its last trip.
-/
module

public import proofs.«01_k».proof.Proof.ReferenceFold

@[expose] public section

set_option maxRecDepth 16384

noncomputable section

namespace Cert.ReferenceIdeal.Scan

open Idealize.ShloMosaic
open Cert.ReferenceIdeal Cert.ReferenceIdeal.Gen Cert.ReferenceIdeal.Step Cert.Scan

/-- A block written into an array of rank five. -/
theorem write5 (x : FVec Ideal S64x128x4x8x64 .f32) (u : FVec Ideal S1x128x4x8x64 .f32) (st : Fin 5 → ℤ) (m : ℕ)
    (z0 : Host.clampedStart S64x128x4x8x64 S1x128x4x8x64 rfl st 0 = m) (i : Fin 64) (l : Fin 128) (g : Fin 4) (r : Fin 8) (p : Fin 64) :
    Host.dynamicUpdateSlice x u st updateFits_S64x128x4x8x64_S1x128x4x8x64 (ix5 i l g r p) = if i.val = m then u (ix5 0 l g r p) else x (ix5 i l g r p) := by
  have z1 : Host.clampedStart S64x128x4x8x64 S1x128x4x8x64 rfl st 1 = 0 := clamp_full S64x128x4x8x64 S1x128x4x8x64 rfl st 1 0 rfl
  have z2 : Host.clampedStart S64x128x4x8x64 S1x128x4x8x64 rfl st 2 = 0 := clamp_full S64x128x4x8x64 S1x128x4x8x64 rfl st 2 0 rfl
  have z3 : Host.clampedStart S64x128x4x8x64 S1x128x4x8x64 rfl st 3 = 0 := clamp_full S64x128x4x8x64 S1x128x4x8x64 rfl st 3 0 rfl
  have z4 : Host.clampedStart S64x128x4x8x64 S1x128x4x8x64 rfl st 4 = 0 := clamp_full S64x128x4x8x64 S1x128x4x8x64 rfl st 4 0 rfl
  pointwise []
  simp only [z0, z1, z2, z3, z4, Nat.zero_le, Nat.sub_zero, and_true, true_and, zero_add, Fin.is_lt]
  by_cases h : i.val = m
  · rw [if_pos h, dif_pos (show m ≤ i.val ∧ i.val < m + 1 by omega)]
    exact congrArg u (ix5_congr (show i.val - m = 0 by omega) rfl rfl rfl rfl)
  · rw [if_neg h, dif_neg (show ¬ (m ≤ i.val ∧ i.val < m + 1) by omega)]

/-- A block written into an array of rank four, with a head axis. -/
theorem write4 (x : FVec Ideal S64x128x4x8 .f32) (u : FVec Ideal S1x128x4x8 .f32) (st : Fin 4 → ℤ) (m : ℕ)
    (z0 : Host.clampedStart S64x128x4x8 S1x128x4x8 rfl st 0 = m) (i : Fin 64) (l : Fin 128) (g : Fin 4) (r : Fin 8) :
    Host.dynamicUpdateSlice x u st updateFits_S64x128x4x8_S1x128x4x8 (ix4 i l g r) = if i.val = m then u (ix4 0 l g r) else x (ix4 i l g r) := by
  have z1 : Host.clampedStart S64x128x4x8 S1x128x4x8 rfl st 1 = 0 := clamp_full S64x128x4x8 S1x128x4x8 rfl st 1 0 rfl
  have z2 : Host.clampedStart S64x128x4x8 S1x128x4x8 rfl st 2 = 0 := clamp_full S64x128x4x8 S1x128x4x8 rfl st 2 0 rfl
  have z3 : Host.clampedStart S64x128x4x8 S1x128x4x8 rfl st 3 = 0 := clamp_full S64x128x4x8 S1x128x4x8 rfl st 3 0 rfl
  pointwise []
  simp only [z0, z1, z2, z3, Nat.zero_le, Nat.sub_zero, and_true, true_and, zero_add, Fin.is_lt]
  by_cases h : i.val = m
  · rw [if_pos h, dif_pos (show m ≤ i.val ∧ i.val < m + 1 by omega)]
    exact congrArg u (ix4_congr (show i.val - m = 0 by omega) rfl rfl rfl)
  · rw [if_neg h, dif_neg (show ¬ (m ≤ i.val ∧ i.val < m + 1) by omega)]

/-- A block written into an array of rank four, with a state axis. -/
theorem write4n (x : FVec Ideal S64x128x4x128 .f32) (u : FVec Ideal S1x128x4x128 .f32) (st : Fin 4 → ℤ) (m : ℕ)
    (z0 : Host.clampedStart S64x128x4x128 S1x128x4x128 rfl st 0 = m) (i : Fin 64) (l : Fin 128) (g : Fin 4) (n : Fin 128) :
    Host.dynamicUpdateSlice x u st updateFits_S64x128x4x128_S1x128x4x128 (ix4 i l g n) = if i.val = m then u (ix4 0 l g n) else x (ix4 i l g n) := by
  have z1 : Host.clampedStart S64x128x4x128 S1x128x4x128 rfl st 1 = 0 := clamp_full S64x128x4x128 S1x128x4x128 rfl st 1 0 rfl
  have z2 : Host.clampedStart S64x128x4x128 S1x128x4x128 rfl st 2 = 0 := clamp_full S64x128x4x128 S1x128x4x128 rfl st 2 0 rfl
  have z3 : Host.clampedStart S64x128x4x128 S1x128x4x128 rfl st 3 = 0 := clamp_full S64x128x4x128 S1x128x4x128 rfl st 3 0 rfl
  pointwise []
  simp only [z0, z1, z2, z3, Nat.zero_le, Nat.sub_zero, and_true, true_and, zero_add, Fin.is_lt]
  by_cases h : i.val = m
  · rw [if_pos h, dif_pos (show m ≤ i.val ∧ i.val < m + 1 by omega)]
    exact congrArg u (ix4_congr (show i.val - m = 0 by omega) rfl rfl rfl)
  · rw [if_neg h, dif_neg (show ¬ (m ≤ i.val ∧ i.val < m + 1) by omega)]

/-- A trip puts the values' gradient at its chunk. -/
theorem put_x (j : ℕ) (hj : j < 64) (s : State Ideal) (i : Fin 64) (l : Fin 128) (g : Fin 4) (r : Fin 8) (p : Fin 64) :
    b158 j s (ix5 i l g r p) = if i.val = 63 - j then (chunk j s).dx (grad s) l g r p else s.main_v18_12 (ix5 i l g r p) := by
  unfold b158
  refine (write5 _ _ _ (63 - j) (clamp_start j s hj _ _ _ _ _ rfl rfl rfl) i l g r p).trans ?_
  pointwise [b153, dx_at]

/-- A trip puts the step sizes' gradient at its chunk. -/
theorem put_dt (j : ℕ) (hj : j < 64) (s : State Ideal) (i : Fin 64) (l : Fin 128) (g : Fin 4) (r : Fin 8) :
    b163 j s (ix4 i l g r) = if i.val = 63 - j then (chunk j s).ddt (grad s) l g r else s.main_v18_13 (ix4 i l g r) := by
  unfold b163
  refine (write4 _ _ _ (63 - j) (clamp_start j s hj _ _ _ _ _ rfl rfl rfl) i l g r).trans ?_
  pointwise [b159, ddt_at]

/-- A trip puts the input projection's gradient at its chunk. -/
theorem put_b (j : ℕ) (hj : j < 64) (s : State Ideal) (i : Fin 64) (l : Fin 128) (g : Fin 4) (n : Fin 128) :
    b168 j s (ix4 i l g n) = if i.val = 63 - j then (chunk j s).db (grad s) l g n else s.main_v18_14 (ix4 i l g n) := by
  unfold b168
  refine (write4n _ _ _ (63 - j) (clamp_start j s hj _ _ _ _ _ rfl rfl rfl) i l g n).trans ?_
  pointwise [b164, db_at]

/-- A trip puts the output projection's gradient at its chunk. -/
theorem put_c (j : ℕ) (hj : j < 64) (s : State Ideal) (i : Fin 64) (l : Fin 128) (g : Fin 4) (n : Fin 128) :
    b173 j s (ix4 i l g n) = if i.val = 63 - j then (chunk j s).dc l g n else s.main_v18_15 (ix4 i l g n) := by
  unfold b173
  refine (write4n _ _ _ (63 - j) (clamp_start j s hj _ _ _ _ _ rfl rfl rfl) i l g n).trans ?_
  pointwise [b169, dc_at]

/-- What state `n` of the loop holds. -/
structure At (s : State Ideal) (K : Fin 64 → Chunk) (n : ℕ) : Prop where
  args : Args s K
  grad : grad s = gradAt K n
  dd : ∀ (g : Fin 4) (r : Fin 8), s.main_v18_11 (ix2 g r) = ddAt K n g r
  dx : ∀ i l g r p, 63 - i.val < n → s.main_v18_12 (ix5 i l g r p) = (K i).dx (gradAt K (63 - i.val)) l g r p
  ddt : ∀ i l g r, 63 - i.val < n → s.main_v18_13 (ix4 i l g r) = (K i).ddt (gradAt K (63 - i.val)) l g r
  db : ∀ i l g m, 63 - i.val < n → s.main_v18_14 (ix4 i l g m) = (K i).db (gradAt K (63 - i.val)) l g m
  dc : ∀ i l g m, 63 - i.val < n → s.main_v18_15 (ix4 i l g m) = (K i).dc l g m

/-- The first state holds nothing yet. -/
theorem at_init (s : State Ideal) (K : Fin 64 → Chunk) (args : Args s K) (h0 : s.main_v18_10 = K_main_v8 (F := Ideal))
    (h1 : s.main_v18_11 = K_main_v9 (F := Ideal)) : At s K 0 where
  args := args
  grad := by
    funext g r p n
    show s.main_v18_10 (ix4 g r p n) = 0
    rw [h0]
    pointwise [K_main_v8, K_main_cst]
  dd g r := by
    rw [h1]
    pointwise [K_main_v9, K_main_cst_0, ddAt]
  dx i l g r p h := absurd h (Nat.not_lt_zero _)
  ddt i l g r h := absurd h (Nat.not_lt_zero _)
  db i l g r h := absurd h (Nat.not_lt_zero _)
  dc i l g r h := absurd h (Nat.not_lt_zero _)

/-- A trip goes from one state's contents to the next's. -/
theorem at_step (n : ℕ) (hn : n < 64) (s : State Ideal) (K : Fin 64 → Chunk) (h : At s K n) : At (step n s) K (n + 1) := by
  have hK := chunk_eq n hn s K h.args
  have hi : ∀ i : Fin 64, i.val = 63 - n → rev n = i ∧ 63 - i.val = n := fun i e =>
    ⟨Fin.ext (show 63 - n = i.val by omega), by omega⟩
  constructor
  · exact ⟨h.args.x, h.args.dt, h.args.b, h.args.c, h.args.st, h.args.dy, h.args.a, h.args.d⟩
  · funext g r p m
    show (step n s).main_v18_10 (ix4 g r p m) = _
    rw [step_main_v18_10]
    refine (next_at n s g r p m).trans ?_
    rw [hK, h.grad]
    rfl
  · intro g r
    rw [step_main_v18_11]
    pointwise [b152, dd_at, h.dd]
    rw [hK]
    rfl
  · intro i l g r p hlt
    rw [step_main_v18_12, put_x n hn]
    by_cases e : i.val = 63 - n
    · rw [if_pos e, hK, h.grad, (hi i e).1, (hi i e).2]
    · rw [if_neg e]
      exact h.dx i l g r p (by omega)
  · intro i l g r hlt
    rw [step_main_v18_13, put_dt n hn]
    by_cases e : i.val = 63 - n
    · rw [if_pos e, hK, h.grad, (hi i e).1, (hi i e).2]
    · rw [if_neg e]
      exact h.ddt i l g r (by omega)
  · intro i l g r hlt
    rw [step_main_v18_14, put_b n hn]
    by_cases e : i.val = 63 - n
    · rw [if_pos e, hK, h.grad, (hi i e).1, (hi i e).2]
    · rw [if_neg e]
      exact h.db i l g r (by omega)
  · intro i l g r hlt
    rw [step_main_v18_15, put_c n hn]
    by_cases e : i.val = 63 - n
    · rw [if_pos e, hK, (hi i e).1]
    · rw [if_neg e]
      exact h.dc i l g r (by omega)

/-- Every state of the loop. -/
theorem at_iter (K : Fin 64 → Chunk) (it : ℕ → State Ideal) (h0 : At (it 0) K 0) (hs : ∀ n, it (n + 1) = step n (it n)) :
    ∀ n, n ≤ 64 → At (it n) K n
  | 0, _ => h0
  | n + 1, hn => by
    rw [hs]
    exact at_step n (by omega) _ K (at_iter K it h0 hs n (by omega))

/-- The first result, of the loop's last state. -/
theorem result_x (s : State Ideal) (K : Fin 64 → Chunk) (h : At s K 64) (t : Fin 8192) (q : Fin 3072) :
    R_main_v22 s (ix2 t q) = outX K t q := by
  pointwise [R_main_v22]
  unfold outX Chunk.lane
  by_cases h1 : q.val < 2048
  · rw [dif_pos h1, if_pos h1, h.dx _ _ _ _ _ (by omega)]
    have e : (⟨q.val / 512 % 4, by omega⟩ : Fin 4) = ⟨q.val / 512, by omega⟩ := Fin.ext (show q.val / 512 % 4 = q.val / 512 by omega)
    rw [e]
  · rw [dif_neg h1, if_neg h1]
    by_cases h2 : q.val < 2560
    · rw [dif_pos (by omega), if_pos h2, h.db _ _ _ _ (by omega)]
      exact congrArg₂ ((K _).db _ _) (Fin.ext (show (q.val - 2048) / 128 = (q.val - 2048) / 128 % 4 by omega))
        (Fin.ext (show (q.val - 2048) % 128 = q.val % 128 by omega))
    · rw [dif_neg (by omega), if_neg h2, h.dc _ _ _ _ (by simp only []; omega)]
      exact congrArg₂ ((K _).dc _) (Fin.ext (show (q.val - 2048 - 512) / 128 = (q.val - 2560) / 128 % 4 by omega))
        (Fin.ext (show (q.val - 2048 - 512) % 128 = q.val % 128 by omega))

/-- The number that fills the lanes behind the heads. -/
theorem fill_zero : (FloatOps.sitofp (F := Ideal) FTy.f32 (0#32 : BitVec 32) : EReal) = 0 := by
  show ((((0#32 : BitVec 32).toInt : ℝ)) : EReal) = 0
  simp

/-- The second result, of the loop's last state. -/
theorem result_dt (s : State Ideal) (K : Fin 64 → Chunk) (h : At s K 64) (t : Fin 8192) (q : Fin 128) :
    R_main_v24 s (ix2 t q) = outDt K t q := by
  pointwise [R_main_v24]
  unfold outDt Chunk.ddtLane
  by_cases h1 : q.val < 32
  · rw [dif_pos h1, if_pos h1, h.ddt _ _ _ _ (by omega)]
    have e : (⟨q.val / 8 % 4, by omega⟩ : Fin 4) = ⟨q.val / 8, by omega⟩ := Fin.ext (show q.val / 8 % 4 = q.val / 8 by omega)
    rw [e]
  · rw [dif_neg h1, if_neg h1]
    exact fill_zero

/-- The third result, of the loop's last state. -/
theorem result_d (s : State Ideal) (K : Fin 64 → Chunk) (h : At s K 64) (q : Fin 128) :
    R_main_v26 s (ix2 0 q) = outD K q := by
  pointwise [R_main_v26]
  unfold outD
  by_cases h1 : q.val < 32
  · rw [dif_pos h1, if_pos h1, h.dd]
    have e : (⟨q.val / 8 % 4, by omega⟩ : Fin 4) = ⟨q.val / 8, by omega⟩ := Fin.ext (show q.val / 8 % 4 = q.val / 8 by omega)
    rw [e]
  · rw [dif_neg h1, if_neg h1]
    exact fill_zero

end Cert.ReferenceIdeal.Scan

end
-- ==== Proof.ReferenceRun.lean ====
/-
  The reference's loop as states: the buffers that the loop carries hold, before trip `j`, the state number `j` of any
  sequence that goes on by the trip's step, so the run ends with the results read off the last state.
-/
module

public import proofs.«01_k».proof.Proof.Gen.ReferenceIdeal.Run
public import proofs.«01_k».proof.Proof.Gen.ReferenceIdeal.Step

@[expose] public section

set_option maxRecDepth 65536

noncomputable section

namespace Cert.ReferenceIdeal.Scan

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

/-- The loop's carried buffers, as a state. -/
def carried (V : Valuation τ sig (Elt F)) : State F where
  main_v18_0 := V (Proc.devRef .tc main_v18_0)
  main_v18_1 := V (Proc.devRef .tc main_v18_1)
  main_v18_2 := V (Proc.devRef .tc main_v18_2)
  main_v18_3 := V (Proc.devRef .tc main_v18_3)
  main_v18_4 := V (Proc.devRef .tc main_v18_4)
  main_v18_5 := V (Proc.devRef .tc main_v18_5)
  main_v18_6 := V (Proc.devRef .tc main_v18_6)
  main_v18_7 := V (Proc.devRef .tc main_v18_7)
  main_v18_10 := V (Proc.devRef .tc main_v18_10)
  main_v18_11 := V (Proc.devRef .tc main_v18_11)
  main_v18_12 := V (Proc.devRef .tc main_v18_12)
  main_v18_13 := V (Proc.devRef .tc main_v18_13)
  main_v18_14 := V (Proc.devRef .tc main_v18_14)
  main_v18_15 := V (Proc.devRef .tc main_v18_15)

/-- Before trip `j` the loop's counter is `j`, and its bound the constant. -/
structure Counter (V : Valuation τ sig (Elt F)) (j : ℕ) : Prop where
  count : V (Proc.devRef .tc main_v18_9) = constantI S_ 32 (BitVec.ofNat 32 j)
  bound : V (Proc.devRef .tc main_v18_8) = Cert.ReferenceIdeal.Step.K_main_v1 (F := F)

variable {V : Valuation τ sig (Elt F)} {j : ℕ}

/-- The chunk's number, counted from the end. -/
theorem chunk_number (h : Counter V j) : res_main_while0b_v28 V = Cert.ReferenceIdeal.Step.b3 j (carried V) := by
  unfold res_main_while0b_v28
  rw [h.count]
  rfl

/-- The chunk's rows of the inner inputs. -/
theorem inner_rows (h : Counter V j) : res_main_while0b_v29 V = Cert.ReferenceIdeal.Step.b9 j (carried V) := by
  unfold res_main_while0b_v29
  rw [chunk_number h]
  rfl

/-- The chunk's rows of the step sizes. -/
theorem step_rows (h : Counter V j) : res_main_while0b_v30 V = Cert.ReferenceIdeal.Step.b14 j (carried V) := by
  unfold res_main_while0b_v30
  rw [chunk_number h]
  rfl

/-- The chunk's rows of the input projections. -/
theorem b_rows (h : Counter V j) : res_main_while0b_v31 V = Cert.ReferenceIdeal.Step.b19 j (carried V) := by
  unfold res_main_while0b_v31
  rw [chunk_number h]
  rfl

/-- The chunk's rows of the output projections. -/
theorem c_rows (h : Counter V j) : res_main_while0b_v32 V = Cert.ReferenceIdeal.Step.b24 j (carried V) := by
  unfold res_main_while0b_v32
  rw [chunk_number h]
  rfl

/-- The chunk's state at its start. -/
theorem entry_state (h : Counter V j) : res_main_while0b_v33 V = Cert.ReferenceIdeal.Step.b30 j (carried V) := by
  unfold res_main_while0b_v33
  rw [chunk_number h]
  rfl

/-- The chunk's rows of the output's gradient. -/
theorem upstream_rows (h : Counter V j) : res_main_while0b_v34 V = Cert.ReferenceIdeal.Step.b36 j (carried V) := by
  unfold res_main_while0b_v34
  rw [chunk_number h]
  rfl

/-- The step sizes beside each lane of their head. -/
theorem step_wide (h : Counter V j) : res_main_while0b_v40 V = Cert.ReferenceIdeal.Step.b42 j (carried V) := by
  unfold res_main_while0b_v40
  rw [step_rows h]
  rfl

/-- The inner inputs times their step sizes. -/
theorem scaled_rows (h : Counter V j) : res_main_while0b_v42 V = Cert.ReferenceIdeal.Step.b44 j (carried V) := by
  unfold res_main_while0b_v42
  rw [inner_rows h, step_wide h]
  rfl

/-- The running sums of the exponents. -/
theorem running (h : Counter V j) : res_main_while0b_v44 V = Cert.ReferenceIdeal.Step.b48 j (carried V) := by
  unfold res_main_while0b_v44
  rw [step_rows h]
  rfl

/-- The decay between two rows. -/
theorem decays (h : Counter V j) : res_main_while0b_v52 V = Cert.ReferenceIdeal.Step.b64 j (carried V) := by
  unfold res_main_while0b_v52
  rw [running h, h.bound]
  rfl

/-- The decayed products of the projections. -/
theorem pair_weights (h : Counter V j) : res_main_while0b_v56 V = Cert.ReferenceIdeal.Step.b68 j (carried V) := by
  unfold res_main_while0b_v56
  rw [b_rows h, c_rows h, decays h]
  rfl

/-- The decay from a row to the chunk's end. -/
theorem end_decays (h : Counter V j) : res_main_while0b_v64 V = Cert.ReferenceIdeal.Step.b76 j (carried V) := by
  unfold res_main_while0b_v64
  rw [running h]
  rfl

/-- The scaled inputs decayed to the chunk's end. -/
theorem decayed_rows (h : Counter V j) : res_main_while0b_v66 V = Cert.ReferenceIdeal.Step.b78 j (carried V) := by
  unfold res_main_while0b_v66
  rw [scaled_rows h, end_decays h]
  rfl

/-- The decay from the chunk's start to a row. -/
theorem start_decays (h : Counter V j) : res_main_while0b_v73 V = Cert.ReferenceIdeal.Step.b85 j (carried V) := by
  unfold res_main_while0b_v73
  rw [running h]
  rfl

/-- The skip weights beside each lane of their head. -/
theorem skips (h : Counter V j) : res_main_while0b_v80 V = Cert.ReferenceIdeal.Step.b92 j (carried V) := by
  unfold res_main_while0b_v80
  rfl

/-- The decay over the whole chunk. -/
theorem chunk_decay (h : Counter V j) : res_main_while0b_v84 V = Cert.ReferenceIdeal.Step.b96 j (carried V) := by
  unfold res_main_while0b_v84
  rw [running h]
  rfl

/-- The output's gradient decayed from the chunk's start. -/
theorem decayed_upstream (h : Counter V j) : res_main_while0b_v100 V = Cert.ReferenceIdeal.Step.b115 j (carried V) := by
  unfold res_main_while0b_v100
  rw [upstream_rows h, start_decays h]
  rfl

/-- The output's gradient, head by head. -/
theorem upstream_heads (h : Counter V j) : res_main_while0b_v111 V = Cert.ReferenceIdeal.Step.b126 j (carried V) := by
  unfold res_main_while0b_v111
  rw [upstream_rows h]
  rfl

/-- The gradient of the scaled inputs. -/
theorem scaled_gradient (h : Counter V j) : res_main_while0b_v115 V = Cert.ReferenceIdeal.Step.b130 j (carried V) := by
  unfold res_main_while0b_v115
  rw [upstream_heads h, b_rows h, pair_weights h, end_decays h]
  rfl

/-- The gradient of the projections' products. -/
theorem pair_gradient (h : Counter V j) : res_main_while0b_v119 V = Cert.ReferenceIdeal.Step.b136 j (carried V) := by
  unfold res_main_while0b_v119
  rw [upstream_heads h, scaled_rows h, decays h]
  rfl

/-- Two states with equal fields are equal. -/
theorem state_eq {s t : State F} (h10 : s.main_v18_10 = t.main_v18_10)
    (h11 : s.main_v18_11 = t.main_v18_11)
    (h12 : s.main_v18_12 = t.main_v18_12)
    (h13 : s.main_v18_13 = t.main_v18_13)
    (h14 : s.main_v18_14 = t.main_v18_14)
    (h15 : s.main_v18_15 = t.main_v18_15)
    (h0 : s.main_v18_0 = t.main_v18_0)
    (h1 : s.main_v18_1 = t.main_v18_1)
    (h2 : s.main_v18_2 = t.main_v18_2)
    (h3 : s.main_v18_3 = t.main_v18_3)
    (h4 : s.main_v18_4 = t.main_v18_4)
    (h5 : s.main_v18_5 = t.main_v18_5)
    (h6 : s.main_v18_6 = t.main_v18_6)
    (h7 : s.main_v18_7 = t.main_v18_7) : s = t := by
  cases s; cases t
  cases h10; cases h11; cases h12; cases h13; cases h14; cases h15; cases h0; cases h1; cases h2; cases h3; cases h4; cases h5; cases h6; cases h7
  rfl

set_option maxHeartbeats 2000000 in
/-- One trip takes the carried buffers to the next state. -/
theorem carried_step (h : Counter V j) : carried (STEP V) = step j (carried V) := by
  have e10 : step_main_v18_10 V = Cert.ReferenceIdeal.Step.b119 j (carried V) := by
    unfold step_main_v18_10; rw [decayed_upstream h, c_rows h, chunk_decay h]; rfl
  have e11 : step_main_v18_11 V = Cert.ReferenceIdeal.Step.b152 j (carried V) := by
    unfold step_main_v18_11; rw [inner_rows h, upstream_rows h]; rfl
  have e12 : step_main_v18_12 V = Cert.ReferenceIdeal.Step.b158 j (carried V) := by
    unfold step_main_v18_12; rw [scaled_gradient h, chunk_number h, upstream_rows h, step_wide h, skips h]; rfl
  have e13 : step_main_v18_13 V = Cert.ReferenceIdeal.Step.b163 j (carried V) := by
    unfold step_main_v18_13; rw [scaled_gradient h, chunk_number h, inner_rows h]; rfl
  have e14 : step_main_v18_14 V = Cert.ReferenceIdeal.Step.b168 j (carried V) := by
    unfold step_main_v18_14; rw [pair_gradient h, chunk_number h, c_rows h, decayed_rows h]; rfl
  have e15 : step_main_v18_15 V = Cert.ReferenceIdeal.Step.b173 j (carried V) := by
    unfold step_main_v18_15; rw [decayed_upstream h, pair_gradient h, chunk_number h, b_rows h, entry_state h]; rfl
  exact state_eq
    ((STEP_main_v18_10 V).trans (e10.trans (Cert.ReferenceIdeal.Step.step_main_v18_10 j (carried V)).symm))
    ((STEP_main_v18_11 V).trans (e11.trans (Cert.ReferenceIdeal.Step.step_main_v18_11 j (carried V)).symm))
    ((STEP_main_v18_12 V).trans (e12.trans (Cert.ReferenceIdeal.Step.step_main_v18_12 j (carried V)).symm))
    ((STEP_main_v18_13 V).trans (e13.trans (Cert.ReferenceIdeal.Step.step_main_v18_13 j (carried V)).symm))
    ((STEP_main_v18_14 V).trans (e14.trans (Cert.ReferenceIdeal.Step.step_main_v18_14 j (carried V)).symm))
    ((STEP_main_v18_15 V).trans (e15.trans (Cert.ReferenceIdeal.Step.step_main_v18_15 j (carried V)).symm))
    (STEP_main_v18_0 V) (STEP_main_v18_1 V) (STEP_main_v18_2 V) (STEP_main_v18_3 V) (STEP_main_v18_4 V) (STEP_main_v18_5 V)
    (STEP_main_v18_6 V) (STEP_main_v18_7 V)

/-- One trip counts. -/
theorem counter_step (h : Counter V j) : Counter (STEP V) (j + 1) where
  count := by
    rw [STEP_main_v18_9]
    unfold step_main_v18_9
    rw [h.count]
    funext i
    show BitVec.ofNat 32 j + 1#32 = BitVec.ofNat 32 (j + 1)
    simp only [BitVec.ofNat_add]
  bound := (STEP_main_v18_8 V).trans h.bound

variable (m : (ℓ : Loc nD τ sig) → Buf (Elt F) ℓ) (c : Dev nD)

/-- The loop's first state, of the memory that the run starts from. -/
def first : State F :=
  init (m ((c.tc : Thread nD τ).loc main_arg2)) (m ((c.tc : Thread nD τ).loc main_arg3))
    (m ((c.tc : Thread nD τ).loc main_arg0)) (m ((c.tc : Thread nD τ).loc main_arg1))
    (m ((c.tc : Thread nD τ).loc main_arg4)) (m ((c.tc : Thread nD τ).loc main_arg5))

set_option maxHeartbeats 1000000 in
/-- What the operations before the loop leave. -/
theorem at_entry : Counter (entryContents preI m c) 0 ∧ carried (entryContents preI m c) = first m c := by
  refine ⟨⟨?_, ?_⟩, state_eq ?_ ?_ ?_ ?_ ?_ ?_ ?_ ?_ ?_ ?_ ?_ ?_ ?_ ?_⟩ <;>
    (simp only [carried, entryContents, afterL_cons, afterL_nil]; after_reads_simp) <;> rfl

/-- Before trip `k` the carried buffers hold state number `k`. -/
theorem carried_iter (it : ℕ → State F) (h0 : it 0 = first m c) (hs : ∀ n, it (n + 1) = step n (it n)) (k : ℕ) :
    Counter (STEP^[k] (entryContents preI m c)) k ∧ carried (STEP^[k] (entryContents preI m c)) = it k := by
  induction k with
  | zero => exact ⟨(at_entry m c).1, (at_entry m c).2.trans h0.symm⟩
  | succ k ih =>
    rw [Function.iterate_succ_apply', hs k, ← ih.2]
    exact ⟨counter_step ih.1, carried_step ih.1⟩

/-- The first result, off the carried buffers. -/
theorem read_x (V : Valuation τ sig (Elt F)) : out_main_v22 V = Cert.ReferenceIdeal.Step.R_main_v22 (carried V) := by
  unfold out_main_v22; rfl

/-- The second result, off the carried buffers. -/
theorem read_dt (V : Valuation τ sig (Elt F)) : out_main_v24 V = Cert.ReferenceIdeal.Step.R_main_v24 (carried V) := by
  unfold out_main_v24; rfl

/-- The third result, off the carried buffers. -/
theorem read_d (V : Valuation τ sig (Elt F)) : out_main_v26 V = Cert.ReferenceIdeal.Step.R_main_v26 (carried V) := by
  unfold out_main_v26; rfl

set_option maxHeartbeats 1000000 in
/-- The run: every result is read off the last state of any sequence that starts at the first state and goes on by the
    trip's step, and every argument is unchanged. -/
theorem run_states (m : (ℓ : Loc nD τ sig) → Buf (Elt F) ℓ) (ρ : Dev nD → PrngReg) (it : Dev nD → ℕ → State F)
    (h0 : ∀ c, it c 0 = first m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v22) = Cert.ReferenceIdeal.Step.R_main_v22 (it c 64)
      ∧ r.2.mem ((c.tc : Thread nD τ).loc main_v24) = Cert.ReferenceIdeal.Step.R_main_v24 (it c 64)
      ∧ r.2.mem ((c.tc : Thread nD τ).loc main_v26) = Cert.ReferenceIdeal.Step.R_main_v26 (it c 64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun _ h c => ?_) (Value.run m ρ)
  have last := (carried_iter m c (it c) (h0 c) (hs c) 64).2
  exact ⟨(h c).1.trans ((read_x _).trans (congrArg Cert.ReferenceIdeal.Step.R_main_v22 last)),
    (h c).2.1.trans ((read_dt _).trans (congrArg Cert.ReferenceIdeal.Step.R_main_v24 last)),
    (h c).2.2.1.trans ((read_d _).trans (congrArg Cert.ReferenceIdeal.Step.R_main_v26 last)), (h c).2.2.2⟩

end Cert.ReferenceIdeal.Scan

end
-- ==== Proof.Algebraic.lean ====
/-
  The value claim: the kernel's three results are the reference's.
-/
module

public import proofs.«01_k».proof.Defs
public import proofs.«01_k».proof.Proof.Finiteness
public import proofs.«01_k».proof.Proof.ReferenceResult
public import proofs.«01_k».proof.Proof.Gen.KernelIdeal.Value
public import proofs.«01_k».proof.Proof.ReferenceRun
public import Idealize.ShloMosaic.Lib.Claim

@[expose] public section

set_option maxRecDepth 16384

noncomputable section

namespace Cert.Proof

open Idealize.ShloMosaic Idealize.SL.Sem Cert.Scan

/-- The loop's states, from a first one. -/
def states (s : Cert.ReferenceIdeal.Step.State Idealize.ShloMosaic.Ideal) : ℕ → Cert.ReferenceIdeal.Step.State Idealize.ShloMosaic.Ideal
  | 0 => s
  | n + 1 => Cert.ReferenceIdeal.Step.step n (states s n)

/-- The last state of the loop holds the chunks' gradients. -/
theorem last_state (A D : FVec Idealize.ShloMosaic.Ideal Cert.ReferenceIdeal.S32 .f32) (X : FVec Idealize.ShloMosaic.Ideal Cert.ReferenceIdeal.S8192x3072 .f32)
    (DT : FVec Idealize.ShloMosaic.Ideal Cert.ReferenceIdeal.S8192x32 .f32) (ST : FVec Idealize.ShloMosaic.Ideal Cert.ReferenceIdeal.S64x2048x128 .f32)
    (DY : FVec Idealize.ShloMosaic.Ideal Cert.ReferenceIdeal.S8192x2048 .bf16) :
    Cert.ReferenceIdeal.Scan.At (states (Cert.ReferenceIdeal.Step.init A D X DT ST DY) 64) (chunkOf X DT A D ST DY) 64 :=
  Cert.ReferenceIdeal.Scan.at_iter _ (states _)
    (Cert.ReferenceIdeal.Scan.at_init _ _ (Cert.ReferenceIdeal.Scan.args_init A D X DT ST DY) rfl rfl) (fun _ => rfl) 64 le_rfl

/-- The same of the reference's memory, in the kernel's arguments. -/
theorem last_of (m : (ℓ : Loc Cert.KernelIdeal.nD Cert.KernelIdeal.τ Cert.KernelIdeal.sig) → Buf (Elt Idealize.ShloMosaic.Ideal) ℓ)
    (m' : (ℓ : Loc Cert.ReferenceIdeal.nD Cert.ReferenceIdeal.τ Cert.ReferenceIdeal.sig) → Buf (Elt Idealize.ShloMosaic.Ideal) ℓ)
    (c : Dev Cert.KernelIdeal.nD)
    (h : m' (c.tc.loc Cert.ReferenceIdeal.main_arg0) = m (c.tc.loc Cert.KernelIdeal.main_arg0)
      ∧ m' (c.tc.loc Cert.ReferenceIdeal.main_arg1) = m (c.tc.loc Cert.KernelIdeal.main_arg1)
      ∧ m' (c.tc.loc Cert.ReferenceIdeal.main_arg2) = m (c.tc.loc Cert.KernelIdeal.main_arg2)
      ∧ m' (c.tc.loc Cert.ReferenceIdeal.main_arg3) = m (c.tc.loc Cert.KernelIdeal.main_arg3)
      ∧ m' (c.tc.loc Cert.ReferenceIdeal.main_arg4) = m (c.tc.loc Cert.KernelIdeal.main_arg4)
      ∧ m' (c.tc.loc Cert.ReferenceIdeal.main_arg5) = m (c.tc.loc Cert.KernelIdeal.main_arg5)) :
    Cert.ReferenceIdeal.Scan.At (states (Cert.ReferenceIdeal.Scan.first m' c) 64) (Cert.KernelIdeal.Scan.seq m c) 64 := by
  obtain ⟨h0, h1, h2, h3, h4, h5⟩ := h
  have e := last_state (m' (c.tc.loc Cert.ReferenceIdeal.main_arg2)) (m' (c.tc.loc Cert.ReferenceIdeal.main_arg3))
    (m' (c.tc.loc Cert.ReferenceIdeal.main_arg0)) (m' (c.tc.loc Cert.ReferenceIdeal.main_arg1))
    (m' (c.tc.loc Cert.ReferenceIdeal.main_arg4)) (m' (c.tc.loc Cert.ReferenceIdeal.main_arg5))
  have k : chunkOf (m' (c.tc.loc Cert.ReferenceIdeal.main_arg0)) (m' (c.tc.loc Cert.ReferenceIdeal.main_arg1))
      (m' (c.tc.loc Cert.ReferenceIdeal.main_arg2)) (m' (c.tc.loc Cert.ReferenceIdeal.main_arg3))
      (m' (c.tc.loc Cert.ReferenceIdeal.main_arg4)) (m' (c.tc.loc Cert.ReferenceIdeal.main_arg5))
      = Cert.KernelIdeal.Scan.seq m c := by
    rw [h0, h1, h2, h3, h4, h5]; rfl
  rw [← k]
  exact e

/-- Kernel and reference end with equal results. -/
theorem algebraic : Cert.algebraic_KernelIdeal_ReferenceIdeal_pre_step_sizes_finite := by
  pair_intro
  · run_from Cert.KernelIdeal.Value.run_blocks m g
  · run_from Cert.ReferenceIdeal.Scan.run_states m' g' (fun c => states (Cert.ReferenceIdeal.Scan.first m' c))
      (fun _ => rfl) (fun _ _ => rfl)
    · rw [Cert.KernelIdeal.Scan.final8 m c (Cert.KernelIdeal.Scan.finite_of_pre m hpre c)]
      funext y
      rw [Cert.KernelIdeal.Scan.eta2 y]
      exact Cert.ReferenceIdeal.Scan.result_x _ _ (last_of m m' c (hagree c)) _ _
    · rw [Cert.KernelIdeal.Scan.final10 m c (Cert.KernelIdeal.Scan.finite_of_pre m hpre c)]
      funext y
      rw [Cert.KernelIdeal.Scan.eta2 y]
      exact Cert.ReferenceIdeal.Scan.result_dt _ _ (last_of m m' c (hagree c)) _ _
    · rw [Cert.KernelIdeal.Scan.final11 m c (Cert.KernelIdeal.Scan.finite_of_pre m hpre c)]
      funext y
      rw [Cert.KernelIdeal.Scan.eta2 y, show y 0 = (0 : Fin 1) from Subsingleton.elim (α := Fin 1) _ _]
      exact Cert.ReferenceIdeal.Scan.result_d _ _ (last_of m m' c (hagree c)) _

end Cert.Proof

end
-- ==== Proof.ResidualNorms.lean ====
/-
  The products with a scaled residual and a norm behind them: the kernel works in slices of 128 positions.
-/
module

public import proofs.«01_k».proof.Proof.Gen.Kernel20Ideal.Value
public import proofs.«01_k».proof.Proof.Gen.Reference20Ideal
public import proofs.«01_k».proof.Proof.Gen.Kernel21Ideal.Value
public import proofs.«01_k».proof.Proof.Gen.Reference21Ideal
public import Idealize.ShloMosaic.Lib.Pipeline.ValueKit

@[expose] public section

set_option maxRecDepth 16384

noncomputable section

open Idealize.ShloMosaic Idealize.ShloMosaic.TcCoe Idealize.SL.Sem

/-! ## The norm of a row -/

namespace Cert.ResidualNorm

open Cert.Kernel20Ideal Cert.Kernel20Ideal.Gen

/-- The mean of a row. -/
def mean (s : Fin 1024 → EReal) : EReal := Ideal.div (∑ j, s j) (Ideal.ofBits .f32 0x44800000#32)

/-- An entry of a row, less the mean, over the square root of the variance, times the gain, with the shift added. -/
def normRow (s : Fin 1024 → EReal) (g b : EReal) (j : Fin 1024) : EReal :=
  (s j - mean s) * Ideal.rsqrt (mean (fun k => (s k - mean s) * (s k - mean s)) + Ideal.ofBits .f32 0x3727C5AC#32) * g + b

/-- The reference's residual sum. -/
abbrev residualSum (D H : FVec Ideal S8192x1024 .f32) : FVec Ideal S8192x1024 .f32 :=
  addf (mulf (broadcastInDim S8192x1024 ![] Cert.Reference20Ideal.Gen.bcast_S_S8192x1024 (constant Cert.Reference20Ideal.S_ .f32 0x3FB504F3#32)) H) D

/-- The reference's mean of each row. -/
abbrev means (S : FVec Ideal S8192x1024 .f32) : FVec Ideal Cert.Reference20Ideal.S8192x1 .f32 :=
  Host.divf (broadcastInDim Cert.Reference20Ideal.S8192x1 ![0] Cert.Reference20Ideal.Gen.bcast_S8192_S8192x1_0
      (Host.reduceAdd S (constant Cert.Reference20Ideal.S_ .f32 0x00000000#32)
        Cert.Reference20Ideal.Gen.reducesTo_S8192x1024_S8192_d1 Cert.Reference20Ideal.Gen.h_S_))
    (broadcastInDim Cert.Reference20Ideal.S8192x1 ![] Cert.Reference20Ideal.Gen.bcast_S_S8192x1
      (constant Cert.Reference20Ideal.S_ .f32 0x44800000#32))

/-- The reference's rows less their means. -/
abbrev centred (S : FVec Ideal S8192x1024 .f32) : FVec Ideal S8192x1024 .f32 :=
  subf S (broadcastInDim S8192x1024 ![0, 1] Cert.Reference20Ideal.Gen.bcast_S8192x1_S8192x1024_0_1 (means S))

/-- The reference's norm. -/
abbrev norm (S : FVec Ideal S8192x1024 .f32) (g b : FVec Ideal S1x1024 .f32) : FVec Ideal S8192x1024 .f32 :=
  addf (mulf (mulf (centred S)
      (broadcastInDim S8192x1024 ![0, 1] Cert.Reference20Ideal.Gen.bcast_S8192x1_S8192x1024_0_1
        (Host.rsqrt (addf (means (mulf (centred S) (centred S)))
          (broadcastInDim Cert.Reference20Ideal.S8192x1 ![] Cert.Reference20Ideal.Gen.bcast_S_S8192x1
            (constant Cert.Reference20Ideal.S_ .f32 0x3727C5AC#32))))))
      (broadcastInDim S8192x1024 ![0, 1] Cert.Reference20Ideal.Gen.bcast_S1x1024_S8192x1024_0_1 g))
    (broadcastInDim S8192x1024 ![0, 1] Cert.Reference20Ideal.Gen.bcast_S1x1024_S8192x1024_0_1 b)

/-- Its entries. -/
theorem norm_apply (S : FVec Ideal S8192x1024 .f32) (g b : FVec Ideal S1x1024 .f32) (i : S8192x1024.Idx) :
    (norm S g b i : EReal) = normRow (fun j => S (ix2 (i 0) j)) (g (ix2 0 (i 1))) (b (ix2 0 (i 1))) (i 1) := by
  simp only [normRow, mean]
  pointwise [norm, centred, means]

/-- The kernel's norm of a slice of 128 rows. -/
theorem slice_norm (d h : FVec Ideal S128x1024 .f32) (g b : FVec Ideal S1x1024 .f32) (y : S128x1024.Idx) :
    (k0_pay2 d h g b y : EReal)
      = normRow (fun j => k0_pay1 d h (ix2 (y 0) j)) (g (ix2 0 (y 1))) (b (ix2 0 (y 1))) (y 1) := by
  simp only [normRow, mean]
  pointwise [k0_pay2]

/-- A slice whose sums are a row's has that row's norm. -/
theorem slice_eq (d h : FVec Ideal S128x1024 .f32) (g b G B : FVec Ideal S1x1024 .f32) (S : FVec Ideal S8192x1024 .f32)
    (y : S128x1024.Idx) (i : S8192x1024.Idx) (hs : ∀ j, (k0_pay1 d h (ix2 (y 0) j) : EReal) = S (ix2 (i 0) j))
    (h1 : (i 1).val = (y 1).val) (hg : g = G) (hb : b = B) :
    (k0_pay2 d h g b y : EReal) = norm S G B i := by
  rw [slice_norm, norm_apply, funext hs, hg, hb, show i 1 = y 1 from Fin.ext h1]

end Cert.ResidualNorm

/-! ## The mixing product -/

namespace Cert.Kernel20Ideal.Value

open Cert.Kernel20Ideal Cert.Kernel20Ideal.Gen Cert.ResidualNorm

variable (m : (ℓ : Loc nD τ sig) → Buf (Elt Ideal) ℓ)

/-- The reference's residual sum of the arguments. -/
abbrev sums (c : Dev nD) : FVec Ideal S8192x1024 .f32 :=
  residualSum (Host.dotGeneral Cert.Reference20Ideal.dot_S8192x1024_S1024x1024_S8192x1024_1_0_0_1_n_n none
    (extf .f32 (m ((c : Thread nD τ).loc main_arg0)) Cert.Reference20Ideal.Gen.bitsLt_bf16_f32)
    (extf .f32 (m ((c : Thread nD τ).loc main_arg1)) Cert.Reference20Ideal.Gen.bitsLt_bf16_f32))
    (m ((c : Thread nD τ).loc main_arg2))

/-- The reference's norm of the arguments. -/
abbrev normed (c : Dev nD) : FVec Ideal S8192x1024 .f32 :=
  norm (sums m c) (m ((c : Thread nD τ).loc main_arg3)) (m ((c : Thread nD τ).loc main_arg4))

/-- The blocks of a grid point. -/
theorem places : ∀ t : Fin cfg0.N, win0_0.index t = ![t.val, 0] ∧ win0_1.index t = ![0, 0]
    ∧ win0_2.index t = ![t.val, 0] ∧ win0_3.index t = ![0, 0] ∧ win0_4.index t = ![0, 0]
    ∧ win0_5.index t = ![t.val, 0] ∧ win0_6.index t = ![t.val, 0] ∧ win0_7.index t = ![t.val, 0] :=
  (by decide +kernel : ∀ t : Fin grid0.N, _)

/-- The product of a slice of 128 rows. -/
abbrev prod (c : Dev nD) (t : Fin cfg0.N) (o : ℕ) (ho : ∀ a, (![o, 0] : Fin 2 → ℕ) a + S128x1024.size a ≤ S512x1024.size a) :
    FVec Ideal S128x1024 .f32 :=
  k0_pay13 (iblk m c 1 t) (View.ld (iblk m c 0 t) (Rect.unit ![o, 0] ![128, 1024] ho))

/-- The slice's part of the residual. -/
abbrev resid (c : Dev nD) (t : Fin cfg0.N) (o : ℕ) (ho : ∀ a, (![o, 0] : Fin 2 → ℕ) a + S128x1024.size a ≤ S512x1024.size a) :
    FVec Ideal S128x1024 .f32 :=
  View.ld (iblk m c 2 t) (Rect.unit ![o, 0] ![128, 1024] ho)

/-- A slice's sums are the reference's. -/
theorem slice_sum (c : Dev nD) (t : Fin cfg0.N) (o : ℕ) (ho) (x : S128x1024.Idx) (i : S8192x1024.Idx)
    (h0 : (i 0).val = 512 * t.val + o + (x 0).val) (h1 : (i 1).val = (x 1).val) :
    (k0_pay1 (prod m c t o ho) (resid m c t o ho) x : EReal) = sums m c i := by
  pointwise [k0_pay1, k0_pay13, prod, resid, sums, residualSum]
  blk_point [iblk, V, places t]

/-- A slice's norm is the reference's. -/
theorem slice_normed (c : Dev nD) (t : Fin cfg0.N) (o : ℕ) (ho) (x : S128x1024.Idx) (i : S8192x1024.Idx)
    (h0 : (i 0).val = 512 * t.val + o + (x 0).val) (h1 : (i 1).val = (x 1).val) :
    (k0_pay2 (prod m c t o ho) (resid m c t o ho) (iblk m c 3 t) (iblk m c 4 t) x : EReal) = normed m c i := by
  refine slice_eq _ _ _ _ _ _ _ _ _ (fun j => slice_sum m c t o ho _ _ ?_ ?_) h1 ?_ ?_
  · exact h0
  · rfl
  · funext y; blk_point [iblk, V, places t]
  · funext y; blk_point [iblk, V, places t]

/-- What a grid point leaves in the sums' block. -/
theorem sum_point (c : Dev nD) (t : Fin cfg0.N) (y : S512x1024.Idx) :
    ((outsAt0 m c t).2.1 : S512x1024.Idx → EReal) y = sums m c (((cfg0.win 6).blk t).view.emb y) := by
  rw [outsAt0]
  frame_out
  canon_tiles x h
  case' piece0 => refine Eq.trans ?_ (slice_sum m c t 384 (by decide) x _ ?_ ?_)
  case' piece1 => refine Eq.trans ?_ (slice_sum m c t 256 (by decide) x _ ?_ ?_)
  case' piece2 => refine Eq.trans ?_ (slice_sum m c t 128 (by decide) x _ ?_ ?_)
  case' piece3 => refine Eq.trans ?_ (slice_sum m c t 0 (by decide) x _ ?_ ?_)
  all_goals first | rfl | (blk_simp [places t]; omega)

/-- What a grid point leaves in the norm's block. -/
theorem norm_point (c : Dev nD) (t : Fin cfg0.N) (y : S512x1024.Idx) :
    ((outsAt0 m c t).1 : S512x1024.Idx → EReal) y = normed m c (((cfg0.win 5).blk t).view.emb y) := by
  rw [outsAt0]
  frame_out
  canon_tiles x h
  case' piece0 => refine Eq.trans ?_ (slice_normed m c t 384 (by decide) x _ ?_ ?_)
  case' piece1 => refine Eq.trans ?_ (slice_normed m c t 256 (by decide) x _ ?_ ?_)
  case' piece2 => refine Eq.trans ?_ (slice_normed m c t 128 (by decide) x _ ?_ ?_)
  case' piece3 => refine Eq.trans ?_ (slice_normed m c t 0 (by decide) x _ ?_ ?_)
  all_goals first | rfl | (blk_simp [places t]; omega)

/-- What a grid point leaves in the block of the norm's bfloat16 copy, which over the reals is the norm. -/
theorem cast_point (c : Dev nD) (t : Fin cfg0.N) (y : S512x1024.Idx) :
    ((outsAt0 m c t).2.2 : S512x1024.Idx → EReal) y = normed m c (((cfg0.win 7).blk t).view.emb y) := by
  rw [outsAt0]
  frame_out
  canon_tiles x h
  case' piece0 => refine Eq.trans ?_ (slice_normed m c t 384 (by decide) x _ ?_ ?_)
  case' piece1 => refine Eq.trans ?_ (slice_normed m c t 256 (by decide) x _ ?_ ?_)
  case' piece2 => refine Eq.trans ?_ (slice_normed m c t 128 (by decide) x _ ?_ ?_)
  case' piece3 => refine Eq.trans ?_ (slice_normed m c t 0 (by decide) x _ ?_ ?_)
  all_goals first | rfl | (blk_simp [places t]; omega)

/-- The array of the sums after the run. -/
theorem sum_result (c : Dev nD) : (dats m 0 c).arrAt 6 (cfgs 0).N = sums m c := by
  refine (dats m 0 c).arrAt_eq_of_covers 6 _ (by decide +kernel) fun t _ y => ?_
  blk_simp
  rw [after0_6]
  exact sum_point m c t y

/-- The array of the norm after the run. -/
theorem norm_result (c : Dev nD) : (dats m 0 c).arrAt 5 (cfgs 0).N = normed m c := by
  refine (dats m 0 c).arrAt_eq_of_covers 5 _ (by decide +kernel) fun t _ y => ?_
  blk_simp
  rw [after0_5]
  exact norm_point m c t y

/-- The array of the norm's bfloat16 copy after the run. -/
theorem cast_result (c : Dev nD) : (dats m 0 c).arrAt 7 (cfgs 0).N = truncf .bf16 (normed m c) Cert.Reference20Ideal.Gen.bitsLt_bf16_f32 := by
  refine (dats m 0 c).arrAt_eq_of_covers 7 _ (by decide +kernel) fun t _ y => ?_
  blk_simp
  rw [after0_7]
  exact cast_point m c t y

end Cert.Kernel20Ideal.Value

/-! ## The feed-forward's second product -/

namespace Cert.Kernel21Ideal.Value

open Cert.Kernel21Ideal Cert.Kernel21Ideal.Gen Cert.ResidualNorm

variable (m : (ℓ : Loc nD τ sig) → Buf (Elt Ideal) ℓ)

/-- The reference's residual sum of the arguments. -/
abbrev sums (c : Dev nD) : FVec Ideal S8192x1024 .f32 :=
  residualSum (Host.dotGeneral Cert.Reference21Ideal.dot_S8192x2816_S2816x1024_S8192x1024_1_0_0_1_n_n none
    (extf .f32 (m ((c : Thread nD τ).loc main_arg0)) Cert.Reference21Ideal.Gen.bitsLt_bf16_f32)
    (extf .f32 (m ((c : Thread nD τ).loc main_arg1)) Cert.Reference21Ideal.Gen.bitsLt_bf16_f32))
    (m ((c : Thread nD τ).loc main_arg2))

/-- The reference's norm of the arguments. -/
abbrev normed (c : Dev nD) : FVec Ideal S8192x1024 .f32 :=
  norm (sums m c) (m ((c : Thread nD τ).loc main_arg3)) (m ((c : Thread nD τ).loc main_arg4))

/-- The blocks of a grid point. -/
theorem places : ∀ t : Fin cfg0.N, win0_0.index t = ![t.val, 0] ∧ win0_1.index t = ![0, 0]
    ∧ win0_2.index t = ![t.val, 0] ∧ win0_3.index t = ![0, 0] ∧ win0_4.index t = ![0, 0]
    ∧ win0_5.index t = ![t.val, 0] ∧ win0_6.index t = ![t.val, 0] ∧ win0_7.index t = ![t.val, 0] :=
  (by decide +kernel : ∀ t : Fin grid0.N, _)

/-- The product of a slice of 128 rows. -/
abbrev prod (c : Dev nD) (t : Fin cfg0.N) (o : ℕ) (ho : ∀ a, (![o, 0] : Fin 2 → ℕ) a + S128x2816.size a ≤ S512x2816.size a) :
    FVec Ideal S128x1024 .f32 :=
  k0_pay13 (iblk m c 1 t) (View.ld (iblk m c 0 t) (Rect.unit ![o, 0] ![128, 2816] ho))

/-- The slice's part of the residual. -/
abbrev resid (c : Dev nD) (t : Fin cfg0.N) (o : ℕ) (ho : ∀ a, (![o, 0] : Fin 2 → ℕ) a + S128x1024.size a ≤ S512x1024.size a) :
    FVec Ideal S128x1024 .f32 :=
  View.ld (iblk m c 2 t) (Rect.unit ![o, 0] ![128, 1024] ho)

/-- A slice's sums are the reference's. -/
theorem slice_sum (c : Dev nD) (t : Fin cfg0.N) (o : ℕ) (ho) (hx) (x : S128x1024.Idx) (i : S8192x1024.Idx)
    (h0 : (i 0).val = 512 * t.val + o + (x 0).val) (h1 : (i 1).val = (x 1).val) :
    (k0_pay1 (prod m c t o hx) (resid m c t o ho) x : EReal) = sums m c i := by
  pointwise [k0_pay1, k0_pay13, prod, resid, sums, residualSum]
  blk_point [iblk, V, places t]

/-- A slice's norm is the reference's. -/
theorem slice_normed (c : Dev nD) (t : Fin cfg0.N) (o : ℕ) (ho) (hx) (x : S128x1024.Idx) (i : S8192x1024.Idx)
    (h0 : (i 0).val = 512 * t.val + o + (x 0).val) (h1 : (i 1).val = (x 1).val) :
    (k0_pay2 (prod m c t o hx) (resid m c t o ho) (iblk m c 3 t) (iblk m c 4 t) x : EReal) = normed m c i := by
  refine slice_eq _ _ _ _ _ _ _ _ _ (fun j => slice_sum m c t o ho hx _ _ ?_ ?_) h1 ?_ ?_
  · exact h0
  · rfl
  · funext y; blk_point [iblk, V, places t]
  · funext y; blk_point [iblk, V, places t]

/-- What a grid point leaves in the sums' block. -/
theorem sum_point (c : Dev nD) (t : Fin cfg0.N) (y : S512x1024.Idx) :
    ((outsAt0 m c t).2.1 : S512x1024.Idx → EReal) y = sums m c (((cfg0.win 6).blk t).view.emb y) := by
  rw [outsAt0]
  frame_out
  canon_tiles x h
  case' piece0 => refine Eq.trans ?_ (slice_sum m c t 384 (by decide) (by decide) x _ ?_ ?_)
  case' piece1 => refine Eq.trans ?_ (slice_sum m c t 256 (by decide) (by decide) x _ ?_ ?_)
  case' piece2 => refine Eq.trans ?_ (slice_sum m c t 128 (by decide) (by decide) x _ ?_ ?_)
  case' piece3 => refine Eq.trans ?_ (slice_sum m c t 0 (by decide) (by decide) x _ ?_ ?_)
  all_goals first | rfl | (blk_simp [places t]; omega)

/-- What a grid point leaves in the norm's block. -/
theorem norm_point (c : Dev nD) (t : Fin cfg0.N) (y : S512x1024.Idx) :
    ((outsAt0 m c t).1 : S512x1024.Idx → EReal) y = normed m c (((cfg0.win 5).blk t).view.emb y) := by
  rw [outsAt0]
  frame_out
  canon_tiles x h
  case' piece0 => refine Eq.trans ?_ (slice_normed m c t 384 (by decide) (by decide) x _ ?_ ?_)
  case' piece1 => refine Eq.trans ?_ (slice_normed m c t 256 (by decide) (by decide) x _ ?_ ?_)
  case' piece2 => refine Eq.trans ?_ (slice_normed m c t 128 (by decide) (by decide) x _ ?_ ?_)
  case' piece3 => refine Eq.trans ?_ (slice_normed m c t 0 (by decide) (by decide) x _ ?_ ?_)
  all_goals first | rfl | (blk_simp [places t]; omega)

/-- What a grid point leaves in the block of the norm's bfloat16 copy, which over the reals is the norm. -/
theorem cast_point (c : Dev nD) (t : Fin cfg0.N) (y : S512x1024.Idx) :
    ((outsAt0 m c t).2.2 : S512x1024.Idx → EReal) y = normed m c (((cfg0.win 7).blk t).view.emb y) := by
  rw [outsAt0]
  frame_out
  canon_tiles x h
  case' piece0 => refine Eq.trans ?_ (slice_normed m c t 384 (by decide) (by decide) x _ ?_ ?_)
  case' piece1 => refine Eq.trans ?_ (slice_normed m c t 256 (by decide) (by decide) x _ ?_ ?_)
  case' piece2 => refine Eq.trans ?_ (slice_normed m c t 128 (by decide) (by decide) x _ ?_ ?_)
  case' piece3 => refine Eq.trans ?_ (slice_normed m c t 0 (by decide) (by decide) x _ ?_ ?_)
  all_goals first | rfl | (blk_simp [places t]; omega)

/-- The array of the sums after the run. -/
theorem sum_result (c : Dev nD) : (dats m 0 c).arrAt 6 (cfgs 0).N = sums m c := by
  refine (dats m 0 c).arrAt_eq_of_covers 6 _ (by decide +kernel) fun t _ y => ?_
  blk_simp
  rw [after0_6]
  exact sum_point m c t y

/-- The array of the norm after the run. -/
theorem norm_result (c : Dev nD) : (dats m 0 c).arrAt 5 (cfgs 0).N = normed m c := by
  refine (dats m 0 c).arrAt_eq_of_covers 5 _ (by decide +kernel) fun t _ y => ?_
  blk_simp
  rw [after0_5]
  exact norm_point m c t y

/-- The array of the norm's bfloat16 copy after the run. -/
theorem cast_result (c : Dev nD) : (dats m 0 c).arrAt 7 (cfgs 0).N = truncf .bf16 (normed m c) Cert.Reference21Ideal.Gen.bitsLt_bf16_f32 := by
  refine (dats m 0 c).arrAt_eq_of_covers 7 _ (by decide +kernel) fun t _ y => ?_
  blk_simp
  rw [after0_7]
  exact cast_point m c t y

end Cert.Kernel21Ideal.Value
-- ==== Proof.ForwardNorms.lean ====
/-
  The norm of the step's input.
-/
module

public import proofs.«01_k».proof.Proof.Gen.Kernel25Ideal.Value
public import proofs.«01_k».proof.Proof.Gen.Reference25Ideal
public import proofs.«01_k».proof.Proof.ResidualNorms
public import Idealize.ShloMosaic.Lib.Pipeline.ValueKit

@[expose] public section

set_option maxRecDepth 16384

noncomputable section

open Idealize.ShloMosaic Idealize.ShloMosaic.TcCoe Idealize.SL.Sem

/-! ## The norm of the step's input -/

namespace Cert.Kernel25Ideal.Value

open Cert.Kernel25Ideal Cert.Kernel25Ideal.Gen Cert.ResidualNorm

variable (m : (ℓ : Loc nD τ sig) → Buf (Elt Ideal) ℓ)

/-- The reference's norm of the arguments. -/
abbrev normed (c : Dev nD) : FVec Ideal S8192x1024 .f32 :=
  norm (m ((c : Thread nD τ).loc main_arg0)) (m ((c : Thread nD τ).loc main_arg1)) (m ((c : Thread nD τ).loc main_arg2))

/-- The blocks of a grid point. -/
theorem places : ∀ t : Fin cfg0.N, win0_0.index t = ![t.val, 0] ∧ win0_1.index t = ![0, 0]
    ∧ win0_2.index t = ![0, 0] ∧ win0_3.index t = ![t.val, 0] ∧ win0_4.index t = ![t.val, 0] :=
  (by decide +kernel : ∀ t : Fin grid0.N, _)

/-- The kernel's norm of a block of rows. -/
theorem block_norm (x : FVec Ideal S512x1024 .f32) (g b : FVec Ideal S1x1024 .f32) (y : S512x1024.Idx) :
    (k0_pay1 (F := Ideal) x g b y : EReal)
      = normRow (fun j => x (ix2 (y 0) j)) (g (ix2 0 (y 1))) (b (ix2 0 (y 1))) (y 1) := by
  simp only [normRow, mean]
  pointwise [k0_pay1]

/-- A block's norm is the reference's. -/
theorem block_normed (c : Dev nD) (t : Fin cfg0.N) (y : S512x1024.Idx) (i : S8192x1024.Idx)
    (h0 : (i 0).val = 512 * t.val + (y 0).val) (h1 : (i 1).val = (y 1).val) :
    (k0_pay1 (F := Ideal) (iblk m c 0 t) (iblk m c 1 t) (iblk m c 2 t) y : EReal) = normed m c i := by
  rw [block_norm]
  refine Eq.trans ?_ (norm_apply _ _ _ i).symm
  rw [show i 1 = y 1 from Fin.ext h1]
  congr 1
  · funext j; blk_point [iblk, V, places t]
  · blk_point [iblk, V, places t]
  · blk_point [iblk, V, places t]

/-- The array of the norm after the run. -/
theorem norm_result (c : Dev nD) : (dats m 0 c).arrAt 3 (cfgs 0).N = normed m c := by
  refine (dats m 0 c).arrAt_eq_of_covers 3 _ (by decide +kernel) fun t _ y => ?_
  blk_simp
  rw [after0_3]
  frame_out
  refine block_normed m c t y _ ?_ ?_
  · blk_simp [places t]; omega
  · blk_simp [places t]

/-- The array of the norm's bfloat16 copy after the run. -/
theorem cast_result (c : Dev nD) : (dats m 0 c).arrAt 4 (cfgs 0).N = truncf .bf16 (normed m c) Cert.Reference25Ideal.Gen.bitsLt_bf16_f32 := by
  refine (dats m 0 c).arrAt_eq_of_covers 4 _ (by decide +kernel) fun t _ y => ?_
  blk_simp
  rw [after0_4]
  frame_out
  refine block_normed m c t y _ ?_ ?_
  · blk_simp [places t]; omega
  · blk_simp [places t]

end Cert.Kernel25Ideal.Value
-- ==== Proof.LossAndSums.lean ====
/-
  The loss with its gradient, and the small parameters: the sum of the devices' gradients and the optimiser's step.
-/
module

public import proofs.«01_k».proof.Proof.Gen.Kernel29Ideal.Value
public import proofs.«01_k».proof.Proof.Gen.Reference29Ideal
public import proofs.«01_k».proof.Proof.Gen.Kernel30Ideal.Value
public import proofs.«01_k».proof.Proof.Gen.Reference30Ideal
public import proofs.«01_k».proof.Proof.Gen.Kernel31Ideal.Value
public import proofs.«01_k».proof.Proof.Gen.Reference31Ideal
public import Idealize.ShloMosaic.Lib.Pipeline.ValueKit

@[expose] public section

set_option maxRecDepth 16384

noncomputable section

open Idealize.ShloMosaic Idealize.ShloMosaic.TcCoe Idealize.SL.Sem

/-! ## The loss -/

namespace Cert.Kernel29Ideal.Value

open Cert.Kernel29Ideal Cert.Kernel29Ideal.Gen

variable (m : (ℓ : Loc nD τ sig) → Buf (Elt Ideal) ℓ)

/-- A sum of numbers that are not negative, times a number, is the sum of the products. -/
theorem sum_scaled {n : ℕ} (f : Fin n → EReal) (h : ∀ k, 0 ≤ f k) (c : EReal) : (∑ k, f k) * c = ∑ k, f k * c := by
  induction n with
  | zero => simp
  | succ n ih =>
    rw [Fin.sum_univ_succ, Fin.sum_univ_succ,
      EReal.right_distrib_of_nonneg (h 0) (Finset.sum_nonneg fun k _ => h k.succ), ih _ fun k => h k.succ]

/-- A square is not negative. -/
theorem square_nonneg (x : EReal) : 0 ≤ x * x := by
  rcases le_total 0 x with h | h
  · exact mul_nonneg h h
  · rw [← neg_mul_neg]
    exact mul_nonneg (EReal.neg_nonneg.mpr h) (EReal.neg_nonneg.mpr h)

/-- The number 1024. -/
theorem width : Ideal.ofBits .f32 0x44800000#32 = ((1024 : ℝ) : EReal) := by
  simp [Ideal.ofBits, Ideal.ieee, -EReal.coe_mul]
  norm_num

/-- A half. -/
theorem half : Ideal.ofBits .f32 0x3F000000#32 = ((1 / 2 : ℝ) : EReal) := by
  simp [Ideal.ofBits, Ideal.ieee, -EReal.coe_mul]
  norm_num

/-- Two. -/
theorem two : Ideal.ofBits .f32 0x40000000#32 = ((2 : ℝ) : EReal) := by
  simp [Ideal.ofBits, Ideal.ieee, -EReal.coe_mul]
  norm_num

/-- The kernel's factor of the gradient is one over the width. -/
theorem over_width : Ideal.ofBits .f32 0x3A800000#32 = ((1 / 1024 : ℝ) : EReal) := by
  simp [Ideal.ofBits, Ideal.ieee, -EReal.coe_mul]
  norm_num

/-- Its factor of the loss is half of that. -/
theorem over_twice_width : Ideal.ofBits .f32 0x3A000000#32 = ((1 / 2048 : ℝ) : EReal) := by
  simp [Ideal.ofBits, Ideal.ieee, -EReal.coe_mul]
  norm_num

/-- The squared error of a position. -/
def error {n : ℕ} (x u : FVec Ideal ⟨2, ![n, 1024]⟩ .f32) (r : Fin n) : EReal :=
  ∑ k : Fin 1024, (x (ix2 r k) - u (ix2 r k)) * (x (ix2 r k) - u (ix2 r k))

/-- It is not negative. -/
theorem error_nonneg {n : ℕ} (x u : FVec Ideal ⟨2, ![n, 1024]⟩ .f32) (r : Fin n) : 0 ≤ error x u r :=
  Finset.sum_nonneg fun _ _ => square_nonneg _

/-- The reference's loss, in every place of the small array. -/
abbrev loss (x u : FVec Ideal S8192x1024 .f32) : FVec Ideal S8x128 .f32 :=
  broadcastInDim S8x128 ![] Cert.Reference29Ideal.Gen.bcast_S_S8x128 (mulf (constant Cert.Reference29Ideal.S_ .f32 0x3F000000#32)
    (Host.reduceAdd (Host.divf
        (Host.reduceAdd (mulf (subf x u) (subf x u)) (constant Cert.Reference29Ideal.S_ .f32 0x00000000#32)
          Cert.Reference29Ideal.Gen.reducesTo_S8192x1024_S8192_d1 Cert.Reference29Ideal.Gen.h_S_)
        (broadcastInDim Cert.Reference29Ideal.S8192 ![] Cert.Reference29Ideal.Gen.bcast_S_S8192
          (constant Cert.Reference29Ideal.S_ .f32 0x44800000#32)))
      (constant Cert.Reference29Ideal.S_ .f32 0x00000000#32) Cert.Reference29Ideal.Gen.reducesTo_S8192_S_d0 Cert.Reference29Ideal.Gen.h_S_))

/-- The reference's gradient of the loss. -/
abbrev slope (x u : FVec Ideal S8192x1024 .f32) : FVec Ideal S8192x1024 .f32 :=
  mulf (broadcastInDim S8192x1024 ![0] Cert.Reference29Ideal.Gen.bcast_S8192_S8192x1024_0
      (Host.divf (broadcastInDim Cert.Reference29Ideal.S8192 ![] Cert.Reference29Ideal.Gen.bcast_S_S8192
          (mulf (constant Cert.Reference29Ideal.S_ .f32 0x3F000000#32) (constant Cert.Reference29Ideal.S_ .f32 0x3F800000#32)))
        (broadcastInDim Cert.Reference29Ideal.S8192 ![] Cert.Reference29Ideal.Gen.bcast_S_S8192
          (constant Cert.Reference29Ideal.S_ .f32 0x44800000#32))))
    (mulf (broadcastInDim S8192x1024 ![] Cert.Reference29Ideal.Gen.bcast_S_S8192x1024 (constant Cert.Reference29Ideal.S_ .f32 0x40000000#32))
      (subf x u))

/-- Half the sum of the means is the sum of the errors over twice the width. -/
theorem loss_apply (x u : FVec Ideal S8192x1024 .f32) (i : S8x128.Idx) :
    (loss x u i : EReal) = ∑ r : Fin 8192, error x u r * Ideal.ofBits .f32 0x3A000000#32 := by
  have h : (loss x u i : EReal) = Ideal.ofBits .f32 0x3F000000#32
      * ∑ r : Fin 8192, Ideal.div (error x u r) (Ideal.ofBits .f32 0x44800000#32) := by
    simp only [error]
    pointwise [loss]
  rw [h, width, half, over_twice_width]
  simp only [Ideal.div_coe (show (1024 : ℝ) ≠ 0 by norm_num)]
  rw [← sum_scaled _ (error_nonneg x u), ← sum_scaled _ (error_nonneg x u), mul_left_comm, ← EReal.coe_mul]
  norm_num

/-- The error over the width, from the reference's numbers. -/
theorem slope_apply (x u : FVec Ideal S8192x1024 .f32) (i : S8192x1024.Idx) :
    (slope x u i : EReal) = (x i - u i) * Ideal.ofBits .f32 0x3A800000#32 := by
  have h : (slope x u i : EReal) = Ideal.div (Ideal.ofBits .f32 0x3F000000#32 * Ideal.ofBits .f32 0x3F800000#32)
      (Ideal.ofBits .f32 0x44800000#32) * (Ideal.ofBits .f32 0x40000000#32 * (x i - u i)) := by
    pointwise [slope]
  rw [h, width, half, two, over_width, Ideal.ofBits_one_f32, mul_one, Ideal.div_coe (show (1024 : ℝ) ≠ 0 by norm_num), ← mul_assoc,
    ← EReal.coe_mul, ← EReal.coe_mul, mul_comm]
  norm_num

/-- The blocks of a grid point. -/
theorem places : ∀ t : Fin cfg0.N, win0_0.index t = ![t.val, 0] ∧ win0_1.index t = ![t.val, 0]
    ∧ win0_2.index t = ![t.val, 0] ∧ win0_3.index t = ![0, 0] :=
  (by decide +kernel : ∀ t : Fin grid0.N, _)

/-- What a grid point adds to the loss. -/
abbrev part (c : Dev nD) (t : Fin cfg0.N) : EReal :=
  ∑ k : Fin 512, error (iblk m c 0 t) (iblk m c 1 t) k * Ideal.ofBits .f32 0x3A000000#32

/-- The kernel's addition to the loss. -/
theorem next_part (x u : FVec Ideal S512x1024 .f32) (acc : FVec Ideal S8x128 .f32) (j : S8x128.Idx) :
    (k0_pay4 (F := Ideal) x u acc j : EReal) = acc j + ∑ k : Fin 512, error x u k * Ideal.ofBits .f32 0x3A000000#32 := by
  rw [← sum_scaled _ (error_nonneg x u)]
  simp only [error]
  pointwise [k0_pay4, k0_pay1]

/-- The array it adds to starts at nothing. -/
theorem first_part (x u : FVec Ideal S512x1024 .f32) (j : S8x128.Idx) :
    (k0_pay4 (F := Ideal) x u (k0_pay3 (F := Ideal)) j : EReal) = ∑ k : Fin 512, error x u k * Ideal.ofBits .f32 0x3A000000#32 := by
  rw [next_part]
  pointwise [k0_pay3]

/-- The kernel's gradient block. -/
theorem slope_part (x u : FVec Ideal S512x1024 .f32) (j : S512x1024.Idx) :
    (k0_pay2 (F := Ideal) x u j : EReal) = (x j - u j) * Ideal.ofBits .f32 0x3A800000#32 := by
  pointwise [k0_pay2, k0_pay1]

/-- The array of the gradient after the run. -/
theorem slope_result (c : Dev nD) : (dats m 0 c).arrAt 2 (cfgs 0).N
    = slope (m ((c : Thread nD τ).loc main_arg0)) (m ((c : Thread nD τ).loc main_arg1)) := by
  refine (dats m 0 c).arrAt_eq_of_covers 2 _ (by decide +kernel) fun t _ y => ?_
  blk_simp
  rw [after0_2]
  refine Eq.trans ?_ (slope_apply _ _ _).symm
  by_cases h : t.val % 16 = 0
  · rw [outsAt0_A m c t h]
    frame_out
    rw [slope_part]
    congr 2 <;> blk_point [iblk, V, places t]
  · rw [outsAt0_B m c t h]
    frame_out
    rw [slope_part]
    congr 2 <;> blk_point [iblk, V, places t]

/-- The array of the loss after the run. -/
theorem loss_result (c : Dev nD) : (dats m 0 c).arrAt 3 (cfgs 0).N
    = loss (m ((c : Thread nD τ).loc main_arg0)) (m ((c : Thread nD τ).loc main_arg1)) := by
  refine (dats m 0 c).arrAt_eq_of_covers 3 _ (by decide +kernel) fun t hf y => ?_
  have last := (flush0_3 t).mp hf
  blk_simp
  rw [after0_3]
  refine Eq.trans ?_ (loss_apply _ _ _).symm
  rw [Pipeline.eq_sum_fin_of_reset_step_apply_of_flush (fun n h => (outsAt0 m c n h).2) 16 (fun _ => (0 : EReal))
    (fun t _ => part m c t)
    (fun t h j => by rw [outsAt0_A m c t h]; frame_out; rw [first_part, zero_add])
    (fun t h j => by rw [outsAt0_B m c t h]; frame_out; rw [next_part])
    t last y, zero_add]
  refine Fin.sum_mul_add_congr fun s k hl => ?_
  simp only [error]
  congr 1
  refine Finset.sum_congr rfl fun j _ => ?_
  congr 2 <;> blk_point [iblk, V, places ⟨_, Pipeline.run_point_lt_of_flush t last s⟩]

end Cert.Kernel29Ideal.Value

/-! ## The small parameters -/

namespace Cert.Kernel30Ideal.Value

open Cert.Kernel30Ideal Cert.Kernel30Ideal.Gen

variable (m : (ℓ : Loc nD τ sig) → Buf (Elt Ideal) ℓ)

/-- A number in every place. -/
abbrev num (b : BitVec 32) : FVec Ideal S304x128 .f32 :=
  broadcastInDim S304x128 ![] Cert.Reference30Ideal.Gen.bcast_S_S304x128 (constant Cert.Reference30Ideal.S_ .f32 b)

/-- The reference's new first moment. -/
abbrev newM (g m : FVec Ideal S304x128 .f32) : FVec Ideal S304x128 .f32 :=
  addf (mulf (num 0x3F666666#32) m) (mulf (num 0x3DCCCCCD#32) g)

/-- The reference's new second moment. -/
abbrev newV (g v : FVec Ideal S304x128 .f32) : FVec Ideal S304x128 .f32 :=
  addf (mulf (num 0x3F7FBE77#32) v) (mulf (num 0x3A83126F#32) (mulf g g))

/-- The reference's change of the parameters. -/
abbrev change (w g m v : FVec Ideal S304x128 .f32) : FVec Ideal S304x128 .f32 :=
  mulf (num 0xBA83126F#32) (addf (Host.divf (Host.divf (newM g m) (num 0x3F26BD02#32))
      (addf (Host.sqrt (Host.divf (newV g v) (num 0x3C231ACC#32))) (num 0x322BCC77#32)))
    (mulf (num 0x3C23D70A#32) w))

/-- The blocks of a grid point. -/
theorem places : ∀ t : Fin cfg0.N, win0_0.index t = ![t.val, 0] ∧ win0_1.index t = ![t.val, 0]
    ∧ win0_2.index t = ![t.val, 0] ∧ win0_3.index t = ![t.val, 0] ∧ win0_4.index t = ![t.val, 0]
    ∧ win0_5.index t = ![t.val, 0] ∧ win0_6.index t = ![t.val, 0] :=
  (by decide +kernel : ∀ t : Fin grid0.N, _)

/-- An entry of the kernel's blocks is the entry of the arrays that lies there. -/
theorem blocks_apply (c : Dev nD) (t : Fin cfg0.N) (y : S152x128.Idx) (i : S304x128.Idx) (h0 : (i 0).val = 152 * t.val + (y 0).val)
    (h1 : (i 1).val = (y 1).val) :
    (iblk m c 0 t y : EReal) = m ((c : Thread nD τ).loc main_arg0) i ∧ (iblk m c 1 t y : EReal) = m ((c : Thread nD τ).loc main_arg1) i
    ∧ (iblk m c 2 t y : EReal) = m ((c : Thread nD τ).loc main_arg2) i ∧ (iblk m c 3 t y : EReal) = m ((c : Thread nD τ).loc main_arg3) i := by
  refine ⟨?_, ?_, ?_, ?_⟩ <;> blk_point [iblk, V, places t]

/-- The array of the changes after the run. -/
theorem change_result (c : Dev nD) : (dats m 0 c).arrAt 4 (cfgs 0).N
    = change (m ((c : Thread nD τ).loc main_arg0)) (m ((c : Thread nD τ).loc main_arg1)) (m ((c : Thread nD τ).loc main_arg2))
      (m ((c : Thread nD τ).loc main_arg3)) := by
  refine (dats m 0 c).arrAt_eq_of_covers 4 _ (by decide +kernel) fun t _ y => ?_
  obtain ⟨hw, hg, hm, hv⟩ := blocks_apply m c t y (((cfg0.win 4).blk t).view.emb y) (by blk_simp [places t]; omega) (by blk_simp [places t])
  blk_simp
  rw [after0_4]
  frame_out
  pointwise [k0_pay3, k0_pay1, k0_pay2, change]
  rw [hw, hg, hm, hv]

/-- The array of the new first moments after the run. -/
theorem moment_result (c : Dev nD) : (dats m 0 c).arrAt 5 (cfgs 0).N
    = newM (m ((c : Thread nD τ).loc main_arg1)) (m ((c : Thread nD τ).loc main_arg2)) := by
  refine (dats m 0 c).arrAt_eq_of_covers 5 _ (by decide +kernel) fun t _ y => ?_
  blk_simp
  rw [after0_5]
  frame_out
  pointwise [k0_pay1, newM]
  congr 2 <;> blk_point [iblk, V, places t]

/-- The array of the new second moments after the run. -/
theorem square_result (c : Dev nD) : (dats m 0 c).arrAt 6 (cfgs 0).N
    = newV (m ((c : Thread nD τ).loc main_arg1)) (m ((c : Thread nD τ).loc main_arg3)) := by
  refine (dats m 0 c).arrAt_eq_of_covers 6 _ (by decide +kernel) fun t _ y => ?_
  blk_simp
  rw [after0_6]
  frame_out
  pointwise [k0_pay2, newV]
  congr 2

end Cert.Kernel30Ideal.Value

namespace Cert.Kernel31Ideal.Value

open Cert.Kernel31Ideal Cert.Kernel31Ideal.Gen

variable (m : (ℓ : Loc nD τ sig) → Buf (Elt Ideal) ℓ)

/-- The reference's sum over the devices. -/
abbrev summed (x : FVec Ideal S8x304x128 .f32) : FVec Ideal S304x128 .f32 :=
  Host.reduceAdd x (constant Cert.Reference31Ideal.S_ .f32 0x00000000#32) Cert.Reference31Ideal.Gen.reducesTo_S8x304x128_S304x128_d0
    Cert.Reference31Ideal.Gen.h_S_

/-- Its entry. -/
theorem summed_apply (x : FVec Ideal S8x304x128 .f32) (i : S304x128.Idx) : (summed x i : EReal) = ∑ k : Fin 8, x (ix3 k (i 0) (i 1)) := by
  pointwise [summed]

/-- The blocks of the grid point. -/
theorem places : ∀ t : Fin cfg0.N, win0_0.index t = ![0, 0, 0] ∧ win0_1.index t = ![0, 0] :=
  (by decide +kernel : ∀ t : Fin grid0.N, _)

/-- The array of the sums after the run. -/
theorem sum_result (c : Dev nD) : (dats m 0 c).arrAt 1 (cfgs 0).N = summed (m ((c : Thread nD τ).loc main_arg0)) := by
  refine (dats m 0 c).arrAt_eq_of_covers 1 _ (by decide +kernel) fun t _ y => ?_
  blk_simp
  rw [after0_1]
  refine Eq.trans ?_ (summed_apply _ _).symm
  rw [Fin.sum_univ_eight]
  frame_out
  pointwise [k0_pay1]
  congr 8 <;> blk_point [iblk, V, places t]

end Cert.Kernel31Ideal.Value
-- ==== Proof.StepSizes.lean ====
/-
  The step sizes: a bias and a softplus.
-/
module

public import proofs.«01_k».proof.Proof.Gen.Kernel28Ideal.Value
public import proofs.«01_k».proof.Proof.Gen.Reference28Ideal
public import Idealize.ShloMosaic.Lib.Pipeline.ValueKit

@[expose] public section

set_option maxRecDepth 16384

noncomputable section

open Idealize.ShloMosaic Idealize.ShloMosaic.TcCoe Idealize.SL.Sem

namespace Cert.Kernel28Ideal.Value

open Cert.Kernel28Ideal Cert.Kernel28Ideal.Gen

variable (m : (ℓ : Loc nD τ sig) → Buf (Elt Ideal) ℓ)

/-- The blocks of a grid point. -/
theorem places : ∀ t : Fin cfg0.N, win0_0.index t = ![t.val, 0] ∧ win0_1.index t = ![0, 0] ∧ win0_2.index t = ![t.val, 0] :=
  (by decide +kernel : ∀ t : Fin grid0.N, _)

/-- The reference's sums of product and bias. -/
abbrev biased (u : FVec Ideal S8192x128 .f32) (b : FVec Ideal S32 .f32) : FVec Ideal Cert.Reference28Ideal.S8192x32 .f32 :=
  addf (extractStridedSlice Cert.Reference28Ideal.S8192x32 ![0, 0] u Cert.Reference28Ideal.Gen.slices_S8192x128_S8192x32_0_0)
    (broadcastInDim Cert.Reference28Ideal.S8192x32 ![0, 1] Cert.Reference28Ideal.Gen.bcast_S1x32_S8192x32_0_1
      (broadcastInDim Cert.Reference28Ideal.S1x32 ![1] Cert.Reference28Ideal.Gen.bcast_S32_S1x32_1 b))

/-- Zeros. -/
abbrev zeros : FVec Ideal Cert.Reference28Ideal.S8192x32 .f32 :=
  broadcastInDim Cert.Reference28Ideal.S8192x32 ![] Cert.Reference28Ideal.Gen.bcast_S_S8192x32 (constant Cert.Reference28Ideal.S_ .f32 0x00000000#32)

/-- The reference's softplus. -/
abbrev softened (x : FVec Ideal Cert.Reference28Ideal.S8192x32 .f32) : FVec Ideal Cert.Reference28Ideal.S8192x32 .f32 :=
  select (cmpf .une (subf x zeros) (subf x zeros)) (addf x zeros)
    (addf (maximumf x zeros) (Host.log1p (Host.exp (Host.negf (Host.absf (subf x zeros))))))

/-- The reference's result: the step sizes with zeros behind them. -/
abbrev expected (u : FVec Ideal S8192x128 .f32) (b : FVec Ideal S32 .f32) : FVec Ideal S8192x128 .f32 :=
  pad S8192x128 ![0, 0] ![0, 96] ![0, 0] (softened (biased u b))
    (sitofp .f32 (constantI Cert.Reference28Ideal.S_ 32 0#32)) Cert.Reference28Ideal.Gen.pads_S8192x32_S8192x128_000_0960
    Cert.Reference28Ideal.Gen.h_S_

/-- An array padded behind its columns. -/
theorem pad_columns (x : FVec Ideal Cert.Reference28Ideal.S8192x32 .f32) (v : FVec Ideal Cert.Reference28Ideal.S_ .f32)
    (i : S8192x128.Idx) :
    pad S8192x128 ![0, 0] ![0, 96] ![0, 0] x v
        Cert.Reference28Ideal.Gen.pads_S8192x32_S8192x128_000_0960 Cert.Reference28Ideal.Gen.h_S_ i
      = if h : (i 1).val < 32 then x (ix2 (i 0) ⟨(i 1).val, h⟩) else v (Shape.Idx.first Cert.Reference28Ideal.Gen.h_S_) := by
  pointwise []

/-- Softplus of an extended real. -/
def soft (x : EReal) : EReal := max x 0 + Ideal.log1p (Ideal.exp (-max x (-x)))

/-- An exponential of a number below zero is a real number. -/
theorem exp_neg_real (x : EReal) : ∃ r : ℝ, 0 ≤ r ∧ Ideal.exp (-max x (-x)) = (r : EReal) := by
  induction x with
  | bot => exact ⟨0, le_refl 0, by simp⟩
  | top => exact ⟨0, le_refl 0, by simp⟩
  | coe r =>
    refine ⟨Real.exp (-max r (-r)), (Real.exp_pos _).le, ?_⟩
    rw [← EReal.coe_neg, ← EReal.coe_strictMono.monotone.map_max, ← EReal.coe_neg, Ideal.exp_coe]

/-- The kernel's logarithm of one more than a number: the number itself where the sum is one, otherwise a quotient. -/
theorem log_quotient (r : ℝ) (h : 0 ≤ r) :
    (if (1 : EReal) + (r : EReal) = 1 then (r : EReal)
      else Ideal.div (Ideal.log (1 + (r : EReal)) * (r : EReal)) (if (1 : EReal) + (r : EReal) = 1 then 1 else 1 + (r : EReal) - 1))
      = Ideal.log1p (r : EReal) := by
  have e : (1 : EReal) + (r : EReal) = ((1 + r : ℝ) : EReal) := by push_cast; rfl
  unfold Ideal.log1p
  by_cases h0 : r = 0
  · subst h0
    simp [← EReal.coe_one]
  · have hn : (1 : EReal) + (r : EReal) ≠ 1 := by
      rw [e, ← EReal.coe_one, Ne, EReal.coe_eq_coe_iff]
      intro k; exact h0 (by linarith)
    have hs : (1 : EReal) + (r : EReal) - 1 = (r : EReal) := by
      rw [e, ← EReal.coe_one, ← EReal.coe_sub]; congr 1; ring
    rw [if_neg hn, if_neg hn, hs, Ideal.div_coe h0, e, Ideal.log_coe, if_neg (by linarith), ← EReal.coe_mul, ← EReal.coe_mul]
    congr 1
    field_simp

/-- Entries of the reference's softplus. -/
theorem softened_apply (x : FVec Ideal Cert.Reference28Ideal.S8192x32 .f32) (j : Cert.Reference28Ideal.S8192x32.Idx) :
    (softened x j : EReal) = soft (x j) := by
  pointwise [softened]
  rw [if_neg (fun h => h rfl)]
  rfl

/-- The kernel's comparison of a lane with 32. -/
theorem lane_below : ∀ n : Fin 128, IntOp.cmpi .slt (BitVec.ofNat 32 n.val) 32#32 = if n.val < 32 then 1#1 else 0#1 := by decide

/-- The kernel's entry. -/
theorem kernel_apply (u : FVec Ideal S1024x128 .f32) (b : FVec Ideal S1x128 .f32) (y : S1024x128.Idx) :
    (k0_pay1 (F := Ideal) u b y : EReal) = if (y 1).val < 32 then soft (u y + b (ix2 0 (y 1))) else 0 := by
  pointwise [k0_pay1]
  simp only [Ideal.absf_def, zero_sub]
  obtain ⟨r, hr, e⟩ := exp_neg_real (u y + b (ix2 0 (y 1)))
  have hl := lane_below (y 1)
  rw [e, log_quotient r hr, ← e, hl]
  by_cases h : (y 1).val < 32
  · rw [if_pos h, if_pos h]; rfl
  · rw [if_neg h, if_neg h]; rfl

/-- A vector padded behind, read inside. -/
theorem pad_inside (x : FVec Ideal S32 .f32) (v : FVec Ideal S_ .f32) (i : S128.Idx) (j : S32.Idx) (h0 : (i 0).val = (j 0).val) :
    pad S128 ![0] ![96] ![0] x v pads_S32_S128_0960 h_S_ i = x j := by
  have hj : (j 0).val < 32 := (j 0).isLt
  pointwise []
  rw [dif_pos (lt_of_eq_of_lt h0 hj)]
  blk_ext

/-- Where the bias lies. -/
theorem bias_apply (c : Dev nD) (t : Fin cfg0.N) (n : Fin 128) (h : n.val < 32) :
    (iblk m c 1 t (ix2 0 n) : EReal) = m ((c : Thread nD τ).loc main_arg1) (ix1 ⟨n.val, h⟩) := by
  blk_simp [iblk, places t]
  simp only [V, hostOps0, hostOps0_1, hostOps0_2, List.flatten_cons, List.flatten_nil, List.cons_append, List.nil_append]
  entry_read
  pointwise []
  exact pad_inside _ _ _ _ (by blk_simp [places t])

/-- Entries of the reference's result. -/
theorem expected_apply (u : FVec Ideal S8192x128 .f32) (b : FVec Ideal S32 .f32) (i : S8192x128.Idx) :
    (expected u b i : EReal) = if h : (i 1).val < 32 then soft (u i + b (ix1 ⟨(i 1).val, h⟩)) else 0 := by
  refine (pad_columns _ _ _).trans ?_
  by_cases h : (i 1).val < 32
  · rw [dif_pos h, dif_pos h]
    refine (softened_apply _ _).trans ?_
    congr 1
    pointwise [biased]
  · rw [dif_neg h, dif_neg h]
    show ((((0#32 : BitVec 32).toInt : ℤ) : ℝ) : EReal) = 0
    simp

/-- The array of the step sizes after the run. -/
theorem result (c : Dev nD) : (dats m 0 c).arrAt 2 (cfgs 0).N
    = expected (m ((c : Thread nD τ).loc main_arg0)) (m ((c : Thread nD τ).loc main_arg1)) := by
  refine (dats m 0 c).arrAt_eq_of_covers 2 _ (by decide +kernel) fun t _ y => ?_
  blk_simp
  rw [after0_2]
  frame_out
  have h1 : ((((View.whole main_v2).slice (win0_2.rect t)).emb y) 1).val = (y 1).val := by blk_simp [places t]
  refine (kernel_apply _ _ y).trans (Eq.trans ?_ (expected_apply _ _ _).symm)
  by_cases h : (y 1).val < 32
  · rw [if_pos h, dif_pos (lt_of_eq_of_lt h1 h), bias_apply m c t (y 1) h]
    congr 1
    blk_point [iblk, V, places t]
  · rw [if_neg h, dif_neg (by omega)]

end Cert.Kernel28Ideal.Value
-- ==== Proof.StepSizeGradient.lean ====
/-
  The gradient of the step sizes' raw values and of their bias.
-/
module

public import proofs.«01_k».proof.Proof.Gen.Kernel32Ideal.Value
public import proofs.«01_k».proof.Proof.Gen.Reference32Ideal
public import proofs.«01_k».proof.Proof.StepSizes
public import Idealize.ShloMosaic.Lib.Pipeline.ValueKit

@[expose] public section

set_option maxRecDepth 16384

noncomputable section

open Idealize.ShloMosaic Idealize.ShloMosaic.TcCoe Idealize.SL.Sem

namespace Cert.Kernel32Ideal.Value

open Cert.Kernel32Ideal Cert.Kernel32Ideal.Gen

variable (m : (ℓ : Loc nD τ sig) → Buf (Elt Ideal) ℓ)

/-- A raw step size's gradient: in a head's lane what comes through the exponent and directly, times the logistic function,
    elsewhere nothing. -/
def cell (n : Fin 128) (d a x u b : EReal) : EReal :=
  if n.val < 32 then (d * a + x) * Ideal.div (Ideal.ofBits .f32 0x3F800000#32) (Ideal.ofBits .f32 0x3F800000#32 + Ideal.exp (-(u + b)))
  else 0

/-- The reference's gradient of the raw step sizes, before its cast. -/
abbrev raw (d x u : FVec Ideal S8192x128 .f32) (b a : FVec Ideal S1x128 .f32) : FVec Ideal S8192x128 .f32 :=
  select (broadcastInDim S8192x128 ![1] Cert.Reference32Ideal.Gen.bcast_S128_S8192x128_1
      (cmpi .slt (iotaInDim Cert.Reference32Ideal.S128 32 0)
        (broadcastInDim Cert.Reference32Ideal.S128 ![] Cert.Reference32Ideal.Gen.bcast_S_S128 (constantI Cert.Reference32Ideal.S_ 32 32#32))))
    (mulf (addf (mulf d (broadcastInDim S8192x128 ![0, 1] Cert.Reference32Ideal.Gen.bcast_S1x128_S8192x128_0_1 a)) x)
      (Host.divf (broadcastInDim S8192x128 ![] Cert.Reference32Ideal.Gen.bcast_S_S8192x128 (constant Cert.Reference32Ideal.S_ .f32 0x3F800000#32))
        (addf (broadcastInDim S8192x128 ![] Cert.Reference32Ideal.Gen.bcast_S_S8192x128 (constant Cert.Reference32Ideal.S_ .f32 0x3F800000#32))
          (Host.exp (Host.negf (addf u (broadcastInDim S8192x128 ![0, 1] Cert.Reference32Ideal.Gen.bcast_S1x128_S8192x128_0_1 b)))))))
    (broadcastInDim S8192x128 ![] Cert.Reference32Ideal.Gen.bcast_S_S8192x128 (id (constant Cert.Reference32Ideal.S_ .f32 0x00000000#32)))

/-- The reference's gradient of the raw step sizes. -/
abbrev rawCast (d x u : FVec Ideal S8192x128 .f32) (b a : FVec Ideal S1x128 .f32) : FVec Ideal S8192x128 .bf16 :=
  truncf .bf16 (raw d x u b a) Cert.Reference32Ideal.Gen.bitsLt_bf16_f32

/-- The reference's gradient of the bias. -/
abbrev bias (d x u : FVec Ideal S8192x128 .f32) (b a : FVec Ideal S1x128 .f32) : FVec Ideal S1x128 .f32 :=
  broadcastInDim S1x128 ![1] Cert.Reference32Ideal.Gen.bcast_S128_S1x128_1
    (Host.reduceAdd (raw d x u b a) (constant Cert.Reference32Ideal.S_ .f32 0x00000000#32)
      Cert.Reference32Ideal.Gen.reducesTo_S8192x128_S128_d0 Cert.Reference32Ideal.Gen.h_S_)

/-- A choice by the comparison of a lane with 32. -/
theorem choose_lane (n : Fin 128) (p q : EReal) :
    Scalar.select (IntOp.cmpi .slt (BitVec.ofNat 32 n.val) 32#32) p q = if n.val < 32 then p else q := by
  rw [Cert.Kernel28Ideal.Value.lane_below n]
  by_cases h : n.val < 32
  · rw [if_pos h, if_pos h]; rfl
  · rw [if_neg h, if_neg h]; rfl

/-- Entries of the reference's gradient. -/
theorem raw_apply (d x u : FVec Ideal S8192x128 .f32) (b a : FVec Ideal S1x128 .f32) (i : S8192x128.Idx) :
    (raw d x u b a i : EReal) = cell (i 1) (d i) (a (ix2 0 (i 1))) (x i) (u i) (b (ix2 0 (i 1))) := by
  refine Eq.trans ?_ (choose_lane (i 1) _ _)
  pointwise [raw, id_eq]

/-- Entries of the bias's gradient. -/
theorem bias_apply (d x u : FVec Ideal S8192x128 .f32) (b a : FVec Ideal S1x128 .f32) (i : S1x128.Idx) :
    (bias d x u b a i : EReal) = ∑ r : Fin 8192, raw d x u b a (ix2 r (i 1)) := by
  generalize hr : raw d x u b a = R
  rw [bias, hr]
  pointwise []

/-- Entries of the kernel's gradient. -/
theorem kernel_apply (d x u : FVec Ideal S1024x128 .f32) (b a : FVec Ideal S1x128 .f32) (y : S1024x128.Idx) :
    (k0_pay2 (F := Ideal) d a x u b y : EReal) = cell (y 1) (d y) (a (ix2 0 (y 1))) (x y) (u y) (b (ix2 0 (y 1))) := by
  refine Eq.trans ?_ (choose_lane (y 1) _ _)
  pointwise [k0_pay2]
  simp only [zero_sub]

/-- The stored gradient. -/
theorem stored_apply (d x u : FVec Ideal S1024x128 .f32) (b a : FVec Ideal S1x128 .f32) (y : S1024x128.Idx) :
    (k0_pay3 (F := Ideal) d a x u b y : EReal) = k0_pay2 (F := Ideal) d a x u b y := by
  pointwise [k0_pay3]

/-- What the kernel adds to the bias's gradient. -/
theorem next_part (d x u : FVec Ideal S1024x128 .f32) (b a acc : FVec Ideal S1x128 .f32) (j : S1x128.Idx) :
    (k0_pay6 (F := Ideal) d a x u b acc j : EReal) = acc j + ∑ k : Fin 1024, k0_pay2 (F := Ideal) d a x u b (ix2 k (j 1)) := by
  generalize hr : k0_pay2 (F := Ideal) d a x u b = R
  rw [k0_pay6, hr]
  pointwise []

/-- The array it adds to starts at nothing. -/
theorem first_part (d x u : FVec Ideal S1024x128 .f32) (b a : FVec Ideal S1x128 .f32) (j : S1x128.Idx) :
    (k0_pay6 (F := Ideal) d a x u b (k0_pay4 (F := Ideal)) j : EReal) = ∑ k : Fin 1024, k0_pay2 (F := Ideal) d a x u b (ix2 k (j 1)) := by
  rw [next_part]
  pointwise [k0_pay4]

/-- The blocks of a grid point. -/
theorem places : ∀ t : Fin cfg0.N, win0_0.index t = ![t.val, 0] ∧ win0_1.index t = ![t.val, 0] ∧ win0_3.index t = ![t.val, 0]
    ∧ win0_4.index t = ![0, 0] ∧ win0_5.index t = ![0, 0] ∧ win0_6.index t = ![t.val, 0] ∧ win0_7.index t = ![0, 0] :=
  (by decide +kernel : ∀ t : Fin grid0.N, _)

/-- The kernel's gradient at a grid point. -/
abbrev piece (c : Dev nD) (t : Fin cfg0.N) : FVec Ideal S1024x128 .f32 :=
  k0_pay2 (F := Ideal) (iblk m c 0 t) (iblk m c 5 t) (iblk m c 1 t) (iblk m c 3 t) (iblk m c 4 t)

/-- The reference's gradient of the arguments. -/
abbrev whole (c : Dev nD) : FVec Ideal S8192x128 .f32 :=
  raw (m ((c : Thread nD τ).loc main_arg0)) (m ((c : Thread nD τ).loc main_arg1)) (m ((c : Thread nD τ).loc main_arg3))
    (m ((c : Thread nD τ).loc main_arg4)) (m ((c : Thread nD τ).loc main_arg5))

/-- The two agree where the block lies. -/
theorem piece_whole (c : Dev nD) (t : Fin cfg0.N) (y : S1024x128.Idx) (i : S8192x128.Idx)
    (h0 : (i 0).val = 1024 * t.val + (y 0).val) (h1 : (i 1).val = (y 1).val) : (piece m c t y : EReal) = whole m c i := by
  have e : (i 1 : Fin 128) = y 1 := Fin.ext h1
  refine (kernel_apply _ _ _ _ _ y).trans (Eq.trans ?_ (raw_apply _ _ _ _ _ i).symm)
  rw [e]
  congr 1 <;> blk_point [iblk, V, places t]

/-- The array of the raw step sizes' gradient after the run. -/
theorem raw_result (c : Dev nD) : (dats m 0 c).arrAt 6 (cfgs 0).N
    = rawCast (m ((c : Thread nD τ).loc main_arg0)) (m ((c : Thread nD τ).loc main_arg1)) (m ((c : Thread nD τ).loc main_arg3))
      (m ((c : Thread nD τ).loc main_arg4)) (m ((c : Thread nD τ).loc main_arg5)) := by
  refine (dats m 0 c).arrAt_eq_of_covers 6 _ (by decide +kernel) fun t _ y => ?_
  have cast : ∀ i, (rawCast (m ((c : Thread nD τ).loc main_arg0)) (m ((c : Thread nD τ).loc main_arg1)) (m ((c : Thread nD τ).loc main_arg3))
      (m ((c : Thread nD τ).loc main_arg4)) (m ((c : Thread nD τ).loc main_arg5)) i : EReal) = whole m c i := fun _ => rfl
  blk_simp
  rw [after0_6]
  refine Eq.trans ?_ (cast _).symm
  by_cases h : t.val % 8 = 0
  · rw [outsAt0_A m c t h]
    frame_out
    refine (stored_apply _ _ _ _ _ y).trans (piece_whole m c t y _ ?_ ?_) <;> blk_simp [places t] <;> omega
  · rw [outsAt0_B m c t h]
    frame_out
    refine (stored_apply _ _ _ _ _ y).trans (piece_whole m c t y _ ?_ ?_) <;> blk_simp [places t] <;> omega

/-- The array of the bias's gradient after the run. -/
theorem bias_result (c : Dev nD) : (dats m 0 c).arrAt 7 (cfgs 0).N
    = bias (m ((c : Thread nD τ).loc main_arg0)) (m ((c : Thread nD τ).loc main_arg1)) (m ((c : Thread nD τ).loc main_arg3))
      (m ((c : Thread nD τ).loc main_arg4)) (m ((c : Thread nD τ).loc main_arg5)) := by
  refine (dats m 0 c).arrAt_eq_of_covers 7 _ (by decide +kernel) fun t hf y => ?_
  have last := (flush0_7 t).mp hf
  have ht : t.val < 8 := t.isLt
  blk_simp
  rw [after0_7]
  refine Eq.trans ?_ (bias_apply _ _ _ _ _ _).symm
  rw [Pipeline.eq_sum_fin_of_reset_step_apply_of_flush (fun n h => (outsAt0 m c n h).2.1) 8 (fun _ => (0 : EReal))
    (fun t j => ∑ k : Fin 1024, piece m c t (ix2 k (j 1)))
    (fun t h j => by rw [outsAt0_A m c t h]; frame_out; rw [first_part, zero_add])
    (fun t h j => by rw [outsAt0_B m c t h]; frame_out; rw [next_part])
    t last y, zero_add]
  refine Fin.sum_mul_add_congr fun s k hl => ?_
  refine piece_whole m c ⟨_, Pipeline.run_point_lt_of_flush t last s⟩ _ _ ?_ ?_ <;>
    blk_simp [places t, places ⟨_, Pipeline.run_point_lt_of_flush t last s⟩] <;> dsimp only <;> omega

end Cert.Kernel32Ideal.Value
-- ==== Proof.RmsNorm.lean ====
/-
  The gated norm behind the recurrence: four groups of 512 lanes.
-/
module

public import proofs.«01_k».proof.Proof.Gen.Kernel26Ideal.Value
public import proofs.«01_k».proof.Proof.Gen.Reference26Ideal
public import Idealize.ShloMosaic.Lib.Pipeline.ValueKit

@[expose] public section

set_option maxRecDepth 16384

noncomputable section

open Idealize.ShloMosaic Idealize.ShloMosaic.TcCoe Idealize.SL.Sem

namespace Cert.Kernel26Ideal.Value

open Cert.Kernel26Ideal Cert.Kernel26Ideal.Gen

variable (m : (ℓ : Loc nD τ sig) → Buf (Elt Ideal) ℓ)

/-- A state's output times its gate, which goes through `x * logistic x`. -/
def gatedCell (z y : EReal) : EReal :=
  y * (z * Ideal.div (Ideal.ofBits .f32 0x3F800000#32) (Ideal.ofBits .f32 0x3F800000#32 + Ideal.exp (-z)))

/-- An entry of a group, over the root of the mean of the group's squares, times the gain. -/
def normGroup (s : Fin 512 → EReal) (w : EReal) (j : Fin 512) : EReal :=
  s j * Ideal.rsqrt (Ideal.div (∑ k, s k * s k) (Ideal.ofBits .f32 0x44000000#32) + Ideal.ofBits .f32 0x3727C5AC#32) * w

/-- The kernel's first group. -/
theorem group0 (z y : FVec Ideal S256x512 .bf16) (w : FVec Ideal S1x512 .f32) (x : S256x512.Idx) :
    (k0_pay3 (F := Ideal) z y w x : EReal)
      = normGroup (fun j => gatedCell (z (ix2 (x 0) j)) (y (ix2 (x 0) j))) (w (ix2 0 (x 1))) (x 1) := by
  simp only [normGroup, gatedCell]
  pointwise [k0_pay3]
  simp only [zero_sub]

/-- The second. -/
theorem group1 (z y : FVec Ideal S256x512 .bf16) (w : FVec Ideal S1x512 .f32) (x : S256x512.Idx) :
    (k0_pay7 (F := Ideal) (k0_pay4 z) (k0_pay5 y) (k0_pay6 z) (Scalar.ofBits .f32 0x3F800000#32) w x : EReal)
      = normGroup (fun j => gatedCell (z (ix2 (x 0) j)) (y (ix2 (x 0) j))) (w (ix2 0 (x 1))) (x 1) := by
  simp only [normGroup, gatedCell]
  pointwise [k0_pay4, k0_pay5, k0_pay6, k0_pay7]
  simp only [zero_sub]

/-- The third. -/
theorem group2 (z y : FVec Ideal S256x512 .bf16) (w : FVec Ideal S1x512 .f32) (x : S256x512.Idx) :
    (k0_pay1 (F := Ideal) (k0_pay8 z y) w x : EReal)
      = normGroup (fun j => gatedCell (z (ix2 (x 0) j)) (y (ix2 (x 0) j))) (w (ix2 0 (x 1))) (x 1) := by
  simp only [normGroup, gatedCell]
  pointwise [k0_pay1, k0_pay8]
  simp only [zero_sub]

/-- The fourth. -/
theorem group3 (z y : FVec Ideal S256x512 .bf16) (w : FVec Ideal S1x512 .f32) (x : S256x512.Idx) :
    (k0_pay2 (F := Ideal) z y w x : EReal)
      = normGroup (fun j => gatedCell (z (ix2 (x 0) j)) (y (ix2 (x 0) j))) (w (ix2 0 (x 1))) (x 1) := by
  simp only [normGroup, gatedCell]
  pointwise [k0_pay2]
  simp only [zero_sub]

/-- The reference's gated outputs, grouped. -/
abbrev grouped (y : FVec Ideal S8192x2048 .bf16) (u : FVec Ideal S8192x9216 .bf16) : FVec Ideal Cert.Reference26Ideal.S8192x4x512 .f32 :=
  shapeCast _ (mulf (extf .f32 y Cert.Reference26Ideal.Gen.bitsLt_bf16_f32)
    (mulf (extf .f32 (extractStridedSlice S8192x2048 ![0, 2048] u Cert.Reference26Ideal.Gen.slices_S8192x9216_S8192x2048_0_2048) Cert.Reference26Ideal.Gen.bitsLt_bf16_f32)
      (Host.divf (broadcastInDim S8192x2048 ![] Cert.Reference26Ideal.Gen.bcast_S_S8192x2048 (constant Cert.Reference26Ideal.S_ .f32 0x3F800000#32))
        (addf (broadcastInDim S8192x2048 ![] Cert.Reference26Ideal.Gen.bcast_S_S8192x2048 (constant Cert.Reference26Ideal.S_ .f32 0x3F800000#32))
          (Host.exp (Host.negf (extf .f32 (extractStridedSlice S8192x2048 ![0, 2048] u Cert.Reference26Ideal.Gen.slices_S8192x9216_S8192x2048_0_2048) Cert.Reference26Ideal.Gen.bitsLt_bf16_f32)))))))
    Cert.Reference26Ideal.Gen.shapeCasts_S8192x2048_S8192x4x512

/-- The reference's norm of the groups. -/
abbrev normed (g : FVec Ideal Cert.Reference26Ideal.S8192x4x512 .f32) (w : FVec Ideal S1x2048 .f32) : FVec Ideal S8192x2048 .bf16 :=
  truncf .bf16 (mulf (shapeCast _ (mulf g
      (broadcastInDim Cert.Reference26Ideal.S8192x4x512 ![0, 1, 2] Cert.Reference26Ideal.Gen.bcast_S8192x4x1_S8192x4x512_0_1_2
        (Host.rsqrt (addf (Host.divf (broadcastInDim Cert.Reference26Ideal.S8192x4x1 ![0, 1] Cert.Reference26Ideal.Gen.bcast_S8192x4_S8192x4x1_0_1
            (Host.reduceAdd (mulf g g) (constant Cert.Reference26Ideal.S_ .f32 0x00000000#32)
              Cert.Reference26Ideal.Gen.reducesTo_S8192x4x512_S8192x4_d2 Cert.Reference26Ideal.Gen.h_S_))
          (broadcastInDim Cert.Reference26Ideal.S8192x4x1 ![] Cert.Reference26Ideal.Gen.bcast_S_S8192x4x1 (constant Cert.Reference26Ideal.S_ .f32 0x44000000#32)))
          (broadcastInDim Cert.Reference26Ideal.S8192x4x1 ![] Cert.Reference26Ideal.Gen.bcast_S_S8192x4x1 (constant Cert.Reference26Ideal.S_ .f32 0x3727C5AC#32))))))
      Cert.Reference26Ideal.Gen.shapeCasts_S8192x4x512_S8192x2048)
    (broadcastInDim S8192x2048 ![0, 1] Cert.Reference26Ideal.Gen.bcast_S1x2048_S8192x2048_0_1 w)) Cert.Reference26Ideal.Gen.bitsLt_bf16_f32

/-- Entries of the reference's groups. -/
theorem grouped_apply (y : FVec Ideal S8192x2048 .bf16) (u : FVec Ideal S8192x9216 .bf16) (r : Fin 8192) (g : Fin 4) (j : Fin 512) :
    (grouped y u (ix3 r g j) : EReal)
      = gatedCell (u (ix2 r ⟨2048 + (512 * g.val + j.val), by omega⟩)) (y (ix2 r ⟨512 * g.val + j.val, by omega⟩)) := by
  simp only [gatedCell]
  pointwise [grouped]
  simp only [Nat.mul_comm g.val 512]

/-- Entries of the reference's norm. -/
theorem normed_apply (G : FVec Ideal Cert.Reference26Ideal.S8192x4x512 .f32) (w : FVec Ideal S1x2048 .f32) (i : S8192x2048.Idx)
    (g : Fin 4) (j : Fin 512) (h : (i 1).val = 512 * g.val + j.val) :
    (normed G w i : EReal) = normGroup (fun k => G (ix3 (i 0) g k)) (w (ix2 0 (i 1))) j := by
  simp only [normGroup]
  pointwise [normed]
  simp only [show (⟨(i 1).val / 512, by omega⟩ : Fin 4) = g from Fin.ext (by simp only; omega),
    show (⟨(i 1).val % 512, by omega⟩ : Fin 512) = j from Fin.ext (by simp only; omega)]

/-- The blocks of a grid point. -/
theorem places : ∀ t : Fin cfg0.N, win0_0.index t = ![t.val, 0] ∧ win0_1.index t = ![t.val, 1]
    ∧ win0_2.index t = ![0, 0] ∧ win0_3.index t = ![t.val, 0] :=
  (by decide +kernel : ∀ t : Fin grid0.N, _)

/-- The reference's norm of the arguments. -/
abbrev result (c : Dev nD) : FVec Ideal S8192x2048 .bf16 :=
  normed (grouped (m ((c : Thread nD τ).loc main_arg0)) (m ((c : Thread nD τ).loc main_arg1))) (m ((c : Thread nD τ).loc main_arg2))

/-- The gates' block is columns of the wide array. -/
theorem gate_block (c : Dev nD) (t : Fin cfg0.N) (j : S256x2048.Idx) (i : S8192x9216.Idx) (h0 : (i 0).val = 256 * t.val + (j 0).val)
    (h1 : (i 1).val = 2048 + (j 1).val) : (X0_1 m c t j : EReal) = m ((c : Thread nD τ).loc main_arg1) i := by
  unfold X0_1 Pipeline.Window.fill
  rw [dif_pos (moved0_1 t j)]
  blk_point [iblk, V, places t]

/-- A group of the kernel's blocks has the reference's norm. -/
theorem group_result (c : Dev nD) (t : Fin cfg0.N) (g : Fin 4) (hz hy hw) (x : S256x512.Idx) (i : S8192x2048.Idx)
    (h0 : (i 0).val = 256 * t.val + (x 0).val) (h1 : (i 1).val = 512 * g.val + (x 1).val) :
    normGroup (fun j => gatedCell
        (View.ld (X0_1 m c t) (Rect.unit ![0, 512 * g.val] ![256, 512] hz) (ix2 (x 0) j))
        (View.ld (iblk m c 0 t) (Rect.unit ![0, 512 * g.val] ![256, 512] hy) (ix2 (x 0) j)))
      (View.ld (iblk m c 2 t) (Rect.unit ![0, 512 * g.val] ![1, 512] hw) (ix2 0 (x 1))) (x 1)
      = result m c i := by
  rw [result, normed_apply _ _ i g (x 1) h1]
  congr 1
  · funext j
    refine Eq.trans ?_ (grouped_apply _ _ _ _ _).symm
    congr 1
    · refine gate_block m c t _ _ ?_ ?_
      · rw [Rect.idx_unit_val]; blk_simp []; omega
      · rw [Rect.idx_unit_val]; blk_simp []
    · blk_point [iblk, V, places t]
  · blk_point [iblk, V, places t]

/-- The array of the norm after the run. -/
theorem norm_result (c : Dev nD) : (dats m 0 c).arrAt 3 (cfgs 0).N = result m c := by
  refine (dats m 0 c).arrAt_eq_of_covers 3 _ (by decide +kernel) fun t _ y => ?_
  blk_simp
  rw [after0_3, outsAt0]
  frame_out
  canon_tiles x h
  case' piece0 => refine Eq.trans (group3 _ _ _ x) (group_result m c t 3 _ _ _ x _ ?_ ?_)
  case' piece1 => refine Eq.trans (group2 _ _ _ x) (group_result m c t 2 _ _ _ x _ ?_ ?_)
  case' piece2 => refine Eq.trans (group1 _ _ _ x) (group_result m c t 1 _ _ _ x _ ?_ ?_)
  case' piece3 => refine Eq.trans (group0 _ _ _ x) (group_result m c t 0 _ _ _ x _ ?_ ?_)
  all_goals (blk_simp [places t]; omega)

end Cert.Kernel26Ideal.Value
-- ==== Proof.Optimiser.lean ====
/-
  The sum of the devices' gradients and the optimiser's step.
-/
module

public import proofs.«01_k».proof.Proof.Gen.Kernel27Ideal.Value
public import proofs.«01_k».proof.Proof.Gen.Reference27Ideal
public import Idealize.ShloMosaic.Lib.Pipeline.ValueKit

@[expose] public section

set_option maxRecDepth 16384

noncomputable section

open Idealize.ShloMosaic Idealize.ShloMosaic.TcCoe Idealize.SL.Sem

namespace Cert.Kernel27Ideal.Value

open Cert.Kernel27Ideal Cert.Kernel27Ideal.Gen

variable (m : (ℓ : Loc nD τ sig) → Buf (Elt Ideal) ℓ)

/-- The reference's sum of the devices' parts, both layers on top of each other. -/
abbrev grads (P Q : FVec Ideal S8x128x1024 .bf16) : FVec Ideal S2x128x1024 .f32 :=
  concatenate S2x128x1024 0
    [⟨S1x128x1024, (broadcastInDim S1x128x1024 ![1, 2] Cert.Reference27Ideal.Gen.bcast_S128x1024_S1x128x1024_1_2
      (Host.reduceAdd (extf .f32 P Cert.Reference27Ideal.Gen.bitsLt_bf16_f32) (constant Cert.Reference27Ideal.S_ .f32 0x00000000#32)
        Cert.Reference27Ideal.Gen.reducesTo_S8x128x1024_S128x1024_d0 Cert.Reference27Ideal.Gen.h_S_))⟩,
     ⟨S1x128x1024, (broadcastInDim S1x128x1024 ![1, 2] Cert.Reference27Ideal.Gen.bcast_S128x1024_S1x128x1024_1_2
      (Host.reduceAdd (extf .f32 Q Cert.Reference27Ideal.Gen.bitsLt_bf16_f32) (constant Cert.Reference27Ideal.S_ .f32 0x00000000#32)
        Cert.Reference27Ideal.Gen.reducesTo_S8x128x1024_S128x1024_d0 Cert.Reference27Ideal.Gen.h_S_))⟩]
    Cert.Reference27Ideal.Gen.concatenates_S1x128x1024_S1x128x1024_S2x128x1024_d0

/-- A number in every place. -/
abbrev num (b : BitVec 32) : FVec Ideal S2x128x1024 .f32 :=
  broadcastInDim S2x128x1024 ![] Cert.Reference27Ideal.Gen.bcast_S_S2x128x1024 (constant Cert.Reference27Ideal.S_ .f32 b)

/-- The reference's new first moment. -/
abbrev newM (g m : FVec Ideal S2x128x1024 .f32) : FVec Ideal S2x128x1024 .f32 :=
  addf (mulf (num 0x3F666666#32) m) (mulf (num 0x3DCCCCCD#32) g)

/-- The reference's new second moment. -/
abbrev newV (g v : FVec Ideal S2x128x1024 .f32) : FVec Ideal S2x128x1024 .f32 :=
  addf (mulf (num 0x3F7FBE77#32) v) (mulf (num 0x3A83126F#32) (mulf g g))

/-- The reference's change of the weight. -/
abbrev change (g w m v : FVec Ideal S2x128x1024 .f32) : FVec Ideal S2x128x1024 .f32 :=
  mulf (num 0xBA83126F#32) (addf (Host.divf (Host.divf (newM g m) (num 0x3F26BD02#32))
      (addf (Host.sqrt (Host.divf (newV g v) (num 0x3C231ACC#32))) (num 0x322BCC77#32)))
    (mulf (num 0x3C23D70A#32) w))

/-- The blocks of a grid point. -/
theorem places : ∀ t : Fin cfg0.N, (t.val = 0 → win0_0.index t = ![0, 0, 0]) ∧ (t.val = 1 → win0_1.index t = ![0, 0, 0])
    ∧ win0_2.index t = ![t.val, 0, 0] ∧ win0_3.index t = ![t.val, 0, 0] ∧ win0_4.index t = ![t.val, 0, 0]
    ∧ win0_5.index t = ![t.val, 0, 0] ∧ win0_6.index t = ![t.val, 0, 0] ∧ win0_7.index t = ![t.val, 0, 0]
    ∧ win0_8.index t = ![t.val, 0, 0] :=
  (by decide +kernel : ∀ t : Fin grid0.N, _)

/-- Entries of the first layer's gradient. -/
theorem grads_first (P Q : FVec Ideal S8x128x1024 .bf16) (i : S2x128x1024.Idx) (h : (i 0).val = 0) :
    (grads P Q i : EReal) = ∑ k : Fin 8, P (ix3 k (i 1) (i 2)) := by
  pointwise [grads]
  rw [dif_pos (by omega)]

/-- Entries of the second layer's. -/
theorem grads_second (P Q : FVec Ideal S8x128x1024 .bf16) (i : S2x128x1024.Idx) (h : (i 0).val = 1) :
    (grads P Q i : EReal) = ∑ k : Fin 8, Q (ix3 k (i 1) (i 2)) := by
  pointwise [grads]
  rw [dif_neg (by omega)]

/-- The kernel's sum of the first layer's parts is that layer's gradient. -/
theorem sum_first (c : Dev nD) (t : Fin cfg0.N) (h : t.val = 0) (h0 h1 h2 h3 h4 h5 h6 h7) (x : S128x1024.Idx) (i : S2x128x1024.Idx)
    (e0 : (i 0).val = t.val) (e1 : (i 1).val = (x 0).val) (e2 : (i 2).val = (x 1).val) :
    (k0_pay5 (F := Ideal) (View.ld (iblk m c 0 t) (Rect.unit ![0, 0, 0] ![1, 128, 1024] h0))
      (View.ld (iblk m c 0 t) (Rect.unit ![1, 0, 0] ![1, 128, 1024] h1))
      (View.ld (iblk m c 0 t) (Rect.unit ![2, 0, 0] ![1, 128, 1024] h2))
      (View.ld (iblk m c 0 t) (Rect.unit ![3, 0, 0] ![1, 128, 1024] h3))
      (View.ld (iblk m c 0 t) (Rect.unit ![4, 0, 0] ![1, 128, 1024] h4))
      (View.ld (iblk m c 0 t) (Rect.unit ![5, 0, 0] ![1, 128, 1024] h5))
      (View.ld (iblk m c 0 t) (Rect.unit ![6, 0, 0] ![1, 128, 1024] h6))
      (View.ld (iblk m c 0 t) (Rect.unit ![7, 0, 0] ![1, 128, 1024] h7)) x : EReal)
      = grads (m ((c : Thread nD τ).loc main_arg0)) (m ((c : Thread nD τ).loc main_arg1)) i := by
  rw [grads_first _ _ _ (by omega), Fin.sum_univ_eight]
  pointwise [k0_pay5]
  congr 8 <;> blk_point [iblk, V, (places t).1 h]

/-- The kernel's sum of the second layer's parts is that layer's gradient. -/
theorem sum_second (c : Dev nD) (t : Fin cfg0.N) (h : t.val = 1) (h0 h1 h2 h3 h4 h5 h6 h7) (x : S128x1024.Idx) (i : S2x128x1024.Idx)
    (e0 : (i 0).val = t.val) (e1 : (i 1).val = (x 0).val) (e2 : (i 2).val = (x 1).val) :
    (k0_pay10 (F := Ideal) (View.ld (iblk m c 1 t) (Rect.unit ![0, 0, 0] ![1, 128, 1024] h0))
      (View.ld (iblk m c 1 t) (Rect.unit ![1, 0, 0] ![1, 128, 1024] h1))
      (View.ld (iblk m c 1 t) (Rect.unit ![2, 0, 0] ![1, 128, 1024] h2))
      (View.ld (iblk m c 1 t) (Rect.unit ![3, 0, 0] ![1, 128, 1024] h3))
      (View.ld (iblk m c 1 t) (Rect.unit ![4, 0, 0] ![1, 128, 1024] h4))
      (View.ld (iblk m c 1 t) (Rect.unit ![5, 0, 0] ![1, 128, 1024] h5))
      (View.ld (iblk m c 1 t) (Rect.unit ![6, 0, 0] ![1, 128, 1024] h6))
      (View.ld (iblk m c 1 t) (Rect.unit ![7, 0, 0] ![1, 128, 1024] h7)) x : EReal)
      = grads (m ((c : Thread nD τ).loc main_arg0)) (m ((c : Thread nD τ).loc main_arg1)) i := by
  rw [grads_second _ _ _ (by omega), Fin.sum_univ_eight]
  pointwise [k0_pay10]
  congr 8 <;> blk_point [iblk, V, (places t).2.1 h]

/-- The kernel's first moment at a point, from the gradient there. -/
theorem moment_point (c : Dev nD) (t : Fin cfg0.N) (g : FVec Ideal S128x1024 .f32) (G : FVec Ideal S2x128x1024 .f32) (y : S1x128x1024.Idx)
    (i : S2x128x1024.Idx) (e0 : (i 0).val = t.val) (e1 : (i 1).val = (y 1).val) (e2 : (i 2).val = (y 2).val)
    (hg : (g (ix2 (y 1) (y 2)) : EReal) = G i) :
    (k0_pay1 (k0_pay7 g (iblk m c 3 t)) y : EReal) = newM G (m ((c : Thread nD τ).loc main_arg3)) i := by
  pointwise [k0_pay1, k0_pay7]
  rw [hg]
  congr 2
  blk_point [iblk, V, places t]

/-- The second moment. -/
theorem square_point (c : Dev nD) (t : Fin cfg0.N) (g : FVec Ideal S128x1024 .f32) (G : FVec Ideal S2x128x1024 .f32) (y : S1x128x1024.Idx)
    (i : S2x128x1024.Idx) (e0 : (i 0).val = t.val) (e1 : (i 1).val = (y 1).val) (e2 : (i 2).val = (y 2).val)
    (hg : (g (ix2 (y 1) (y 2)) : EReal) = G i) :
    (k0_pay2 (k0_pay8 g (iblk m c 4 t)) y : EReal) = newV G (m ((c : Thread nD τ).loc main_arg4)) i := by
  pointwise [k0_pay2, k0_pay8]
  rw [hg]
  congr 2
  blk_point [iblk, V, places t]

/-- The change of the weight. -/
theorem change_point (c : Dev nD) (t : Fin cfg0.N) (g : FVec Ideal S128x1024 .f32) (G : FVec Ideal S2x128x1024 .f32) (y : S1x128x1024.Idx)
    (i : S2x128x1024.Idx) (e0 : (i 0).val = t.val) (e1 : (i 1).val = (y 1).val) (e2 : (i 2).val = (y 2).val)
    (hg : (g (ix2 (y 1) (y 2)) : EReal) = G i) :
    (k0_pay9 g (iblk m c 2 t) (iblk m c 3 t) (iblk m c 4 t) y : EReal)
      = change G (m ((c : Thread nD τ).loc main_arg2)) (m ((c : Thread nD τ).loc main_arg3)) (m ((c : Thread nD τ).loc main_arg4)) i := by
  have hw : (iblk m c 2 t y : EReal) = m ((c : Thread nD τ).loc main_arg2) i := by blk_point [iblk, V, places t]
  have hm : (iblk m c 3 t y : EReal) = m ((c : Thread nD τ).loc main_arg3) i := by blk_point [iblk, V, places t]
  have hv : (iblk m c 4 t y : EReal) = m ((c : Thread nD τ).loc main_arg4) i := by blk_point [iblk, V, places t]
  pointwise [k0_pay9, k0_pay7, k0_pay8]
  rw [hg, hw, hm, hv]

/-- The kernel's gradient of its grid point. -/
abbrev gradient (c : Dev nD) : FVec Ideal S2x128x1024 .f32 :=
  grads (m ((c : Thread nD τ).loc main_arg0)) (m ((c : Thread nD τ).loc main_arg1))

/-- The first layer's gradient is stored as it is. -/
theorem stored_first (g : FVec Ideal S128x1024 .f32) (y : S1x128x1024.Idx) : (k0_pay6 g y : EReal) = g (ix2 (y 1) (y 2)) := by
  pointwise [k0_pay6]

/-- The second's too. -/
theorem stored_second (g : FVec Ideal S128x1024 .f32) (y : S1x128x1024.Idx) : (k0_pay11 g y : EReal) = g (ix2 (y 1) (y 2)) := by
  pointwise [k0_pay11]

/-- The array of the gradients after the run. -/
theorem gradient_result (c : Dev nD) : (dats m 0 c).arrAt 5 (cfgs 0).N = gradient m c := by
  refine (dats m 0 c).arrAt_eq_of_covers 5 _ (by decide +kernel) fun t _ y => ?_
  have ht : t.val < 2 := t.isLt
  blk_simp
  rw [after0_5]
  by_cases h : t.val % 2 = 0
  · rw [outsAt0_A m c t h (by omega)]
    frame_out
    refine Eq.trans (stored_first _ y) (sum_first m c t (by omega) _ _ _ _ _ _ _ _ (ix2 (y 1) (y 2)) _ ?_ ?_ ?_)
    all_goals (blk_simp [places t])
  · rw [outsAt0_B m c t h (by omega)]
    frame_out
    refine Eq.trans (stored_second _ y) (sum_second m c t (by omega) _ _ _ _ _ _ _ _ (ix2 (y 1) (y 2)) _ ?_ ?_ ?_)
    all_goals (blk_simp [places t])

/-- The array of the changes of the weight after the run. -/
theorem change_result (c : Dev nD) : (dats m 0 c).arrAt 6 (cfgs 0).N
    = change (gradient m c) (m ((c : Thread nD τ).loc main_arg2)) (m ((c : Thread nD τ).loc main_arg3)) (m ((c : Thread nD τ).loc main_arg4)) := by
  refine (dats m 0 c).arrAt_eq_of_covers 6 _ (by decide +kernel) fun t _ y => ?_
  have ht : t.val < 2 := t.isLt
  blk_simp
  rw [after0_6]
  by_cases h : t.val % 2 = 0
  · rw [outsAt0_A m c t h (by omega)]
    frame_out
    refine change_point m c t _ _ y _ ?_ ?_ ?_ (sum_first m c t (by omega) _ _ _ _ _ _ _ _ _ _ ?_ ?_ ?_)
    all_goals (blk_simp [places t])
  · rw [outsAt0_B m c t h (by omega)]
    frame_out
    refine change_point m c t _ _ y _ ?_ ?_ ?_ (sum_second m c t (by omega) _ _ _ _ _ _ _ _ _ _ ?_ ?_ ?_)
    all_goals (blk_simp [places t])

/-- The array of the new first moments after the run. -/
theorem moment_result (c : Dev nD) : (dats m 0 c).arrAt 7 (cfgs 0).N
    = newM (gradient m c) (m ((c : Thread nD τ).loc main_arg3)) := by
  refine (dats m 0 c).arrAt_eq_of_covers 7 _ (by decide +kernel) fun t _ y => ?_
  have ht : t.val < 2 := t.isLt
  blk_simp
  rw [after0_7]
  by_cases h : t.val % 2 = 0
  · rw [outsAt0_A m c t h (by omega)]
    frame_out
    refine moment_point m c t _ _ y _ ?_ ?_ ?_ (sum_first m c t (by omega) _ _ _ _ _ _ _ _ _ _ ?_ ?_ ?_)
    all_goals (blk_simp [places t])
  · rw [outsAt0_B m c t h (by omega)]
    frame_out
    refine moment_point m c t _ _ y _ ?_ ?_ ?_ (sum_second m c t (by omega) _ _ _ _ _ _ _ _ _ _ ?_ ?_ ?_)
    all_goals (blk_simp [places t])

/-- The array of the new second moments after the run. -/
theorem square_result (c : Dev nD) : (dats m 0 c).arrAt 8 (cfgs 0).N
    = newV (gradient m c) (m ((c : Thread nD τ).loc main_arg4)) := by
  refine (dats m 0 c).arrAt_eq_of_covers 8 _ (by decide +kernel) fun t _ y => ?_
  have ht : t.val < 2 := t.isLt
  blk_simp
  rw [after0_8]
  by_cases h : t.val % 2 = 0
  · rw [outsAt0_A m c t h (by omega)]
    frame_out
    refine square_point m c t _ _ y _ ?_ ?_ ?_ (sum_first m c t (by omega) _ _ _ _ _ _ _ _ _ _ ?_ ?_ ?_)
    all_goals (blk_simp [places t])
  · rw [outsAt0_B m c t h (by omega)]
    frame_out
    refine square_point m c t _ _ y _ ?_ ?_ ?_ (sum_second m c t (by omega) _ _ _ _ _ _ _ _ _ _ ?_ ?_ ?_)
    all_goals (blk_simp [places t])

end Cert.Kernel27Ideal.Value
-- ==== Proof.InputGradient.lean ====
/-
  The gradient that the combined input projection sends back to the layer's input, with the residual's share: the
  kernel adds the products of the projection's five pieces, the reference takes one product over all columns.
-/
module

public import proofs.«01_k».proof.Proof.Gen.Kernel2Ideal.Value
public import proofs.«01_k».proof.Proof.Gen.Reference2Ideal
public import Idealize.ShloMosaic.Lib.Pipeline.ValueKit
public import Idealize.ShloMosaic.Lib.Claim

@[expose] public section

set_option maxRecDepth 16384

noncomputable section

namespace Cert.Kernel2Ideal.Value

open Idealize.ShloMosaic Idealize.ShloMosaic.TcCoe Idealize.SL.Sem
open Cert.Kernel2Ideal Cert.Kernel2Ideal.Gen

variable (m : (ℓ : Loc nD τ sig) → Buf (Elt Ideal) ℓ)

/-- The upstream gradients of the projection's pieces side by side, in the weight's order. -/
abbrev side (glu z : FVec Ideal S8192x2048 .bf16) (xbc : FVec Ideal S8192x3072 .bf16)
    (gate : FVec Ideal S8192x2048 .bf16) (dt : FVec Ideal S8192x128 .bf16) : FVec Ideal Cert.Reference2Ideal.S8192x9248 .f32 :=
  concatenate Cert.Reference2Ideal.S8192x9248 1
    [⟨Cert.Reference2Ideal.S8192x2048, extf .f32 glu Cert.Reference2Ideal.Gen.bitsLt_bf16_f32⟩,
     ⟨Cert.Reference2Ideal.S8192x2048, extf .f32 z Cert.Reference2Ideal.Gen.bitsLt_bf16_f32⟩,
     ⟨Cert.Reference2Ideal.S8192x3072, extf .f32 xbc Cert.Reference2Ideal.Gen.bitsLt_bf16_f32⟩,
     ⟨Cert.Reference2Ideal.S8192x32, extractStridedSlice Cert.Reference2Ideal.S8192x32 ![0, 0]
        (extf .f32 dt Cert.Reference2Ideal.Gen.bitsLt_bf16_f32) Cert.Reference2Ideal.Gen.slices_S8192x128_S8192x32_0_0⟩,
     ⟨Cert.Reference2Ideal.S8192x2048, extf .f32 gate Cert.Reference2Ideal.Gen.bitsLt_bf16_f32⟩]
    Cert.Reference2Ideal.Gen.concatenates_S8192x2048_S8192x2048_S8192x3072_S8192x32_S8192x2048_S8192x9248_d1

/-- The reference's result: the product with the transposed weight, and the scaled residual. -/
abbrev expected (W : FVec Ideal Cert.Reference2Ideal.S1024x9248 .bf16) (glu z : FVec Ideal S8192x2048 .bf16)
    (xbc : FVec Ideal S8192x3072 .bf16) (gate : FVec Ideal S8192x2048 .bf16) (dt : FVec Ideal S8192x128 .bf16)
    (D : FVec Ideal S8192x1024 .f32) : FVec Ideal S8192x1024 .f32 :=
  addf (Host.dotGeneral Cert.Reference2Ideal.dot_S8192x9248_S1024x9248_S8192x1024_1_1_0_0_n_n none
      (side glu z xbc gate dt) (extf .f32 W Cert.Reference2Ideal.Gen.bitsLt_bf16_f32))
    (mulf (broadcastInDim Cert.Reference2Ideal.S8192x1024 ![] Cert.Reference2Ideal.Gen.bcast_S_S8192x1024
      (constant Cert.Reference2Ideal.S_ .f32 0x3FB504F3#32)) D)

/-- The blocks of a grid point: rows of the upstream gradients, rows of the weight's pieces. -/
theorem places : ∀ t : Fin cfg0.N, win0_0.index t = ![t.val % 16, 0] ∧ win0_1.index t = ![t.val % 16, 0]
    ∧ win0_2.index t = ![t.val % 16, 0] ∧ win0_3.index t = ![t.val % 16, 0] ∧ win0_4.index t = ![t.val % 16, 0]
    ∧ win0_5.index t = ![t.val / 16, 0] ∧ win0_6.index t = ![t.val / 16, 0] ∧ win0_7.index t = ![t.val / 16, 0]
    ∧ win0_8.index t = ![t.val / 16, 0] ∧ win0_9.index t = ![t.val / 16, 0]
    ∧ win0_10.index t = ![t.val % 16, t.val / 16] ∧ win0_11.index t = ![t.val % 16, t.val / 16] :=
  (by decide +kernel : ∀ t : Fin grid0.N, _)

/-- A sum over the projection's columns, piece by piece. -/
theorem sum_pieces (f : Fin 9248 → EReal) :
    ∑ k, f k = (∑ k : Fin 2048, f ⟨k.val, by omega⟩) + (∑ k : Fin 2048, f ⟨2048 + k.val, by omega⟩)
      + (∑ k : Fin 3072, f ⟨4096 + k.val, by omega⟩) + (∑ k : Fin 32, f ⟨7168 + k.val, by omega⟩)
      + ∑ k : Fin 2048, f ⟨7200 + k.val, by omega⟩ := by
  rw [Fin.sum_univ_add (a := 7200) (b := 2048) f,
    Fin.sum_univ_add (a := 7168) (b := 32) fun k => f (Fin.castAdd 2048 k),
    Fin.sum_univ_add (a := 4096) (b := 3072) fun k => f (Fin.castAdd 2048 (Fin.castAdd 32 k)),
    Fin.sum_univ_add (a := 2048) (b := 2048) fun k => f (Fin.castAdd 2048 (Fin.castAdd 32 (Fin.castAdd 3072 k)))]
  rfl

/-- A sum over the lanes of which the last 96 hold zeros. -/
theorem sum_lanes (f : Fin 128 → EReal) (h : ∀ k : Fin 96, f ⟨32 + k.val, by omega⟩ = 0) :
    ∑ k, f k = ∑ k : Fin 32, f ⟨k.val, by omega⟩ := by
  rw [Fin.sum_univ_add (a := 32) (b := 96) f]
  refine (congrArg (_ + ·) (Finset.sum_eq_zero fun k _ => h k)).trans ?_
  rw [add_zero]
  rfl

/-- The reference's entry, piece by piece. -/
theorem expected_apply (W : FVec Ideal Cert.Reference2Ideal.S1024x9248 .bf16) (glu z : FVec Ideal S8192x2048 .bf16)
    (xbc : FVec Ideal S8192x3072 .bf16) (gate : FVec Ideal S8192x2048 .bf16) (dt : FVec Ideal S8192x128 .bf16)
    (D : FVec Ideal S8192x1024 .f32) (i : S8192x1024.Idx) :
    (expected W glu z xbc gate dt D i : EReal)
      = (∑ k : Fin 2048, glu (ix2 (i 0) k) * W (ix2 (i 1) ⟨k.val, by omega⟩))
        + (∑ k : Fin 2048, z (ix2 (i 0) k) * W (ix2 (i 1) ⟨2048 + k.val, by omega⟩))
        + (∑ k : Fin 3072, xbc (ix2 (i 0) k) * W (ix2 (i 1) ⟨4096 + k.val, by omega⟩))
        + (∑ k : Fin 32, dt (ix2 (i 0) ⟨k.val, by omega⟩) * W (ix2 (i 1) ⟨7168 + k.val, by omega⟩))
        + (∑ k : Fin 2048, gate (ix2 (i 0) k) * W (ix2 (i 1) ⟨7200 + k.val, by omega⟩))
        + Ideal.ofBits FTy.f32 1068827891#32 * D i := by
  pointwise [expected, side]
  rw [sum_pieces]
  refine congrArg (· + _) ?_
  refine congrArg₂ (· + ·) (congrArg₂ (· + ·) (congrArg₂ (· + ·) (congrArg₂ (· + ·) ?_ ?_) ?_) ?_) ?_
  all_goals
    refine Finset.sum_congr rfl fun k _ => congrArg (· * _) ?_
    have hk := k.isLt
    dsimp only
    split_ifs <;> first | (exfalso; omega) | blk_ext

/-- What a grid point stores, entry by entry. -/
theorem part (x0 : FVec Ideal S512x512 .f32) (x1 x2 x3 x4 : FVec Ideal S512x2048 .bf16) (x5 x6 : FVec Ideal S512x3072 .bf16)
    (x7 x8 : FVec Ideal S512x2048 .bf16) (x9 x10 : FVec Ideal S512x128 .bf16) (j : S512x512.Idx) :
    (k0_pay1 (F := Ideal) x0 x1 x2 x3 x4 x5 x6 x7 x8 x9 x10 j : EReal)
      = Ideal.ofBits FTy.f32 1068827891#32 * x0 j
        + (∑ k : Fin 2048, x1 (ix2 (j 0) k) * x2 (ix2 (j 1) k)) + (∑ k : Fin 2048, x3 (ix2 (j 0) k) * x4 (ix2 (j 1) k))
        + (∑ k : Fin 3072, x5 (ix2 (j 0) k) * x6 (ix2 (j 1) k)) + (∑ k : Fin 2048, x7 (ix2 (j 0) k) * x8 (ix2 (j 1) k))
        + ∑ k : Fin 128, x9 (ix2 (j 0) k) * x10 (ix2 (j 1) k) := by
  pointwise [k0_pay1]

/-- A weight padded behind its columns. -/
theorem pad_lanes (x : FVec Ideal S1024x32 .bf16) (v : FVec Ideal S_ .bf16) (i : S1024x128.Idx) :
    pad S1024x128 ![0, 0] ![0, 96] ![0, 0] x v pads_S1024x32_S1024x128_000_0960 h_S_ i
      = if h : (i 1).val < 32 then x (ix2 (i 0) ⟨(i 1).val, h⟩) else v (Shape.Idx.first h_S_) := by
  pointwise []

/-- The block of the step sizes' weight holds zeros in the lanes behind its columns. -/
theorem dt_block_zero (c : Dev nD) (t : Fin cfg0.N) (r : Fin 512) (k : Fin 96) :
    (iblk m c 9 t : S512x128.Idx → EReal) (ix2 r ⟨32 + k.val, by omega⟩) = (0 : EReal) := by
  blk_simp [iblk, places t]
  simp only [V, hostOps0, hostOps0_1, List.flatten_cons, List.flatten_nil, List.cons_append, List.nil_append]
  entry_read
  refine (pad_lanes _ _ _).trans ?_
  rw [dif_neg (by blk_simp [places t]; exact Nat.not_lt.2 (Nat.le_add_right 32 k.val))]
  show ((((0#32 : BitVec 32).toInt : ℤ) : ℝ) : EReal) = 0
  simp

/-- The gated convolution's piece of the weight. -/
theorem read_glu (c : Dev nD) (i : S1024x2048.Idx) :
    (V m c main_v0 : S1024x2048.Idx → EReal) i
      = (m ((c : Thread nD τ).loc main_arg0) : S1024x9248.Idx → EReal)
          (ix2 (i 0) ⟨(i 1).val, by have h : (i 1).val < 2048 := (i 1).isLt; omega⟩) := by
  simp only [V, hostOps0, hostOps0_1, List.flatten_cons, List.flatten_nil, List.cons_append, List.nil_append]
  entry_read
  pointwise []
  all_goals blk_ext

/-- The recurrence's gate's piece of the weight. -/
theorem read_z (c : Dev nD) (i : S1024x2048.Idx) :
    (V m c main_v1 : S1024x2048.Idx → EReal) i
      = (m ((c : Thread nD τ).loc main_arg0) : S1024x9248.Idx → EReal)
          (ix2 (i 0) ⟨2048 + (i 1).val, by have h : (i 1).val < 2048 := (i 1).isLt; omega⟩) := by
  simp only [V, hostOps0, hostOps0_1, List.flatten_cons, List.flatten_nil, List.cons_append, List.nil_append]
  entry_read
  pointwise []
  all_goals blk_ext

/-- The recurrence's inputs' piece of the weight. -/
theorem read_xbc (c : Dev nD) (i : S1024x3072.Idx) :
    (V m c main_v2 : S1024x3072.Idx → EReal) i
      = (m ((c : Thread nD τ).loc main_arg0) : S1024x9248.Idx → EReal)
          (ix2 (i 0) ⟨4096 + (i 1).val, by have h : (i 1).val < 3072 := (i 1).isLt; omega⟩) := by
  simp only [V, hostOps0, hostOps0_1, List.flatten_cons, List.flatten_nil, List.cons_append, List.nil_append]
  entry_read
  pointwise []
  all_goals blk_ext

/-- The branches' gates' piece of the weight. -/
theorem read_gate (c : Dev nD) (i : S1024x2048.Idx) :
    (V m c main_v3 : S1024x2048.Idx → EReal) i
      = (m ((c : Thread nD τ).loc main_arg0) : S1024x9248.Idx → EReal)
          (ix2 (i 0) ⟨7200 + (i 1).val, by have h : (i 1).val < 2048 := (i 1).isLt; omega⟩) := by
  simp only [V, hostOps0, hostOps0_1, List.flatten_cons, List.flatten_nil, List.cons_append, List.nil_append]
  entry_read
  pointwise []
  all_goals blk_ext

/-- The step sizes' piece of the weight, in the lanes of its columns. -/
theorem read_dt (c : Dev nD) (i : S1024x128.Idx) (h : (i 1).val < 32) :
    (V m c main_v5 : S1024x128.Idx → EReal) i
      = (m ((c : Thread nD τ).loc main_arg0) : S1024x9248.Idx → EReal) (ix2 (i 0) ⟨7168 + (i 1).val, by omega⟩) := by
  simp only [V, hostOps0, hostOps0_1, List.flatten_cons, List.flatten_nil, List.cons_append, List.nil_append]
  entry_read
  refine (pad_lanes _ _ _).trans ((dif_pos h).trans ?_)
  show (extractStridedSlice S1024x32 ![0, 7168] (m (c, Proc.tc.devRef main_arg0)) slices_S1024x9248_S1024x32_0_7168
    : FVec Ideal S1024x32 .bf16) (ix2 (i 0) ⟨(i 1).val, h⟩) = _
  pointwise []
  all_goals blk_ext

/-- The order in which the kernel adds. -/
theorem reorder (a g z x s d : EReal) : a + g + z + x + s + d = g + z + x + d + s + a := by
  abel

set_option maxHeartbeats 1000000 in
/-- What a grid point stores is the reference's result at the block's place. -/
theorem point (c : Dev nD) (t : Fin cfg0.N) (y) :
    k0_pay1 (iblk m c 10 t) (iblk m c 0 t) (iblk m c 5 t) (iblk m c 1 t) (iblk m c 6 t) (iblk m c 2 t) (iblk m c 7 t)
        (iblk m c 3 t) (iblk m c 8 t) (iblk m c 4 t) (iblk m c 9 t) y
      = expected (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (((cfg0.win 11).blk t).view.emb y) := by
  refine (part _ _ _ _ _ _ _ _ _ _ _ _).trans ?_
  rw [expected_apply, sum_lanes _ fun k =>
    (congrArg (_ * ·) (dt_block_zero m c t (y 1) k)).trans (mul_zero _)]
  refine (reorder _ _ _ _ _ _).trans ?_
  blk_point [iblk, V, places t]
  · exact (read_glu m c _).trans (by blk_ext [places t])
  · exact (read_z m c _).trans (by blk_ext [places t])
  · exact (read_xbc m c _).trans (by blk_ext [places t])
  · exact (read_dt m c _ (by blk_simp [places t]; assumption)).trans (by blk_ext [places t])
  · exact (read_gate m c _).trans (by blk_ext [places t])

/-- The result array after the run. -/
theorem result (c : Dev nD) : (dats m 0 c).arrAt 11 (cfgs 0).N
    = expected (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) := by
  refine (dats m 0 c).arrAt_eq_of_covers 11 _ (by decide +kernel) fun t _ y => ?_
  blk_simp
  rw [after0_11]
  frame_out
  exact point m c t y

end Cert.Kernel2Ideal.Value
-- ==== Proof.HiddenGradient.lean ====
/-
  The gradient that the feed-forward's first product sends back to its input, with the residual's share:
  every block of the kernel's result is the reference's.
-/
module

public import proofs.«01_k».proof.Proof.Gen.Kernel3Ideal.Value
public import proofs.«01_k».proof.Proof.Gen.Reference3Ideal
public import Idealize.ShloMosaic.Lib.Pipeline.ValueKit

@[expose] public section

set_option maxRecDepth 16384

noncomputable section

namespace Cert.Kernel3Ideal.Value

open Idealize.ShloMosaic Idealize.ShloMosaic.TcCoe Idealize.SL.Sem
open Cert.Kernel3Ideal Cert.Kernel3Ideal.Gen

variable (m : (ℓ : Loc nD τ sig) → Buf (Elt Ideal) ℓ)

/-- The reference's result: the product with the transposed weight, and the scaled residual. -/
abbrev expected (W : FVec Ideal S1024x5632 .bf16) (U : FVec Ideal S8192x5632 .bf16) (D : FVec Ideal S8192x1024 .f32) :
    FVec Ideal S8192x1024 .f32 :=
  addf (Host.dotGeneral Cert.Reference3Ideal.dot_S8192x5632_S1024x5632_S8192x1024_1_1_0_0_n_n none
      (extf .f32 U Cert.Reference3Ideal.Gen.bitsLt_bf16_f32) (extf .f32 W Cert.Reference3Ideal.Gen.bitsLt_bf16_f32))
    (mulf (broadcastInDim Cert.Reference3Ideal.S8192x1024 ![] Cert.Reference3Ideal.Gen.bcast_S_S8192x1024
      (constant Cert.Reference3Ideal.S_ .f32 0x3FB504F3#32)) D)

/-- The blocks of a grid point: rows of the upstream gradient, the whole weight, rows of residual and result. -/
theorem places : ∀ t : Fin cfg0.N, win0_0.index t = ![t.val, 0] ∧ win0_1.index t = ![0, 0]
    ∧ win0_2.index t = ![t.val, 0] ∧ win0_3.index t = ![t.val, 0] :=
  (by decide +kernel : ∀ t : Fin grid0.N, _)

/-- What a grid point stores is the reference's result at the block's place. -/
theorem point (c : Dev nD) (t : Fin cfg0.N) (y) : k0_pay1 (iblk m c 0 t) (iblk m c 1 t) (iblk m c 2 t) y
    = expected (m ((c : Thread nD τ).loc main_arg0)) (m ((c : Thread nD τ).loc main_arg1))
        (m ((c : Thread nD τ).loc main_arg2)) (((cfg0.win 3).blk t).view.emb y) := by
  pointwise [k0_pay1, expected]
  blk_point [iblk, V, places t]

/-- The result array after the run. -/
theorem result (c : Dev nD) : (dats m 0 c).arrAt 3 (cfgs 0).N
    = expected (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3]
  frame_out
  exact point m c t y

end Cert.Kernel3Ideal.Value
-- ==== Proof.Runs.lean ====
/-
  A weight's gradient is a sum over 8192 positions. The kernel takes it in four runs of 2048 positions: it starts a
  sum at the first run and adds the others. This module has the one fact that all those kernels share.
-/
module

public import Idealize.ShloMosaic.Lib.Pipeline.ValueKit
public import Idealize.ShloMosaic.Lib.Pipeline.ReadBack

@[expose] public section

noncomputable section

namespace Cert.Runs

open Idealize.ShloMosaic

/-- A sum that starts at each fourth point and adds one run of 2048 terms at every point has, at the last of four
    points, all 8192 terms. -/
theorem total {N : ℕ} {ι : Type} (acc : (n : ℕ) → n < N → ι → EReal) (part : Fin N → Fin 2048 → ι → EReal)
    (first : ∀ t : Fin N, t.val % 4 = 0 → ∀ j, acc t.val t.isLt j = ∑ k, part t k j)
    (next : ∀ t : Fin N, ¬t.val % 4 = 0 → ∀ j, acc t.val t.isLt j
      = acc (t.val - 1) (Nat.lt_of_le_of_lt (Nat.sub_le _ _) t.isLt) j + ∑ k, part t k j)
    (t : Fin N) (last : t.val % 4 = 3) (y : ι) (f : Fin 8192 → EReal)
    (hf : ∀ (s : Fin 4) (k : Fin 2048) (hl : s.val * 2048 + k.val < 8192),
      part ⟨4 * (t.val / 4) + s.val, Pipeline.run_point_lt_of_flush t last s⟩ k y = f ⟨s.val * 2048 + k.val, hl⟩) :
    acc t.val t.isLt y = ∑ l, f l := by
  rw [Pipeline.eq_sum_fin_of_reset_step_apply_of_flush acc 4 (fun _ => 0) (fun t j => ∑ k, part t k j)
    (fun t h j => by rw [zero_add]; exact first t h j) next t last y, zero_add]
  exact Fin.sum_mul_add_congr hf

end Cert.Runs
-- ==== Proof.UpWeightGradient.lean ====
/-
  The gradient of the feed-forward's first weight: the kernel adds the products of four runs of positions, the
  reference takes one product.
-/
module

public import proofs.«01_k».proof.Proof.Gen.Kernel4Ideal.Value
public import proofs.«01_k».proof.Proof.Gen.Reference4Ideal
public import proofs.«01_k».proof.Proof.Runs

@[expose] public section

set_option maxRecDepth 16384

noncomputable section

open Idealize.ShloMosaic Idealize.ShloMosaic.TcCoe Idealize.SL.Sem

/-! ## The feed-forward's first weight -/

namespace Cert.Kernel4Ideal.Value

open Cert.Kernel4Ideal Cert.Kernel4Ideal.Gen

variable (m : (ℓ : Loc nD τ sig) → Buf (Elt Ideal) ℓ)

/-- The reference's result: the upstream gradient's product with the input, transposed. -/
abbrev expected (X : FVec Ideal S8192x1024 .bf16) (U : FVec Ideal S8192x5632 .bf16) : FVec Ideal S1024x5632 .bf16 :=
  truncf .bf16 (transpose Cert.Reference4Ideal.S1024x5632 [1, 0]
    (Host.dotGeneral Cert.Reference4Ideal.dot_S8192x5632_S8192x1024_S5632x1024_0_0_1_1_n_n none
      (extf .f32 U Cert.Reference4Ideal.Gen.bitsLt_bf16_f32) (extf .f32 X Cert.Reference4Ideal.Gen.bitsLt_bf16_f32))
    Cert.Reference4Ideal.Gen.transposes_S5632x1024_S1024x5632_1_0) Cert.Reference4Ideal.Gen.bitsLt_bf16_f32

/-- Its entry is a sum over the positions. -/
theorem expected_apply (X : FVec Ideal S8192x1024 .bf16) (U : FVec Ideal S8192x5632 .bf16) (i : S1024x5632.Idx) :
    expected X U i = ∑ k : Fin 8192, X (ix2 k (i 0)) * U (ix2 k (i 1)) := by
  pointwise [expected]
  all_goals exact Finset.sum_congr rfl fun _ _ => mul_comm _ _

/-- The blocks of a grid point. -/
theorem places : ∀ t : Fin cfg0.N, win0_0.index t = ![t.val % 4, 0] ∧ win0_1.index t = ![t.val % 4, t.val / 4]
    ∧ win0_2.index t = ![0, t.val / 4] :=
  (by decide +kernel : ∀ t : Fin grid0.N, _)

/-- One term of a run's product. -/
abbrev term (x : FVec Ideal S2048x1024 .bf16) (u : FVec Ideal S2048x1408 .bf16) (k : Fin 2048) (j : S1024x1408.Idx) : EReal :=
  x (ix2 k (j 0)) * u (ix2 k (j 1))

/-- The first run's payload. -/
theorem first_part (x : FVec Ideal S2048x1024 .bf16) (u : FVec Ideal S2048x1408 .bf16) (j : S1024x1408.Idx) :
    (k0_pay2 (F := Ideal) x u j : EReal) = ∑ k, term x u k j := by
  pointwise [k0_pay2, k0_pay1]

/-- A later run's payload. -/
theorem next_part (x : FVec Ideal S2048x1024 .bf16) (u : FVec Ideal S2048x1408 .bf16) (acc : FVec Ideal S1024x1408 .f32)
    (j : S1024x1408.Idx) : k0_pay3 x u acc j = acc j + ∑ k, term x u k j := by
  pointwise [k0_pay3, k0_pay1]

/-- The result array after the run. -/
theorem result (c : Dev nD) : (dats m 0 c).arrAt 2 (cfgs 0).N
    = expected (m ((c : Thread nD τ).loc main_arg0)) (m ((c : Thread nD τ).loc main_arg1)) := by
  refine (dats m 0 c).arrAt_eq_of_covers 2 _ (by decide +kernel) fun t hf y => ?_
  have last := (flush0_2 t).mp hf
  blk_simp
  rw [after0_2, expected_apply]
  have stored : (outsAt0 m c t.val t.isLt).1 y = (outsAt0 m c t.val t.isLt).2 y := by
    rw [outsAt0_C m c t (by omega) (by omega) last]
    frame_out
    pointwise [k0_pay4]
  refine stored.trans (Cert.Runs.total (fun n h => (outsAt0 m c n h).2) (fun t => term (iblk m c 0 t) (iblk m c 1 t))
    (fun t h j => by
      rw [outsAt0_A m c t h (by have := lt_of_lt_of_eq t.isLt N_0; omega) (by omega)]; frame_out; rw [first_part])
    (fun t h j => by
      by_cases h3 : t.val % 4 = 3
      · rw [outsAt0_C m c t h (by omega) h3]; frame_out; simp only [read_unread_whole]; rw [next_part]
      · rw [outsAt0_B m c t h (by omega) h3]; frame_out; simp only [read_unread_whole]; rw [next_part])
    t last y _ fun s k hl => ?_)
  refine congrArg₂ (fun a b : EReal => a * b) ?_ ?_ <;>
    blk_point [iblk, V, places t, places ⟨_, Pipeline.run_point_lt_of_flush t last s⟩]

end Cert.Kernel4Ideal.Value
-- ==== Proof.InWeightGradients.lean ====
/-
  The gradients of the pieces of the input weight: the kernel adds the products of four runs of positions, the
  reference takes one product.
-/
module

public import proofs.«01_k».proof.Proof.Gen.Kernel5Ideal.Value
public import proofs.«01_k».proof.Proof.Gen.Reference5Ideal
public import proofs.«01_k».proof.Proof.Gen.Kernel6Ideal.Value
public import proofs.«01_k».proof.Proof.Gen.Reference6Ideal
public import proofs.«01_k».proof.Proof.Gen.Kernel19Ideal.Value
public import proofs.«01_k».proof.Proof.Gen.Reference19Ideal
public import proofs.«01_k».proof.Proof.Runs

@[expose] public section

set_option maxRecDepth 16384

noncomputable section

open Idealize.ShloMosaic Idealize.ShloMosaic.TcCoe Idealize.SL.Sem

/-! ## A piece of 2048 columns -/

namespace Cert.Kernel5Ideal.Value

open Cert.Kernel5Ideal Cert.Kernel5Ideal.Gen

variable (m : (ℓ : Loc nD τ sig) → Buf (Elt Ideal) ℓ)

/-- The reference's result: the upstream gradient's product with the input, transposed. -/
abbrev expected (X : FVec Ideal S8192x1024 .bf16) (U : FVec Ideal S8192x2048 .bf16) : FVec Ideal S1024x2048 .bf16 :=
  truncf .bf16 (transpose Cert.Reference5Ideal.S1024x2048 [1, 0]
    (Host.dotGeneral Cert.Reference5Ideal.dot_S8192x2048_S8192x1024_S2048x1024_0_0_1_1_n_n none
      (extf .f32 U Cert.Reference5Ideal.Gen.bitsLt_bf16_f32) (extf .f32 X Cert.Reference5Ideal.Gen.bitsLt_bf16_f32))
    Cert.Reference5Ideal.Gen.transposes_S2048x1024_S1024x2048_1_0) Cert.Reference5Ideal.Gen.bitsLt_bf16_f32

/-- Its entry is a sum over the positions. -/
theorem expected_apply (X : FVec Ideal S8192x1024 .bf16) (U : FVec Ideal S8192x2048 .bf16) (i : S1024x2048.Idx) :
    expected X U i = ∑ k : Fin 8192, X (ix2 k (i 0)) * U (ix2 k (i 1)) := by
  pointwise [expected]
  all_goals exact Finset.sum_congr rfl fun _ _ => mul_comm _ _

/-- The blocks of a grid point. -/
theorem places : ∀ t : Fin cfg0.N, win0_0.index t = ![t.val % 4, 0] ∧ win0_1.index t = ![t.val % 4, t.val / 4]
    ∧ win0_2.index t = ![0, t.val / 4] :=
  (by decide +kernel : ∀ t : Fin grid0.N, _)

/-- One term of a run's product. -/
abbrev term (x : FVec Ideal S2048x1024 .bf16) (u : FVec Ideal S2048x1024 .bf16) (k : Fin 2048) (j : S1024x1024.Idx) : EReal :=
  x (ix2 k (j 0)) * u (ix2 k (j 1))

/-- The first run's payload. -/
theorem first_part (x : FVec Ideal S2048x1024 .bf16) (u : FVec Ideal S2048x1024 .bf16) (j : S1024x1024.Idx) :
    (k0_pay2 (F := Ideal) x u j : EReal) = ∑ k, term x u k j := by
  pointwise [k0_pay2, k0_pay1]

/-- A later run's payload. -/
theorem next_part (x : FVec Ideal S2048x1024 .bf16) (u : FVec Ideal S2048x1024 .bf16) (acc : FVec Ideal S1024x1024 .f32)
    (j : S1024x1024.Idx) : k0_pay3 x u acc j = acc j + ∑ k, term x u k j := by
  pointwise [k0_pay3, k0_pay1]

/-- The result array after the run. -/
theorem result (c : Dev nD) : (dats m 0 c).arrAt 2 (cfgs 0).N
    = expected (m ((c : Thread nD τ).loc main_arg0)) (m ((c : Thread nD τ).loc main_arg1)) := by
  refine (dats m 0 c).arrAt_eq_of_covers 2 _ (by decide +kernel) fun t hf y => ?_
  have last := (flush0_2 t).mp hf
  blk_simp
  rw [after0_2, expected_apply]
  have stored : (outsAt0 m c t.val t.isLt).1 y = (outsAt0 m c t.val t.isLt).2 y := by
    rw [outsAt0_C m c t (by omega) (by omega) last]
    frame_out
    pointwise [k0_pay4]
  refine stored.trans (Cert.Runs.total (fun n h => (outsAt0 m c n h).2) (fun t => term (iblk m c 0 t) (iblk m c 1 t))
    (fun t h j => by
      rw [outsAt0_A m c t h (by have := lt_of_lt_of_eq t.isLt N_0; omega) (by omega)]; frame_out; rw [first_part])
    (fun t h j => by
      by_cases h3 : t.val % 4 = 3
      · rw [outsAt0_C m c t h (by omega) h3]; frame_out; simp only [read_unread_whole]; rw [next_part]
      · rw [outsAt0_B m c t h (by omega) h3]; frame_out; simp only [read_unread_whole]; rw [next_part])
    t last y _ fun s k hl => ?_)
  refine congrArg₂ (fun a b : EReal => a * b) ?_ ?_ <;>
    blk_point [iblk, V, places t, places ⟨_, Pipeline.run_point_lt_of_flush t last s⟩]

end Cert.Kernel5Ideal.Value

/-! ## The piece of 3072 columns -/

namespace Cert.Kernel6Ideal.Value

open Cert.Kernel6Ideal Cert.Kernel6Ideal.Gen

variable (m : (ℓ : Loc nD τ sig) → Buf (Elt Ideal) ℓ)

/-- The reference's result: the upstream gradient's product with the input, transposed. -/
abbrev expected (X : FVec Ideal S8192x1024 .bf16) (U : FVec Ideal S8192x3072 .bf16) : FVec Ideal S1024x3072 .bf16 :=
  truncf .bf16 (transpose Cert.Reference6Ideal.S1024x3072 [1, 0]
    (Host.dotGeneral Cert.Reference6Ideal.dot_S8192x3072_S8192x1024_S3072x1024_0_0_1_1_n_n none
      (extf .f32 U Cert.Reference6Ideal.Gen.bitsLt_bf16_f32) (extf .f32 X Cert.Reference6Ideal.Gen.bitsLt_bf16_f32))
    Cert.Reference6Ideal.Gen.transposes_S3072x1024_S1024x3072_1_0) Cert.Reference6Ideal.Gen.bitsLt_bf16_f32

/-- Its entry is a sum over the positions. -/
theorem expected_apply (X : FVec Ideal S8192x1024 .bf16) (U : FVec Ideal S8192x3072 .bf16) (i : S1024x3072.Idx) :
    expected X U i = ∑ k : Fin 8192, X (ix2 k (i 0)) * U (ix2 k (i 1)) := by
  pointwise [expected]
  all_goals exact Finset.sum_congr rfl fun _ _ => mul_comm _ _

/-- The blocks of a grid point. -/
theorem places : ∀ t : Fin cfg0.N, win0_0.index t = ![t.val % 4, 0] ∧ win0_1.index t = ![t.val % 4, t.val / 4]
    ∧ win0_2.index t = ![0, t.val / 4] :=
  (by decide +kernel : ∀ t : Fin grid0.N, _)

/-- One term of a run's product. -/
abbrev term (x : FVec Ideal S2048x1024 .bf16) (u : FVec Ideal S2048x1024 .bf16) (k : Fin 2048) (j : S1024x1024.Idx) : EReal :=
  x (ix2 k (j 0)) * u (ix2 k (j 1))

/-- The first run's payload. -/
theorem first_part (x : FVec Ideal S2048x1024 .bf16) (u : FVec Ideal S2048x1024 .bf16) (j : S1024x1024.Idx) :
    (k0_pay2 (F := Ideal) x u j : EReal) = ∑ k, term x u k j := by
  pointwise [k0_pay2, k0_pay1]

/-- A later run's payload. -/
theorem next_part (x : FVec Ideal S2048x1024 .bf16) (u : FVec Ideal S2048x1024 .bf16) (acc : FVec Ideal S1024x1024 .f32)
    (j : S1024x1024.Idx) : k0_pay3 x u acc j = acc j + ∑ k, term x u k j := by
  pointwise [k0_pay3, k0_pay1]

/-- The result array after the run. -/
theorem result (c : Dev nD) : (dats m 0 c).arrAt 2 (cfgs 0).N
    = expected (m ((c : Thread nD τ).loc main_arg0)) (m ((c : Thread nD τ).loc main_arg1)) := by
  refine (dats m 0 c).arrAt_eq_of_covers 2 _ (by decide +kernel) fun t hf y => ?_
  have last := (flush0_2 t).mp hf
  blk_simp
  rw [after0_2, expected_apply]
  have stored : (outsAt0 m c t.val t.isLt).1 y = (outsAt0 m c t.val t.isLt).2 y := by
    rw [outsAt0_C m c t (by omega) (by omega) last]
    frame_out
    pointwise [k0_pay4]
  refine stored.trans (Cert.Runs.total (fun n h => (outsAt0 m c n h).2) (fun t => term (iblk m c 0 t) (iblk m c 1 t))
    (fun t h j => by
      rw [outsAt0_A m c t h (by have := lt_of_lt_of_eq t.isLt N_0; omega) (by omega)]; frame_out; rw [first_part])
    (fun t h j => by
      by_cases h3 : t.val % 4 = 3
      · rw [outsAt0_C m c t h (by omega) h3]; frame_out; simp only [read_unread_whole]; rw [next_part]
      · rw [outsAt0_B m c t h (by omega) h3]; frame_out; simp only [read_unread_whole]; rw [next_part])
    t last y _ fun s k hl => ?_)
  refine congrArg₂ (fun a b : EReal => a * b) ?_ ?_ <;>
    blk_point [iblk, V, places t, places ⟨_, Pipeline.run_point_lt_of_flush t last s⟩]

end Cert.Kernel6Ideal.Value

/-! ## The step sizes' columns -/

namespace Cert.Kernel19Ideal.Value

open Cert.Kernel19Ideal Cert.Kernel19Ideal.Gen

variable (m : (ℓ : Loc nD τ sig) → Buf (Elt Ideal) ℓ)

/-- The reference's result: the upstream gradient's product with the input, transposed. -/
abbrev expected (X : FVec Ideal S8192x1024 .bf16) (U : FVec Ideal S8192x128 .bf16) : FVec Ideal S1024x128 .bf16 :=
  truncf .bf16 (transpose Cert.Reference19Ideal.S1024x128 [1, 0]
    (Host.dotGeneral Cert.Reference19Ideal.dot_S8192x128_S8192x1024_S128x1024_0_0_1_1_n_n none
      (extf .f32 U Cert.Reference19Ideal.Gen.bitsLt_bf16_f32) (extf .f32 X Cert.Reference19Ideal.Gen.bitsLt_bf16_f32))
    Cert.Reference19Ideal.Gen.transposes_S128x1024_S1024x128_1_0) Cert.Reference19Ideal.Gen.bitsLt_bf16_f32

/-- Its entry is a sum over the positions. -/
theorem expected_apply (X : FVec Ideal S8192x1024 .bf16) (U : FVec Ideal S8192x128 .bf16) (i : S1024x128.Idx) :
    expected X U i = ∑ k : Fin 8192, X (ix2 k (i 0)) * U (ix2 k (i 1)) := by
  pointwise [expected]
  all_goals exact Finset.sum_congr rfl fun _ _ => mul_comm _ _

/-- The blocks of a grid point. -/
theorem places : ∀ t : Fin cfg0.N, win0_0.index t = ![t.val % 4, 0] ∧ win0_1.index t = ![t.val % 4, 0]
    ∧ win0_2.index t = ![0, 0] :=
  (by decide +kernel : ∀ t : Fin grid0.N, _)

/-- One term of a run's product. -/
abbrev term (x : FVec Ideal S2048x1024 .bf16) (u : FVec Ideal S2048x128 .bf16) (k : Fin 2048) (j : S1024x128.Idx) : EReal :=
  x (ix2 k (j 0)) * u (ix2 k (j 1))

/-- The first run's payload. -/
theorem first_part (x : FVec Ideal S2048x1024 .bf16) (u : FVec Ideal S2048x128 .bf16) (j : S1024x128.Idx) :
    (k0_pay2 (F := Ideal) x u j : EReal) = ∑ k, term x u k j := by
  pointwise [k0_pay2, k0_pay1]

/-- A later run's payload. -/
theorem next_part (x : FVec Ideal S2048x1024 .bf16) (u : FVec Ideal S2048x128 .bf16) (acc : FVec Ideal S1024x128 .f32)
    (j : S1024x128.Idx) : k0_pay3 x u acc j = acc j + ∑ k, term x u k j := by
  pointwise [k0_pay3, k0_pay1]

/-- The result array after the run. -/
theorem result (c : Dev nD) : (dats m 0 c).arrAt 2 (cfgs 0).N
    = expected (m ((c : Thread nD τ).loc main_arg0)) (m ((c : Thread nD τ).loc main_arg1)) := by
  refine (dats m 0 c).arrAt_eq_of_covers 2 _ (by decide +kernel) fun t hf y => ?_
  have last := (flush0_2 t).mp hf
  blk_simp
  rw [after0_2, expected_apply]
  have stored : (outsAt0 m c t.val t.isLt).1 y = (outsAt0 m c t.val t.isLt).2 y := by
    rw [outsAt0_C m c t (by omega) (by omega) last]
    frame_out
    pointwise [k0_pay4]
  refine stored.trans (Cert.Runs.total (fun n h => (outsAt0 m c n h).2) (fun t => term (iblk m c 0 t) (iblk m c 1 t))
    (fun t h j => by
      rw [outsAt0_A m c t h (by have := lt_of_lt_of_eq t.isLt N_0; omega) (by omega)]; frame_out; rw [first_part])
    (fun t h j => by
      by_cases h3 : t.val % 4 = 3
      · rw [outsAt0_C m c t h (by omega) h3]; frame_out; simp only [read_unread_whole]; rw [next_part]
      · rw [outsAt0_B m c t h (by omega) h3]; frame_out; simp only [read_unread_whole]; rw [next_part])
    t last y _ fun s k hl => ?_)
  refine congrArg₂ (fun a b : EReal => a * b) ?_ ?_ <;>
    blk_point [iblk, V, places t, places ⟨_, Pipeline.run_point_lt_of_flush t last s⟩]

end Cert.Kernel19Ideal.Value
-- ==== Proof.OutWeightGradients.lean ====
/-
  The gradients of the weights whose products leave the layer's parts: the kernel adds the products of four runs of
  positions, the reference takes one product.
-/
module

public import proofs.«01_k».proof.Proof.Gen.Kernel7Ideal.Value
public import proofs.«01_k».proof.Proof.Gen.Reference7Ideal
public import proofs.«01_k».proof.Proof.Gen.Kernel9Ideal.Value
public import proofs.«01_k».proof.Proof.Gen.Reference9Ideal
public import proofs.«01_k».proof.Proof.Gen.Kernel13Ideal.Value
public import proofs.«01_k».proof.Proof.Gen.Reference13Ideal
public import proofs.«01_k».proof.Proof.Gen.Kernel15Ideal.Value
public import proofs.«01_k».proof.Proof.Gen.Reference15Ideal
public import proofs.«01_k».proof.Proof.Runs

@[expose] public section

set_option maxRecDepth 16384

noncomputable section

open Idealize.ShloMosaic Idealize.ShloMosaic.TcCoe Idealize.SL.Sem

/-! ## The feed-forward's second weight -/

namespace Cert.Kernel7Ideal.Value

open Cert.Kernel7Ideal Cert.Kernel7Ideal.Gen

variable (m : (ℓ : Loc nD τ sig) → Buf (Elt Ideal) ℓ)

/-- The reference's result: the upstream gradient's product with the input, transposed. -/
abbrev expected (X : FVec Ideal S8192x2816 .bf16) (U : FVec Ideal S8192x1024 .f32) : FVec Ideal S2816x1024 .bf16 :=
  truncf .bf16 (transpose Cert.Reference7Ideal.S2816x1024 [1, 0]
    (Host.dotGeneral Cert.Reference7Ideal.dot_S8192x1024_S8192x2816_S1024x2816_0_0_1_1_n_n none
      U (extf .f32 X Cert.Reference7Ideal.Gen.bitsLt_bf16_f32))
    Cert.Reference7Ideal.Gen.transposes_S1024x2816_S2816x1024_1_0) Cert.Reference7Ideal.Gen.bitsLt_bf16_f32

/-- Its entry is a sum over the positions. -/
theorem expected_apply (X : FVec Ideal S8192x2816 .bf16) (U : FVec Ideal S8192x1024 .f32) (i : S2816x1024.Idx) :
    expected X U i = ∑ k : Fin 8192, X (ix2 k (i 0)) * U (ix2 k (i 1)) := by
  pointwise [expected]
  all_goals exact Finset.sum_congr rfl fun _ _ => mul_comm _ _

/-- The blocks of a grid point. -/
theorem places : ∀ t : Fin cfg0.N, win0_0.index t = ![t.val % 4, t.val / 4] ∧ win0_1.index t = ![t.val % 4, 0]
    ∧ win0_2.index t = ![t.val / 4, 0] :=
  (by decide +kernel : ∀ t : Fin grid0.N, _)

/-- One term of a run's product. -/
abbrev term (x : FVec Ideal S2048x1408 .bf16) (u : FVec Ideal S2048x1024 .f32) (k : Fin 2048) (j : S1408x1024.Idx) : EReal :=
  x (ix2 k (j 0)) * u (ix2 k (j 1))

/-- The first run's payload. -/
theorem first_part (x : FVec Ideal S2048x1408 .bf16) (u : FVec Ideal S2048x1024 .f32) (j : S1408x1024.Idx) :
    (k0_pay2 (F := Ideal) x u j : EReal) = ∑ k, term x u k j := by
  pointwise [k0_pay2, k0_pay1]

/-- A later run's payload. -/
theorem next_part (x : FVec Ideal S2048x1408 .bf16) (u : FVec Ideal S2048x1024 .f32) (acc : FVec Ideal S1408x1024 .f32)
    (j : S1408x1024.Idx) : k0_pay3 x u acc j = acc j + ∑ k, term x u k j := by
  pointwise [k0_pay3, k0_pay1]

/-- The result array after the run. -/
theorem result (c : Dev nD) : (dats m 0 c).arrAt 2 (cfgs 0).N
    = expected (m ((c : Thread nD τ).loc main_arg0)) (m ((c : Thread nD τ).loc main_arg1)) := by
  refine (dats m 0 c).arrAt_eq_of_covers 2 _ (by decide +kernel) fun t hf y => ?_
  have last := (flush0_2 t).mp hf
  blk_simp
  rw [after0_2, expected_apply]
  have stored : (outsAt0 m c t.val t.isLt).1 y = (outsAt0 m c t.val t.isLt).2 y := by
    rw [outsAt0_C m c t (by omega) (by omega) last]
    frame_out
    pointwise [k0_pay4]
  refine stored.trans (Cert.Runs.total (fun n h => (outsAt0 m c n h).2) (fun t => term (iblk m c 0 t) (iblk m c 1 t))
    (fun t h j => by
      rw [outsAt0_A m c t h (by have := lt_of_lt_of_eq t.isLt N_0; omega) (by omega)]; frame_out; rw [first_part])
    (fun t h j => by
      by_cases h3 : t.val % 4 = 3
      · rw [outsAt0_C m c t h (by omega) h3]; frame_out; simp only [read_unread_whole]; rw [next_part]
      · rw [outsAt0_B m c t h (by omega) h3]; frame_out; simp only [read_unread_whole]; rw [next_part])
    t last y _ fun s k hl => ?_)
  refine congrArg₂ (fun a b : EReal => a * b) ?_ ?_ <;>
    blk_point [iblk, V, places t, places ⟨_, Pipeline.run_point_lt_of_flush t last s⟩]

end Cert.Kernel7Ideal.Value

/-! ## The state part's output weight -/

namespace Cert.Kernel9Ideal.Value

open Cert.Kernel9Ideal Cert.Kernel9Ideal.Gen

variable (m : (ℓ : Loc nD τ sig) → Buf (Elt Ideal) ℓ)

/-- The reference's result: the upstream gradient's product with the input, transposed. -/
abbrev expected (X : FVec Ideal S8192x2048 .bf16) (U : FVec Ideal S8192x1024 .bf16) : FVec Ideal S2048x1024 .bf16 :=
  truncf .bf16 (transpose Cert.Reference9Ideal.S2048x1024 [1, 0]
    (Host.dotGeneral Cert.Reference9Ideal.dot_S8192x1024_S8192x2048_S1024x2048_0_0_1_1_n_n none
      (extf .f32 U Cert.Reference9Ideal.Gen.bitsLt_bf16_f32) (extf .f32 X Cert.Reference9Ideal.Gen.bitsLt_bf16_f32))
    Cert.Reference9Ideal.Gen.transposes_S1024x2048_S2048x1024_1_0) Cert.Reference9Ideal.Gen.bitsLt_bf16_f32

/-- Its entry is a sum over the positions. -/
theorem expected_apply (X : FVec Ideal S8192x2048 .bf16) (U : FVec Ideal S8192x1024 .bf16) (i : S2048x1024.Idx) :
    expected X U i = ∑ k : Fin 8192, X (ix2 k (i 0)) * U (ix2 k (i 1)) := by
  pointwise [expected]
  all_goals exact Finset.sum_congr rfl fun _ _ => mul_comm _ _

/-- The blocks of a grid point. -/
theorem places : ∀ t : Fin cfg0.N, win0_0.index t = ![t.val % 4, t.val / 4] ∧ win0_1.index t = ![t.val % 4, 0]
    ∧ win0_2.index t = ![t.val / 4, 0] :=
  (by decide +kernel : ∀ t : Fin grid0.N, _)

/-- One term of a run's product. -/
abbrev term (x : FVec Ideal S2048x1024 .bf16) (u : FVec Ideal S2048x1024 .bf16) (k : Fin 2048) (j : S1024x1024.Idx) : EReal :=
  x (ix2 k (j 0)) * u (ix2 k (j 1))

/-- The first run's payload. -/
theorem first_part (x : FVec Ideal S2048x1024 .bf16) (u : FVec Ideal S2048x1024 .bf16) (j : S1024x1024.Idx) :
    (k0_pay2 (F := Ideal) x u j : EReal) = ∑ k, term x u k j := by
  pointwise [k0_pay2, k0_pay1]

/-- A later run's payload. -/
theorem next_part (x : FVec Ideal S2048x1024 .bf16) (u : FVec Ideal S2048x1024 .bf16) (acc : FVec Ideal S1024x1024 .f32)
    (j : S1024x1024.Idx) : k0_pay3 x u acc j = acc j + ∑ k, term x u k j := by
  pointwise [k0_pay3, k0_pay1]

/-- The result array after the run. -/
theorem result (c : Dev nD) : (dats m 0 c).arrAt 2 (cfgs 0).N
    = expected (m ((c : Thread nD τ).loc main_arg0)) (m ((c : Thread nD τ).loc main_arg1)) := by
  refine (dats m 0 c).arrAt_eq_of_covers 2 _ (by decide +kernel) fun t hf y => ?_
  have last := (flush0_2 t).mp hf
  blk_simp
  rw [after0_2, expected_apply]
  have stored : (outsAt0 m c t.val t.isLt).1 y = (outsAt0 m c t.val t.isLt).2 y := by
    rw [outsAt0_C m c t (by omega) (by omega) last]
    frame_out
    pointwise [k0_pay4]
  refine stored.trans (Cert.Runs.total (fun n h => (outsAt0 m c n h).2) (fun t => term (iblk m c 0 t) (iblk m c 1 t))
    (fun t h j => by
      rw [outsAt0_A m c t h (by have := lt_of_lt_of_eq t.isLt N_0; omega) (by omega)]; frame_out; rw [first_part])
    (fun t h j => by
      by_cases h3 : t.val % 4 = 3
      · rw [outsAt0_C m c t h (by omega) h3]; frame_out; simp only [read_unread_whole]; rw [next_part]
      · rw [outsAt0_B m c t h (by omega) h3]; frame_out; simp only [read_unread_whole]; rw [next_part])
    t last y _ fun s k hl => ?_)
  refine congrArg₂ (fun a b : EReal => a * b) ?_ ?_ <;>
    blk_point [iblk, V, places t, places ⟨_, Pipeline.run_point_lt_of_flush t last s⟩]

end Cert.Kernel9Ideal.Value

/-! ## The mixing weight -/

namespace Cert.Kernel13Ideal.Value

open Cert.Kernel13Ideal Cert.Kernel13Ideal.Gen

variable (m : (ℓ : Loc nD τ sig) → Buf (Elt Ideal) ℓ)

/-- The reference's result: the upstream gradient's product with the input, transposed. -/
abbrev expected (X : FVec Ideal S8192x1024 .bf16) (U : FVec Ideal S8192x1024 .f32) : FVec Ideal S1024x1024 .bf16 :=
  truncf .bf16 (transpose Cert.Reference13Ideal.S1024x1024 [1, 0]
    (Host.dotGeneral Cert.Reference13Ideal.dot_S8192x1024_S8192x1024_S1024x1024_0_0_1_1_n_n none
      U (extf .f32 X Cert.Reference13Ideal.Gen.bitsLt_bf16_f32))
    Cert.Reference13Ideal.Gen.transposes_S1024x1024_S1024x1024_1_0) Cert.Reference13Ideal.Gen.bitsLt_bf16_f32

/-- Its entry is a sum over the positions. -/
theorem expected_apply (X : FVec Ideal S8192x1024 .bf16) (U : FVec Ideal S8192x1024 .f32) (i : S1024x1024.Idx) :
    expected X U i = ∑ k : Fin 8192, X (ix2 k (i 0)) * U (ix2 k (i 1)) := by
  pointwise [expected]
  all_goals exact Finset.sum_congr rfl fun _ _ => mul_comm _ _

/-- The blocks of a grid point. -/
theorem places : ∀ t : Fin cfg0.N, win0_0.index t = ![t.val % 4, 0] ∧ win0_1.index t = ![t.val % 4, 0]
    ∧ win0_2.index t = ![0, 0] :=
  (by decide +kernel : ∀ t : Fin grid0.N, _)

/-- One term of a run's product. -/
abbrev term (x : FVec Ideal S2048x1024 .bf16) (u : FVec Ideal S2048x1024 .f32) (k : Fin 2048) (j : S1024x1024.Idx) : EReal :=
  x (ix2 k (j 0)) * u (ix2 k (j 1))

/-- The first run's payload. -/
theorem first_part (x : FVec Ideal S2048x1024 .bf16) (u : FVec Ideal S2048x1024 .f32) (j : S1024x1024.Idx) :
    (k0_pay2 (F := Ideal) x u j : EReal) = ∑ k, term x u k j := by
  pointwise [k0_pay2, k0_pay1]

/-- A later run's payload. -/
theorem next_part (x : FVec Ideal S2048x1024 .bf16) (u : FVec Ideal S2048x1024 .f32) (acc : FVec Ideal S1024x1024 .f32)
    (j : S1024x1024.Idx) : k0_pay3 x u acc j = acc j + ∑ k, term x u k j := by
  pointwise [k0_pay3, k0_pay1]

/-- The result array after the run. -/
theorem result (c : Dev nD) : (dats m 0 c).arrAt 2 (cfgs 0).N
    = expected (m ((c : Thread nD τ).loc main_arg0)) (m ((c : Thread nD τ).loc main_arg1)) := by
  refine (dats m 0 c).arrAt_eq_of_covers 2 _ (by decide +kernel) fun t hf y => ?_
  have last := (flush0_2 t).mp hf
  blk_simp
  rw [after0_2, expected_apply]
  have stored : (outsAt0 m c t.val t.isLt).1 y = (outsAt0 m c t.val t.isLt).2 y := by
    rw [outsAt0_C m c t (by omega) (by omega) last]
    frame_out
    pointwise [k0_pay4]
  refine stored.trans (Cert.Runs.total (fun n h => (outsAt0 m c n h).2) (fun t => term (iblk m c 0 t) (iblk m c 1 t))
    (fun t h j => by
      rw [outsAt0_A m c t h (by have := lt_of_lt_of_eq t.isLt N_0; omega) (by omega)]; frame_out; rw [first_part])
    (fun t h j => by
      by_cases h3 : t.val % 4 = 3
      · rw [outsAt0_C m c t h (by omega) h3]; frame_out; simp only [read_unread_whole]; rw [next_part]
      · rw [outsAt0_B m c t h (by omega) h3]; frame_out; simp only [read_unread_whole]; rw [next_part])
    t last y _ fun s k hl => ?_)
  refine congrArg₂ (fun a b : EReal => a * b) ?_ ?_ <;>
    blk_point [iblk, V, places t, places ⟨_, Pipeline.run_point_lt_of_flush t last s⟩]

end Cert.Kernel13Ideal.Value

/-! ## The convolution part's output weight -/

namespace Cert.Kernel15Ideal.Value

open Cert.Kernel15Ideal Cert.Kernel15Ideal.Gen

variable (m : (ℓ : Loc nD τ sig) → Buf (Elt Ideal) ℓ)

/-- The reference's result: the upstream gradient's product with the input, transposed. -/
abbrev expected (X : FVec Ideal S8192x1024 .bf16) (U : FVec Ideal S8192x1024 .bf16) : FVec Ideal S1024x1024 .bf16 :=
  truncf .bf16 (transpose Cert.Reference15Ideal.S1024x1024 [1, 0]
    (Host.dotGeneral Cert.Reference15Ideal.dot_S8192x1024_S8192x1024_S1024x1024_0_0_1_1_n_n none
      (extf .f32 U Cert.Reference15Ideal.Gen.bitsLt_bf16_f32) (extf .f32 X Cert.Reference15Ideal.Gen.bitsLt_bf16_f32))
    Cert.Reference15Ideal.Gen.transposes_S1024x1024_S1024x1024_1_0) Cert.Reference15Ideal.Gen.bitsLt_bf16_f32

/-- Its entry is a sum over the positions. -/
theorem expected_apply (X : FVec Ideal S8192x1024 .bf16) (U : FVec Ideal S8192x1024 .bf16) (i : S1024x1024.Idx) :
    expected X U i = ∑ k : Fin 8192, X (ix2 k (i 0)) * U (ix2 k (i 1)) := by
  pointwise [expected]
  all_goals exact Finset.sum_congr rfl fun _ _ => mul_comm _ _

/-- The blocks of a grid point. -/
theorem places : ∀ t : Fin cfg0.N, win0_0.index t = ![t.val % 4, 0] ∧ win0_1.index t = ![t.val % 4, 0]
    ∧ win0_2.index t = ![0, 0] :=
  (by decide +kernel : ∀ t : Fin grid0.N, _)

/-- One term of a run's product. -/
abbrev term (x : FVec Ideal S2048x1024 .bf16) (u : FVec Ideal S2048x1024 .bf16) (k : Fin 2048) (j : S1024x1024.Idx) : EReal :=
  x (ix2 k (j 0)) * u (ix2 k (j 1))

/-- The first run's payload. -/
theorem first_part (x : FVec Ideal S2048x1024 .bf16) (u : FVec Ideal S2048x1024 .bf16) (j : S1024x1024.Idx) :
    (k0_pay2 (F := Ideal) x u j : EReal) = ∑ k, term x u k j := by
  pointwise [k0_pay2, k0_pay1]

/-- A later run's payload. -/
theorem next_part (x : FVec Ideal S2048x1024 .bf16) (u : FVec Ideal S2048x1024 .bf16) (acc : FVec Ideal S1024x1024 .f32)
    (j : S1024x1024.Idx) : k0_pay3 x u acc j = acc j + ∑ k, term x u k j := by
  pointwise [k0_pay3, k0_pay1]

/-- The result array after the run. -/
theorem result (c : Dev nD) : (dats m 0 c).arrAt 2 (cfgs 0).N
    = expected (m ((c : Thread nD τ).loc main_arg0)) (m ((c : Thread nD τ).loc main_arg1)) := by
  refine (dats m 0 c).arrAt_eq_of_covers 2 _ (by decide +kernel) fun t hf y => ?_
  have last := (flush0_2 t).mp hf
  blk_simp
  rw [after0_2, expected_apply]
  have stored : (outsAt0 m c t.val t.isLt).1 y = (outsAt0 m c t.val t.isLt).2 y := by
    rw [outsAt0_C m c t (by omega) (by omega) last]
    frame_out
    pointwise [k0_pay4]
  refine stored.trans (Cert.Runs.total (fun n h => (outsAt0 m c n h).2) (fun t => term (iblk m c 0 t) (iblk m c 1 t))
    (fun t h j => by
      rw [outsAt0_A m c t h (by have := lt_of_lt_of_eq t.isLt N_0; omega) (by omega)]; frame_out; rw [first_part])
    (fun t h j => by
      by_cases h3 : t.val % 4 = 3
      · rw [outsAt0_C m c t h (by omega) h3]; frame_out; simp only [read_unread_whole]; rw [next_part]
      · rw [outsAt0_B m c t h (by omega) h3]; frame_out; simp only [read_unread_whole]; rw [next_part])
    t last y _ fun s k hl => ?_)
  refine congrArg₂ (fun a b : EReal => a * b) ?_ ?_ <;>
    blk_point [iblk, V, places t, places ⟨_, Pipeline.run_point_lt_of_flush t last s⟩]

end Cert.Kernel15Ideal.Value
-- ==== Proof.OutInputGradients.lean ====
/-
  The gradients of the inputs of the products that leave the layer's parts: each grid point takes one block's whole
  product.
-/
module

public import proofs.«01_k».proof.Proof.Gen.Kernel8Ideal.Value
public import proofs.«01_k».proof.Proof.Gen.Reference8Ideal
public import proofs.«01_k».proof.Proof.Gen.Kernel10Ideal.Value
public import proofs.«01_k».proof.Proof.Gen.Reference10Ideal
public import proofs.«01_k».proof.Proof.Gen.Kernel14Ideal.Value
public import proofs.«01_k».proof.Proof.Gen.Reference14Ideal
public import proofs.«01_k».proof.Proof.Gen.Kernel16Ideal.Value
public import proofs.«01_k».proof.Proof.Gen.Reference16Ideal
public import Idealize.ShloMosaic.Lib.Pipeline.ValueKit

@[expose] public section

set_option maxRecDepth 16384

noncomputable section

open Idealize.ShloMosaic Idealize.ShloMosaic.TcCoe Idealize.SL.Sem

/-! ## The feed-forward's second product -/

namespace Cert.Kernel8Ideal.Value

open Cert.Kernel8Ideal Cert.Kernel8Ideal.Gen

variable (m : (ℓ : Loc nD τ sig) → Buf (Elt Ideal) ℓ)

/-- The reference's result: the upstream gradient times the transposed weight. -/
abbrev expected (W : FVec Ideal S2816x1024 .bf16) (U : FVec Ideal S8192x1024 .f32) : FVec Ideal S8192x2816 .f32 :=
  Host.dotGeneral Cert.Reference8Ideal.dot_S8192x1024_S2816x1024_S8192x2816_1_1_0_0_n_n none U (extf .f32 W Cert.Reference8Ideal.Gen.bitsLt_bf16_f32)

/-- The blocks of a grid point. -/
theorem places : ∀ t : Fin cfg0.N, win0_0.index t = ![t.val / 2, 0] ∧ win0_1.index t = ![t.val % 2, 0]
    ∧ win0_2.index t = ![t.val / 2, t.val % 2] :=
  (by decide +kernel : ∀ t : Fin grid0.N, _)

/-- What a grid point stores is the reference's result at the block's place. -/
theorem point (c : Dev nD) (t : Fin cfg0.N) (y) : k0_pay1 (iblk m c 0 t) (iblk m c 1 t) y
    = expected (m ((c : Thread nD τ).loc main_arg0)) (m ((c : Thread nD τ).loc main_arg1))
        (((cfg0.win 2).blk t).view.emb y) := by
  pointwise [k0_pay1, expected]
  blk_point [iblk, V, places t]

/-- The result array after the run. -/
theorem result (c : Dev nD) : (dats m 0 c).arrAt 2 (cfgs 0).N
    = expected (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.Kernel8Ideal.Value

/-! ## The state part's output product -/

namespace Cert.Kernel10Ideal.Value

open Cert.Kernel10Ideal Cert.Kernel10Ideal.Gen

variable (m : (ℓ : Loc nD τ sig) → Buf (Elt Ideal) ℓ)

/-- The reference's result: the upstream gradient times the transposed weight. -/
abbrev expected (W : FVec Ideal S2048x1024 .bf16) (U : FVec Ideal S8192x1024 .bf16) : FVec Ideal S8192x2048 .bf16 :=
  truncf .bf16 (Host.dotGeneral Cert.Reference10Ideal.dot_S8192x1024_S2048x1024_S8192x2048_1_1_0_0_n_n none (extf .f32 U Cert.Reference10Ideal.Gen.bitsLt_bf16_f32) (extf .f32 W Cert.Reference10Ideal.Gen.bitsLt_bf16_f32))
    Cert.Reference10Ideal.Gen.bitsLt_bf16_f32

/-- The blocks of a grid point. -/
theorem places : ∀ t : Fin cfg0.N, win0_0.index t = ![t.val / 2, 0] ∧ win0_1.index t = ![t.val % 2, 0]
    ∧ win0_2.index t = ![t.val / 2, t.val % 2] :=
  (by decide +kernel : ∀ t : Fin grid0.N, _)

/-- What a grid point stores is the reference's result at the block's place. -/
theorem point (c : Dev nD) (t : Fin cfg0.N) (y) : k0_pay1 (iblk m c 0 t) (iblk m c 1 t) y
    = expected (m ((c : Thread nD τ).loc main_arg0)) (m ((c : Thread nD τ).loc main_arg1))
        (((cfg0.win 2).blk t).view.emb y) := by
  pointwise [k0_pay1, expected]
  blk_point [iblk, V, places t]

/-- The result array after the run. -/
theorem result (c : Dev nD) : (dats m 0 c).arrAt 2 (cfgs 0).N
    = expected (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.Kernel10Ideal.Value

/-! ## The mixing product -/

namespace Cert.Kernel14Ideal.Value

open Cert.Kernel14Ideal Cert.Kernel14Ideal.Gen

variable (m : (ℓ : Loc nD τ sig) → Buf (Elt Ideal) ℓ)

/-- The reference's result: the upstream gradient times the transposed weight. -/
abbrev expected (W : FVec Ideal S1024x1024 .bf16) (U : FVec Ideal S8192x1024 .f32) : FVec Ideal S8192x1024 .bf16 :=
  truncf .bf16 (Host.dotGeneral Cert.Reference14Ideal.dot_S8192x1024_S1024x1024_S8192x1024_1_1_0_0_n_n none U (extf .f32 W Cert.Reference14Ideal.Gen.bitsLt_bf16_f32))
    Cert.Reference14Ideal.Gen.bitsLt_bf16_f32

/-- The blocks of a grid point. -/
theorem places : ∀ t : Fin cfg0.N, win0_0.index t = ![t.val, 0] ∧ win0_1.index t = ![0, 0]
    ∧ win0_2.index t = ![t.val, 0] :=
  (by decide +kernel : ∀ t : Fin grid0.N, _)

/-- What a grid point stores is the reference's result at the block's place. -/
theorem point (c : Dev nD) (t : Fin cfg0.N) (y) : k0_pay1 (iblk m c 0 t) (iblk m c 1 t) y
    = expected (m ((c : Thread nD τ).loc main_arg0)) (m ((c : Thread nD τ).loc main_arg1))
        (((cfg0.win 2).blk t).view.emb y) := by
  pointwise [k0_pay1, expected]
  blk_point [iblk, V, places t]

/-- The result array after the run. -/
theorem result (c : Dev nD) : (dats m 0 c).arrAt 2 (cfgs 0).N
    = expected (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.Kernel14Ideal.Value

/-! ## The convolution part's output product -/

namespace Cert.Kernel16Ideal.Value

open Cert.Kernel16Ideal Cert.Kernel16Ideal.Gen

variable (m : (ℓ : Loc nD τ sig) → Buf (Elt Ideal) ℓ)

/-- The reference's result: the upstream gradient times the transposed weight. -/
abbrev expected (W : FVec Ideal S1024x1024 .bf16) (U : FVec Ideal S8192x1024 .bf16) : FVec Ideal S8192x1024 .bf16 :=
  truncf .bf16 (Host.dotGeneral Cert.Reference16Ideal.dot_S8192x1024_S1024x1024_S8192x1024_1_1_0_0_n_n none (extf .f32 U Cert.Reference16Ideal.Gen.bitsLt_bf16_f32) (extf .f32 W Cert.Reference16Ideal.Gen.bitsLt_bf16_f32))
    Cert.Reference16Ideal.Gen.bitsLt_bf16_f32

/-- The blocks of a grid point. -/
theorem places : ∀ t : Fin cfg0.N, win0_0.index t = ![t.val, 0] ∧ win0_1.index t = ![0, 0]
    ∧ win0_2.index t = ![t.val, 0] :=
  (by decide +kernel : ∀ t : Fin grid0.N, _)

/-- What a grid point stores is the reference's result at the block's place. -/
theorem point (c : Dev nD) (t : Fin cfg0.N) (y) : k0_pay1 (iblk m c 0 t) (iblk m c 1 t) y
    = expected (m ((c : Thread nD τ).loc main_arg0)) (m ((c : Thread nD τ).loc main_arg1))
        (((cfg0.win 2).blk t).view.emb y) := by
  pointwise [k0_pay1, expected]
  blk_point [iblk, V, places t]

/-- The result array after the run. -/
theorem result (c : Dev nD) : (dats m 0 c).arrAt 2 (cfgs 0).N
    = expected (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.Kernel16Ideal.Value
-- ==== Proof.InProduct.lean ====
/-
  The layer's input product: the kernel multiplies by the weight's pieces side by side, without the step sizes'
  columns; the reference multiplies by the whole weight and leaves those columns out of the result.
-/
module

public import proofs.«01_k».proof.Proof.Gen.Kernel11Ideal.Value
public import proofs.«01_k».proof.Proof.Gen.Reference11Ideal
public import Idealize.ShloMosaic.Lib.Pipeline.ValueKit

@[expose] public section

set_option maxRecDepth 16384

noncomputable section

namespace Cert.Kernel11Ideal.Value

open Idealize.ShloMosaic Idealize.ShloMosaic.TcCoe Idealize.SL.Sem
open Cert.Kernel11Ideal Cert.Kernel11Ideal.Gen

variable (m : (ℓ : Loc nD τ sig) → Buf (Elt Ideal) ℓ)

/-- The product with the whole weight. -/
abbrev whole (X : FVec Ideal S8192x1024 .bf16) (W : FVec Ideal S1024x9248 .bf16) :
    FVec Ideal Cert.Reference11Ideal.S8192x9248 .bf16 :=
  truncf .bf16 (Host.dotGeneral Cert.Reference11Ideal.dot_S8192x1024_S1024x9248_S8192x9248_1_0_0_1_n_n none
    (extf .f32 X Cert.Reference11Ideal.Gen.bitsLt_bf16_f32) (extf .f32 W Cert.Reference11Ideal.Gen.bitsLt_bf16_f32))
    Cert.Reference11Ideal.Gen.bitsLt_bf16_f32

/-- The reference's result: its columns before and behind the step sizes. -/
abbrev expected (X : FVec Ideal S8192x1024 .bf16) (W : FVec Ideal S1024x9248 .bf16) : FVec Ideal S8192x9216 .bf16 :=
  concatenate Cert.Reference11Ideal.S8192x9216 1
    [⟨Cert.Reference11Ideal.S8192x7168, extractStridedSlice Cert.Reference11Ideal.S8192x7168 ![0, 0] (whole X W)
        Cert.Reference11Ideal.Gen.slices_S8192x9248_S8192x7168_0_0⟩,
     ⟨Cert.Reference11Ideal.S8192x2048, extractStridedSlice Cert.Reference11Ideal.S8192x2048 ![0, 7200] (whole X W)
        Cert.Reference11Ideal.Gen.slices_S8192x9248_S8192x2048_0_7200⟩]
    Cert.Reference11Ideal.Gen.concatenates_S8192x7168_S8192x2048_S8192x9216_d1

/-- The weight's column of a column of the result. -/
def column (n : Fin 9216) : Fin 9248 :=
  if h : n.val < 7168 then ⟨n.val, by omega⟩ else ⟨n.val + 32, by omega⟩

/-- It skips the 32 columns of the step sizes. -/
theorem column_val (n : Fin 9216) :
    (n.val < 7168 ∧ (column n).val = n.val) ∨ (7168 ≤ n.val ∧ (column n).val = n.val + 32) := by
  unfold column
  split_ifs with h
  · exact Or.inl ⟨h, rfl⟩
  · exact Or.inr ⟨by omega, rfl⟩

/-- Four pieces side by side. -/
abbrev side (a b : FVec Ideal S1024x2048 .bf16) (x : FVec Ideal S1024x3072 .bf16) (d : FVec Ideal S1024x2048 .bf16) :
    FVec Ideal S1024x9216 .bf16 :=
  concatenate S1024x9216 1 [⟨S1024x2048, a⟩, ⟨S1024x2048, b⟩, ⟨S1024x3072, x⟩, ⟨S1024x2048, d⟩]
    concatenates_S1024x2048_S1024x2048_S1024x3072_S1024x2048_S1024x9216_d1

/-- The pieces of the weight side by side. -/
abbrev pieces (W : FVec Ideal S1024x9248 .bf16) : FVec Ideal S1024x9216 .bf16 :=
  side (extractStridedSlice S1024x2048 ![0, 0] W slices_S1024x9248_S1024x2048_0_0)
    (extractStridedSlice S1024x2048 ![0, 2048] W slices_S1024x9248_S1024x2048_0_2048)
    (extractStridedSlice S1024x3072 ![0, 4096] W slices_S1024x9248_S1024x3072_0_4096)
    (extractStridedSlice S1024x2048 ![0, 7200] W slices_S1024x9248_S1024x2048_0_7200)

/-- The weight that the kernel reads: the pieces, taken before they are put side by side. -/
theorem read_weight (c : Dev nD) : V m c main_v4 = pieces (m ((c : Thread nD τ).loc main_arg1)) := by
  have h0 : V m c main_v0 = extractStridedSlice S1024x2048 ![0, 0] (m ((c : Thread nD τ).loc main_arg1))
      slices_S1024x9248_S1024x2048_0_0 := by
    show StableHlo.after hostOps0 (fun b => m (c, b)) main_v0 = _
    after_results
  have h1 : V m c main_v1 = extractStridedSlice S1024x2048 ![0, 2048] (m ((c : Thread nD τ).loc main_arg1))
      slices_S1024x9248_S1024x2048_0_2048 := by
    show StableHlo.after hostOps0 (fun b => m (c, b)) main_v1 = _
    after_results
  have h2 : V m c main_v2 = extractStridedSlice S1024x3072 ![0, 4096] (m ((c : Thread nD τ).loc main_arg1))
      slices_S1024x9248_S1024x3072_0_4096 := by
    show StableHlo.after hostOps0 (fun b => m (c, b)) main_v2 = _
    after_results
  have h3 : V m c main_v3 = extractStridedSlice S1024x2048 ![0, 7200] (m ((c : Thread nD τ).loc main_arg1))
      slices_S1024x9248_S1024x2048_0_7200 := by
    show StableHlo.after hostOps0 (fun b => m (c, b)) main_v3 = _
    after_results
  have h : V m c main_v4 = side (V m c main_v0) (V m c main_v1) (V m c main_v2) (V m c main_v3) := by
    simp only [V, hostOps0, StableHlo.after_cons, StableHlo.after_nil]
    rw [StableHlo.nary_result, StableHlo.nary_result_ne, StableHlo.nary_result_ne, StableHlo.nary_result_ne,
      StableHlo.nary_result_ne]
    · rfl
    all_goals decide
  rw [h, h0, h1, h2, h3]

/-- A column of the pieces. -/
theorem pieces_apply (W : FVec Ideal S1024x9248 .bf16) (i : S1024x9216.Idx) :
    (pieces W i : EReal) = W (ix2 (i 0) (column (i 1))) := by
  have hi : (i 1).val < 9216 := (i 1).isLt
  have hc := column_val (i 1)
  pointwise [pieces]
  split_ifs with h1 h2 h3 <;>
    (refine congrArg (fun n => W (ix2 (i 0) n)) (Fin.ext ?_); dsimp only; omega)

/-- The reference's entry. -/
theorem expected_apply (X : FVec Ideal S8192x1024 .bf16) (W : FVec Ideal S1024x9248 .bf16) (i : S8192x9216.Idx) :
    (expected X W i : EReal) = ∑ k : Fin 1024, X (ix2 (i 0) k) * W (ix2 k (column (i 1))) := by
  have hi : (i 1).val < 9216 := (i 1).isLt
  have hc := column_val (i 1)
  pointwise [expected, whole]
  split_ifs with h1 <;>
    (refine Finset.sum_congr rfl fun k _ => congrArg (fun n => X (ix2 (i 0) k) * W (ix2 k n)) (Fin.ext ?_)
     dsimp only
     omega)

/-- The blocks of a grid point. -/
theorem places : ∀ t : Fin cfg0.N, win0_0.index t = ![t.val / 9, 0] ∧ win0_1.index t = ![0, t.val % 9]
    ∧ win0_2.index t = ![t.val / 9, t.val % 9] :=
  (by decide +kernel : ∀ t : Fin grid0.N, _)

/-- What a grid point stores, entry by entry. -/
theorem part (x w : FVec Ideal S1024x1024 .bf16) (j : S1024x1024.Idx) :
    (k0_pay1 (F := Ideal) x w j : EReal) = ∑ k : Fin 1024, x (ix2 (j 0) k) * w (ix2 k (j 1)) := by
  pointwise [k0_pay1]

/-- A weight block's entry. -/
theorem weight_block (c : Dev nD) (t : Fin cfg0.N) (y : S1024x1024.Idx) (k : Fin 1024) :
    (iblk m c 1 t (ix2 k (y 1)) : EReal) = pieces (m ((c : Thread nD τ).loc main_arg1))
      (ix2 k ((((cfg0.win 2).blk t).view.emb y) 1)) := by
  rw [← read_weight]
  blk_point [iblk, places t]

/-- What a grid point stores is the reference's result at the block's place. -/
theorem point (c : Dev nD) (t : Fin cfg0.N) (y) : k0_pay1 (iblk m c 0 t) (iblk m c 1 t) y
    = expected (m ((c : Thread nD τ).loc main_arg0)) (m ((c : Thread nD τ).loc main_arg1))
        (((cfg0.win 2).blk t).view.emb y) := by
  refine (part _ _ _).trans ?_
  rw [expected_apply]
  refine Finset.sum_congr rfl fun k _ => congrArg₂ (fun a b : EReal => a * b) ?_
    ((weight_block m c t y k).trans (pieces_apply _ _))
  blk_point [iblk, V, places t]

/-- The result array after the run. -/
theorem result (c : Dev nD) : (dats m 0 c).arrAt 2 (cfgs 0).N
    = expected (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.Kernel11Ideal.Value
-- ==== Proof.ForwardProducts.lean ====
/-
  Products of the forward pass with a whole weight: each grid point takes one block's whole product.
-/
module

public import proofs.«01_k».proof.Proof.Gen.Kernel12Ideal.Value
public import proofs.«01_k».proof.Proof.Gen.Reference12Ideal
public import proofs.«01_k».proof.Proof.Gen.Kernel17Ideal.Value
public import proofs.«01_k».proof.Proof.Gen.Reference17Ideal
public import proofs.«01_k».proof.Proof.Gen.Kernel18Ideal.Value
public import proofs.«01_k».proof.Proof.Gen.Reference18Ideal
public import Idealize.ShloMosaic.Lib.Pipeline.ValueKit

@[expose] public section

set_option maxRecDepth 16384

noncomputable section

open Idealize.ShloMosaic Idealize.ShloMosaic.TcCoe Idealize.SL.Sem

/-! ## The feed-forward's first product -/

namespace Cert.Kernel12Ideal.Value

open Cert.Kernel12Ideal Cert.Kernel12Ideal.Gen

variable (m : (ℓ : Loc nD τ sig) → Buf (Elt Ideal) ℓ)

/-- The reference's result: the input times the weight. -/
abbrev expected (X : FVec Ideal S8192x1024 .bf16) (W : FVec Ideal S1024x5632 .bf16) : FVec Ideal S8192x5632 .bf16 :=
  truncf .bf16 (Host.dotGeneral Cert.Reference12Ideal.dot_S8192x1024_S1024x5632_S8192x5632_1_0_0_1_n_n none
    (extf .f32 X Cert.Reference12Ideal.Gen.bitsLt_bf16_f32) (extf .f32 W Cert.Reference12Ideal.Gen.bitsLt_bf16_f32)) Cert.Reference12Ideal.Gen.bitsLt_bf16_f32

/-- The blocks of a grid point. -/
theorem places : ∀ t : Fin cfg0.N, win0_0.index t = ![t.val / 4, 0] ∧ win0_1.index t = ![0, t.val % 4]
    ∧ win0_2.index t = ![t.val / 4, t.val % 4] :=
  (by decide +kernel : ∀ t : Fin grid0.N, _)

/-- What a grid point stores is the reference's result at the block's place. -/
theorem point (c : Dev nD) (t : Fin cfg0.N) (y) : k0_pay1 (iblk m c 0 t) (iblk m c 1 t) y
    = expected (m ((c : Thread nD τ).loc main_arg0)) (m ((c : Thread nD τ).loc main_arg1))
        (((cfg0.win 2).blk t).view.emb y) := by
  pointwise [k0_pay1, expected]
  blk_point [iblk, V, places t]

/-- The result array after the run. -/
theorem result (c : Dev nD) : (dats m 0 c).arrAt 2 (cfgs 0).N
    = expected (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.Kernel12Ideal.Value

/-! ## The state part's output product -/

namespace Cert.Kernel17Ideal.Value

open Cert.Kernel17Ideal Cert.Kernel17Ideal.Gen

variable (m : (ℓ : Loc nD τ sig) → Buf (Elt Ideal) ℓ)

/-- The reference's result: the input times the weight. -/
abbrev expected (X : FVec Ideal S8192x2048 .bf16) (W : FVec Ideal S2048x1024 .bf16) : FVec Ideal S8192x1024 .bf16 :=
  truncf .bf16 (Host.dotGeneral Cert.Reference17Ideal.dot_S8192x2048_S2048x1024_S8192x1024_1_0_0_1_n_n none
    (extf .f32 X Cert.Reference17Ideal.Gen.bitsLt_bf16_f32) (extf .f32 W Cert.Reference17Ideal.Gen.bitsLt_bf16_f32)) Cert.Reference17Ideal.Gen.bitsLt_bf16_f32

/-- The blocks of a grid point. -/
theorem places : ∀ t : Fin cfg0.N, win0_0.index t = ![t.val, 0] ∧ win0_1.index t = ![0, 0]
    ∧ win0_2.index t = ![t.val, 0] :=
  (by decide +kernel : ∀ t : Fin grid0.N, _)

/-- What a grid point stores is the reference's result at the block's place. -/
theorem point (c : Dev nD) (t : Fin cfg0.N) (y) : k0_pay1 (iblk m c 0 t) (iblk m c 1 t) y
    = expected (m ((c : Thread nD τ).loc main_arg0)) (m ((c : Thread nD τ).loc main_arg1))
        (((cfg0.win 2).blk t).view.emb y) := by
  pointwise [k0_pay1, expected]
  blk_point [iblk, V, places t]

/-- The result array after the run. -/
theorem result (c : Dev nD) : (dats m 0 c).arrAt 2 (cfgs 0).N
    = expected (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.Kernel17Ideal.Value

/-! ## The convolution part's output product -/

namespace Cert.Kernel18Ideal.Value

open Cert.Kernel18Ideal Cert.Kernel18Ideal.Gen

variable (m : (ℓ : Loc nD τ sig) → Buf (Elt Ideal) ℓ)

/-- The reference's result: the input times the weight. -/
abbrev expected (X : FVec Ideal S8192x1024 .bf16) (W : FVec Ideal S1024x1024 .bf16) : FVec Ideal S8192x1024 .bf16 :=
  truncf .bf16 (Host.dotGeneral Cert.Reference18Ideal.dot_S8192x1024_S1024x1024_S8192x1024_1_0_0_1_n_n none
    (extf .f32 X Cert.Reference18Ideal.Gen.bitsLt_bf16_f32) (extf .f32 W Cert.Reference18Ideal.Gen.bitsLt_bf16_f32)) Cert.Reference18Ideal.Gen.bitsLt_bf16_f32

/-- The blocks of a grid point. -/
theorem places : ∀ t : Fin cfg0.N, win0_0.index t = ![t.val, 0] ∧ win0_1.index t = ![0, 0]
    ∧ win0_2.index t = ![t.val, 0] :=
  (by decide +kernel : ∀ t : Fin grid0.N, _)

/-- What a grid point stores is the reference's result at the block's place. -/
theorem point (c : Dev nD) (t : Fin cfg0.N) (y) : k0_pay1 (iblk m c 0 t) (iblk m c 1 t) y
    = expected (m ((c : Thread nD τ).loc main_arg0)) (m ((c : Thread nD τ).loc main_arg1))
        (((cfg0.win 2).blk t).view.emb y) := by
  pointwise [k0_pay1, expected]
  blk_point [iblk, V, places t]

/-- The result array after the run. -/
theorem result (c : Dev nD) : (dats m 0 c).arrAt 2 (cfgs 0).N
    = expected (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.Kernel18Ideal.Value
-- ==== Proof.Gates.lean ====
/-
  The gated sum of the two branches and its gradient.
-/
module

public import proofs.«01_k».proof.Proof.Gen.Kernel22Ideal.Value
public import proofs.«01_k».proof.Proof.Gen.Reference22Ideal
public import proofs.«01_k».proof.Proof.Gen.Kernel23Ideal.Value
public import proofs.«01_k».proof.Proof.Gen.Reference23Ideal
public import Idealize.ShloMosaic.Lib.Pipeline.ValueKit

@[expose] public section

set_option maxRecDepth 16384

noncomputable section

open Idealize.ShloMosaic Idealize.ShloMosaic.TcCoe Idealize.SL.Sem

namespace Cert.Gates

open Cert.Reference23Ideal Cert.Reference23Ideal.Gen

/-- The reference's logistic function. -/
abbrev squash (x : FVec Ideal S8192x1024 .f32) : FVec Ideal S8192x1024 .f32 :=
  Host.divf (broadcastInDim S8192x1024 ![] bcast_S_S8192x1024 (constant S_ .f32 0x3F800000#32))
    (addf (broadcastInDim S8192x1024 ![] bcast_S_S8192x1024 (constant S_ .f32 0x3F800000#32)) (Host.exp (Host.negf x)))

/-- A bfloat16 array in float32. -/
abbrev wide (x : FVec Ideal S8192x1024 .bf16) : FVec Ideal S8192x1024 .f32 := extf .f32 x bitsLt_bf16_f32

/-- The first branch's gate. -/
abbrev gateA (u : FVec Ideal S8192x9216 .bf16) : FVec Ideal S8192x1024 .f32 :=
  squash (wide (extractStridedSlice S8192x1024 ![0, 7168] u slices_S8192x9216_S8192x1024_0_7168))

/-- The second branch's gate. -/
abbrev gateB (u : FVec Ideal S8192x9216 .bf16) : FVec Ideal S8192x1024 .f32 :=
  squash (wide (extractStridedSlice S8192x1024 ![0, 8192] u slices_S8192x9216_S8192x1024_0_8192))

/-- The reference's gated sum. -/
abbrev gated (u : FVec Ideal S8192x9216 .bf16) (a b : FVec Ideal S8192x1024 .bf16) : FVec Ideal S8192x1024 .bf16 :=
  truncf .bf16 (addf (mulf (gateA u) (wide a)) (mulf (gateB u) (wide b))) bitsLt_bf16_f32

/-- The reference's gradient of a branch: the gate times the upstream gradient. -/
abbrev branch (g : FVec Ideal S8192x1024 .f32) (d : FVec Ideal S8192x1024 .bf16) : FVec Ideal S8192x1024 .bf16 :=
  truncf .bf16 (mulf g (wide d)) bitsLt_bf16_f32

/-- The reference's gradient of a gate before the logistic function. -/
abbrev gateGradient (g : FVec Ideal S8192x1024 .f32) (d y : FVec Ideal S8192x1024 .bf16) : FVec Ideal S8192x1024 .f32 :=
  mulf (mulf (wide d) (wide y))
    (mulf g (subf (broadcastInDim S8192x1024 ![] bcast_S_S8192x1024 (constant S_ .f32 0x3F800000#32)) g))

/-- The reference's gradient of the two gates, side by side. -/
abbrev gateGradients (u : FVec Ideal S8192x9216 .bf16) (a b d : FVec Ideal S8192x1024 .bf16) : FVec Ideal S8192x2048 .bf16 :=
  truncf .bf16 (concatenate S8192x2048 1 [⟨S8192x1024, gateGradient (gateA u) d a⟩, ⟨S8192x1024, gateGradient (gateB u) d b⟩]
    concatenates_S8192x1024_S8192x1024_S8192x2048_d1) bitsLt_bf16_f32

end Cert.Gates

/-! ## The gated sum -/

namespace Cert.Kernel22Ideal.Value

open Cert.Kernel22Ideal Cert.Kernel22Ideal.Gen Cert.Gates

variable (m : (ℓ : Loc nD τ sig) → Buf (Elt Ideal) ℓ)

/-- The blocks of a grid point. -/
theorem places : ∀ t : Fin cfg0.N, win0_0.index t = ![t.val, 7] ∧ win0_1.index t = ![t.val, 8]
    ∧ win0_2.index t = ![t.val, 0] ∧ win0_3.index t = ![t.val, 0] ∧ win0_4.index t = ![t.val, 0] :=
  (by decide +kernel : ∀ t : Fin grid0.N, _)

/-- The result array after the run. -/
theorem result (c : Dev nD) : (dats m 0 c).arrAt 4 (cfgs 0).N = gated (m ((c : Thread nD τ).loc main_arg0))
    (m ((c : Thread nD τ).loc main_arg1)) (m ((c : Thread nD τ).loc main_arg2)) := by
  refine (dats m 0 c).arrAt_eq_of_covers 4 _ (by decide +kernel) fun t _ y => ?_
  blk_simp
  rw [after0_4]
  frame_out
  pointwise [k0_pay1, gated, gateA, gateB, squash, wide]
  simp only [zero_sub]
  blk_point [iblk, V, places t]

end Cert.Kernel22Ideal.Value

/-! ## Its gradient -/

namespace Cert.Kernel23Ideal.Value

open Cert.Kernel23Ideal Cert.Kernel23Ideal.Gen Cert.Gates

variable (m : (ℓ : Loc nD τ sig) → Buf (Elt Ideal) ℓ)

/-- The blocks of a grid point. -/
theorem places : ∀ t : Fin cfg0.N, win0_0.index t = ![t.val, 7] ∧ win0_1.index t = ![t.val, 8]
    ∧ win0_2.index t = ![t.val, 0] ∧ win0_3.index t = ![t.val, 0] ∧ win0_4.index t = ![t.val, 0]
    ∧ win0_5.index t = ![t.val, 0] ∧ win0_6.index t = ![t.val, 0] ∧ win0_7.index t = ![t.val, 0] :=
  (by decide +kernel : ∀ t : Fin grid0.N, _)

/-- The array of the first branch's gradient after the run. -/
theorem result_a (c : Dev nD) : (dats m 0 c).arrAt 5 (cfgs 0).N = branch (gateA (m ((c : Thread nD τ).loc main_arg0)))
    (m ((c : Thread nD τ).loc main_arg3)) := by
  refine (dats m 0 c).arrAt_eq_of_covers 5 _ (by decide +kernel) fun t _ y => ?_
  blk_simp
  rw [after0_5]
  frame_out
  pointwise [k0_pay5, k0_pay2, k0_pay3, branch, gateA, squash, wide]
  simp only [zero_sub]
  rw [mul_comm]
  blk_point [iblk, V, places t]

/-- The array of the second branch's gradient after the run. -/
theorem result_b (c : Dev nD) : (dats m 0 c).arrAt 6 (cfgs 0).N = branch (gateB (m ((c : Thread nD τ).loc main_arg0)))
    (m ((c : Thread nD τ).loc main_arg3)) := by
  refine (dats m 0 c).arrAt_eq_of_covers 6 _ (by decide +kernel) fun t _ y => ?_
  blk_simp
  rw [after0_6]
  frame_out
  pointwise [k0_pay6, k0_pay2, k0_pay4, branch, gateB, squash, wide]
  simp only [zero_sub]
  rw [mul_comm]
  blk_point [iblk, V, places t]

/-- The array of the gates' gradient after the run. -/
theorem result_gates (c : Dev nD) : (dats m 0 c).arrAt 7 (cfgs 0).N = gateGradients (m ((c : Thread nD τ).loc main_arg0))
    (m ((c : Thread nD τ).loc main_arg1)) (m ((c : Thread nD τ).loc main_arg2)) (m ((c : Thread nD τ).loc main_arg3)) := by
  refine (dats m 0 c).arrAt_eq_of_covers 7 _ (by decide +kernel) fun t _ y => ?_
  blk_simp
  rw [after0_7]
  frame_out
  pointwise [k0_pay1, k0_pay2, k0_pay3, k0_pay4, k0_pay7, k0_pay8, gateGradients, gateGradient, gateA, gateB, squash, wide]
  simp only [zero_sub]
  have place : ((((cfg0.win 7).blk t).view.emb y) 1).val = (y 1).val := by blk_simp [places t]
  by_cases h : (y 1).val < 1024
  · rw [dif_pos h, dif_pos (lt_of_eq_of_lt place h), mul_assoc]
    blk_point [iblk, V, places t]
  · rw [dif_neg h, dif_neg (fun h' => h (lt_of_eq_of_lt place.symm h')), mul_assoc]
    blk_point [iblk, V, places t]

end Cert.Kernel23Ideal.Value
-- ==== Proof.StepSizeProduct.lean ====
/-
  The product that gives the raw step sizes, with columns of zeros up to 128 lanes.
-/
module

public import proofs.«01_k».proof.Proof.Gen.Kernel24Ideal.Value
public import proofs.«01_k».proof.Proof.Gen.Reference24Ideal
public import Idealize.ShloMosaic.Lib.Pipeline.ValueKit

@[expose] public section

set_option maxRecDepth 16384

noncomputable section

open Idealize.ShloMosaic Idealize.ShloMosaic.TcCoe Idealize.SL.Sem

namespace Cert.Kernel24Ideal.Value

open Cert.Kernel24Ideal Cert.Kernel24Ideal.Gen

variable (m : (ℓ : Loc nD τ sig) → Buf (Elt Ideal) ℓ)

/-- The reference's product with the step sizes' columns of the weight. -/
abbrev narrow (X : FVec Ideal S8192x1024 .bf16) (W : FVec Ideal S1024x9248 .bf16) : FVec Ideal Cert.Reference24Ideal.S8192x32 .f32 :=
  Host.dotGeneral Cert.Reference24Ideal.dot_S8192x1024_S1024x32_S8192x32_1_0_0_1_n_n none
    (extf .f32 X Cert.Reference24Ideal.Gen.bitsLt_bf16_f32)
    (extf .f32 (extractStridedSlice Cert.Reference24Ideal.S1024x32 ![0, 7168] W
      Cert.Reference24Ideal.Gen.slices_S1024x9248_S1024x32_0_7168) Cert.Reference24Ideal.Gen.bitsLt_bf16_f32)

/-- The reference's result: the product with columns of zeros behind it. -/
abbrev expected (X : FVec Ideal S8192x1024 .bf16) (W : FVec Ideal S1024x9248 .bf16) : FVec Ideal S8192x128 .f32 :=
  pad Cert.Reference24Ideal.S8192x128 ![0, 0] ![0, 96] ![0, 0] (narrow X W)
    (sitofp .f32 (constantI Cert.Reference24Ideal.S_ 32 0#32)) Cert.Reference24Ideal.Gen.pads_S8192x32_S8192x128_000_0960
    Cert.Reference24Ideal.Gen.h_S_

/-- The weight's entry in a lane: zero behind the 32 columns of the step sizes. -/
def lane (W : FVec Ideal S1024x9248 .bf16) (k : Fin 1024) (n : Fin 128) : EReal :=
  if h : n.val < 32 then W (ix2 k ⟨7168 + n.val, by omega⟩) else 0

/-- A float32 array padded behind its columns. -/
theorem pad_wide (x : FVec Ideal Cert.Reference24Ideal.S8192x32 .f32) (v : FVec Ideal Cert.Reference24Ideal.S_ .f32)
    (i : S8192x128.Idx) :
    pad Cert.Reference24Ideal.S8192x128 ![0, 0] ![0, 96] ![0, 0] x v
        Cert.Reference24Ideal.Gen.pads_S8192x32_S8192x128_000_0960 Cert.Reference24Ideal.Gen.h_S_ i
      = if h : (i 1).val < 32 then x (ix2 (i 0) ⟨(i 1).val, h⟩) else v (Shape.Idx.first Cert.Reference24Ideal.Gen.h_S_) := by
  pointwise []

/-- A weight padded behind its columns. -/
theorem pad_lanes (x : FVec Ideal S1024x32 .bf16) (v : FVec Ideal S_ .bf16) (i : S1024x128.Idx) :
    pad S1024x128 ![0, 0] ![0, 96] ![0, 0] x v pads_S1024x32_S1024x128_000_0960 h_S_ i
      = if h : (i 1).val < 32 then x (ix2 (i 0) ⟨(i 1).val, h⟩) else v (Shape.Idx.first h_S_) := by
  pointwise []

/-- The reference's entry: a product by zero is zero also for an infinite value. -/
theorem expected_apply (X : FVec Ideal S8192x1024 .bf16) (W : FVec Ideal S1024x9248 .bf16) (i : S8192x128.Idx) :
    (expected X W i : EReal) = ∑ k : Fin 1024, X (ix2 (i 0) k) * lane W k (i 1) := by
  refine (pad_wide _ _ _).trans ?_
  by_cases h : (i 1).val < 32
  · simp only [dif_pos h, lane]
    pointwise [narrow]
  · simp only [dif_neg h, lane, mul_zero, Finset.sum_const_zero]
    show ((((0#32 : BitVec 32).toInt : ℤ) : ℝ) : EReal) = 0
    simp

/-- The weight that the kernel reads. -/
theorem read_weight (c : Dev nD) (i : S1024x128.Idx) :
    (V m c main_v1 : S1024x128.Idx → EReal) i = lane (m ((c : Thread nD τ).loc main_arg1)) (i 0) (i 1) := by
  simp only [V, hostOps0, hostOps0_1, List.flatten_cons, List.flatten_nil, List.cons_append, List.nil_append]
  entry_read
  refine (pad_lanes _ _ _).trans ?_
  by_cases h : (i 1).val < 32
  · simp only [dif_pos h, lane]
    show (extractStridedSlice S1024x32 ![0, 7168] (m (c, Proc.tc.devRef main_arg1)) slices_S1024x9248_S1024x32_0_7168
      : FVec Ideal S1024x32 .bf16) (ix2 (i 0) ⟨(i 1).val, h⟩) = _
    pointwise []
    all_goals blk_ext
  · simp only [dif_neg h, lane]
    show ((((0#32 : BitVec 32).toInt : ℤ) : ℝ) : EReal) = 0
    simp

/-- The blocks of a grid point. -/
theorem places : ∀ t : Fin cfg0.N, win0_0.index t = ![t.val, 0] ∧ win0_1.index t = ![0, 0]
    ∧ win0_2.index t = ![t.val, 0] :=
  (by decide +kernel : ∀ t : Fin grid0.N, _)

/-- What a grid point stores, entry by entry. -/
theorem part (x : FVec Ideal S1024x1024 .bf16) (w : FVec Ideal S1024x128 .bf16) (j : S1024x128.Idx) :
    (k0_pay1 (F := Ideal) x w j : EReal) = ∑ k : Fin 1024, x (ix2 (j 0) k) * w (ix2 k (j 1)) := by
  pointwise [k0_pay1]

/-- A weight block's entry. -/
theorem weight_block (c : Dev nD) (t : Fin cfg0.N) (y : S1024x128.Idx) (k : Fin 1024) :
    (iblk m c 1 t (ix2 k (y 1)) : EReal) = lane (m ((c : Thread nD τ).loc main_arg1)) k ((((cfg0.win 2).blk t).view.emb y) 1) := by
  refine Eq.trans ?_ (read_weight m c (ix2 k ((((cfg0.win 2).blk t).view.emb y) 1)))
  blk_point [iblk, places t]

/-- What a grid point stores is the reference's result at the block's place. -/
theorem point (c : Dev nD) (t : Fin cfg0.N) (y) : k0_pay1 (iblk m c 0 t) (iblk m c 1 t) y
    = expected (m ((c : Thread nD τ).loc main_arg0)) (m ((c : Thread nD τ).loc main_arg1))
        (((cfg0.win 2).blk t).view.emb y) := by
  refine (part _ _ _).trans ?_
  rw [expected_apply]
  refine Finset.sum_congr rfl fun k _ => congrArg₂ (fun a b : EReal => a * b) ?_ (weight_block m c t y k)
  blk_point [iblk, V, places t]

/-- The result array after the run. -/
theorem result (c : Dev nD) : (dats m 0 c).arrAt 2 (cfgs 0).N
    = expected (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.Kernel24Ideal.Value
-- ==== Proof.ProductClaims.lean ====
/-
  The value claims of the products: each kernel's result is its reference's.
-/
module

public import proofs.«01_k».proof.Defs
public import proofs.«01_k».proof.Proof.ForwardNorms
public import proofs.«01_k».proof.Proof.LossAndSums
public import proofs.«01_k».proof.Proof.StepSizeGradient
public import proofs.«01_k».proof.Proof.Gen.Reference32Ideal.Run
public import proofs.«01_k».proof.Proof.Gen.Reference29Ideal.Run
public import proofs.«01_k».proof.Proof.Gen.Reference30Ideal.Run
public import proofs.«01_k».proof.Proof.Gen.Reference31Ideal.Run
public import proofs.«01_k».proof.Proof.RmsNorm
public import proofs.«01_k».proof.Proof.Optimiser
public import proofs.«01_k».proof.Proof.StepSizes
public import proofs.«01_k».proof.Proof.Gen.Reference25Ideal.Run
public import proofs.«01_k».proof.Proof.Gen.Reference26Ideal.Run
public import proofs.«01_k».proof.Proof.Gen.Reference27Ideal.Run
public import proofs.«01_k».proof.Proof.Gen.Reference28Ideal.Run
public import proofs.«01_k».proof.Proof.InputGradient
public import proofs.«01_k».proof.Proof.HiddenGradient
public import proofs.«01_k».proof.Proof.UpWeightGradient
public import proofs.«01_k».proof.Proof.InWeightGradients
public import proofs.«01_k».proof.Proof.OutWeightGradients
public import proofs.«01_k».proof.Proof.OutInputGradients
public import proofs.«01_k».proof.Proof.InProduct
public import proofs.«01_k».proof.Proof.ForwardProducts
public import proofs.«01_k».proof.Proof.ResidualNorms
public import proofs.«01_k».proof.Proof.Gates
public import proofs.«01_k».proof.Proof.StepSizeProduct
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Reference7Ideal.Run
public import proofs.«01_k».proof.Proof.Gen.Reference8Ideal.Run
public import proofs.«01_k».proof.Proof.Gen.Reference9Ideal.Run
public import proofs.«01_k».proof.Proof.Gen.Reference10Ideal.Run
public import proofs.«01_k».proof.Proof.Gen.Reference11Ideal.Run
public import proofs.«01_k».proof.Proof.Gen.Reference12Ideal.Run
public import proofs.«01_k».proof.Proof.Gen.Reference13Ideal.Run
public import proofs.«01_k».proof.Proof.Gen.Reference14Ideal.Run
public import proofs.«01_k».proof.Proof.Gen.Reference15Ideal.Run
public import proofs.«01_k».proof.Proof.Gen.Reference16Ideal.Run
public import proofs.«01_k».proof.Proof.Gen.Reference17Ideal.Run
public import proofs.«01_k».proof.Proof.Gen.Reference18Ideal.Run
public import proofs.«01_k».proof.Proof.Gen.Reference19Ideal.Run
public import proofs.«01_k».proof.Proof.Gen.Reference20Ideal.Run
public import proofs.«01_k».proof.Proof.Gen.Reference21Ideal.Run
public import proofs.«01_k».proof.Proof.Gen.Reference22Ideal.Run
public import proofs.«01_k».proof.Proof.Gen.Reference23Ideal.Run
public import proofs.«01_k».proof.Proof.Gen.Reference24Ideal.Run
public import Idealize.ShloMosaic.Lib.Claim

@[expose] public section

set_option maxRecDepth 16384

noncomputable section

namespace Cert.Proof

open Idealize.ShloMosaic Idealize.SL.Sem

/-- The gradient of the layer's input. -/
theorem algebraic2 : Cert.algebraic_Kernel2Ideal_Reference2Ideal := by
  pair_intro
  · run_from Cert.Kernel2Ideal.Value.run_blocks m g
  · run_from Cert.Reference2Ideal.Value.run m' g'
    obtain ⟨_, h1, h2, h3, h4, h5, _⟩ := hagree c
    have e := Cert.Kernel2Ideal.Value.result m c
    rw [← h1, ← h2, ← h3, ← h4, ← h5] at e
    exact e.symm

/-- The gradient of the feed-forward's input. -/
theorem algebraic3 : Cert.algebraic_Kernel3Ideal_Reference3Ideal := by
  pair_intro
  · run_from Cert.Kernel3Ideal.Value.run_blocks m g
  · run_from Cert.Reference3Ideal.Value.run m' g'
    exact (Cert.Kernel3Ideal.Value.result m c).symm

/-- The gradient of the feed-forward's first weight. -/
theorem algebraic4 : Cert.algebraic_Kernel4Ideal_Reference4Ideal := by
  pair_intro
  · run_from Cert.Kernel4Ideal.Value.run_blocks m g
  · run_from Cert.Reference4Ideal.Value.run m' g'
    exact (Cert.Kernel4Ideal.Value.result m c).symm

/-- The gradient of a piece of 2048 columns of the input weight. -/
theorem algebraic5 : Cert.algebraic_Kernel5Ideal_Reference5Ideal := by
  pair_intro
  · run_from Cert.Kernel5Ideal.Value.run_blocks m g
  · run_from Cert.Reference5Ideal.Value.run m' g'
    exact (Cert.Kernel5Ideal.Value.result m c).symm

/-- The gradient of the piece of 3072 columns of the input weight. -/
theorem algebraic6 : Cert.algebraic_Kernel6Ideal_Reference6Ideal := by
  pair_intro
  · run_from Cert.Kernel6Ideal.Value.run_blocks m g
  · run_from Cert.Reference6Ideal.Value.run m' g'
    exact (Cert.Kernel6Ideal.Value.result m c).symm

/-- The gradient of the feed-forward's second weight. -/
theorem algebraic7 : Cert.algebraic_Kernel7Ideal_Reference7Ideal := by
  pair_intro
  · run_from Cert.Kernel7Ideal.Value.run_blocks m g
  · run_from Cert.Reference7Ideal.Value.run m' g'
    exact (Cert.Kernel7Ideal.Value.result m c).symm

/-- The gradient of the feed-forward's second product's input. -/
theorem algebraic8 : Cert.algebraic_Kernel8Ideal_Reference8Ideal := by
  pair_intro
  · run_from Cert.Kernel8Ideal.Value.run_blocks m g
  · run_from Cert.Reference8Ideal.Value.run m' g'
    exact (Cert.Kernel8Ideal.Value.result m c).symm

/-- The gradient of the state part's output weight. -/
theorem algebraic9 : Cert.algebraic_Kernel9Ideal_Reference9Ideal := by
  pair_intro
  · run_from Cert.Kernel9Ideal.Value.run_blocks m g
  · run_from Cert.Reference9Ideal.Value.run m' g'
    exact (Cert.Kernel9Ideal.Value.result m c).symm

/-- The gradient of the state part's output product's input. -/
theorem algebraic10 : Cert.algebraic_Kernel10Ideal_Reference10Ideal := by
  pair_intro
  · run_from Cert.Kernel10Ideal.Value.run_blocks m g
  · run_from Cert.Reference10Ideal.Value.run m' g'
    exact (Cert.Kernel10Ideal.Value.result m c).symm

/-- The layer's input product. -/
theorem algebraic11 : Cert.algebraic_Kernel11Ideal_Reference11Ideal := by
  pair_intro
  · run_from Cert.Kernel11Ideal.Value.run_blocks m g
  · run_from Cert.Reference11Ideal.Value.run m' g'
    exact (Cert.Kernel11Ideal.Value.result m c).symm

/-- The feed-forward's first product. -/
theorem algebraic12 : Cert.algebraic_Kernel12Ideal_Reference12Ideal := by
  pair_intro
  · run_from Cert.Kernel12Ideal.Value.run_blocks m g
  · run_from Cert.Reference12Ideal.Value.run m' g'
    exact (Cert.Kernel12Ideal.Value.result m c).symm

/-- The gradient of the mixing weight. -/
theorem algebraic13 : Cert.algebraic_Kernel13Ideal_Reference13Ideal := by
  pair_intro
  · run_from Cert.Kernel13Ideal.Value.run_blocks m g
  · run_from Cert.Reference13Ideal.Value.run m' g'
    exact (Cert.Kernel13Ideal.Value.result m c).symm

/-- The gradient of the mixing product's input. -/
theorem algebraic14 : Cert.algebraic_Kernel14Ideal_Reference14Ideal := by
  pair_intro
  · run_from Cert.Kernel14Ideal.Value.run_blocks m g
  · run_from Cert.Reference14Ideal.Value.run m' g'
    exact (Cert.Kernel14Ideal.Value.result m c).symm

/-- The gradient of the convolution part's output weight. -/
theorem algebraic15 : Cert.algebraic_Kernel15Ideal_Reference15Ideal := by
  pair_intro
  · run_from Cert.Kernel15Ideal.Value.run_blocks m g
  · run_from Cert.Reference15Ideal.Value.run m' g'
    exact (Cert.Kernel15Ideal.Value.result m c).symm

/-- The gradient of the convolution part's output product's input. -/
theorem algebraic16 : Cert.algebraic_Kernel16Ideal_Reference16Ideal := by
  pair_intro
  · run_from Cert.Kernel16Ideal.Value.run_blocks m g
  · run_from Cert.Reference16Ideal.Value.run m' g'
    exact (Cert.Kernel16Ideal.Value.result m c).symm

/-- The state part's output product. -/
theorem algebraic17 : Cert.algebraic_Kernel17Ideal_Reference17Ideal := by
  pair_intro
  · run_from Cert.Kernel17Ideal.Value.run_blocks m g
  · run_from Cert.Reference17Ideal.Value.run m' g'
    exact (Cert.Kernel17Ideal.Value.result m c).symm

/-- The convolution part's output product. -/
theorem algebraic18 : Cert.algebraic_Kernel18Ideal_Reference18Ideal := by
  pair_intro
  · run_from Cert.Kernel18Ideal.Value.run_blocks m g
  · run_from Cert.Reference18Ideal.Value.run m' g'
    exact (Cert.Kernel18Ideal.Value.result m c).symm

/-- The gradient of the step sizes' columns of the input weight. -/
theorem algebraic19 : Cert.algebraic_Kernel19Ideal_Reference19Ideal := by
  pair_intro
  · run_from Cert.Kernel19Ideal.Value.run_blocks m g
  · run_from Cert.Reference19Ideal.Value.run m' g'
    exact (Cert.Kernel19Ideal.Value.result m c).symm

/-- The mixing product with the scaled residual and its norm. -/
theorem algebraic20 : Cert.algebraic_Kernel20Ideal_Reference20Ideal := by
  pair_intro
  · run_from Cert.Kernel20Ideal.Value.run_blocks m g
  · run_from Cert.Reference20Ideal.Value.run m' g'
    · exact (Cert.Kernel20Ideal.Value.norm_result m c).symm
    · exact (Cert.Kernel20Ideal.Value.sum_result m c).symm
    · exact (Cert.Kernel20Ideal.Value.cast_result m c).symm

/-- The feed-forward's second product with the scaled residual and its norm. -/
theorem algebraic21 : Cert.algebraic_Kernel21Ideal_Reference21Ideal := by
  pair_intro
  · run_from Cert.Kernel21Ideal.Value.run_blocks m g
  · run_from Cert.Reference21Ideal.Value.run m' g'
    · exact (Cert.Kernel21Ideal.Value.norm_result m c).symm
    · exact (Cert.Kernel21Ideal.Value.sum_result m c).symm
    · exact (Cert.Kernel21Ideal.Value.cast_result m c).symm

/-- The gated sum of the two branches. -/
theorem algebraic22 : Cert.algebraic_Kernel22Ideal_Reference22Ideal := by
  pair_intro
  · run_from Cert.Kernel22Ideal.Value.run_blocks m g
  · run_from Cert.Reference22Ideal.Value.run m' g'
    exact (Cert.Kernel22Ideal.Value.result m c).symm

/-- The gradient of the gated sum. -/
theorem algebraic23 : Cert.algebraic_Kernel23Ideal_Reference23Ideal := by
  pair_intro
  · run_from Cert.Kernel23Ideal.Value.run_blocks m g
  · run_from Cert.Reference23Ideal.Value.run m' g'
    · exact (Cert.Kernel23Ideal.Value.result_a m c).symm
    · exact (Cert.Kernel23Ideal.Value.result_b m c).symm
    · obtain ⟨_, _, _, h3⟩ := hagree c
      have e := Cert.Kernel23Ideal.Value.result_gates m c
      rw [← h3] at e
      exact e.symm

/-- The product that gives the raw step sizes. -/
theorem algebraic24 : Cert.algebraic_Kernel24Ideal_Reference24Ideal := by
  pair_intro
  · run_from Cert.Kernel24Ideal.Value.run_blocks m g
  · run_from Cert.Reference24Ideal.Value.run m' g'
    exact (Cert.Kernel24Ideal.Value.result m c).symm

/-- The norm of the step's input. -/
theorem algebraic25 : Cert.algebraic_Kernel25Ideal_Reference25Ideal := by
  pair_intro
  · run_from Cert.Kernel25Ideal.Value.run_blocks m g
  · run_from Cert.Reference25Ideal.Value.run m' g'
    · exact (Cert.Kernel25Ideal.Value.norm_result m c).symm
    · exact (Cert.Kernel25Ideal.Value.cast_result m c).symm

/-- The gated norm behind the recurrence. -/
theorem algebraic26 : Cert.algebraic_Kernel26Ideal_Reference26Ideal := by
  pair_intro
  · run_from Cert.Kernel26Ideal.Value.run_blocks m g
  · run_from Cert.Reference26Ideal.Value.run m' g'
    exact (Cert.Kernel26Ideal.Value.norm_result m c).symm

/-- The devices' gradients, their sum and the optimiser's step. -/
theorem algebraic27 : Cert.algebraic_Kernel27Ideal_Reference27Ideal := by
  pair_intro
  · run_from Cert.Kernel27Ideal.Value.run_blocks m g
  · run_from Cert.Reference27Ideal.Value.run m' g'
    · exact (Cert.Kernel27Ideal.Value.gradient_result m c).symm
    · exact (Cert.Kernel27Ideal.Value.change_result m c).symm
    · exact (Cert.Kernel27Ideal.Value.moment_result m c).symm
    · exact (Cert.Kernel27Ideal.Value.square_result m c).symm

/-- The step sizes' bias and softplus. -/
theorem algebraic28 : Cert.algebraic_Kernel28Ideal_Reference28Ideal := by
  pair_intro
  · run_from Cert.Kernel28Ideal.Value.run_blocks m g
  · run_from Cert.Reference28Ideal.Value.run m' g'
    exact (Cert.Kernel28Ideal.Value.result m c).symm

/-- The loss and its gradient. -/
theorem algebraic29 : Cert.algebraic_Kernel29Ideal_Reference29Ideal := by
  pair_intro
  · run_from Cert.Kernel29Ideal.Value.run_blocks m g
  · run_from Cert.Reference29Ideal.Value.run m' g'
    · exact (Cert.Kernel29Ideal.Value.loss_result m c).symm
    · exact (Cert.Kernel29Ideal.Value.slope_result m c).symm

/-- The optimiser's step of the small parameters. -/
theorem algebraic30 : Cert.algebraic_Kernel30Ideal_Reference30Ideal := by
  pair_intro
  · run_from Cert.Kernel30Ideal.Value.run_blocks m g
  · run_from Cert.Reference30Ideal.Value.run m' g'
    · exact (Cert.Kernel30Ideal.Value.change_result m c).symm
    · exact (Cert.Kernel30Ideal.Value.moment_result m c).symm
    · exact (Cert.Kernel30Ideal.Value.square_result m c).symm

/-- The sum of the devices' gradients of the small parameters. -/
theorem algebraic31 : Cert.algebraic_Kernel31Ideal_Reference31Ideal := by
  pair_intro
  · run_from Cert.Kernel31Ideal.Value.run_blocks m g
  · run_from Cert.Reference31Ideal.Value.run m' g'
    exact (Cert.Kernel31Ideal.Value.sum_result m c).symm

/-- The gradients of the raw step sizes and of their bias. -/
theorem algebraic32 : Cert.algebraic_Kernel32Ideal_Reference32Ideal := by
  pair_intro
  · run_from Cert.Kernel32Ideal.Value.run_blocks m g
  · run_from Cert.Reference32Ideal.Value.run m' g'
    · exact (Cert.Kernel32Ideal.Value.raw_result m c).symm
    · exact (Cert.Kernel32Ideal.Value.bias_result m c).symm

end Cert.Proof
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Step
public import proofs.«01_k».proof.Proof.Gen.Pre_step_sizes_finite
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14.Frame
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15.Frame
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16.Frame
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Kernel17.Frame
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Kernel18.Frame
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Kernel19.Frame
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Kernel20.Frame
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Kernel21.Frame
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Kernel22.Frame
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Kernel23.Frame
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Kernel24.Frame
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Kernel25.Frame
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Run
public import proofs.«01_k».proof.Proof.Gen.Kernel26.Frame
public import proofs.«01_k».proof.Proof.Gen.Kernel26Ideal.Frame
public import proofs.«01_k».proof.Proof.Gen.Kernel26Ideal.Value
public import proofs.«01_k».proof.Proof.Gen.Reference26Ideal
public import proofs.«01_k».proof.Proof.Gen.Reference26Ideal.Run
public import proofs.«01_k».proof.Proof.Gen.Kernel27.Frame
public import proofs.«01_k».proof.Proof.Gen.Kernel27Ideal.Frame
public import proofs.«01_k».proof.Proof.Gen.Kernel27Ideal.Value
public import proofs.«01_k».proof.Proof.Gen.Reference27Ideal
public import proofs.«01_k».proof.Proof.Gen.Reference27Ideal.Run
public import proofs.«01_k».proof.Proof.Gen.Kernel28.Frame
public import proofs.«01_k».proof.Proof.Gen.Kernel28Ideal.Frame
public import proofs.«01_k».proof.Proof.Gen.Kernel28Ideal.Value
public import proofs.«01_k».proof.Proof.Gen.Reference28Ideal
public import proofs.«01_k».proof.Proof.Gen.Reference28Ideal.Run
public import proofs.«01_k».proof.Proof.Gen.Kernel29.Frame
public import proofs.«01_k».proof.Proof.Gen.Kernel29Ideal.Frame
public import proofs.«01_k».proof.Proof.Gen.Kernel29Ideal.Value
public import proofs.«01_k».proof.Proof.Gen.Reference29Ideal
public import proofs.«01_k».proof.Proof.Gen.Reference29Ideal.Run
public import proofs.«01_k».proof.Proof.Gen.Kernel30.Frame
public import proofs.«01_k».proof.Proof.Gen.Kernel30Ideal.Frame
public import proofs.«01_k».proof.Proof.Gen.Kernel30Ideal.Value
public import proofs.«01_k».proof.Proof.Gen.Reference30Ideal
public import proofs.«01_k».proof.Proof.Gen.Reference30Ideal.Run
public import proofs.«01_k».proof.Proof.Gen.Kernel31.Frame
public import proofs.«01_k».proof.Proof.Gen.Kernel31Ideal.Frame
public import proofs.«01_k».proof.Proof.Gen.Kernel31Ideal.Value
public import proofs.«01_k».proof.Proof.Gen.Reference31Ideal
public import proofs.«01_k».proof.Proof.Gen.Reference31Ideal.Run
public import proofs.«01_k».proof.Proof.Gen.Kernel32.Frame
public import proofs.«01_k».proof.Proof.Gen.Kernel32Ideal.Frame
public import proofs.«01_k».proof.Proof.Gen.Kernel32Ideal.Value
public import proofs.«01_k».proof.Proof.Gen.Reference32Ideal
public import proofs.«01_k».proof.Proof.Gen.Reference32Ideal.Run
public import proofs.«01_k».proof.Proof.Algebraic
public import proofs.«01_k».proof.Proof.ProductClaims
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The kernel's printed program ends, with its arguments and counters as they were. -/
theorem kernel_frame : Cert.quiescent_Kernel := fun m g _ => Cert.Kernel.Gen.frame m g

/-- So does its ideal reading. -/
theorem ideal_frame : Cert.quiescent_KernelIdeal := fun m g _ => Cert.KernelIdeal.Gen.frame m g

/-- And where the step sizes are finite. -/
theorem ideal_frame_finite : Cert.quiescent_KernelIdeal_pre_step_sizes_finite := fun m g _ => Cert.KernelIdeal.Gen.frame m g

/-- So does the reference. -/
theorem reference_frame : Cert.quiescent_ReferenceIdeal := by
  intro m g _
  refine (θ_run _ _ _).mono (fun r h => ⟨fun c => (h c).2.2.2, ?_⟩) (Cert.ReferenceIdeal.Value.run m g)
  exact sem_eq_zero_of_no_sems rfl r.2

/-- And where the step sizes are finite. -/
theorem reference_frame_finite : Cert.quiescent_ReferenceIdeal_pre_step_sizes_finite :=
  fun m g _ => reference_frame m g trivial

/-! ## The gradient of the layer's input -/

/-- The kernel's printed program ends, with its arguments and counters as they were. -/
theorem kernel2_frame : Cert.quiescent_Kernel2 := fun m g _ => Cert.Kernel2.Gen.frame m g

/-- So does its ideal reading. -/
theorem ideal2_frame : Cert.quiescent_Kernel2Ideal := fun m g _ => Cert.Kernel2Ideal.Gen.frame m g

/-- So does the reference. -/
theorem reference2_frame : Cert.quiescent_Reference2Ideal := by
  intro m g _
  refine (θ_run _ _ _).mono (fun r h => ⟨fun c => (h c).2, ?_⟩) (Cert.Reference2Ideal.Value.run m g)
  exact sem_eq_zero_of_no_sems rfl r.2

/-! ## The gradient of the feed-forward's input -/

/-- The kernel's printed program ends, with its arguments and counters as they were. -/
theorem kernel3_frame : Cert.quiescent_Kernel3 := fun m g _ => Cert.Kernel3.Gen.frame m g

/-- So does its ideal reading. -/
theorem ideal3_frame : Cert.quiescent_Kernel3Ideal := fun m g _ => Cert.Kernel3Ideal.Gen.frame m g

/-- So does the reference. -/
theorem reference3_frame : Cert.quiescent_Reference3Ideal := by
  intro m g _
  refine (θ_run _ _ _).mono (fun r h => ⟨fun c => (h c).2, ?_⟩) (Cert.Reference3Ideal.Value.run m g)
  exact sem_eq_zero_of_no_sems rfl r.2

/-! ## The gradient of the feed-forward's first weight -/

/-- The kernel's printed program ends, with its arguments and counters as they were. -/
theorem kernel4_frame : Cert.quiescent_Kernel4 := fun m g _ => Cert.Kernel4.Gen.frame m g

/-- So does its ideal reading. -/
theorem ideal4_frame : Cert.quiescent_Kernel4Ideal := fun m g _ => Cert.Kernel4Ideal.Gen.frame m g

/-- So does the reference. -/
theorem reference4_frame : Cert.quiescent_Reference4Ideal := by
  intro m g _
  refine (θ_run _ _ _).mono (fun r h => ⟨fun c => (h c).2, ?_⟩) (Cert.Reference4Ideal.Value.run m g)
  exact sem_eq_zero_of_no_sems rfl r.2

/-! ## The gradient of a piece of 2048 columns of the input weight -/

/-- The kernel's printed program ends, with its arguments and counters as they were. -/
theorem kernel5_frame : Cert.quiescent_Kernel5 := fun m g _ => Cert.Kernel5.Gen.frame m g

/-- So does its ideal reading. -/
theorem ideal5_frame : Cert.quiescent_Kernel5Ideal := fun m g _ => Cert.Kernel5Ideal.Gen.frame m g

/-- So does the reference. -/
theorem reference5_frame : Cert.quiescent_Reference5Ideal := by
  intro m g _
  refine (θ_run _ _ _).mono (fun r h => ⟨fun c => (h c).2, ?_⟩) (Cert.Reference5Ideal.Value.run m g)
  exact sem_eq_zero_of_no_sems rfl r.2

/-! ## The gradient of the piece of 3072 columns of the input weight -/

/-- The kernel's printed program ends, with its arguments and counters as they were. -/
theorem kernel6_frame : Cert.quiescent_Kernel6 := fun m g _ => Cert.Kernel6.Gen.frame m g

/-- So does its ideal reading. -/
theorem ideal6_frame : Cert.quiescent_Kernel6Ideal := fun m g _ => Cert.Kernel6Ideal.Gen.frame m g

/-- So does the reference. -/
theorem reference6_frame : Cert.quiescent_Reference6Ideal := by
  intro m g _
  refine (θ_run _ _ _).mono (fun r h => ⟨fun c => (h c).2, ?_⟩) (Cert.Reference6Ideal.Value.run m g)
  exact sem_eq_zero_of_no_sems rfl r.2

/-! ## The gradient of the feed-forward's second weight -/

/-- The kernel's printed program ends, with its arguments and counters as they were. -/
theorem kernel7_frame : Cert.quiescent_Kernel7 := fun m g _ => Cert.Kernel7.Gen.frame m g

/-- So does its ideal reading. -/
theorem ideal7_frame : Cert.quiescent_Kernel7Ideal := fun m g _ => Cert.Kernel7Ideal.Gen.frame m g

/-- So does the reference. -/
theorem reference7_frame : Cert.quiescent_Reference7Ideal := by
  intro m g _
  refine (θ_run _ _ _).mono (fun r h => ⟨fun c => (h c).2, ?_⟩) (Cert.Reference7Ideal.Value.run m g)
  exact sem_eq_zero_of_no_sems rfl r.2

/-! ## The gradient of the feed-forward's second product's input -/

/-- The kernel's printed program ends, with its arguments and counters as they were. -/
theorem kernel8_frame : Cert.quiescent_Kernel8 := fun m g _ => Cert.Kernel8.Gen.frame m g

/-- So does its ideal reading. -/
theorem ideal8_frame : Cert.quiescent_Kernel8Ideal := fun m g _ => Cert.Kernel8Ideal.Gen.frame m g

/-- So does the reference. -/
theorem reference8_frame : Cert.quiescent_Reference8Ideal := by
  intro m g _
  refine (θ_run _ _ _).mono (fun r h => ⟨fun c => (h c).2, ?_⟩) (Cert.Reference8Ideal.Value.run m g)
  exact sem_eq_zero_of_no_sems rfl r.2

/-! ## The gradient of the state part's output weight -/

/-- The kernel's printed program ends, with its arguments and counters as they were. -/
theorem kernel9_frame : Cert.quiescent_Kernel9 := fun m g _ => Cert.Kernel9.Gen.frame m g

/-- So does its ideal reading. -/
theorem ideal9_frame : Cert.quiescent_Kernel9Ideal := fun m g _ => Cert.Kernel9Ideal.Gen.frame m g

/-- So does the reference. -/
theorem reference9_frame : Cert.quiescent_Reference9Ideal := by
  intro m g _
  refine (θ_run _ _ _).mono (fun r h => ⟨fun c => (h c).2, ?_⟩) (Cert.Reference9Ideal.Value.run m g)
  exact sem_eq_zero_of_no_sems rfl r.2

/-! ## The gradient of the state part's output product's input -/

/-- The kernel's printed program ends, with its arguments and counters as they were. -/
theorem kernel10_frame : Cert.quiescent_Kernel10 := fun m g _ => Cert.Kernel10.Gen.frame m g

/-- So does its ideal reading. -/
theorem ideal10_frame : Cert.quiescent_Kernel10Ideal := fun m g _ => Cert.Kernel10Ideal.Gen.frame m g

/-- So does the reference. -/
theorem reference10_frame : Cert.quiescent_Reference10Ideal := by
  intro m g _
  refine (θ_run _ _ _).mono (fun r h => ⟨fun c => (h c).2, ?_⟩) (Cert.Reference10Ideal.Value.run m g)
  exact sem_eq_zero_of_no_sems rfl r.2

/-! ## The layer's input product -/

/-- The kernel's printed program ends, with its arguments and counters as they were. -/
theorem kernel11_frame : Cert.quiescent_Kernel11 := fun m g _ => Cert.Kernel11.Gen.frame m g

/-- So does its ideal reading. -/
theorem ideal11_frame : Cert.quiescent_Kernel11Ideal := fun m g _ => Cert.Kernel11Ideal.Gen.frame m g

/-- So does the reference. -/
theorem reference11_frame : Cert.quiescent_Reference11Ideal := by
  intro m g _
  refine (θ_run _ _ _).mono (fun r h => ⟨fun c => (h c).2, ?_⟩) (Cert.Reference11Ideal.Value.run m g)
  exact sem_eq_zero_of_no_sems rfl r.2

/-! ## The feed-forward's first product -/

/-- The kernel's printed program ends, with its arguments and counters as they were. -/
theorem kernel12_frame : Cert.quiescent_Kernel12 := fun m g _ => Cert.Kernel12.Gen.frame m g

/-- So does its ideal reading. -/
theorem ideal12_frame : Cert.quiescent_Kernel12Ideal := fun m g _ => Cert.Kernel12Ideal.Gen.frame m g

/-- So does the reference. -/
theorem reference12_frame : Cert.quiescent_Reference12Ideal := by
  intro m g _
  refine (θ_run _ _ _).mono (fun r h => ⟨fun c => (h c).2, ?_⟩) (Cert.Reference12Ideal.Value.run m g)
  exact sem_eq_zero_of_no_sems rfl r.2

/-! ## The gradient of the mixing weight -/

/-- The kernel's printed program ends, with its arguments and counters as they were. -/
theorem kernel13_frame : Cert.quiescent_Kernel13 := fun m g _ => Cert.Kernel13.Gen.frame m g

/-- So does its ideal reading. -/
theorem ideal13_frame : Cert.quiescent_Kernel13Ideal := fun m g _ => Cert.Kernel13Ideal.Gen.frame m g

/-- So does the reference. -/
theorem reference13_frame : Cert.quiescent_Reference13Ideal := by
  intro m g _
  refine (θ_run _ _ _).mono (fun r h => ⟨fun c => (h c).2, ?_⟩) (Cert.Reference13Ideal.Value.run m g)
  exact sem_eq_zero_of_no_sems rfl r.2

/-! ## The gradient of the mixing product's input -/

/-- The kernel's printed program ends, with its arguments and counters as they were. -/
theorem kernel14_frame : Cert.quiescent_Kernel14 := fun m g _ => Cert.Kernel14.Gen.frame m g

/-- So does its ideal reading. -/
theorem ideal14_frame : Cert.quiescent_Kernel14Ideal := fun m g _ => Cert.Kernel14Ideal.Gen.frame m g

/-- So does the reference. -/
theorem reference14_frame : Cert.quiescent_Reference14Ideal := by
  intro m g _
  refine (θ_run _ _ _).mono (fun r h => ⟨fun c => (h c).2, ?_⟩) (Cert.Reference14Ideal.Value.run m g)
  exact sem_eq_zero_of_no_sems rfl r.2

/-! ## The gradient of the convolution part's output weight -/

/-- The kernel's printed program ends, with its arguments and counters as they were. -/
theorem kernel15_frame : Cert.quiescent_Kernel15 := fun m g _ => Cert.Kernel15.Gen.frame m g

/-- So does its ideal reading. -/
theorem ideal15_frame : Cert.quiescent_Kernel15Ideal := fun m g _ => Cert.Kernel15Ideal.Gen.frame m g

/-- So does the reference. -/
theorem reference15_frame : Cert.quiescent_Reference15Ideal := by
  intro m g _
  refine (θ_run _ _ _).mono (fun r h => ⟨fun c => (h c).2, ?_⟩) (Cert.Reference15Ideal.Value.run m g)
  exact sem_eq_zero_of_no_sems rfl r.2

/-! ## The gradient of the convolution part's output product's input -/

/-- The kernel's printed program ends, with its arguments and counters as they were. -/
theorem kernel16_frame : Cert.quiescent_Kernel16 := fun m g _ => Cert.Kernel16.Gen.frame m g

/-- So does its ideal reading. -/
theorem ideal16_frame : Cert.quiescent_Kernel16Ideal := fun m g _ => Cert.Kernel16Ideal.Gen.frame m g

/-- So does the reference. -/
theorem reference16_frame : Cert.quiescent_Reference16Ideal := by
  intro m g _
  refine (θ_run _ _ _).mono (fun r h => ⟨fun c => (h c).2, ?_⟩) (Cert.Reference16Ideal.Value.run m g)
  exact sem_eq_zero_of_no_sems rfl r.2

/-! ## The state part's output product -/

/-- The kernel's printed program ends, with its arguments and counters as they were. -/
theorem kernel17_frame : Cert.quiescent_Kernel17 := fun m g _ => Cert.Kernel17.Gen.frame m g

/-- So does its ideal reading. -/
theorem ideal17_frame : Cert.quiescent_Kernel17Ideal := fun m g _ => Cert.Kernel17Ideal.Gen.frame m g

/-- So does the reference. -/
theorem reference17_frame : Cert.quiescent_Reference17Ideal := by
  intro m g _
  refine (θ_run _ _ _).mono (fun r h => ⟨fun c => (h c).2, ?_⟩) (Cert.Reference17Ideal.Value.run m g)
  exact sem_eq_zero_of_no_sems rfl r.2

/-! ## The convolution part's output product -/

/-- The kernel's printed program ends, with its arguments and counters as they were. -/
theorem kernel18_frame : Cert.quiescent_Kernel18 := fun m g _ => Cert.Kernel18.Gen.frame m g

/-- So does its ideal reading. -/
theorem ideal18_frame : Cert.quiescent_Kernel18Ideal := fun m g _ => Cert.Kernel18Ideal.Gen.frame m g

/-- So does the reference. -/
theorem reference18_frame : Cert.quiescent_Reference18Ideal := by
  intro m g _
  refine (θ_run _ _ _).mono (fun r h => ⟨fun c => (h c).2, ?_⟩) (Cert.Reference18Ideal.Value.run m g)
  exact sem_eq_zero_of_no_sems rfl r.2

/-! ## The gradient of the step sizes' columns of the input weight -/

/-- The kernel's printed program ends, with its arguments and counters as they were. -/
theorem kernel19_frame : Cert.quiescent_Kernel19 := fun m g _ => Cert.Kernel19.Gen.frame m g

/-- So does its ideal reading. -/
theorem ideal19_frame : Cert.quiescent_Kernel19Ideal := fun m g _ => Cert.Kernel19Ideal.Gen.frame m g

/-- So does the reference. -/
theorem reference19_frame : Cert.quiescent_Reference19Ideal := by
  intro m g _
  refine (θ_run _ _ _).mono (fun r h => ⟨fun c => (h c).2, ?_⟩) (Cert.Reference19Ideal.Value.run m g)
  exact sem_eq_zero_of_no_sems rfl r.2

/-! ## The mixing product with the scaled residual and its norm -/

/-- The kernel's printed program ends, with its arguments and counters as they were. -/
theorem kernel20_frame : Cert.quiescent_Kernel20 := fun m g _ => Cert.Kernel20.Gen.frame m g

/-- So does its ideal reading. -/
theorem ideal20_frame : Cert.quiescent_Kernel20Ideal := fun m g _ => Cert.Kernel20Ideal.Gen.frame m g

/-- So does the reference. -/
theorem reference20_frame : Cert.quiescent_Reference20Ideal := by
  intro m g _
  refine (θ_run _ _ _).mono (fun r h => ⟨fun c => (h c).2.2.2, ?_⟩) (Cert.Reference20Ideal.Value.run m g)
  exact sem_eq_zero_of_no_sems rfl r.2

/-! ## The feed-forward's second product with the scaled residual and its norm -/

/-- The kernel's printed program ends, with its arguments and counters as they were. -/
theorem kernel21_frame : Cert.quiescent_Kernel21 := fun m g _ => Cert.Kernel21.Gen.frame m g

/-- So does its ideal reading. -/
theorem ideal21_frame : Cert.quiescent_Kernel21Ideal := fun m g _ => Cert.Kernel21Ideal.Gen.frame m g

/-- So does the reference. -/
theorem reference21_frame : Cert.quiescent_Reference21Ideal := by
  intro m g _
  refine (θ_run _ _ _).mono (fun r h => ⟨fun c => (h c).2.2.2, ?_⟩) (Cert.Reference21Ideal.Value.run m g)
  exact sem_eq_zero_of_no_sems rfl r.2

/-! ## The gated sum of the two branches -/

/-- The kernel's printed program ends, with its arguments and counters as they were. -/
theorem kernel22_frame : Cert.quiescent_Kernel22 := fun m g _ => Cert.Kernel22.Gen.frame m g

/-- So does its ideal reading. -/
theorem ideal22_frame : Cert.quiescent_Kernel22Ideal := fun m g _ => Cert.Kernel22Ideal.Gen.frame m g

/-- So does the reference. -/
theorem reference22_frame : Cert.quiescent_Reference22Ideal := by
  intro m g _
  refine (θ_run _ _ _).mono (fun r h => ⟨fun c => (h c).2, ?_⟩) (Cert.Reference22Ideal.Value.run m g)
  exact sem_eq_zero_of_no_sems rfl r.2

/-! ## The gradient of the gated sum -/

/-- The kernel's printed program ends, with its arguments and counters as they were. -/
theorem kernel23_frame : Cert.quiescent_Kernel23 := fun m g _ => Cert.Kernel23.Gen.frame m g

/-- So does its ideal reading. -/
theorem ideal23_frame : Cert.quiescent_Kernel23Ideal := fun m g _ => Cert.Kernel23Ideal.Gen.frame m g

/-- So does the reference. -/
theorem reference23_frame : Cert.quiescent_Reference23Ideal := by
  intro m g _
  refine (θ_run _ _ _).mono (fun r h => ⟨fun c => (h c).2.2.2, ?_⟩) (Cert.Reference23Ideal.Value.run m g)
  exact sem_eq_zero_of_no_sems rfl r.2

/-! ## The product that gives the raw step sizes -/

/-- The kernel's printed program ends, with its arguments and counters as they were. -/
theorem kernel24_frame : Cert.quiescent_Kernel24 := fun m g _ => Cert.Kernel24.Gen.frame m g

/-- So does its ideal reading. -/
theorem ideal24_frame : Cert.quiescent_Kernel24Ideal := fun m g _ => Cert.Kernel24Ideal.Gen.frame m g

/-- So does the reference. -/
theorem reference24_frame : Cert.quiescent_Reference24Ideal := by
  intro m g _
  refine (θ_run _ _ _).mono (fun r h => ⟨fun c => (h c).2, ?_⟩) (Cert.Reference24Ideal.Value.run m g)
  exact sem_eq_zero_of_no_sems rfl r.2

/-! ## The norm of the step's input -/

/-- The kernel's printed program ends, with its arguments and counters as they were. -/
theorem kernel25_frame : Cert.quiescent_Kernel25 := fun m g _ => Cert.Kernel25.Gen.frame m g

/-- So does its ideal reading. -/
theorem ideal25_frame : Cert.quiescent_Kernel25Ideal := fun m g _ => Cert.Kernel25Ideal.Gen.frame m g

/-- So does the reference. -/
theorem reference25_frame : Cert.quiescent_Reference25Ideal := by
  intro m g _
  refine (θ_run _ _ _).mono (fun r h => ⟨fun c => (h c).2.2, ?_⟩) (Cert.Reference25Ideal.Value.run m g)
  exact sem_eq_zero_of_no_sems rfl r.2

/-! ## The gated norm behind the recurrence -/

/-- The kernel's printed program ends, with its arguments and counters as they were. -/
theorem kernel26_frame : Cert.quiescent_Kernel26 := fun m g _ => Cert.Kernel26.Gen.frame m g

/-- So does its ideal reading. -/
theorem ideal26_frame : Cert.quiescent_Kernel26Ideal := fun m g _ => Cert.Kernel26Ideal.Gen.frame m g

/-- So does the reference. -/
theorem reference26_frame : Cert.quiescent_Reference26Ideal := by
  intro m g _
  refine (θ_run _ _ _).mono (fun r h => ⟨fun c => (h c).2, ?_⟩) (Cert.Reference26Ideal.Value.run m g)
  exact sem_eq_zero_of_no_sems rfl r.2

/-! ## The devices' gradients, their sum and the optimiser's step -/

/-- The kernel's printed program ends, with its arguments and counters as they were. -/
theorem kernel27_frame : Cert.quiescent_Kernel27 := fun m g _ => Cert.Kernel27.Gen.frame m g

/-- So does its ideal reading. -/
theorem ideal27_frame : Cert.quiescent_Kernel27Ideal := fun m g _ => Cert.Kernel27Ideal.Gen.frame m g

/-- So does the reference. -/
theorem reference27_frame : Cert.quiescent_Reference27Ideal := by
  intro m g _
  refine (θ_run _ _ _).mono (fun r h => ⟨fun c => (h c).2.2.2.2, ?_⟩) (Cert.Reference27Ideal.Value.run m g)
  exact sem_eq_zero_of_no_sems rfl r.2

/-! ## The step sizes' bias and softplus -/

/-- The kernel's printed program ends, with its arguments and counters as they were. -/
theorem kernel28_frame : Cert.quiescent_Kernel28 := fun m g _ => Cert.Kernel28.Gen.frame m g

/-- So does its ideal reading. -/
theorem ideal28_frame : Cert.quiescent_Kernel28Ideal := fun m g _ => Cert.Kernel28Ideal.Gen.frame m g

/-- So does the reference. -/
theorem reference28_frame : Cert.quiescent_Reference28Ideal := by
  intro m g _
  refine (θ_run _ _ _).mono (fun r h => ⟨fun c => (h c).2, ?_⟩) (Cert.Reference28Ideal.Value.run m g)
  exact sem_eq_zero_of_no_sems rfl r.2

/-! ## The loss and its gradient -/

/-- The kernel's printed program ends, with its arguments and counters as they were. -/
theorem kernel29_frame : Cert.quiescent_Kernel29 := fun m g _ => Cert.Kernel29.Gen.frame m g

/-- So does its ideal reading. -/
theorem ideal29_frame : Cert.quiescent_Kernel29Ideal := fun m g _ => Cert.Kernel29Ideal.Gen.frame m g

/-- So does the reference. -/
theorem reference29_frame : Cert.quiescent_Reference29Ideal := by
  intro m g _
  refine (θ_run _ _ _).mono (fun r h => ⟨fun c => (h c).2.2, ?_⟩) (Cert.Reference29Ideal.Value.run m g)
  exact sem_eq_zero_of_no_sems rfl r.2

/-! ## The optimiser's step of the small parameters -/

/-- The kernel's printed program ends, with its arguments and counters as they were. -/
theorem kernel30_frame : Cert.quiescent_Kernel30 := fun m g _ => Cert.Kernel30.Gen.frame m g

/-- So does its ideal reading. -/
theorem ideal30_frame : Cert.quiescent_Kernel30Ideal := fun m g _ => Cert.Kernel30Ideal.Gen.frame m g

/-- So does the reference. -/
theorem reference30_frame : Cert.quiescent_Reference30Ideal := by
  intro m g _
  refine (θ_run _ _ _).mono (fun r h => ⟨fun c => (h c).2.2.2, ?_⟩) (Cert.Reference30Ideal.Value.run m g)
  exact sem_eq_zero_of_no_sems rfl r.2

/-! ## The sum of the devices' gradients of the small parameters -/

/-- The kernel's printed program ends, with its arguments and counters as they were. -/
theorem kernel31_frame : Cert.quiescent_Kernel31 := fun m g _ => Cert.Kernel31.Gen.frame m g

/-- So does its ideal reading. -/
theorem ideal31_frame : Cert.quiescent_Kernel31Ideal := fun m g _ => Cert.Kernel31Ideal.Gen.frame m g

/-- So does the reference. -/
theorem reference31_frame : Cert.quiescent_Reference31Ideal := by
  intro m g _
  refine (θ_run _ _ _).mono (fun r h => ⟨fun c => (h c).2, ?_⟩) (Cert.Reference31Ideal.Value.run m g)
  exact sem_eq_zero_of_no_sems rfl r.2

/-! ## The gradient of the raw step sizes and of their bias -/

/-- The kernel's printed program ends, with its arguments and counters as they were. -/
theorem kernel32_frame : Cert.quiescent_Kernel32 := fun m g _ => Cert.Kernel32.Gen.frame m g

/-- So does its ideal reading. -/
theorem ideal32_frame : Cert.quiescent_Kernel32Ideal := fun m g _ => Cert.Kernel32Ideal.Gen.frame m g

/-- So does the reference. -/
theorem reference32_frame : Cert.quiescent_Reference32Ideal := by
  intro m g _
  refine (θ_run _ _ _).mono (fun r h => ⟨fun c => (h c).2.2, ?_⟩) (Cert.Reference32Ideal.Value.run m g)
  exact sem_eq_zero_of_no_sems rfl r.2

/-- Everything that is claimed. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts,
    Cert.Reference3Ideal.Gen.facts, Cert.Kernel4.Gen.facts, Cert.Kernel4Ideal.Gen.facts,
    Cert.Reference4Ideal.Gen.facts, Cert.Kernel5.Gen.facts, Cert.Kernel5Ideal.Gen.facts,
    Cert.Reference5Ideal.Gen.facts, Cert.Kernel6.Gen.facts, Cert.Kernel6Ideal.Gen.facts,
    Cert.Reference6Ideal.Gen.facts, Cert.Kernel7.Gen.facts, Cert.Kernel7Ideal.Gen.facts,
    Cert.Reference7Ideal.Gen.facts, Cert.Kernel8.Gen.facts, Cert.Kernel8Ideal.Gen.facts,
    Cert.Reference8Ideal.Gen.facts, Cert.Kernel9.Gen.facts, Cert.Kernel9Ideal.Gen.facts,
    Cert.Reference9Ideal.Gen.facts, Cert.Kernel10.Gen.facts, Cert.Kernel10Ideal.Gen.facts,
    Cert.Reference10Ideal.Gen.facts, Cert.Kernel11.Gen.facts, Cert.Kernel11Ideal.Gen.facts,
    Cert.Reference11Ideal.Gen.facts, Cert.Kernel12.Gen.facts, Cert.Kernel12Ideal.Gen.facts,
    Cert.Reference12Ideal.Gen.facts, Cert.Kernel13.Gen.facts, Cert.Kernel13Ideal.Gen.facts,
    Cert.Reference13Ideal.Gen.facts, Cert.Kernel14.Gen.facts, Cert.Kernel14Ideal.Gen.facts,
    Cert.Reference14Ideal.Gen.facts, Cert.Kernel15.Gen.facts, Cert.Kernel15Ideal.Gen.facts,
    Cert.Reference15Ideal.Gen.facts, Cert.Kernel16.Gen.facts, Cert.Kernel16Ideal.Gen.facts,
    Cert.Reference16Ideal.Gen.facts, Cert.Kernel17.Gen.facts, Cert.Kernel17Ideal.Gen.facts,
    Cert.Reference17Ideal.Gen.facts, Cert.Kernel18.Gen.facts, Cert.Kernel18Ideal.Gen.facts,
    Cert.Reference18Ideal.Gen.facts, Cert.Kernel19.Gen.facts, Cert.Kernel19Ideal.Gen.facts,
    Cert.Reference19Ideal.Gen.facts, Cert.Kernel20.Gen.facts, Cert.Kernel20Ideal.Gen.facts,
    Cert.Reference20Ideal.Gen.facts, Cert.Kernel21.Gen.facts, Cert.Kernel21Ideal.Gen.facts,
    Cert.Reference21Ideal.Gen.facts, Cert.Kernel22.Gen.facts, Cert.Kernel22Ideal.Gen.facts,
    Cert.Reference22Ideal.Gen.facts, Cert.Kernel23.Gen.facts, Cert.Kernel23Ideal.Gen.facts,
    Cert.Reference23Ideal.Gen.facts, Cert.Kernel24.Gen.facts, Cert.Kernel24Ideal.Gen.facts,
    Cert.Reference24Ideal.Gen.facts, Cert.Kernel25.Gen.facts, Cert.Kernel25Ideal.Gen.facts,
    Cert.Reference25Ideal.Gen.facts, Cert.Kernel26.Gen.facts, Cert.Kernel26Ideal.Gen.facts,
    Cert.Reference26Ideal.Gen.facts, Cert.Kernel27.Gen.facts, Cert.Kernel27Ideal.Gen.facts,
    Cert.Reference27Ideal.Gen.facts, Cert.Kernel28.Gen.facts, Cert.Kernel28Ideal.Gen.facts,
    Cert.Reference28Ideal.Gen.facts, Cert.Kernel29.Gen.facts, Cert.Kernel29Ideal.Gen.facts,
    Cert.Reference29Ideal.Gen.facts, Cert.Kernel30.Gen.facts, Cert.Kernel30Ideal.Gen.facts,
    Cert.Reference30Ideal.Gen.facts, Cert.Kernel31.Gen.facts, Cert.Kernel31Ideal.Gen.facts,
    Cert.Reference31Ideal.Gen.facts, Cert.Kernel32.Gen.facts, Cert.Kernel32Ideal.Gen.facts,
    Cert.Reference32Ideal.Gen.facts,
    Cert.Pre_step_sizes_finite.Gen.facts,
    kernel_frame, ideal_frame, ideal_frame_finite, reference_frame, reference_frame_finite,
    kernel2_frame, ideal2_frame, reference2_frame,
    kernel3_frame, ideal3_frame, reference3_frame,
    kernel4_frame, ideal4_frame, reference4_frame,
    kernel5_frame, ideal5_frame, reference5_frame,
    kernel6_frame, ideal6_frame, reference6_frame,
    kernel7_frame, ideal7_frame, reference7_frame,
    kernel8_frame, ideal8_frame, reference8_frame,
    kernel9_frame, ideal9_frame, reference9_frame,
    kernel10_frame, ideal10_frame, reference10_frame,
    kernel11_frame, ideal11_frame, reference11_frame,
    kernel12_frame, ideal12_frame, reference12_frame,
    kernel13_frame, ideal13_frame, reference13_frame,
    kernel14_frame, ideal14_frame, reference14_frame,
    kernel15_frame, ideal15_frame, reference15_frame,
    kernel16_frame, ideal16_frame, reference16_frame,
    kernel17_frame, ideal17_frame, reference17_frame,
    kernel18_frame, ideal18_frame, reference18_frame,
    kernel19_frame, ideal19_frame, reference19_frame,
    kernel20_frame, ideal20_frame, reference20_frame,
    kernel21_frame, ideal21_frame, reference21_frame,
    kernel22_frame, ideal22_frame, reference22_frame,
    kernel23_frame, ideal23_frame, reference23_frame,
    kernel24_frame, ideal24_frame, reference24_frame,
    kernel25_frame, ideal25_frame, reference25_frame,
    kernel26_frame, ideal26_frame, reference26_frame,
    kernel27_frame, ideal27_frame, reference27_frame,
    kernel28_frame, ideal28_frame, reference28_frame,
    kernel29_frame, ideal29_frame, reference29_frame,
    kernel30_frame, ideal30_frame, reference30_frame,
    kernel31_frame, ideal31_frame, reference31_frame,
    kernel32_frame, ideal32_frame, reference32_frame,
    trivial, algebraic,
    trivial, algebraic2,
    trivial, algebraic3,
    trivial, algebraic4,
    trivial, algebraic5,
    trivial, algebraic6,
    trivial, algebraic7,
    trivial, algebraic8,
    trivial, algebraic9,
    trivial, algebraic10,
    trivial, algebraic11,
    trivial, algebraic12,
    trivial, algebraic13,
    trivial, algebraic14,
    trivial, algebraic15,
    trivial, algebraic16,
    trivial, algebraic17,
    trivial, algebraic18,
    trivial, algebraic19,
    trivial, algebraic20,
    trivial, algebraic21,
    trivial, algebraic22,
    trivial, algebraic23,
    trivial, algebraic24,
    trivial, algebraic25,
    trivial, algebraic26,
    trivial, algebraic27,
    trivial, algebraic28,
    trivial, algebraic29,
    trivial, algebraic30,
    trivial, algebraic31,
    trivial, algebraic32⟩

end Cert.Proof

end
